-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_swiglu [hPre_finite_swiglu : Cert.Pre_finite_swiglu.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_swiglu.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_swiglu [hPre_finite_swiglu : Cert.Pre_finite_swiglu.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_swiglu.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_pgate [hPre_finite_pgate : Cert.Pre_finite_pgate.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_pgate.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_pgate [hPre_finite_pgate : Cert.Pre_finite_pgate.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_pgate.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_in [hPre_finite_in : Cert.Pre_finite_in.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_in.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_in [hPre_finite_in : Cert.Pre_finite_in.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_in.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_loss [hPre_finite_loss : Cert.Pre_finite_loss.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_loss.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_loss [hPre_finite_loss : Cert.Pre_finite_loss.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_loss.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_norm [hPre_finite_norm : Cert.Pre_finite_norm.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_norm [hPre_finite_norm : Cert.Pre_finite_norm.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_swiglu [hKernel6Ideal : Cert.Kernel6Ideal.Facts] [hPre_finite_swiglu : Cert.Pre_finite_swiglu.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_swiglu m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_swiglu [hReference6Ideal : Cert.Reference6Ideal.Facts] [hPre_finite_swiglu : Cert.Pre_finite_swiglu.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_swiglu m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_pgate [hKernel8Ideal : Cert.Kernel8Ideal.Facts] [hPre_finite_pgate : Cert.Pre_finite_pgate.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_pgate m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_pgate [hReference8Ideal : Cert.Reference8Ideal.Facts] [hPre_finite_pgate : Cert.Pre_finite_pgate.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_pgate m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite_in [hKernel13Ideal : Cert.Kernel13Ideal.Facts] [hPre_finite_in : Cert.Pre_finite_in.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_in m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite_in [hReference13Ideal : Cert.Reference13Ideal.Facts] [hPre_finite_in : Cert.Pre_finite_in.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_in m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Kernel16Ideal_pre_finite_loss [hKernel16Ideal : Cert.Kernel16Ideal.Facts] [hPre_finite_loss : Cert.Pre_finite_loss.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_loss m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Reference16Ideal_pre_finite_loss [hReference16Ideal : Cert.Reference16Ideal.Facts] [hPre_finite_loss : Cert.Pre_finite_loss.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_loss m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_finite_norm [hKernel18Ideal : Cert.Kernel18Ideal.Facts] [hPre_finite_norm : Cert.Pre_finite_norm.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_norm m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_finite_norm [hReference18Ideal : Cert.Reference18Ideal.Facts] [hPre_finite_norm : Cert.Pre_finite_norm.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_norm m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def algebraic_Kernel3Ideal_Reference4Ideal [hKernel3Ideal : Cert.Kernel3Ideal.Facts] [hReference4Ideal : Cert.Reference4Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel3Ideal m →
    (∀ c : Dev Cert.Kernel3Ideal.nD,
      m' ((c.tc : Thread Cert.Reference4Ideal.nD Cert.Reference4Ideal.τ).loc Cert.Reference4Ideal.main_arg0) = m ((c.tc : Thread Cert.Kernel3Ideal.nD Cert.Kernel3Ideal.τ).loc Cert.Kernel3Ideal.main_arg0)
      ∧ m' ((c.tc : Thread Cert.Reference4Ideal.nD Cert.Reference4Ideal.τ).loc Cert.Reference4Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_swiglu [hKernel6Ideal : Cert.Kernel6Ideal.Facts] [hReference6Ideal : Cert.Reference6Ideal.Facts] [hPre_finite_swiglu : Cert.Pre_finite_swiglu.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_swiglu m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_2)) (v1 : (c : Dev Cert.Kernel6Ideal.nD) → Buf (Elt Ideal) ((c.tc : Thread Cert.Kernel6Ideal.nD Cert.Kernel6Ideal.τ).loc Cert.Kernel6Ideal.main_v6_0)) (v2 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_2) = v0 c
          ∧ r.2.mem ((c.tc : Thread Cert.Kernel6Ideal.nD Cert.Kernel6Ideal.τ).loc Cert.Kernel6Ideal.main_v6_0) = v1 c
          ∧ r.2.mem ((c.tc : Thread Cert.Kernel6Ideal.nD Cert.Kernel6Ideal.τ).loc Cert.Kernel6Ideal.main_v6_1) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel8_Kernel8Ideal : Prop :=
  True

def algebraic_Kernel8Ideal_Reference8Ideal_pre_finite_pgate [hKernel8Ideal : Cert.Kernel8Ideal.Facts] [hReference8Ideal : Cert.Reference8Ideal.Facts] [hPre_finite_pgate : Cert.Pre_finite_pgate.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_pgate m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_pre_finite_in [hKernel13Ideal : Cert.Kernel13Ideal.Facts] [hReference13Ideal : Cert.Reference13Ideal.Facts] [hPre_finite_in : Cert.Pre_finite_in.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_in m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v21) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel16_Kernel16Ideal : Prop :=
  True

def algebraic_Kernel16Ideal_Reference16Ideal_pre_finite_loss [hKernel16Ideal : Cert.Kernel16Ideal.Facts] [hReference16Ideal : Cert.Reference16Ideal.Facts] [hPre_finite_loss : Cert.Pre_finite_loss.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_loss m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)) (v4 : (c : Dev Cert.Kernel16Ideal.nD) → Buf (Elt Ideal) ((c.tc : Thread Cert.Kernel16Ideal.nD Cert.Kernel16Ideal.τ).loc Cert.Kernel16Ideal.main_v3_4)) (v5 : (c : Dev Cert.Kernel16Ideal.nD) → Buf (Elt Ideal) ((c.tc : Thread Cert.Kernel16Ideal.nD Cert.Kernel16Ideal.τ).loc Cert.Kernel16Ideal.main_v3_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_v3_4) = v4 c
          ∧ r.2.mem ((c.tc : Thread Cert.Kernel16Ideal.nD Cert.Kernel16Ideal.τ).loc Cert.Kernel16Ideal.main_v3_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v70) = v0 c
          ∧ r.2.mem ((c.tc : Thread Cert.Reference16Ideal.nD Cert.Reference16Ideal.τ).loc Cert.Reference16Ideal.main_v71) = v1 c
          ∧ r.2.mem ((c.tc : Thread Cert.Reference16Ideal.nD Cert.Reference16Ideal.τ).loc Cert.Reference16Ideal.main_v72) = v2 c
          ∧ r.2.mem ((c.tc : Thread Cert.Reference16Ideal.nD Cert.Reference16Ideal.τ).loc Cert.Reference16Ideal.main_v73) = v3 c
          ∧ r.2.mem ((c.tc : Thread Cert.Reference16Ideal.nD Cert.Reference16Ideal.τ).loc Cert.Reference16Ideal.main_v48) = v4 c
          ∧ r.2.mem ((c.tc : Thread Cert.Reference16Ideal.nD Cert.Reference16Ideal.τ).loc Cert.Reference16Ideal.main_v69) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite_norm [hKernel18Ideal : Cert.Kernel18Ideal.Facts] [hReference18Ideal : Cert.Reference18Ideal.Facts] [hPre_finite_norm : Cert.Pre_finite_norm.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_norm m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v37) = v0 c
          ∧ r.2.mem ((c.tc : Thread Cert.Reference18Ideal.nD Cert.Reference18Ideal.τ).loc Cert.Reference18Ideal.main_v19) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v27) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_v29) = v2 c
          ∧ r.2.mem ((c.tc : Thread Cert.Reference20Ideal.nD Cert.Reference20Ideal.τ).loc Cert.Reference20Ideal.main_v30) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite_swiglu : Cert.Pre_finite_swiglu.Facts) (hPre_finite_pgate : Cert.Pre_finite_pgate.Facts) (hPre_finite_in : Cert.Pre_finite_in.Facts) (hPre_finite_loss : Cert.Pre_finite_loss.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_swiglu (hKernel6Ideal := hKernel6Ideal) (hPre_finite_swiglu := hPre_finite_swiglu)
    ∧ quiescent_Reference6Ideal (hReference6Ideal := hReference6Ideal)
    ∧ quiescent_Reference6Ideal_pre_finite_swiglu (hReference6Ideal := hReference6Ideal) (hPre_finite_swiglu := hPre_finite_swiglu)
    ∧ quiescent_Kernel8 (hKernel8 := hKernel8)
    ∧ quiescent_Kernel8Ideal (hKernel8Ideal := hKernel8Ideal)
    ∧ quiescent_Kernel8Ideal_pre_finite_pgate (hKernel8Ideal := hKernel8Ideal) (hPre_finite_pgate := hPre_finite_pgate)
    ∧ quiescent_Reference8Ideal (hReference8Ideal := hReference8Ideal)
    ∧ quiescent_Reference8Ideal_pre_finite_pgate (hReference8Ideal := hReference8Ideal) (hPre_finite_pgate := hPre_finite_pgate)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_in (hKernel13Ideal := hKernel13Ideal) (hPre_finite_in := hPre_finite_in)
    ∧ quiescent_Reference13Ideal (hReference13Ideal := hReference13Ideal)
    ∧ quiescent_Reference13Ideal_pre_finite_in (hReference13Ideal := hReference13Ideal) (hPre_finite_in := hPre_finite_in)
    ∧ quiescent_Kernel16 (hKernel16 := hKernel16)
    ∧ quiescent_Kernel16Ideal (hKernel16Ideal := hKernel16Ideal)
    ∧ quiescent_Kernel16Ideal_pre_finite_loss (hKernel16Ideal := hKernel16Ideal) (hPre_finite_loss := hPre_finite_loss)
    ∧ quiescent_Reference16Ideal (hReference16Ideal := hReference16Ideal)
    ∧ quiescent_Reference16Ideal_pre_finite_loss (hReference16Ideal := hReference16Ideal) (hPre_finite_loss := hPre_finite_loss)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_norm (hKernel18Ideal := hKernel18Ideal) (hPre_finite_norm := hPre_finite_norm)
    ∧ quiescent_Reference18Ideal (hReference18Ideal := hReference18Ideal)
    ∧ quiescent_Reference18Ideal_pre_finite_norm (hReference18Ideal := hReference18Ideal) (hPre_finite_norm := hPre_finite_norm)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ algebraic_Kernel3Ideal_Reference4Ideal (hKernel3Ideal := hKernel3Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_swiglu (hKernel6Ideal := hKernel6Ideal) (hReference6Ideal := hReference6Ideal) (hPre_finite_swiglu := hPre_finite_swiglu)
    ∧ preserves_Kernel8_Kernel8Ideal
    ∧ algebraic_Kernel8Ideal_Reference8Ideal_pre_finite_pgate (hKernel8Ideal := hKernel8Ideal) (hReference8Ideal := hReference8Ideal) (hPre_finite_pgate := hPre_finite_pgate)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_in (hKernel13Ideal := hKernel13Ideal) (hReference13Ideal := hReference13Ideal) (hPre_finite_in := hPre_finite_in)
    ∧ preserves_Kernel16_Kernel16Ideal
    ∧ algebraic_Kernel16Ideal_Reference16Ideal_pre_finite_loss (hKernel16Ideal := hKernel16Ideal) (hReference16Ideal := hReference16Ideal) (hPre_finite_loss := hPre_finite_loss)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_norm (hKernel18Ideal := hKernel18Ideal) (hReference18Ideal := hReference18Ideal) (hPre_finite_norm := hPre_finite_norm)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S8192x5120 : Shape := ⟨2, ![8192, 5120]⟩
abbrev S8192x1024 : Shape := ⟨2, ![8192, 1024]⟩
abbrev S_ : Shape := ⟨0, ![]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5120 .f32) (main_arg1 : FVec F S8192x1024 .f32) : IVec S_ 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_c : IVec S_ 1 := constantI S_ 1 1#1
  let main_v3 : IVec S_ 1 := (fun x v => Host.reduce IntOp.andi x v reducesTo_S8192x5120_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_finite_in.lean ====
abbrev S8192x5120 : Shape := ⟨2, ![8192, 5120]⟩
abbrev S2048x5120 : Shape := ⟨2, ![2048, 5120]⟩
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S2048x5120 : S_.BroadcastsInDim S2048x5120 (![] : Fin 0 → Fin S2048x5120.rank)
  reducesTo_S2048x5120_S_d0_1 : S2048x5120.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v14 : IVec S_ 1) (main_v15 : FVec F S1x2048 .f32) (main_v16 : FVec F S1x2048 .f32) : IVec S_ 1 :=
  let main_v17 : IVec S1x2048 1 := cmpf .olt main_v15 main_v16
  let main_c_5 : IVec S_ 1 := constantI S_ 1 1#1
  let main_v18 : IVec S_ 1 := (fun x v => Host.reduce IntOp.andi x v reducesTo_S1x2048_S_d0_1 h_S_) main_v17 main_c_5
  let main_v19 : IVec S_ 1 := andi main_v14 main_v18
  main_v19

def fn {F : FTy → Type} [FloatOps F] (main_arg0 : FVec F S8192x5120 .bf16) (main_arg1 : FVec F S2048x5120 .f32) (main_arg2 : FVec F S8192x2048 .f32) (main_arg3 : FVec F S1x2048 .f32) (main_arg4 : FVec F S8192x2048 .bf16) : IVec S_ 1 :=
  let main_v0 : FVec F S8192x5120 .f32 := (extf .f32 · bitsLt_bf16_f32) main_arg0
  let main_v1 : FVec F S8192x5120 .f32 := Host.absf main_v0
  let main_cst : FVec F S_ .f32 := constant S_ .f32 0x7F800000#32
  let main_v2 : FVec F S8192x5120 .f32 := broadcastInDim S8192x5120 ![] bcast_S_S8192x5120 main_cst
  let main_v3 : IVec S8192x5120 1 := cmpf .olt main_v1 main_v2
  let main_c : IVec S_ 1 := constantI S_ 1 1#1
  let main_v4 : IVec S_ 1 := (fun x v => Host.reduce IntOp.andi x v reducesTo_S8192x5120_S_d0_1 h_S_) main_v3 main_c
  let main_v5 : FVec F S2048x5120 .f32 := Host.absf main_arg1
  let main_cst_0 : FVec F S_ .f32 := constant S_ .f32 0x7F800000#32
  let main_v6 : FVec F S2048x5120 .f32 := broadcastInDim S2048x5120 ![] bcast_S_S2048x5120 main_cst_0
  let main_v7 : IVec S2048x5120 1 := cmpf .olt main_v5 main_v6
  let main_c_1 : IVec S_ 1 := constantI S_ 1 1#1
  let main_v8 : IVec S_ 1 := (fun x v => Host.reduce IntOp.andi x v reducesTo_S2048x5120_S_d0_1 h_S_) main_v7 main_c_1
  let main_v9 : IVec S_ 1 := andi main_v4 main_v8
  let main_v10 : FVec F S8192x2048 .f32 := Host.absf main_arg2
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_c_3 : IVec S_ 1 := constantI S_ 1 1#1
  let main_v13 : IVec S_ 1 := (fun x v => Host.reduce IntOp.andi x v reducesTo_S8192x2048_S_d0_1 h_S_) main_v12 main_c_3
  let main_v14 : IVec S_ 1 := andi main_v9 main_v13
  let main_v15 : FVec F S1x2048 .f32 := Host.absf main_arg3
  let main_cst_4 : FVec F S_ .f32 := constant S_ .f32 0x7F800000#32
  let main_v16 : FVec F S1x2048 .f32 := broadcastInDim S1x2048 ![] bcast_S_S1x2048 main_cst_4
  fn_part1 (F := F) main_v14 main_v15 main_v16
-- ==== Pre_finite_loss.lean ====
abbrev S8192x2048 : Shape := ⟨2, ![8192, 2048]⟩
abbrev S2048x2048 : Shape := ⟨2, ![2048, 2048]⟩
abbrev S1x2048 : Shape := ⟨2, ![1, 2048]⟩
abbrev S8192x256 : Shape := ⟨2, ![8192, 256]⟩
abbrev S256x2048 : Shape := ⟨2, ![256, 2048]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg7 : FVec F S1x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S1x2048 .f32 := Host.absf main_arg7
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  main_v23

def fn {F : FTy → Type} [FloatOps F] (main_arg0 : FVec F S8192x2048 .bf16) (main_arg1 : FVec F S2048x2048 .f32) (main_arg2 : FVec F S1x2048 .f32) (main_arg3 : FVec F S8192x256 .f32) (main_arg4 : FVec F S256x2048 .f32) (main_arg5 : FVec F S8192x2048 .f32) (main_arg6 : FVec F S8192x2048 .f32) (main_arg7 : FVec F S1x2048 .f32) : IVec S_ 1 :=
  let main_v0 : FVec F S8192x256 .f32 := Host.absf main_arg3
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x2048 .f32 := Host.absf main_arg4
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S8192x2048 .f32 := Host.absf main_arg5
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg6
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg7 main_v13 main_v16
-- ==== Pre_finite_norm.lean ====
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8192x2048 .bf16) (main_arg1 : FVec F S8192x2048 .f32) (main_arg2 : FVec F S1x2048 .f32) (main_arg3 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := Host.absf main_arg1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v4 main_v8
  let main_v10 : FVec F S1x2048 .f32 := Host.absf main_arg2
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  let main_c_3 : IVec S_ 1 := constantI S_ 1 1#1
  let main_v13 : IVec S_ 1 := (fun x v => Host.reduce IntOp.andi x v reducesTo_S1x2048_S_d0_1 h_S_) main_v12 main_c_3
  let main_v14 : IVec S_ 1 := andi main_v9 main_v13
  main_v14
-- ==== Pre_finite_pgate.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v14 : IVec S_ 1) (main_v15 : FVec F S1x2048 .f32) (main_v16 : FVec F S1x2048 .f32) : IVec S_ 1 :=
  let main_v17 : IVec S1x2048 1 := cmpf .olt main_v15 main_v16
  let main_c_5 : IVec S_ 1 := constantI S_ 1 1#1
  let main_v18 : IVec S_ 1 := (fun x v => Host.reduce IntOp.andi x v reducesTo_S1x2048_S_d0_1 h_S_) main_v17 main_c_5
  let main_v19 : IVec S_ 1 := andi main_v14 main_v18
  main_v19

def fn {F : FTy → Type} [FloatOps F] (main_arg0 : FVec F S8192x2048 .bf16) (main_arg1 : FVec F S2048x2048 .f32) (main_arg2 : FVec F S8192x2048 .f32) (main_arg3 : FVec F S1x2048 .f32) (main_arg4 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2048x2048 .f32 := Host.absf main_arg1
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_c_1 : IVec S_ 1 := constantI S_ 1 1#1
  let main_v8 : IVec S_ 1 := (fun x v => Host.reduce IntOp.andi x v reducesTo_S2048x2048_S_d0_1 h_S_) main_v7 main_c_1
  let main_v9 : IVec S_ 1 := andi main_v4 main_v8
  let main_v10 : FVec F S8192x2048 .f32 := Host.absf main_arg2
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_c_3 : IVec S_ 1 := constantI S_ 1 1#1
  let main_v13 : IVec S_ 1 := (fun x v => Host.reduce IntOp.andi x v reducesTo_S8192x2048_S_d0_1 h_S_) main_v12 main_c_3
  let main_v14 : IVec S_ 1 := andi main_v9 main_v13
  let main_v15 : FVec F S1x2048 .f32 := Host.absf main_arg3
  let main_cst_4 : FVec F S_ .f32 := constant S_ .f32 0x7F800000#32
  let main_v16 : FVec F S1x2048 .f32 := broadcastInDim S1x2048 ![] bcast_S_S1x2048 main_cst_4
  fn_part1 (F := F) main_v14 main_v15 main_v16
-- ==== Pre_finite_swiglu.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v14 : IVec S_ 1) (main_v16 : FVec F S8192x2048 .f32) (main_cst_4 : FVec F S_ .f32) : IVec S_ 1 :=
  let main_v17 : FVec F S8192x2048 .f32 := broadcastInDim S8192x2048 ![] bcast_S_S8192x2048 main_cst_4
  let main_v18 : IVec S8192x2048 1 := cmpf .olt main_v16 main_v17
  let main_c_5 : IVec S_ 1 := constantI S_ 1 1#1
  let main_v19 : IVec S_ 1 := (fun x v => Host.reduce IntOp.andi x v reducesTo_S8192x2048_S_d0_1 h_S_) main_v18 main_c_5
  let main_v20 : IVec S_ 1 := andi main_v14 main_v19
  main_v20

def fn {F : FTy → Type} [FloatOps F] (main_arg0 : FVec F S8192x2048 .bf16) (main_arg1 : FVec F S2048x5632 .f32) (main_arg2 : FVec F S2048x5632 .f32) (main_arg3 : FVec F S5632x2048 .f32) (main_arg4 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2048x5632 .f32 := Host.absf main_arg2
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_c_1 : IVec S_ 1 := constantI S_ 1 1#1
  let main_v8 : IVec S_ 1 := (fun x v => Host.reduce IntOp.andi x v reducesTo_S2048x5632_S_d0_1 h_S_) main_v7 main_c_1
  let main_v9 : IVec S_ 1 := andi main_v4 main_v8
  let main_v10 : FVec F S5632x2048 .f32 := Host.absf main_arg3
  let main_cst_2 : FVec F S_ .f32 := constant S_ .f32 0x7F800000#32
  let main_v11 : FVec F S5632x2048 .f32 := broadcastInDim S5632x2048 ![] bcast_S_S5632x2048 main_cst_2
  let main_v12 : IVec S5632x2048 1 := cmpf .olt main_v10 main_v11
  let main_c_3 : IVec S_ 1 := constantI S_ 1 1#1
  let main_v13 : IVec S_ 1 := (fun x v => Host.reduce IntOp.andi x v reducesTo_S5632x2048_S_d0_1 h_S_) main_v12 main_c_3
  let main_v14 : IVec S_ 1 := andi main_v9 main_v13
  let main_v15 : FVec F S8192x2048 .f32 := (extf .f32 · bitsLt_bf16_f32) main_arg4
  let main_v16 : FVec F S8192x2048 .f32 := Host.absf main_v15
  let main_cst_4 : FVec F S_ .f32 := constant S_ .f32 0x7F800000#32
  fn_part1 (F := F) main_v14 main_v16 main_cst_4
-- ==== Kernel.lean ====
abbrev S8192x5120 : Shape := ⟨2, ![8192, 5120]⟩
abbrev S8192x1024 : Shape := ⟨2, ![8192, 1024]⟩
abbrev S8192x3072 : Shape := ⟨2, ![8192, 3072]⟩
abbrev S8192x8x128 : Shape := ⟨3, ![8192, 8, 128]⟩
abbrev S8x8192x8192 : Shape := ⟨3, ![8, 8192, 8192]⟩
abbrev S_ : Shape := ⟨0, ![]⟩
abbrev S1x8x8192x8192 : Shape := ⟨4, ![1, 8, 8192, 8192]⟩
abbrev S8192x8192 : Shape := ⟨2, ![8192, 8192]⟩
abbrev S1x8192x8192 : Shape := ⟨3, ![1, 8192, 8192]⟩
abbrev S3x8192x8192 : Shape := ⟨3, ![3, 8192, 8192]⟩
abbrev S3x1x8192x8192 : Shape := ⟨4, ![3, 1, 8192, 8192]⟩
abbrev S3x8x8192x8192 : Shape := ⟨4, ![3, 8, 8192, 8192]⟩
abbrev S3x8x8192 : Shape := ⟨3, ![3, 8, 8192]⟩
abbrev S3x8x8192x1 : Shape := ⟨4, ![3, 8, 8192, 1]⟩
abbrev S8x8192 : Shape := ⟨2, ![8, 8192]⟩
abbrev S1x8x8192 : Shape := ⟨3, ![1, 8, 8192]⟩
abbrev S8x128x8192 : Shape := ⟨3, ![8, 128, 8192]⟩
abbrev S8192x8 : Shape := ⟨2, ![8192, 8]⟩
abbrev S8192x8x1 : Shape := ⟨3, ![8192, 8, 1]⟩
abbrev S2048x4x3072 : Shape := ⟨3, ![2048, 4, 3072]⟩
abbrev S4x2048x3072 : Shape := ⟨3, ![4, 2048, 3072]⟩
abbrev S2048x4x1024 : Shape := ⟨3, ![2048, 4, 1024]⟩
abbrev S4x2048x1024 : Shape := ⟨3, ![4, 2048, 1024]⟩
abbrev S1x512x1024 : Shape := ⟨3, ![1, 512, 1024]⟩
abbrev S1x128x1024 : Shape := ⟨3, ![1, 128, 1024]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S128x1024 : Shape := ⟨2, ![128, 1024]⟩

abbrev nBuf : Space → Nat
  | .hbm => 190
  | .vmem => 18
  | .smem => 0
  | _ => 0

abbrev hbmTy0_0 (i : Nat) : BufTy := match i % 128 with
  | 0 => ⟨S8192x5120, .f32⟩
  | 1 => ⟨S8192x1024, .f32⟩
  | 2 => ⟨S8192x3072, .f32⟩
  | 3 => ⟨S8192x1024, .f32⟩
  | 4 => ⟨S8192x1024, .f32⟩
  | 5 => ⟨S8192x1024, .f32⟩
  | 6 => ⟨S8192x8x128, .f32⟩
  | 7 => ⟨S8192x8x128, .f32⟩
  | 8 => ⟨S8192x8x128, .f32⟩
  | 9 => ⟨S8x8192x8192, .f32⟩
  | 10 => ⟨S_, .f32⟩
  | 11 => ⟨S8x8192x8192, .f32⟩
  | 12 => ⟨S8x8192x8192, .f32⟩
  | 13 => ⟨S1x8x8192x8192, .f32⟩
  | 14 => ⟨S8192x8192, .i32⟩
  | 15 => ⟨S8192x8192, .i32⟩
  | 16 => ⟨S8192x8192, .i32⟩
  | 17 => ⟨S_, .i32⟩
  | 18 => ⟨S8192x8192, .i32⟩
  | 19 => ⟨S8192x8192, .i1⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S8192x8192, .i32⟩
  | 27 => ⟨S8192x8192, .i32⟩
  | 28 => ⟨S_, .i32⟩
  | 29 => ⟨S8192x8192, .i32⟩
  | 30 => ⟨S8192x8192, .i1⟩
  | 31 => ⟨S_, .i32⟩
  | 32 => ⟨S8192x8192, .i32⟩
  | 33 => ⟨S8192x8192, .i1⟩
  | 34 => ⟨S_, .i32⟩
  | 35 => ⟨S_, .i1⟩
  | 36 => ⟨S8192x8192, .i1⟩
  | 37 => ⟨S8192x8192, .i1⟩
  | 38 => ⟨S8192x8192, .i1⟩
  | 39 => ⟨S8192x8192, .i32⟩
  | 40 => ⟨S8192x8192, .i32⟩
  | 41 => ⟨S8192x8192, .i32⟩
  | 42 => ⟨S_, .i32⟩
  | 43 => ⟨S8192x8192, .i32⟩
  | 44 => ⟨S8192x8192, .i1⟩
  | 45 => ⟨S8192x8192, .i1⟩
  | 46 => ⟨S_, .i32⟩
  | 47 => ⟨S8192x8192, .i32⟩
  | 48 => ⟨S8192x8192, .i1⟩
  | 49 => ⟨S8192x8192, .i1⟩
  | 50 => ⟨S_, .i32⟩
  | 51 => ⟨S8192x8192, .i32⟩
  | 52 => ⟨S8192x8192, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S8192x8192, .i32⟩
  | 60 => ⟨S8192x8192, .i32⟩
  | 61 => ⟨S_, .i32⟩
  | 62 => ⟨S8192x8192, .i32⟩
  | 63 => ⟨S8192x8192, .i1⟩
  | 64 => ⟨S_, .i32⟩
  | 65 => ⟨S8192x8192, .i32⟩
  | 66 => ⟨S8192x8192, .i1⟩
  | 67 => ⟨S_, .i32⟩
  | 68 => ⟨S_, .i1⟩
  | 69 => ⟨S8192x8192, .i1⟩
  | 70 => ⟨S8192x8192, .i1⟩
  | 71 => ⟨S8192x8192, .i1⟩
  | 72 => ⟨S8192x8192, .i32⟩
  | 73 => ⟨S8192x8192, .i32⟩
  | 74 => ⟨S8192x8192, .i32⟩
  | 75 => ⟨S_, .i32⟩
  | 76 => ⟨S8192x8192, .i32⟩
  | 77 => ⟨S8192x8192, .i1⟩
  | 78 => ⟨S8192x8192, .i1⟩
  | 79 => ⟨S_, .i32⟩
  | 80 => ⟨S8192x8192, .i32⟩
  | 81 => ⟨S8192x8192, .i1⟩
  | 82 => ⟨S8192x8192, .i1⟩
  | 83 => ⟨S_, .i32⟩
  | 84 => ⟨S8192x8192, .i32⟩
  | 85 => ⟨S8192x8192, .i1⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S8192x8192, .i32⟩
  | 93 => ⟨S8192x8192, .i32⟩
  | 94 => ⟨S_, .i32⟩
  | 95 => ⟨S8192x8192, .i32⟩
  | 96 => ⟨S8192x8192, .i1⟩
  | 97 => ⟨S_, .i32⟩
  | 98 => ⟨S8192x8192, .i32⟩
  | 99 => ⟨S8192x8192, .i1⟩
  | 100 => ⟨S_, .i32⟩
  | 101 => ⟨S_, .i1⟩
  | 102 => ⟨S8192x8192, .i1⟩
  | 103 => ⟨S8192x8192, .i1⟩
  | 104 => ⟨S8192x8192, .i1⟩
  | 105 => ⟨S8192x8192, .i32⟩
  | 106 => ⟨S8192x8192, .i32⟩
  | 107 => ⟨S8192x8192, .i32⟩
  | 108 => ⟨S_, .i32⟩
  | 109 => ⟨S8192x8192, .i32⟩
  | 110 => ⟨S8192x8192, .i1⟩
  | 111 => ⟨S8192x8192, .i1⟩
  | 112 => ⟨S_, .i32⟩
  | 113 => ⟨S8192x8192, .i32⟩
  | 114 => ⟨S8192x8192, .i1⟩
  | 115 => ⟨S8192x8192, .i1⟩
  | 116 => ⟨S1x8192x8192, .i1⟩
  | 117 => ⟨S1x8192x8192, .i1⟩
  | 118 => ⟨S1x8192x8192, .i1⟩
  | 119 => ⟨S3x8192x8192, .i1⟩
  | 120 => ⟨S3x1x8192x8192, .i1⟩
  | 121 => ⟨S_, .f32⟩
  | 122 => ⟨S_, .f32⟩
  | 123 => ⟨S3x8x8192x8192, .i1⟩
  | 124 => ⟨S3x8x8192x8192, .f32⟩
  | 125 => ⟨S3x8x8192x8192, .f32⟩
  | 126 => ⟨S3x8x8192x8192, .f32⟩
  | 127 => ⟨S_, .f32⟩
  | _ => ⟨S8192x5120, .f32⟩

abbrev hbmTy0_1 (i : Nat) : BufTy := match i % 128 with
  | 0 => ⟨S3x8x8192, .f32⟩
  | 1 => ⟨S3x8x8192x1, .f32⟩
  | 2 => ⟨S3x8x8192x8192, .f32⟩
  | 3 => ⟨S3x8x8192x8192, .f32⟩
  | 4 => ⟨S3x8x8192x8192, .f32⟩
  | 5 => ⟨S_, .f32⟩
  | 6 => ⟨S3x8x8192, .f32⟩
  | 7 => ⟨S3x8x8192x1, .f32⟩
  | 8 => ⟨S3x8x8192x8192, .f32⟩
  | 9 => ⟨S3x8x8192x8192, .f32⟩
  | 10 => ⟨S3x8x8192x1, .f32⟩
  | 11 => ⟨S3x8x8192x1, .f32⟩
  | 12 => ⟨S3x8x8192, .f32⟩
  | 13 => ⟨S_, .f32⟩
  | 14 => ⟨S8x8192, .f32⟩
  | 15 => ⟨S_, .f32⟩
  | 16 => ⟨S8x8192, .f32⟩
  | 17 => ⟨S8x8192, .f32⟩
  | 18 => ⟨S1x8x8192, .f32⟩
  | 19 => ⟨S3x8x8192, .f32⟩
  | 20 => ⟨S3x8x8192, .f32⟩
  | 21 => ⟨S3x8x8192, .f32⟩
  | 22 => ⟨S_, .f32⟩
  | 23 => ⟨S8x8192, .f32⟩
  | 24 => ⟨S1x8x8192, .f32⟩
  | 25 => ⟨S3x8x8192, .f32⟩
  | 26 => ⟨S3x8x8192, .f32⟩
  | 27 => ⟨S3x8x8192x1, .f32⟩
  | 28 => ⟨S3x8x8192x8192, .f32⟩
  | 29 => ⟨S3x8x8192x8192, .f32⟩
  | 30 => ⟨S_, .f32⟩
  | 31 => ⟨S8x8192x8192, .f32⟩
  | 32 => ⟨S8x128x8192, .f32⟩
  | 33 => ⟨S8192x8x128, .f32⟩
  | 34 => ⟨S8192x1024, .f32⟩
  | 35 => ⟨S_, .f32⟩
  | 36 => ⟨S8x8192, .f32⟩
  | 37 => ⟨S1x8x8192, .f32⟩
  | 38 => ⟨S3x8x8192, .f32⟩
  | 39 => ⟨S3x8x8192, .f32⟩
  | 40 => ⟨S3x8x8192, .f32⟩
  | 41 => ⟨S_, .f32⟩
  | 42 => ⟨S8x8192, .f32⟩
  | 43 => ⟨S8x8192, .f32⟩
  | 44 => ⟨S8x8192, .f32⟩
  | 45 => ⟨S8192x8, .f32⟩
  | 46 => ⟨S8192x8x1, .f32⟩
  | 47 => ⟨S8192x8x128, .f32⟩
  | 48 => ⟨S8192x1024, .f32⟩
  | 49 => ⟨S8192x3072, .f32⟩
  | 50 => ⟨S8192x3072, .bf16⟩
  | 51 => ⟨S2048x4x3072, .bf16⟩
  | 52 => ⟨S4x2048x3072, .bf16⟩
  | 53 => ⟨S8192x1024, .bf16⟩
  | 54 => ⟨S2048x4x1024, .bf16⟩
  | 55 => ⟨S4x2048x1024, .bf16⟩
  | 56 => ⟨S8192x1024, .bf16⟩
  | 57 => ⟨S2048x4x1024, .bf16⟩
  | 58 => ⟨S4x2048x1024, .bf16⟩
  | 59 => ⟨S2048x4x1024, .f32⟩
  | 60 => ⟨S4x2048x1024, .f32⟩
  | 61 => ⟨S4x2048x1024, .bf16⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v25 : Ref sig .tc := ⟨.hbm, 74, rfl⟩
abbrev main_c_5 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_6 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_7 : Ref sig .tc := ⟨.hbm, 83, rfl⟩
abbrev main_v32 : Ref sig .tc := ⟨.hbm, 84, rfl⟩
abbrev main_v33 : Ref sig .tc := ⟨.hbm, 85, rfl⟩
abbrev main_c_8 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_1 : Ref sig .tc := ⟨.hbm, 94, rfl⟩
abbrev main_call2_v5 : Ref sig .tc := ⟨.hbm, 95, rfl⟩
abbrev main_call2_v6 : Ref sig .tc := ⟨.hbm, 96, rfl⟩
abbrev main_call2_c_2 : Ref sig .tc := ⟨.hbm, 97, rfl⟩
abbrev main_call2_v7 : Ref sig .tc := ⟨.hbm, 98, rfl⟩
abbrev main_call2_v8 : Ref sig .tc := ⟨.hbm, 99, rfl⟩
abbrev main_call2_c_3 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_v34 : Ref sig .tc := ⟨.hbm, 107, rfl⟩
abbrev main_c_9 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_c_10 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_cst_11 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_v46 : Ref sig .tc := ⟨.hbm, 126, rfl⟩
abbrev main_cst_12 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_cst_13 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_cst_14 : Ref sig .tc := ⟨.hbm, 141, rfl⟩
abbrev main_v59 : Ref sig .tc := ⟨.hbm, 142, rfl⟩
abbrev main_cst_15 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_cst_16 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_cst_17 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_cst_18 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_cst_19 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x5120 : Shape := ⟨2, ![8192, 5120]⟩
abbrev S8192x1024 : Shape := ⟨2, ![8192, 1024]⟩
abbrev S8192x3072 : Shape := ⟨2, ![8192, 3072]⟩
abbrev S8192x8x128 : Shape := ⟨3, ![8192, 8, 128]⟩
abbrev S1x8192x8x128 : Shape := ⟨4, ![1, 8192, 8, 128]⟩
abbrev S3x8192x8x128 : Shape := ⟨4, ![3, 8192, 8, 128]⟩
abbrev S3x8x8192x8192 : Shape := ⟨4, ![3, 8, 8192, 8192]⟩
abbrev S_ : Shape := ⟨0, ![]⟩
abbrev S8192x8192 : Shape := ⟨2, ![8192, 8192]⟩
abbrev S1x8192x8192 : Shape := ⟨3, ![1, 8192, 8192]⟩
abbrev S3x8192x8192 : Shape := ⟨3, ![3, 8192, 8192]⟩
abbrev S3x1x8192x8192 : Shape := ⟨4, ![3, 1, 8192, 8192]⟩
abbrev S3x8x8192 : Shape := ⟨3, ![3, 8, 8192]⟩
abbrev S3x8x8192x1 : Shape := ⟨4, ![3, 8, 8192, 1]⟩
abbrev S3x8x8192x128 : Shape := ⟨4, ![3, 8, 8192, 128]⟩
abbrev S8x8192 : Shape := ⟨2, ![8, 8192]⟩
abbrev S1x8x8192 : Shape := ⟨3, ![1, 8, 8192]⟩
abbrev S8x8192x128 : Shape := ⟨3, ![8, 8192, 128]⟩
abbrev S2048x4x1024 : Shape := ⟨3, ![2048, 4, 1024]⟩
abbrev S4x2048x1024 : Shape := ⟨3, ![4, 2048, 1024]⟩

abbrev nBuf : Space → Nat
  | .hbm => 270
  | .vmem => 0
  | .smem => 0
  | _ => 0

abbrev hbmTy0_0 (i : Nat) : BufTy := match i % 128 with
  | 0 => ⟨S8192x5120, .f32⟩
  | 1 => ⟨S8192x1024, .f32⟩
  | 2 => ⟨S8192x3072, .f32⟩
  | 3 => ⟨S8192x1024, .f32⟩
  | 4 => ⟨S8192x1024, .f32⟩
  | 5 => ⟨S8192x1024, .f32⟩
  | 6 => ⟨S8192x8x128, .f32⟩
  | 7 => ⟨S8192x8x128, .f32⟩
  | 8 => ⟨S8192x8x128, .f32⟩
  | 9 => ⟨S1x8192x8x128, .f32⟩
  | 10 => ⟨S3x8192x8x128, .f32⟩
  | 11 => ⟨S1x8192x8x128, .f32⟩
  | 12 => ⟨S3x8192x8x128, .f32⟩
  | 13 => ⟨S1x8192x8x128, .f32⟩
  | 14 => ⟨S3x8192x8x128, .f32⟩
  | 15 => ⟨S3x8x8192x8192, .f32⟩
  | 16 => ⟨S_, .f32⟩
  | 17 => ⟨S3x8x8192x8192, .f32⟩
  | 18 => ⟨S3x8x8192x8192, .f32⟩
  | 19 => ⟨S8192x8192, .i32⟩
  | 20 => ⟨S8192x8192, .i32⟩
  | 21 => ⟨S8192x8192, .i32⟩
  | 22 => ⟨S_, .i32⟩
  | 23 => ⟨S8192x8192, .i32⟩
  | 24 => ⟨S8192x8192, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S8192x8192, .i32⟩
  | 32 => ⟨S8192x8192, .i32⟩
  | 33 => ⟨S_, .i32⟩
  | 34 => ⟨S8192x8192, .i32⟩
  | 35 => ⟨S8192x8192, .i1⟩
  | 36 => ⟨S_, .i32⟩
  | 37 => ⟨S8192x8192, .i32⟩
  | 38 => ⟨S8192x8192, .i1⟩
  | 39 => ⟨S_, .i32⟩
  | 40 => ⟨S_, .i1⟩
  | 41 => ⟨S8192x8192, .i1⟩
  | 42 => ⟨S8192x8192, .i1⟩
  | 43 => ⟨S8192x8192, .i1⟩
  | 44 => ⟨S8192x8192, .i32⟩
  | 45 => ⟨S8192x8192, .i32⟩
  | 46 => ⟨S8192x8192, .i32⟩
  | 47 => ⟨S_, .i32⟩
  | 48 => ⟨S8192x8192, .i32⟩
  | 49 => ⟨S8192x8192, .i1⟩
  | 50 => ⟨S8192x8192, .i1⟩
  | 51 => ⟨S_, .i32⟩
  | 52 => ⟨S8192x8192, .i32⟩
  | 53 => ⟨S8192x8192, .i1⟩
  | 54 => ⟨S8192x8192, .i1⟩
  | 55 => ⟨S_, .i32⟩
  | 56 => ⟨S8192x8192, .i32⟩
  | 57 => ⟨S8192x8192, .i1⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S8192x8192, .i32⟩
  | 65 => ⟨S8192x8192, .i32⟩
  | 66 => ⟨S_, .i32⟩
  | 67 => ⟨S8192x8192, .i32⟩
  | 68 => ⟨S8192x8192, .i1⟩
  | 69 => ⟨S_, .i32⟩
  | 70 => ⟨S8192x8192, .i32⟩
  | 71 => ⟨S8192x8192, .i1⟩
  | 72 => ⟨S_, .i32⟩
  | 73 => ⟨S_, .i1⟩
  | 74 => ⟨S8192x8192, .i1⟩
  | 75 => ⟨S8192x8192, .i1⟩
  | 76 => ⟨S8192x8192, .i1⟩
  | 77 => ⟨S8192x8192, .i32⟩
  | 78 => ⟨S8192x8192, .i32⟩
  | 79 => ⟨S8192x8192, .i32⟩
  | 80 => ⟨S_, .i32⟩
  | 81 => ⟨S8192x8192, .i32⟩
  | 82 => ⟨S8192x8192, .i1⟩
  | 83 => ⟨S8192x8192, .i1⟩
  | 84 => ⟨S_, .i32⟩
  | 85 => ⟨S8192x8192, .i32⟩
  | 86 => ⟨S8192x8192, .i1⟩
  | 87 => ⟨S8192x8192, .i1⟩
  | 88 => ⟨S_, .i32⟩
  | 89 => ⟨S8192x8192, .i32⟩
  | 90 => ⟨S8192x8192, .i1⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S8192x8192, .i32⟩
  | 98 => ⟨S8192x8192, .i32⟩
  | 99 => ⟨S_, .i32⟩
  | 100 => ⟨S8192x8192, .i32⟩
  | 101 => ⟨S8192x8192, .i1⟩
  | 102 => ⟨S_, .i32⟩
  | 103 => ⟨S8192x8192, .i32⟩
  | 104 => ⟨S8192x8192, .i1⟩
  | 105 => ⟨S_, .i32⟩
  | 106 => ⟨S_, .i1⟩
  | 107 => ⟨S8192x8192, .i1⟩
  | 108 => ⟨S8192x8192, .i1⟩
  | 109 => ⟨S8192x8192, .i1⟩
  | 110 => ⟨S8192x8192, .i32⟩
  | 111 => ⟨S8192x8192, .i32⟩
  | 112 => ⟨S8192x8192, .i32⟩
  | 113 => ⟨S_, .i32⟩
  | 114 => ⟨S8192x8192, .i32⟩
  | 115 => ⟨S8192x8192, .i1⟩
  | 116 => ⟨S8192x8192, .i1⟩
  | 117 => ⟨S_, .i32⟩
  | 118 => ⟨S8192x8192, .i32⟩
  | 119 => ⟨S8192x8192, .i1⟩
  | 120 => ⟨S8192x8192, .i1⟩
  | 121 => ⟨S1x8192x8192, .i1⟩
  | 122 => ⟨S1x8192x8192, .i1⟩
  | 123 => ⟨S1x8192x8192, .i1⟩
  | 124 => ⟨S3x8192x8192, .i1⟩
  | 125 => ⟨S3x1x8192x8192, .i1⟩
  | 126 => ⟨S_, .f32⟩
  | 127 => ⟨S_, .f32⟩
  | _ => ⟨S8192x5120, .f32⟩

abbrev hbmTy0_1 (i : Nat) : BufTy := match i % 128 with
  | 0 => ⟨S3x8x8192x8192, .i1⟩
  | 1 => ⟨S3x8x8192x8192, .f32⟩
  | 2 => ⟨S3x8x8192x8192, .f32⟩
  | 3 => ⟨S_, .f32⟩
  | 4 => ⟨S3x8x8192x8192, .f32⟩
  | 5 => ⟨S_, .f32⟩
  | 6 => ⟨S3x8x8192, .f32⟩
  | 7 => ⟨S3x8x8192x1, .f32⟩
  | 8 => ⟨S3x8x8192x8192, .f32⟩
  | 9 => ⟨S3x8x8192x8192, .i1⟩
  | 10 => ⟨S3x8x8192x8192, .f32⟩
  | 11 => ⟨S_, .f32⟩
  | 12 => ⟨S3x8x8192, .f32⟩
  | 13 => ⟨S3x8x8192x1, .f32⟩
  | 14 => ⟨S3x8x8192x8192, .f32⟩
  | 15 => ⟨S3x8x8192x8192, .f32⟩
  | 16 => ⟨S3x8x8192x8192, .f32⟩
  | 17 => ⟨S_, .f32⟩
  | 18 => ⟨S3x8x8192, .f32⟩
  | 19 => ⟨S3x8x8192x1, .f32⟩
  | 20 => ⟨S3x8x8192x8192, .f32⟩
  | 21 => ⟨S3x8x8192x8192, .f32⟩
  | 22 => ⟨S3x8x8192x1, .f32⟩
  | 23 => ⟨S_, .f32⟩
  | 24 => ⟨S3x8x8192x1, .f32⟩
  | 25 => ⟨S3x8x8192x1, .f32⟩
  | 26 => ⟨S3x8x8192x1, .f32⟩
  | 27 => ⟨S3x8x8192x1, .f32⟩
  | 28 => ⟨S3x8x8192, .f32⟩
  | 29 => ⟨S3x8x8192x128, .f32⟩
  | 30 => ⟨S_, .f32⟩
  | 31 => ⟨S8x8192, .f32⟩
  | 32 => ⟨S1x8x8192, .f32⟩
  | 33 => ⟨S3x8x8192, .f32⟩
  | 34 => ⟨S3x8x8192, .i1⟩
  | 35 => ⟨S3x8x8192, .f32⟩
  | 36 => ⟨S_, .f32⟩
  | 37 => ⟨S8x8192, .f32⟩
  | 38 => ⟨S_, .f32⟩
  | 39 => ⟨S8x8192, .f32⟩
  | 40 => ⟨S8x8192, .f32⟩
  | 41 => ⟨S_, .f32⟩
  | 42 => ⟨S8x8192, .f32⟩
  | 43 => ⟨S8x8192, .i1⟩
  | 44 => ⟨S_, .f32⟩
  | 45 => ⟨S8x8192, .f32⟩
  | 46 => ⟨S8x8192, .i1⟩
  | 47 => ⟨S_, .f32⟩
  | 48 => ⟨S8x8192, .f32⟩
  | 49 => ⟨S_, .f32⟩
  | 50 => ⟨S8x8192, .f32⟩
  | 51 => ⟨S_, .f32⟩
  | 52 => ⟨S8x8192, .f32⟩
  | 53 => ⟨S8x8192, .f32⟩
  | 54 => ⟨S8x8192, .f32⟩
  | 55 => ⟨S1x8x8192, .f32⟩
  | 56 => ⟨S3x8x8192, .f32⟩
  | 57 => ⟨S3x8x8192, .f32⟩
  | 58 => ⟨S3x8x8192, .f32⟩
  | 59 => ⟨S_, .f32⟩
  | 60 => ⟨S8x8192, .f32⟩
  | 61 => ⟨S1x8x8192, .f32⟩
  | 62 => ⟨S3x8x8192, .f32⟩
  | 63 => ⟨S3x8x8192, .f32⟩
  | 64 => ⟨S1x8x8192, .f32⟩
  | 65 => ⟨S_, .f32⟩
  | 66 => ⟨S1x8x8192, .f32⟩
  | 67 => ⟨S1x8x8192, .f32⟩
  | 68 => ⟨S3x8x8192x1, .f32⟩
  | 69 => ⟨S3x8x8192x128, .f32⟩
  | 70 => ⟨S3x8x8192x128, .f32⟩
  | 71 => ⟨S_, .f32⟩
  | 72 => ⟨S8x8192x128, .f32⟩
  | 73 => ⟨S8192x8x128, .f32⟩
  | 74 => ⟨S8192x1024, .f32⟩
  | 75 => ⟨S8192x8x128, .f32⟩
  | 76 => ⟨S8x8192x128, .f32⟩
  | 77 => ⟨S3x8x8192x128, .f32⟩
  | 78 => ⟨S3x8x8192x128, .f32⟩
  | 79 => ⟨S3x8x8192x128, .f32⟩
  | 80 => ⟨S3x8x8192x128, .f32⟩
  | 81 => ⟨S_, .f32⟩
  | 82 => ⟨S3x8x8192, .f32⟩
  | 83 => ⟨S3x8x8192x1, .f32⟩
  | 84 => ⟨S_, .f32⟩
  | 85 => ⟨S3x8x8192, .f32⟩
  | 86 => ⟨S3x8x8192, .f32⟩
  | 87 => ⟨S3x8x8192, .f32⟩
  | 88 => ⟨S3x8x8192, .f32⟩
  | 89 => ⟨S_, .f32⟩
  | 90 => ⟨S8x8192, .f32⟩
  | 91 => ⟨S1x8x8192, .f32⟩
  | 92 => ⟨S1x8x8192, .f32⟩
  | 93 => ⟨S3x8x8192, .f32⟩
  | 94 => ⟨S3x8x8192, .f32⟩
  | 95 => ⟨S_, .f32⟩
  | 96 => ⟨S8x8192, .f32⟩
  | 97 => ⟨S3x8x8192, .f32⟩
  | 98 => ⟨S3x8x8192, .f32⟩
  | 99 => ⟨S3x8x8192, .f32⟩
  | 100 => ⟨S3x8x8192x8192, .f32⟩
  | 101 => ⟨S3x8x8192x1, .f32⟩
  | 102 => ⟨S3x8x8192x1, .f32⟩
  | 103 => ⟨S3x8x8192x8192, .f32⟩
  | 104 => ⟨S3x8x8192x8192, .f32⟩
  | 105 => ⟨S3x8x8192x8192, .f32⟩
  | 106 => ⟨S_, .f32⟩
  | 107 => ⟨S3x8x8192, .f32⟩
  | 108 => ⟨S3x8x8192x1, .f32⟩
  | 109 => ⟨S3x8x8192x1, .f32⟩
  | 110 => ⟨S3x8x8192x1, .f32⟩
  | 111 => ⟨S3x8x8192x8192, .f32⟩
  | 112 => ⟨S3x8x8192x8192, .f32⟩
  | 113 => ⟨S_, .f32⟩
  | 114 => ⟨S3x8x8192, .f32⟩
  | 115 => ⟨S3x8x8192x8192, .f32⟩
  | 116 => ⟨S3x8x8192x8192, .f32⟩
  | 117 => ⟨S3x8x8192x8192, .f32⟩
  | 118 => ⟨S3x8x8192x8192, .f32⟩
  | 119 => ⟨S_, .f32⟩
  | 120 => ⟨S3x8x8192, .f32⟩
  | 121 => ⟨S3x8x8192x1, .f32⟩
  | 122 => ⟨S3x8x8192x1, .f32⟩
  | 123 => ⟨S_, .f32⟩
  | 124 => ⟨S3x8x8192, .f32⟩
  | 125 => ⟨S3x8x8192, .f32⟩
  | 126 => ⟨S3x8x8192x8192, .f32⟩
  | 127 => ⟨S3x8x8192x8192, .f32⟩
  | _ => ⟨S8192x5120, .f32⟩

abbrev hbmTy0_2 (i : Nat) : BufTy := match i % 128 with
  | 0 => ⟨S3x8x8192x8192, .f32⟩
  | 1 => ⟨S_, .f32⟩
  | 2 => ⟨S3x8x8192x8192, .f32⟩
  | 3 => ⟨S3x8x8192x8192, .f32⟩
  | 4 => ⟨S_, .f32⟩
  | 5 => ⟨S3x8x8192x8192, .f32⟩
  | 6 => ⟨S3x8x8192x8192, .f32⟩
  | 7 => ⟨S3x8x8192x128, .f32⟩
  | 8 => ⟨S3x8192x8x128, .f32⟩
  | 9 => ⟨S1x8192x8x128, .f32⟩
  | 10 => ⟨S8192x8x128, .f32⟩
  | 11 => ⟨S2048x4x1024, .f32⟩
  | 12 => ⟨S4x2048x1024, .f32⟩
  | 13 => ⟨S4x2048x1024, .bf16⟩
  | _ => ⟨S8192x5120, .f32⟩

abbrev hbmTy (i : Nat) : BufTy := match i / 128 with
  | 0 => hbmTy0_0 i
  | 1 => hbmTy0_1 i
  | 2 => hbmTy0_2 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v21 : Ref sig .tc := ⟨.hbm, 46, rfl⟩
abbrev main_c_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_3 : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v30 : Ref sig .tc := ⟨.hbm, 79, rfl⟩
abbrev main_c_5 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_c_6 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_7 : Ref sig .tc := ⟨.hbm, 88, rfl⟩
abbrev main_v37 : Ref sig .tc := ⟨.hbm, 89, rfl⟩
abbrev main_v38 : Ref sig .tc := ⟨.hbm, 90, rfl⟩
abbrev main_c_8 : Ref sig .tc := ⟨.hbm, 91, rfl⟩
abbrev main_call2_v0 : Ref sig .tc := ⟨.hbm, 92, rfl⟩
abbrev main_call2_c : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_c_1 : Ref sig .tc := ⟨.hbm, 99, rfl⟩
abbrev main_call2_v5 : Ref sig .tc := ⟨.hbm, 100, rfl⟩
abbrev main_call2_v6 : Ref sig .tc := ⟨.hbm, 101, rfl⟩
abbrev main_call2_c_2 : Ref sig .tc := ⟨.hbm, 102, rfl⟩
abbrev main_call2_v7 : Ref sig .tc := ⟨.hbm, 103, rfl⟩
abbrev main_call2_v8 : Ref sig .tc := ⟨.hbm, 104, rfl⟩
abbrev main_call2_c_3 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_v39 : Ref sig .tc := ⟨.hbm, 112, rfl⟩
abbrev main_c_9 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_c_10 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_cst_11 : Ref sig .tc := ⟨.hbm, 126, rfl⟩
abbrev main_call3_v0 : Ref sig .tc := ⟨.hbm, 127, rfl⟩
abbrev main_v51_1 : Ref sig .tc := ⟨.hbm, 128, rfl⟩
abbrev main_call3_v2 : Ref sig .tc := ⟨.hbm, 129, rfl⟩
abbrev main_v51_0 : Ref sig .tc := ⟨.hbm, 130, rfl⟩
abbrev main_call3_cst : Ref sig .tc := ⟨.hbm, 131, rfl⟩
abbrev main_v51_2 : Ref sig .tc := ⟨.hbm, 132, rfl⟩
abbrev main_cst_12 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_cst_13 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_cst_14 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_cst_15 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_cst_16 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_cst_17 : Ref sig .tc := ⟨.hbm, 164, rfl⟩
abbrev main_v78 : Ref sig .tc := ⟨.hbm, 165, rfl⟩
abbrev main_cst_18 : Ref sig .tc := ⟨.hbm, 166, rfl⟩
abbrev main_v79 : Ref sig .tc := ⟨.hbm, 167, rfl⟩
abbrev main_v80 : Ref sig .tc := ⟨.hbm, 168, rfl⟩
abbrev main_cst_19 : Ref sig .tc := ⟨.hbm, 169, rfl⟩
abbrev main_v81 : Ref sig .tc := ⟨.hbm, 170, rfl⟩
abbrev main_v82 : Ref sig .tc := ⟨.hbm, 171, rfl⟩
abbrev main_cst_20 : Ref sig .tc := ⟨.hbm, 172, rfl⟩
abbrev main_v83 : Ref sig .tc := ⟨.hbm, 173, rfl⟩
abbrev main_v84 : Ref sig .tc := ⟨.hbm, 174, rfl⟩
abbrev main_cst_21 : Ref sig .tc := ⟨.hbm, 175, rfl⟩
abbrev main_v85 : Ref sig .tc := ⟨.hbm, 176, rfl⟩
abbrev main_cst_22 : Ref sig .tc := ⟨.hbm, 177, rfl⟩
abbrev main_v86 : Ref sig .tc := ⟨.hbm, 178, rfl⟩
abbrev main_cst_23 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_cst_24 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_cst_25 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_26 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_cst_27 : Ref sig .tc := ⟨.hbm, 209, rfl⟩
abbrev main_v113 : Ref sig .tc := ⟨.hbm, 210, rfl⟩
abbrev main_v114 : Ref sig .tc := ⟨.hbm, 211, rfl⟩
abbrev main_cst_28 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_cst_29 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_cst_30 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_31 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_cst_32 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_cst_33 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_cst_34 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_call4_cst : Ref sig .tc := ⟨.hbm, 257, rfl⟩
abbrev main_call4_v0 : Ref sig .tc := ⟨.hbm, 258, rfl⟩
abbrev main_v153 : Ref sig .tc := ⟨.hbm, 259, rfl⟩
abbrev main_cst_35 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩

abbrev nD : Nat := 1
abbrev τ : Topo := Topo.v7x

variable {F : FTy → Type} [FloatOps F]
-- ==== Kernel2.lean ====
abbrev S8192x5632 : Shape := ⟨2, ![8192, 5632]⟩
abbrev S2048x5632 : Shape := ⟨2, ![2048, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .f32⟩
  | .hbm, ⟨2, _⟩ => ⟨S8192x5632, .bf16⟩
  | .hbm, ⟨3, _⟩ => ⟨S2048x5632, .f32⟩
  | .hbm, ⟨4, _⟩ => ⟨S5632x2048, .f32⟩
  | .hbm, ⟨5, _⟩ => ⟨S5632x2048, .bf16⟩
  | .hbm, ⟨6, _⟩ => ⟨S5632x2048, .f32⟩
  | .hbm, ⟨7, _⟩ => ⟨S5632x2048, .bf16⟩
  | .hbm, ⟨8, _⟩ => ⟨S8192x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .f32⟩
  | .hbm, ⟨2, _⟩ => ⟨S8192x5632, .bf16⟩
  | .hbm, ⟨3, _⟩ => ⟨S2048x5632, .f32⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Reference4Ideal.lean ====
abbrev S8192x5632 : Shape := ⟨2, ![8192, 5632]⟩
abbrev S8192x2048 : Shape := ⟨2, ![8192, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S8192x5120 : Shape := ⟨2, ![8192, 5120]⟩
abbrev S2048x5120 : Shape := ⟨2, ![2048, 5120]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference5Ideal.lean ====
abbrev S8192x2048 : Shape := ⟨2, ![8192, 2048]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S_, .f32⟩
  | .hbm, ⟨3, _⟩ => ⟨S2048x5120, .f32⟩
  | .hbm, ⟨4, _⟩ => ⟨S8192x2048, .f32⟩
  | .hbm, ⟨5, _⟩ => ⟨S8192x5120, .f32⟩
  | .hbm, ⟨6, _⟩ => ⟨S8192x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S2048x2048 : Shape := ⟨2, ![2048, 2048]⟩
abbrev S2048x512 : Shape := ⟨2, ![2048, 512]⟩

abbrev nBuf : Space → Nat
  | .hbm => 15
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S5632x2048, .f32⟩
  | .hbm, ⟨6, _⟩ => ⟨S5632x2048, .bf16⟩
  | .hbm, ⟨7, _⟩ => ⟨S5632x2048, .f32⟩
  | .hbm, ⟨8, _⟩ => ⟨S5632x2048, .bf16⟩
  | .hbm, ⟨9, _⟩ => ⟨S8192x5632, .bf16⟩
  | .hbm, ⟨10, _⟩ => ⟨S8192x5632, .bf16⟩
  | .hbm, ⟨11, _⟩ => ⟨S8192x5632, .bf16⟩
  | .hbm, ⟨12, _⟩ => ⟨S5632x2048, .bf16⟩
  | .hbm, ⟨13, _⟩ => ⟨S8192x5632, .bf16⟩
  | .hbm, ⟨14, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S2048x2048, .bf16⟩
  | .local _ .vmem, ⟨13, _⟩ => ⟨S2048x2048, .bf16⟩
  | .local _ .vmem, ⟨14, _⟩ => ⟨S512x2048, .bf16⟩
  | .local _ .vmem, ⟨15, _⟩ => ⟨S512x2048, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== Reference6Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .bf16⟩
  | .hbm, ⟨42, _⟩ => ⟨S8192x5632, .bf16⟩
  | .hbm, ⟨43, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S2048x2048, .bf16⟩
  | .hbm, ⟨6, _⟩ => ⟨S8192x2048, .bf16⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S8x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference8Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel9.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S5632x2048, .bf16⟩
  | .hbm, ⟨5, _⟩ => ⟨S8192x2048, .f32⟩
  | .hbm, ⟨6, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference9Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel10.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S8192x2048, .f32⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference10Ideal.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x5120 : Shape := ⟨2, ![8192, 5120]⟩
abbrev S2048x5120 : Shape := ⟨2, ![2048, 5120]⟩
abbrev S8192x2048 : Shape := ⟨2, ![8192, 2048]⟩
abbrev S1x2048 : Shape := ⟨2, ![1, 2048]⟩
abbrev S512x1280 : Shape := ⟨2, ![512, 1280]⟩
abbrev S2048x1280 : Shape := ⟨2, ![2048, 1280]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S2048x5120, .bf16⟩
  | .hbm, ⟨6, _⟩ => ⟨S8192x2048, .f32⟩
  | .hbm, ⟨7, _⟩ => ⟨S1x2048, .f32⟩
  | .local _ .vmem, ⟨0, _⟩ => ⟨S512x1280, .bf16⟩
  | .local _ .vmem, ⟨1, _⟩ => ⟨S512x1280, .bf16⟩
  | .local _ .vmem, ⟨2, _⟩ => ⟨S2048x1280, .bf16⟩
  | .local _ .vmem, ⟨3, _⟩ => ⟨S2048x1280, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S8x2048, .f32⟩
  | .local _ .vmem, ⟨13, _⟩ => ⟨S512x2048, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference13Ideal.lean ====
abbrev S8192x5120 : Shape := ⟨2, ![8192, 5120]⟩
abbrev S2048x5120 : Shape := ⟨2, ![2048, 5120]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x5120, .f32⟩
  | .hbm, ⟨25, _⟩ => ⟨S8192x2048, .f32⟩
  | .hbm, ⟨26, _⟩ => ⟨S8192x5120, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S1x2048 : Shape := ⟨2, ![1, 2048]⟩
abbrev S8192x256 : Shape := ⟨2, ![8192, 256]⟩
abbrev S256x2048 : Shape := ⟨2, ![256, 2048]⟩
abbrev S1x128 : Shape := ⟨2, ![1, 128]⟩
abbrev S256x256 : Shape := ⟨2, ![256, 256]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩
abbrev S1 : Shape := ⟨1, ![1]⟩
abbrev S1x1 : Shape := ⟨2, ![1, 1]⟩

abbrev nBuf : Space → Nat
  | .hbm => 17
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S1x2048, .f32⟩
  | .hbm, ⟨3, _⟩ => ⟨S8192x256, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S2048x2048, .bf16⟩
  | .hbm, ⟨9, _⟩ => ⟨S8192x256, .bf16⟩
  | .hbm, ⟨10, _⟩ => ⟨S256x2048, .bf16⟩
  | .hbm, ⟨11, _⟩ => ⟨S1x128, .f32⟩
  | .hbm, ⟨12, _⟩ => ⟨S8192x2048, .bf16⟩
  | .hbm, ⟨13, _⟩ => ⟨S8192x2048, .bf16⟩
  | .hbm, ⟨14, _⟩ => ⟨S8192x2048, .bf16⟩
  | .hbm, ⟨15, _⟩ => ⟨S1x2048, .f32⟩
  | .hbm, ⟨16, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S1x2048, .f32⟩
  | .local _ .vmem, ⟨4, _⟩ => ⟨S256x256, .bf16⟩
  | .local _ .vmem, ⟨5, _⟩ => ⟨S256x256, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x128, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | .local _ .vmem, ⟨20, _⟩ => ⟨S1x2048, .f32⟩
  | .local _ .vmem, ⟨21, _⟩ => ⟨S8x2048, .f32⟩
  | .local _ .vmem, ⟨22, _⟩ => ⟨S8x2048, .f32⟩
  | .local _ .vmem, ⟨23, _⟩ => ⟨S8x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v89 : BitVec 1 := Scalar.cmpi .eq arg0 c31_i32
  let v90 : BitVec 32 := Scalar.extui v89
  let c0_i32_48 : BitVec 32 := 0#32
  let v91 : BitVec 1 := Scalar.cmpi .ne v90 c0_i32_48
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference16Ideal.lean ====
abbrev S8192x2048 : Shape := ⟨2, ![8192, 2048]⟩
abbrev S2048x2048 : Shape := ⟨2, ![2048, 2048]⟩
abbrev S1x2048 : Shape := ⟨2, ![1, 2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S1x2048, .f32⟩
  | .hbm, ⟨3, _⟩ => ⟨S8192x256, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x2048, .f32⟩
  | .hbm, ⟨80, _⟩ => ⟨S8192x2048, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S_, .f32⟩
  | .hbm, ⟨96, _⟩ => ⟨S2048, .f32⟩
  | .hbm, ⟨97, _⟩ => ⟨S1x2048, .f32⟩
  | .hbm, ⟨98, _⟩ => ⟨S1x128, .f32⟩
  | .hbm, ⟨99, _⟩ => ⟨S8192x2048, .bf16⟩
  | .hbm, ⟨100, _⟩ => ⟨S8192x2048, .bf16⟩
  | .hbm, ⟨101, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Kernel17.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S8192x256, .bf16⟩
  | .hbm, ⟨3, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .bf16⟩
  | .local _ .vmem, ⟨5, _⟩ => ⟨S256x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S8192x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x2048 : Shape := ⟨2, ![8192, 2048]⟩
abbrev S1x2048 : Shape := ⟨2, ![1, 2048]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .bf16⟩
  | .hbm, ⟨5, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S8x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v42 : BitVec 1 := Scalar.cmpi .eq arg0 c31_i32
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel19.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x704x2048 : Shape := ⟨3, ![8, 704, 2048]⟩
abbrev S2048x704 : Shape := ⟨2, ![2048, 704]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 11
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x704x2048 : Shape := ⟨3, ![8, 704, 2048]⟩
abbrev S2048x704 : Shape := ⟨2, ![2048, 704]⟩
abbrev S8x2048x704 : Shape := ⟨3, ![8, 2048, 704]⟩
abbrev S_ : Shape := ⟨0, ![]⟩
abbrev S704x2048 : Shape := ⟨2, ![704, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x2048x704, .bf16⟩
  | .hbm, ⟨5, _⟩ => ⟨S8x2048x704, .f32⟩
  | .hbm, ⟨6, _⟩ => ⟨S_, .f32⟩
  | .hbm, ⟨7, _⟩ => ⟨S2048x704, .f32⟩
  | .hbm, ⟨8, _⟩ => ⟨S_, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S2048x704, .f32⟩
  | .hbm, ⟨23, _⟩ => ⟨S_, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | .hbm, ⟨37, _⟩ => ⟨S2048x704, .f32⟩
  | .hbm, ⟨38, _⟩ => ⟨S_, .f32⟩
  | .hbm, ⟨39, _⟩ => ⟨S2048x704, .f32⟩
  | .hbm, ⟨40, _⟩ => ⟨S2048x704, .f32⟩
  | .hbm, ⟨41, _⟩ => ⟨S704x2048, .f32⟩
  | .hbm, ⟨42, _⟩ => ⟨S704x2048, .f32⟩
  | .hbm, ⟨43, _⟩ => ⟨S704x2048, .f32⟩
  | .hbm, ⟨44, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel21.lean ====
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x2048x640 : Shape := ⟨3, ![8, 2048, 640]⟩
abbrev S2048x640 : Shape := ⟨2, ![2048, 640]⟩
abbrev S8x256x640 : Shape := ⟨3, ![8, 256, 640]⟩
abbrev S256x640 : Shape := ⟨2, ![256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x640, .bf16⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S8x256x640, .bf16⟩
  | .local _ .vmem, ⟨1, _⟩ => ⟨S8x256x640, .bf16⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x2048x640 : Shape := ⟨3, ![8, 2048, 640]⟩
abbrev S2048x640 : Shape := ⟨2, ![2048, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x640, .bf16⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S8x2048x640, .f32⟩
  | .hbm, ⟨5, _⟩ => ⟨S_, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S_, .f32⟩
  | .hbm, ⟨11, _⟩ => ⟨S2048x640, .f32⟩
  | .hbm, ⟨12, _⟩ => ⟨S2048x640, .f32⟩
  | .hbm, ⟨13, _⟩ => ⟨S2048x640, .f32⟩
  | .hbm, ⟨14, _⟩ => ⟨S_, .f32⟩
  | .hbm, ⟨15, _⟩ => ⟨S2048x640, .f32⟩
  | .hbm, ⟨16, _⟩ => ⟨S2048x640, .f32⟩
  | .hbm, ⟨17, _⟩ => ⟨S2048x640, .f32⟩
  | .hbm, ⟨18, _⟩ => ⟨S_, .f32⟩
  | .hbm, ⟨19, _⟩ => ⟨S2048x640, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S_, .f32⟩
  | .hbm, ⟨26, _⟩ => ⟨S2048x640, .f32⟩
  | .hbm, ⟨27, _⟩ => ⟨S2048x640, .f32⟩
  | .hbm, ⟨28, _⟩ => ⟨S2048x640, .f32⟩
  | .hbm, ⟨29, _⟩ => ⟨S_, .f32⟩
  | .hbm, ⟨30, _⟩ => ⟨S2048x640, .f32⟩
  | .hbm, ⟨31, _⟩ => ⟨S2048x640, .f32⟩
  | .hbm, ⟨32, _⟩ => ⟨S2048x640, .f32⟩
  | .hbm, ⟨33, _⟩ => ⟨S_, .f32⟩
  | .hbm, ⟨34, _⟩ => ⟨S2048x640, .f32⟩
  | .hbm, ⟨35, _⟩ => ⟨S2048x640, .f32⟩
  | .hbm, ⟨36, _⟩ => ⟨S2048x640, .f32⟩
  | .hbm, ⟨37, _⟩ => ⟨S_, .f32⟩
  | .hbm, ⟨38, _⟩ => ⟨S2048x640, .f32⟩
  | .hbm, ⟨39, _⟩ => ⟨S2048x640, .f32⟩
  | _, _ => ⟨S8x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x256x256, .bf16⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x256x256 : Shape := ⟨3, ![8, 256, 256]⟩
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x40x2048 : Shape := ⟨3, ![8, 40, 2048]⟩
abbrev S40x2048 : Shape := ⟨2, ![40, 2048]⟩
abbrev S8x8x2048 : Shape := ⟨3, ![8, 8, 2048]⟩
abbrev S8x2048 : Shape := ⟨2, ![8, 2048]⟩
abbrev S1x8x2048 : Shape := ⟨3, ![1, 8, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x40x2048, .f32⟩
  | .hbm, ⟨1, _⟩ => ⟨S40x2048, .f32⟩
  | .hbm, ⟨2, _⟩ => ⟨S40x2048, .f32⟩
  | .hbm, ⟨3, _⟩ => ⟨S40x2048, .f32⟩
  | .hbm, ⟨4, _⟩ => ⟨S40x2048, .f32⟩
  | .hbm, ⟨5, _⟩ => ⟨S40x2048, .f32⟩
  | .hbm, ⟨6, _⟩ => ⟨S40x2048, .f32⟩
  | .hbm, ⟨7, _⟩ => ⟨S40x2048, .f32⟩
  | .local _ .vmem, ⟨0, _⟩ => ⟨S8x8x2048, .f32⟩
  | .local _ .vmem, ⟨1, _⟩ => ⟨S8x8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | .local _ .vmem, ⟨13, _⟩ => ⟨S8x2048, .f32⟩
  | .local _ .vmem, ⟨14, _⟩ => ⟨S8x2048, .f32⟩
  | .local _ .vmem, ⟨15, _⟩ => ⟨S8x2048, .f32⟩
  | _, _ => ⟨S8x40x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S8x40x2048 : Shape := ⟨3, ![8, 40, 2048]⟩
abbrev S40x2048 : Shape := ⟨2, ![40, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x40x2048, .f32⟩
  | .hbm, ⟨1, _⟩ => ⟨S40x2048, .f32⟩
  | .hbm, ⟨2, _⟩ => ⟨S40x2048, .f32⟩
  | .hbm, ⟨3, _⟩ => ⟨S40x2048, .f32⟩
  | .hbm, ⟨4, _⟩ => ⟨S_, .f32⟩
  | .hbm, ⟨5, _⟩ => ⟨S40x2048, .f32⟩
  | .hbm, ⟨6, _⟩ => ⟨S_, .f32⟩
  | .hbm, ⟨7, _⟩ => ⟨S40x2048, .f32⟩
  | .hbm, ⟨8, _⟩ => ⟨S40x2048, .f32⟩
  | .hbm, ⟨9, _⟩ => ⟨S_, .f32⟩
  | .hbm, ⟨10, _⟩ => ⟨S40x2048, .f32⟩
  | .hbm, ⟨11, _⟩ => ⟨S40x2048, .f32⟩
  | .hbm, ⟨12, _⟩ => ⟨S40x2048, .f32⟩
  | .hbm, ⟨13, _⟩ => ⟨S_, .f32⟩
  | .hbm, ⟨14, _⟩ => ⟨S40x2048, .f32⟩
  | .hbm, ⟨15, _⟩ => ⟨S40x2048, .f32⟩
  | .hbm, ⟨16, _⟩ => ⟨S40x2048, .f32⟩
  | .hbm, ⟨17, _⟩ => ⟨S_, .f32⟩
  | .hbm, ⟨18, _⟩ => ⟨S40x2048, .f32⟩
  | .hbm, ⟨19, _⟩ => ⟨S40x2048, .f32⟩
  | .hbm, ⟨20, _⟩ => ⟨S40x2048, .f32⟩
  | .hbm, ⟨21, _⟩ => ⟨S_, .f32⟩
  | .hbm, ⟨22, _⟩ => ⟨S40x2048, .f32⟩
  | .hbm, ⟨23, _⟩ => ⟨S40x2048, .f32⟩
  | .hbm, ⟨24, _⟩ => ⟨S_, .f32⟩
  | .hbm, ⟨25, _⟩ => ⟨S40x2048, .f32⟩
  | .hbm, ⟨26, _⟩ => ⟨S40x2048, .f32⟩
  | .hbm, ⟨27, _⟩ => ⟨S40x2048, .f32⟩
  | .hbm, ⟨28, _⟩ => ⟨S_, .f32⟩
  | .hbm, ⟨29, _⟩ => ⟨S40x2048, .f32⟩
  | .hbm, ⟨30, _⟩ => ⟨S40x2048, .f32⟩
  | .hbm, ⟨31, _⟩ => ⟨S40x2048, .f32⟩
  | .hbm, ⟨32, _⟩ => ⟨S_, .f32⟩
  | .hbm, ⟨33, _⟩ => ⟨S40x2048, .f32⟩
  | .hbm, ⟨34, _⟩ => ⟨S40x2048, .f32⟩
  | .hbm, ⟨35, _⟩ => ⟨S40x2048, .f32⟩
  | .hbm, ⟨36, _⟩ => ⟨S_, .f32⟩
  | .hbm, ⟨37, _⟩ => ⟨S40x2048, .f32⟩
  | .hbm, ⟨38, _⟩ => ⟨S40x2048, .f32⟩
  | _, _ => ⟨S8x40x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S8x2048x640 : Shape := ⟨3, ![8, 2048, 640]⟩
abbrev S2048x5120 : Shape := ⟨2, ![2048, 5120]⟩
abbrev S1x2048x640 : Shape := ⟨3, ![1, 2048, 640]⟩
abbrev S2048x640 : Shape := ⟨2, ![2048, 640]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x640, .bf16⟩
  | .hbm, ⟨1, _⟩ => ⟨S2048x5120, .bf16⟩
  | .local _ .vmem, ⟨0, _⟩ => ⟨S1x2048x640, .bf16⟩
  | .local _ .vmem, ⟨1, _⟩ => ⟨S1x2048x640, .bf16⟩
  | .local _ .vmem, ⟨2, _⟩ => ⟨S2048x640, .bf16⟩
  | .local _ .vmem, ⟨3, _⟩ => ⟨S2048x640, .bf16⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference25Ideal.lean ====
abbrev S8x2048x640 : Shape := ⟨3, ![8, 2048, 640]⟩
abbrev S2048x8x640 : Shape := ⟨3, ![2048, 8, 640]⟩
abbrev S2048x5120 : Shape := ⟨2, ![2048, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x640, .bf16⟩
  | .hbm, ⟨1, _⟩ => ⟨S2048x8x640, .bf16⟩
  | .hbm, ⟨2, _⟩ => ⟨S2048x5120, .bf16⟩
  | _, _ => ⟨S8x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel26.lean ====
abbrev S2048x5120 : Shape := ⟨2, ![2048, 5120]⟩
abbrev S8x2048x640 : Shape := ⟨3, ![8, 2048, 640]⟩
abbrev S2048x640 : Shape := ⟨2, ![2048, 640]⟩
abbrev S1x2048x640 : Shape := ⟨3, ![1, 2048, 640]⟩

abbrev nBuf : Space → Nat
  | .hbm => 2
  | .vmem => 4
  | .smem => 0
  | _ => 0

abbrev bufTy : (tb : Table) → Fin (tcTables nBuf tb) → BufTy
  | .hbm, ⟨0, _⟩ => ⟨S2048x5120, .bf16⟩
  | .hbm, ⟨1, _⟩ => ⟨S8x2048x640, .bf16⟩
  | .local _ .vmem, ⟨0, _⟩ => ⟨S2048x640, .bf16⟩
  | .local _ .vmem, ⟨1, _⟩ => ⟨S2048x640, .bf16⟩
  | .local _ .vmem, ⟨2, _⟩ => ⟨S1x2048x640, .bf16⟩
  | .local _ .vmem, ⟨3, _⟩ => ⟨S1x2048x640, .bf16⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference26Ideal.lean ====
abbrev S2048x5120 : Shape := ⟨2, ![2048, 5120]⟩
abbrev S2048x8x640 : Shape := ⟨3, ![2048, 8, 640]⟩
abbrev S8x2048x640 : Shape := ⟨3, ![8, 2048, 640]⟩

abbrev nBuf : Space → Nat
  | .hbm => 3
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x8x640, .bf16⟩
  | .hbm, ⟨2, _⟩ => ⟨S8x2048x640, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Rows.lean ====
module

public import Idealize.ShloMosaic.Lib.IdealHost
public import Idealize.ShloMosaic.Lib.Pointwise

@[expose] public section
set_option maxRecDepth 16384
noncomputable section
open Idealize.ShloMosaic

/-! One row of the attention, over the real numbers: the scores of one query, the sets of keys its branches see, and
the sums its weights are made of. -/
namespace Cert.Rows

/-! ### Extended reals that are real -/

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the second not zero. -/
theorem div_real (x : ℝ) {y : ℝ} (h : y ≠ 0) : Ideal.div (x : EReal) (y : EReal) = ((x / y : ℝ) : EReal) := by
  rw [Ideal.div_coe h, ← EReal.coe_mul, mul_one_div]

/-- The logarithm of a positive real. -/
theorem log_real {x : ℝ} (h : 0 < x) : Ideal.log (x : EReal) = ((Real.log x : ℝ) : EReal) := by
  rw [Ideal.log_coe, if_neg (not_le.mpr h)]

/-- The bits of minus infinity. -/
theorem ofBits_bot : Ideal.ofBits .f32 0xFF800000#32 = (⊥ : EReal) := by simp [Ideal.ofBits, Ideal.ieee]

/-- The scale of the scores, as a real number. -/
def scale : ℝ := (Ideal.ofBits .f32 0x3DB504F3#32 : EReal).toReal

theorem ofBits_scale : Ideal.ofBits .f32 0x3DB504F3#32 = ((scale : ℝ) : EReal) := by
  rw [scale]
  refine (EReal.coe_toReal ?_ ?_).symm <;> simp only [Ideal.ofBits, Ideal.ieee] <;> simp
  · exact_mod_cast EReal.coe_ne_top _
  · exact_mod_cast EReal.coe_ne_bot _

/-- The largest of finitely many values, each real or minus infinity and one of them real, is real and is attained. -/
theorem fold_max_real {ι : Type} (S : Finset ι) (f : ι → EReal) (hf : ∀ i ∈ S, f i ≠ ⊤) (i₀ : ι) (h₀ : i₀ ∈ S)
    (hi : f i₀ ≠ ⊥) : ∃ i ∈ S, ∃ r : ℝ, S.fold max ⊥ f = (r : EReal) ∧ f i = (r : EReal) := by
  have hs : S.fold max ⊥ f = S.sup f := rfl
  obtain ⟨i, hiS, he⟩ := Finset.exists_mem_eq_sup S ⟨i₀, h₀⟩ f
  have hb : f i ≠ ⊥ := fun h => hi (le_bot_iff.mp ((Finset.le_sup h₀).trans (he.trans h).le))
  exact ⟨i, hiS, (f i).toReal, by rw [hs, he, EReal.coe_toReal (hf i hiS) hb], (EReal.coe_toReal (hf i hiS) hb).symm⟩

/-! ### The sums of a row -/

section
variable {J B C : Type} [Fintype J] [Fintype B] [Fintype C]

/-- The exponential of a score where the branch sees the key, zero elsewhere. -/
def ee (M : B → J → Prop) [∀ b j, Decidable (M b j)] (x : J → ℝ) (b : B) (j : J) : ℝ :=
  if M b j then Real.exp (x j) else 0

/-- The sum of a branch's exponentials. -/
def zz (M : B → J → Prop) [∀ b j, Decidable (M b j)] (x : J → ℝ) (b : B) : ℝ := ∑ j, ee M x b j

/-- The sum over all branches. -/
def ss (M : B → J → Prop) [∀ b j, Decidable (M b j)] (x : J → ℝ) : ℝ := ∑ b, zz M x b

variable {M : B → J → Prop} [∀ b j, Decidable (M b j)] {x : J → ℝ}

theorem ee_nonneg (b : B) (j : J) : 0 ≤ ee M x b j := by
  rw [ee]; split
  · exact (Real.exp_pos _).le
  · exact le_rfl

theorem zz_pos {b : B} {j : J} (h : M b j) : 0 < zz M x b :=
  Finset.sum_pos' (fun k _ => ee_nonneg b k) ⟨j, Finset.mem_univ _, by rw [ee, if_pos h]; exact Real.exp_pos _⟩

theorem ss_pos (b₀ : B) {d : J} (h : ∀ b, M b d) : 0 < ss M x :=
  Finset.sum_pos (fun b _ => zz_pos (h b)) ⟨b₀, Finset.mem_univ _⟩

/-- A shifted exponential of a masked score. -/
theorem exp_shift (m : ℝ) (b : B) (j : J) :
    Ideal.exp ((if M b j then ((x j : ℝ) : EReal) else ⊥) - (m : EReal)) = ((ee M x b j * Real.exp (-m) : ℝ) : EReal) := by
  rw [ee]
  by_cases h : M b j
  · rw [if_pos h, if_pos h, ← EReal.coe_sub, Ideal.exp_coe, ← Real.exp_add, sub_eq_add_neg]
  · rw [if_neg h, if_neg h, EReal.bot_sub, Ideal.exp_bot, zero_mul, EReal.coe_zero]

theorem sum_shift (m : ℝ) (b : B) : ∑ j, ((ee M x b j * Real.exp (-m) : ℝ) : EReal) = ((zz M x b * Real.exp (-m) : ℝ) : EReal) := by
  rw [← coe_sum, zz, Finset.sum_mul]

theorem shift_ne {a : ℝ} (h : 0 < a) (m : ℝ) : a * Real.exp (-m) ≠ 0 := (mul_pos h (Real.exp_pos _)).ne'

/-- The maximum and the logarithm of the shifted sum give the logarithm of the sum. -/
theorem log_shift (m : ℝ) {a : ℝ} (h : 0 < a) :
    ((m : ℝ) : EReal) + Ideal.log ((a * Real.exp (-m) : ℝ) : EReal) = ((Real.log a : ℝ) : EReal) := by
  rw [log_real (mul_pos h (Real.exp_pos _)), Real.log_mul h.ne' (Real.exp_pos _).ne', Real.log_exp, ← EReal.coe_add]
  congr 1; ring

theorem exp_log_shift (t : ℝ) {a : ℝ} (h : 0 < a) :
    Ideal.exp (((Real.log a : ℝ) : EReal) - (t : EReal)) = ((a * Real.exp (-t) : ℝ) : EReal) := by
  rw [← EReal.coe_sub, Ideal.exp_coe, sub_eq_add_neg, Real.exp_add, Real.exp_log h]

theorem sum_branch_shift (t : ℝ) : ∑ b, ((zz M x b * Real.exp (-t) : ℝ) : EReal) = ((ss M x * Real.exp (-t) : ℝ) : EReal) := by
  rw [← coe_sum, ss, Finset.sum_mul]

/-- A shift common to both sides of a quotient cancels. -/
theorem div_shift (u : ℝ) {a : ℝ} (h : a ≠ 0) (m : ℝ) :
    Ideal.div ((u * Real.exp (-m) : ℝ) : EReal) ((a * Real.exp (-m) : ℝ) : EReal) = ((u / a : ℝ) : EReal) := by
  rw [div_real _ (mul_ne_zero h (Real.exp_pos _).ne'), mul_div_mul_right _ _ (Real.exp_pos _).ne']

/-- The output of a branch, at one feature. -/
def ob (M : B → J → Prop) [∀ b j, Decidable (M b j)] (x : J → ℝ) (v : J → C → ℝ) (b : B) (c : C) : ℝ :=
  ∑ j, ee M x b j / zz M x b * v j c

/-- What a branch's output gives against the gradient of the result. -/
def dd (M : B → J → Prop) [∀ b j, Decidable (M b j)] (x : J → ℝ) (v : J → C → ℝ) (g : C → ℝ) (b : B) : ℝ :=
  ∑ c, g c * ob M x v b c

/-- The output of the row: the branches weighed by their sums. -/
def oo (M : B → J → Prop) [∀ b j, Decidable (M b j)] (x : J → ℝ) (v : J → C → ℝ) (c : C) : ℝ :=
  ∑ j, (∑ b, zz M x b / ss M x * (ee M x b j / zz M x b)) * v j c

/-- The gradient of the result against its row. -/
def delta (M : B → J → Prop) [∀ b j, Decidable (M b j)] (x : J → ℝ) (v : J → C → ℝ) (g : C → ℝ) : ℝ :=
  ∑ c, g c * oo M x v c

/-- The gradient of the result against one value row. -/
def dp (v : J → C → ℝ) (g : C → ℝ) (j : J) : ℝ := ∑ c, g c * v j c

/-- The gradient of the row's scores, as seen by one branch. -/
def ds (M : B → J → Prop) [∀ b j, Decidable (M b j)] (x : J → ℝ) (v : J → C → ℝ) (g : C → ℝ) (b : B) (j : J) : ℝ :=
  ee M x b j / ss M x * (dp v g j - delta M x v g)

variable {v : J → C → ℝ} {g : C → ℝ}

theorem dd_eq (b : B) : dd M x v g b = ∑ j, ee M x b j / zz M x b * dp v g j := by
  simp only [dd, ob, dp, Finset.mul_sum]
  rw [Finset.sum_comm]
  exact Finset.sum_congr rfl fun j _ => Finset.sum_congr rfl fun c _ => by ring

theorem oo_eq (c : C) : oo M x v c = ∑ b, zz M x b / ss M x * ob M x v b c := by
  simp only [oo, ob, Finset.mul_sum, Finset.sum_mul]
  rw [Finset.sum_comm]
  exact Finset.sum_congr rfl fun b _ => Finset.sum_congr rfl fun j _ => by ring

theorem delta_eq : delta M x v g = ∑ b, zz M x b / ss M x * dd M x v g b := by
  simp only [delta, oo_eq, dd, Finset.mul_sum]
  rw [Finset.sum_comm]
  exact Finset.sum_congr rfl fun b _ => Finset.sum_congr rfl fun c _ => by ring

/-- The gradient a branch's log-sum gets from the softmax over the branches. -/
theorem dlse (b : B) (t : ℝ) (hs : 0 < ss M x) :
    (dd M x v g b / (ss M x * Real.exp (-t))
      + -(∑ b', dd M x v g b' * (1 / (ss M x * Real.exp (-t) * (ss M x * Real.exp (-t)))) * (zz M x b' * Real.exp (-t))))
      * (zz M x b * Real.exp (-t)) = zz M x b / ss M x * (dd M x v g b - delta M x v g) := by
  have ht := (Real.exp_pos (-t)).ne'
  have hs' := hs.ne'
  have h : ∑ b', dd M x v g b' * (1 / (ss M x * Real.exp (-t) * (ss M x * Real.exp (-t)))) * (zz M x b' * Real.exp (-t))
      = delta M x v g / (ss M x * Real.exp (-t)) := by
    rw [delta_eq, Finset.sum_div]
    exact Finset.sum_congr rfl fun b' _ => by field_simp
  rw [h]
  field_simp
  try ring

/-- The gradient of a branch's shifted scores, before the maximum's own share. -/
theorem dscore (b : B) (j : J) (m : ℝ) (hz : 0 < zz M x b) :
    (zz M x b / ss M x * dp v g j / (zz M x b * Real.exp (-m))
      + (zz M x b / ss M x * (dd M x v g b - delta M x v g) / (zz M x b * Real.exp (-m))
        + -(∑ j', zz M x b / ss M x * dp v g j' * (1 / (zz M x b * Real.exp (-m) * (zz M x b * Real.exp (-m))))
            * (ee M x b j' * Real.exp (-m)))))
      * (ee M x b j * Real.exp (-m)) = ds M x v g b j := by
  have hm := (Real.exp_pos (-m)).ne'
  have hz' := hz.ne'
  have h : ∑ j', zz M x b / ss M x * dp v g j' * (1 / (zz M x b * Real.exp (-m) * (zz M x b * Real.exp (-m))))
            * (ee M x b j' * Real.exp (-m)) = 1 / ss M x * dd M x v g b / Real.exp (-m) := by
    rw [dd_eq, Finset.mul_sum, Finset.sum_div]
    exact Finset.sum_congr rfl fun j' _ => by field_simp
  rw [h, ds]
  field_simp
  try ring

/-- What the scores' gradients leave for the maximum they are shifted by: nothing. -/
theorem dmax (b : B) (hz : 0 < zz M x b) :
    zz M x b / ss M x * (dd M x v g b - delta M x v g) + ∑ j, -(ds M x v g b j) = 0 := by
  have hz' := hz.ne'
  have h : ∑ j, ds M x v g b j = zz M x b / ss M x * (dd M x v g b - delta M x v g) := by
    have h1 : ∑ j, ds M x v g b j
        = zz M x b / ss M x * (∑ j, ee M x b j / zz M x b * dp v g j) - (∑ j, ee M x b j) / ss M x * delta M x v g := by
      rw [Finset.mul_sum, Finset.sum_div, Finset.sum_mul, ← Finset.sum_sub_distrib]
      exact Finset.sum_congr rfl fun j' _ => by rw [ds]; field_simp
    rw [h1, ← dd_eq, ← zz]; ring
  rw [Finset.sum_neg_distrib, h, add_neg_cancel]

/-- The weight of a key, from its score and the logarithm of the whole sum. -/
theorem exp_sub_log (hs : 0 < ss M x) (j : J) : Real.exp (x j - Real.log (ss M x)) = Real.exp (x j) / ss M x := by
  rw [Real.exp_sub, Real.exp_log hs]

end

end Cert.Rows
end
-- ==== Proof.Band.lean ====
module

public import Idealize.ShloMosaic.Lib.IdealHost
public import Idealize.ShloMosaic.Lib.Pointwise

@[expose] public section
set_option maxRecDepth 16384
noncomputable section
open Idealize.ShloMosaic

/-! The keys a query sees in each branch, as a proposition over positions, and the words the programs compute for it. -/
namespace Cert.Band

/-- The dilation of a branch. -/
def dil : Fin 3 → ℕ := ![1, 4, 16]

/-- Query `i` sees key `j` in branch `b`: `j` is at most 128 steps of the branch's dilation before `i`. -/
def Sees (b : Fin 3) (i j : Fin 8192) : Prop :=
  j.val ≤ i.val ∧ (i.val - j.val) % dil b = 0 ∧ i.val - j.val ≤ 128 * dil b

instance (b : Fin 3) (i j : Fin 8192) : Decidable (Sees b i j) := by unfold Sees; infer_instance

theorem sees_self (b : Fin 3) (i : Fin 8192) : Sees b i i := by simp [Sees]

/-- A difference of two positions, as a signed word. -/
theorem dist_toInt (i j : Fin 8192) : (IntOp.subi (BitVec.ofNat 32 ↑i) (BitVec.ofNat 32 ↑j)).toInt = (i.val : ℤ) - (j.val : ℤ) := by
  have hi := i.isLt
  have hj := j.isLt
  have h : ∀ a : Fin 8192, (BitVec.ofNat 32 ↑a).toInt = (a.val : ℤ) := fun a => by
    have ha := a.isLt
    rw [BitVec.toInt_eq_toNat_cond, BitVec.toNat_ofNat, Nat.mod_eq_of_lt (by omega), if_pos (by omega)]
  rw [IntOp.subi, BitVec.toInt_sub, h, h, Int.bmod_def]
  omega

/-- The floor remainder as the host spells it, for a word that is not negative and a positive divisor. -/
theorem rem_toInt (x D : BitVec 32) (n d : ℕ) (hx : x.toInt = n) (hD : D.toInt = d) (hd : 0 < d) :
    (IntOp.remsi ArithUnit.host x D).toInt = ((n % d : ℕ) : ℤ) := by
  have h0 : D ≠ 0#32 := fun h => by rw [h] at hD; simp at hD; omega
  have h1 : D ≠ 4294967295#32 := fun h => by rw [h] at hD; simp at hD
  rw [IntOp.remsi, if_neg (by simp [IntOp.SDivCorner, h0, h1] )  , BitVec.toInt_srem, hx, hD]
  simp [Int.tmod_eq_emod_of_nonneg]

/-- The mask word of a branch of dilation `d` that reaches `w` positions back. -/
theorem mask_word (i j : Fin 8192) (d w : ℕ) (D W : BitVec 32) (hD : D.toInt = d) (hd : 0 < d) (hW : W.toInt = w) (x r : BitVec 32)
    (hx : x = IntOp.subi (BitVec.ofNat 32 ↑i) (BitVec.ofNat 32 ↑j)) (hr : r = IntOp.remsi ArithUnit.host x D) :
    IntOp.andi
      (IntOp.andi (IntOp.cmpi CmpIPredicate.sge x 0#32)
        (IntOp.cmpi CmpIPredicate.eq
          (Scalar.select
            (IntOp.andi
              (IntOp.cmpi CmpIPredicate.ne (IntOp.cmpi CmpIPredicate.slt r 0#32) (IntOp.cmpi CmpIPredicate.slt D 0#32))
              (IntOp.cmpi CmpIPredicate.ne r 0#32))
            (IntOp.addi r D) r) 0#32))
      (IntOp.cmpi CmpIPredicate.sle x W)
      = BitVec.ofBool (decide (j.val ≤ i.val ∧ (i.val - j.val) % d = 0 ∧ i.val - j.val ≤ w)) := by
  have hxi : x.toInt = (i.val : ℤ) - (j.val : ℤ) := by rw [hx, dist_toInt]
  by_cases hij : j.val ≤ i.val
  · have hn : x.toInt = ((i.val - j.val : ℕ) : ℤ) := by rw [hxi]; omega
    have hrn := rem_toInt x D _ d hn hD hd
    rw [← hr] at hrn
    have hr0 : r.slt 0#32 = false := by
      rw [BitVec.slt_eq_decide, hrn]; simp; exact_mod_cast Nat.zero_le _
    have hD0 : D.slt 0#32 = false := by
      rw [BitVec.slt_eq_decide, hD]; simp
    have hz : (r == 0#32) = decide ((i.val - j.val) % d = 0) := by
      have h : r = 0#32 ↔ (i.val - j.val) % d = 0 := by
        rw [← BitVec.toInt_inj, hrn]; simp; norm_cast; exact Nat.dvd_iff_mod_eq_zero
      by_cases h2 : r = 0#32
      · rw [decide_eq_true (h.mp h2), h2]; rfl
      · rw [decide_eq_false (fun q => h2 (h.mpr q))]; simpa using h2
    have hs : (0#32).sle x = true := by rw [BitVec.sle_eq_decide, hn]; simp
    have hw : x.sle W = decide (i.val - j.val ≤ w) := by
      rw [BitVec.sle_eq_decide, hn, hW]; exact decide_eq_decide.mpr (by norm_cast)
    simp only [IntOp.cmpi, hr0, hD0, hs, hw, Scalar.select, IntOp.andi]
    rw [show (BitVec.ofBool (BitVec.ofBool false != BitVec.ofBool false) &&& BitVec.ofBool (r != 0#32)) = 0#1 by
      cases r != 0#32 <;> rfl, if_neg (by decide), hz]
    by_cases h1 : (i.val - j.val) % d = 0 <;> by_cases h2 : i.val - j.val ≤ w <;> simp [h1, h2, hij]
  · have hs : (0#32).sle x = false := by rw [BitVec.sle_eq_decide, hxi]; simp; omega
    simp [IntOp.cmpi, hs, IntOp.andi, hij]

/-- A choice by a word that stands for a proposition. -/
theorem select_ofBool {α : Type} (p : Prop) [Decidable p] (a b : α) :
    Scalar.select (BitVec.ofBool (decide p)) a b = if p then a else b := by
  by_cases h : p <;> simp [Scalar.select, h]

theorem place_toInt (n : ℕ) (h : n < 8192) : (BitVec.ofNat 32 n).toInt = (n : ℤ) := by
  rw [BitVec.toInt_eq_toNat_cond, BitVec.toNat_ofNat, Nat.mod_eq_of_lt (by omega), if_pos (by omega)]

/-- The comparison of two places in a block. -/
theorem sle_place (i j : Fin 128) : IntOp.cmpi CmpIPredicate.sge (BitVec.ofNat 32 ↑j) (BitVec.ofNat 32 ↑i) = BitVec.ofBool (decide (i.val ≤ j.val)) := by
  have h : (BitVec.ofNat 32 ↑i).sle (BitVec.ofNat 32 ↑j) = decide (i.val ≤ j.val) := by
    rw [BitVec.sle_eq_decide, place_toInt _ (by omega), place_toInt _ (by omega)]
    exact decide_eq_decide.mpr (by norm_cast)
  simp [IntOp.cmpi, h]

theorem sle_place' (i j : Fin 128) : IntOp.cmpi CmpIPredicate.sle (BitVec.ofNat 32 ↑i) (BitVec.ofNat 32 ↑j) = BitVec.ofBool (decide (i.val ≤ j.val)) :=
  (show IntOp.cmpi CmpIPredicate.sle (BitVec.ofNat 32 ↑i) (BitVec.ofNat 32 ↑j) = IntOp.cmpi CmpIPredicate.sge (BitVec.ofNat 32 ↑j) (BitVec.ofNat 32 ↑i) by
    simp [IntOp.cmpi]).trans (sle_place i j)

/-- A condition together with a count being positive. -/
theorem and_pos_place (p : Prop) [Decidable p] (n : ℕ) (h : n < 8192) :
    IntOp.andi (BitVec.ofBool (decide p)) (Scalar.cmpi CmpIPredicate.sgt (BitVec.ofNat 32 n) 0#32) = BitVec.ofBool (decide (p ∧ 0 < n)) := by
  have h1 : (0#32).slt (BitVec.ofNat 32 n) = decide (0 < n) := by
    rw [BitVec.slt_eq_decide, place_toInt n h]
    exact decide_eq_decide.mpr (by simp)
  have h2 : Scalar.cmpi CmpIPredicate.sgt (BitVec.ofNat 32 n) 0#32 = BitVec.ofBool (decide (0 < n)) := by
    simp [Scalar.cmpi, IntOp.cmpi, h1]
  rw [h2]
  by_cases a : p <;> by_cases b : 0 < n <;> simp [IntOp.andi, a, b]

end Cert.Band
end
-- ==== Proof.Data.lean ====
module

public import proofs.«01_k».proof.Proof.Rows
public import proofs.«01_k».proof.Proof.Band

@[expose] public section
set_option maxRecDepth 16384
noncomputable section
open Idealize.ShloMosaic

/-! The heads' queries, keys, values and output gradients as real numbers, and the rows of the attention they make. -/
namespace Cert.Data
open Cert.Rows Cert.Band

/-- The array holding the projections of every token. -/
abbrev Z : Type := (⟨2, ![8192, 5120]⟩ : Shape).Idx → EReal
/-- The array holding the gradient of the attention's output. -/
abbrev G : Type := (⟨2, ![8192, 1024]⟩ : Shape).Idx → EReal

variable (z : Z) (g : G)

/-- Head `h` of the query of token `i`. -/
def qq (h : Fin 8) (i : Fin 8192) (c : Fin 128) : ℝ := (z (ix2 i ⟨h.val * 128 + c.val, by omega⟩)).toReal
/-- Head `h` of the key of token `j`. -/
def kk (h : Fin 8) (j : Fin 8192) (c : Fin 128) : ℝ := (z (ix2 j ⟨1024 + (h.val * 128 + c.val), by omega⟩)).toReal
/-- Head `h` of the value of token `j`. -/
def vv (h : Fin 8) (j : Fin 8192) (c : Fin 128) : ℝ := (z (ix2 j ⟨2048 + (h.val * 128 + c.val), by omega⟩)).toReal
/-- Head `h` of the gradient of the output at token `i`. -/
def gg (h : Fin 8) (i : Fin 8192) (c : Fin 128) : ℝ := (g (ix2 i ⟨h.val * 128 + c.val, by omega⟩)).toReal

/-- The scores of a query. -/
def sc (h : Fin 8) (i j : Fin 8192) : ℝ := (∑ c, qq z h i c * kk z h j c) * scale

/-- The exponential of a score a branch sees. -/
abbrev Ee (b : Fin 3) (h : Fin 8) (i j : Fin 8192) : ℝ := ee (fun b j => Sees b i j) (sc z h i) b j
/-- Their sum over the keys. -/
abbrev Zz (b : Fin 3) (h : Fin 8) (i : Fin 8192) : ℝ := zz (fun b j => Sees b i j) (sc z h i) b
/-- Their sum over branches and keys. -/
abbrev Ss (h : Fin 8) (i : Fin 8192) : ℝ := ss (fun b j => Sees b i j) (sc z h i)
/-- The output of the attention. -/
abbrev Oo (h : Fin 8) (i : Fin 8192) (c : Fin 128) : ℝ := oo (fun b j => Sees b i j) (sc z h i) (vv z h) c
/-- The gradient of the output against the output. -/
abbrev Delta (h : Fin 8) (i : Fin 8192) : ℝ := delta (fun b j => Sees b i j) (sc z h i) (vv z h) (gg g h i)
/-- The gradient of the output against one value row. -/
abbrev Dp (h : Fin 8) (i j : Fin 8192) : ℝ := dp (vv z h) (gg g h i) j
/-- The gradient of the scores in one branch. -/
abbrev Ds (b : Fin 3) (h : Fin 8) (i j : Fin 8192) : ℝ := ds (fun b j => Sees b i j) (sc z h i) (vv z h) (gg g h i) b j

/-- The gradient of a query in one branch. -/
def Dq (b : Fin 3) (h : Fin 8) (i : Fin 8192) (c : Fin 128) : ℝ := ∑ j, Ds z g b h i j * scale * kk z h j c

/-- The head of a feature. -/
def headOf (c : Fin 1024) : Fin 8 := ⟨c.val / 128, by omega⟩
/-- The place of a feature in its head. -/
def featOf (c : Fin 1024) : Fin 128 := ⟨c.val % 128, by omega⟩
/-- The token of a row of one of the four classes. -/
def tok4 (r : Fin 4) (m : Fin 2048) : Fin 8192 := ⟨m.val * 4 + r.val, by omega⟩

theorem Zz_pos (b : Fin 3) (h : Fin 8) (i : Fin 8192) : 0 < Zz z b h i := zz_pos (sees_self b i)
theorem Ss_pos (h : Fin 8) (i : Fin 8192) : 0 < Ss z h i := ss_pos 0 fun b => sees_self b i

/-- Every element is a real number. -/
def Real' {s : Shape} (x : s.Idx → EReal) : Prop := ∀ i, x i ≠ ⊤ ∧ x i ≠ ⊥

variable {z g}

theorem qq_coe (hz : Real' z) (h : Fin 8) (i : Fin 8192) (c : Fin 128) (p : h.val * 128 + c.val < 5120) :
    z (ix2 i ⟨h.val * 128 + c.val, p⟩) = ((qq z h i c : ℝ) : EReal) := (EReal.coe_toReal (hz _).1 (hz _).2).symm
theorem kk_coe (hz : Real' z) (h : Fin 8) (i : Fin 8192) (c : Fin 128) (p : 1024 + (h.val * 128 + c.val) < 5120) :
    z (ix2 i ⟨1024 + (h.val * 128 + c.val), p⟩) = ((kk z h i c : ℝ) : EReal) := (EReal.coe_toReal (hz _).1 (hz _).2).symm
theorem vv_coe (hz : Real' z) (h : Fin 8) (i : Fin 8192) (c : Fin 128) (p : 2048 + (h.val * 128 + c.val) < 5120) :
    z (ix2 i ⟨2048 + (h.val * 128 + c.val), p⟩) = ((vv z h i c : ℝ) : EReal) := (EReal.coe_toReal (hz _).1 (hz _).2).symm
theorem gg_coe (hg : Real' g) (h : Fin 8) (i : Fin 8192) (c : Fin 128) (p : h.val * 128 + c.val < 1024) :
    g (ix2 i ⟨h.val * 128 + c.val, p⟩) = ((gg g h i c : ℝ) : EReal) := (EReal.coe_toReal (hg _).1 (hg _).2).symm

end Cert.Data
end
-- ==== Proof.Block.lean ====
module

public import proofs.«01_k».proof.Proof.Data
public import proofs.«01_k».proof.Proof.Gen.KernelIdeal.Frame

@[expose] public section
set_option maxRecDepth 16384
noncomputable section
open Idealize.ShloMosaic Idealize.ShloMosaic.TcCoe Idealize.SL.Sem

/-! One head of one block of queries: what the call stores, as one function of the blocks it loads. -/
namespace Cert.KernelIdeal.Attn
open Cert.KernelIdeal Cert.KernelIdeal.Gen

section
variable {F : FTy → Type} [FloatOps F] [Named F]

/-- A loaded tile without its leading unit axis. -/
abbrev tile {φ : FTy} (x : FVec F S1x128x128 φ) : FVec F S128x128 φ := shapeCast S128x128 x shapeCasts_S1x128x128_S128x128

/-- Rows against rows. -/
def rowsByRows (a b : FVec F S1x128x128 .bf16) : FVec F S128x128 .f32 :=
  matmul dot_S128x128_S128x128_S128x128_1_1_0_0_n_n none (tile a) (tile b) (constant S128x128 .f32 0x00000000#32)

/-- The gradient of the output against the output, row by row. -/
def rowDelta (g o : FVec F S1x128x128 .bf16) : FVec F S128x1 .f32 :=
  shapeCast S128x1 (multiReduction .add [1] S128 (mulf (extf .f32 (tile g) bitsLt_bf16_f32) (extf .f32 (tile o) bitsLt_bf16_f32)) 0x00000000#32
    reduces_S128x128_S128 (.inl rfl) rfl) shapeCasts_S128_S128x1

/-- The weights of a block of keys, from the scores and the log-sums. -/
def wgt (ok : IVec S128x128 1) (s : FVec F S128x128 .f32) (l : FVec F S1x128x128 .f32) : FVec F S128x128 .f32 :=
  exp (select ok (subf (mulf s (broadcast S128x128 (Scalar.ofBits .f32 0x3DB504F3#32))) (tile l))
    (broadcast S128x128 (Named.named κ "mask" 0xF149F2CA#32)))

/-- The gradient of the scores of a block of keys. -/
def dScore (p dp : FVec F S128x128 .f32) (dl : FVec F S128x1 .f32) : FVec F S128x128 .bf16 :=
  truncf .bf16 (mulf (mulf p (subf dp (broadcastTo S128x128 dl broadcasts_S128x1_S128x128))) (broadcast S128x128 (Scalar.ofBits .f32 0x3DB504F3#32))) bitsLt_bf16_f32

/-- The part of the queries' gradient one block of keys gives. -/
def part (ok : IVec S128x128 1) (q g o k v : FVec F S1x128x128 .bf16) (l : FVec F S1x128x128 .f32) : FVec F S128x128 .f32 :=
  matmul dot_S128x128_S128x128_S128x128_1_0_0_1_n_n none (dScore (wgt ok (rowsByRows q k) l) (rowsByRows g v) (rowDelta g o)) (tile k)
    (constant S128x128 .f32 0x00000000#32)

/-- One head of a block of queries: the block of keys before it and its own. -/
def head (okp okc : IVec S128x128 1) (q g o kp kc vp vc : FVec F S1x128x128 .bf16) (l : FVec F S1x128x128 .f32) : FVec F S128x128 .f32 :=
  addf (part okp q g o kp vp l) (part okc q g o kc vc l)

/-- The eight heads side by side. -/
def beside (d : Fin 8 → FVec F S128x128 .f32) : FVec F S1x128x1024 .bf16 :=
  shapeCast S1x128x1024 (concatenate S128x1024 1 [⟨S128x128, truncf .bf16 (d 0) bitsLt_bf16_f32⟩, ⟨S128x128, truncf .bf16 (d 1) bitsLt_bf16_f32⟩,
    ⟨S128x128, truncf .bf16 (d 2) bitsLt_bf16_f32⟩, ⟨S128x128, truncf .bf16 (d 3) bitsLt_bf16_f32⟩, ⟨S128x128, truncf .bf16 (d 4) bitsLt_bf16_f32⟩,
    ⟨S128x128, truncf .bf16 (d 5) bitsLt_bf16_f32⟩, ⟨S128x128, truncf .bf16 (d 6) bitsLt_bf16_f32⟩, ⟨S128x128, truncf .bf16 (d 7) bitsLt_bf16_f32⟩]
    concatenates_S128x128_S128x128_S128x128_S128x128_S128x128_S128x128_S128x128_S128x128_S128x1024_d1) shapeCasts_S128x1024_S1x128x1024

/-- The tile of one head in one of the four blocks of rows. -/
abbrev rq (b : Fin 4) (h : Fin 8) : Rect S1x512x1024 := Rect.unit (s := S1x512x1024) ![0, b.val * 128, h.val * 128] S1x128x128.size (by
  intro a; fin_cases a <;> simp [S1x128x128, S1x512x1024] <;> omega)
/-- The tile of one head in the block before. -/
abbrev rh (h : Fin 8) : Rect S1x128x1024 := Rect.unit (s := S1x128x1024) ![0, 0, h.val * 128] S1x128x128.size (by
  intro a; fin_cases a <;> simp [S1x128x128, S1x128x1024] <;> omega)

variable (i : grid0.Coords) (x0 : Vec F S1x512x1024 .bf16) (x1 : Vec F S1x128x1024 .bf16) (x2 : Vec F S1x512x1024 .bf16) (x3 : Vec F S1x128x1024 .bf16)
  (x4 x5 x6 : Vec F S1x512x1024 .bf16) (x7 : Vec F S1x512x1024 .f32)

/-- The first block of rows. -/
def first : FVec F S1x128x1024 .bf16 := beside fun h =>
  head (k0_pay4 i) k0_pay3 (View.ld x0 (rq 0 h)) (View.ld x5 (rq 0 h)) (View.ld x6 (rq 0 h)) (View.ld x1 (rh h)) (View.ld x2 (rq 0 h))
    (View.ld x3 (rh h)) (View.ld x4 (rq 0 h)) (View.ld x7 (rq 0 h))
/-- A later block of rows. -/
def later (b : Fin 3) : FVec F S1x128x1024 .bf16 := beside fun h =>
  head k0_pay2 k0_pay3 (View.ld x0 (rq b.succ h)) (View.ld x5 (rq b.succ h)) (View.ld x6 (rq b.succ h)) (View.ld x2 (rq b.castSucc h)) (View.ld x2 (rq b.succ h))
    (View.ld x4 (rq b.castSucc h)) (View.ld x4 (rq b.succ h)) (View.ld x7 (rq b.succ h))

theorem out_first : out0_8 i x0 x1 x2 x3 x4 x5 x6 x7
    = View.canon [⟨r0_43, later x0 x2 x4 x5 x6 x7 2⟩, ⟨r0_34, later x0 x2 x4 x5 x6 x7 1⟩, ⟨r0_25, later x0 x2 x4 x5 x6 x7 0⟩,
        ⟨r0_16, first i x0 x1 x2 x3 x4 x5 x6 x7⟩] := rfl
end
end Cert.KernelIdeal.Attn
end
-- ==== Proof.Sums.lean ====
module

public import proofs.«01_k».proof.Proof.Rows

@[expose] public section
set_option maxRecDepth 16384
noncomputable section
open Idealize.ShloMosaic

/-! Sums over the keys a query sees, block of keys by block of keys of the query's residue class. -/
namespace Cert.Sums

variable {nB D : ℕ}

/-- The token at place `i` of block `B` of residue class `r`. -/
def tk (r : Fin D) (B : Fin nB) (i : Fin 128) : Fin (nB * 128 * D) :=
  ⟨(B.val * 128 + i.val) * D + r.val, by
    have h : B.val * 128 + i.val + 1 ≤ nB * 128 := by omega
    calc (B.val * 128 + i.val) * D + r.val < (B.val * 128 + i.val) * D + D := by omega
      _ = (B.val * 128 + i.val + 1) * D := by ring
      _ ≤ nB * 128 * D := Nat.mul_le_mul_right _ h⟩

theorem tk_val (r : Fin D) (B : Fin nB) (i : Fin 128) : (tk r B i).val = (B.val * 128 + i.val) * D + r.val := rfl

/-- A sum over the tokens, block by block and class by class. -/
theorem sum_tk (f : Fin (nB * 128 * D) → ℝ) : ∑ j, f j = ∑ B : Fin nB, ∑ i : Fin 128, ∑ r : Fin D, f (tk r B i) := by
  rw [Fin.sum_univ_tiles (nB * 128) D rfl f, Fin.sum_univ_tiles nB 128 rfl]
  rfl

/-- A query sees a key in one branch: the same class, and at most 128 places before it there. -/
theorem sees_iff (r r' : Fin D) (B B' : Fin nB) (i i' : Fin 128) :
    ((tk r' B' i').val ≤ (tk r B i).val ∧ ((tk r B i).val - (tk r' B' i').val) % D = 0 ∧ (tk r B i).val - (tk r' B' i').val ≤ 128 * D)
      ↔ r' = r ∧ B'.val * 128 + i'.val ≤ B.val * 128 + i.val ∧ B.val * 128 + i.val ≤ B'.val * 128 + i'.val + 128 := by
  have hD : 0 < D := by have := r.isLt; omega
  simp only [tk_val]
  generalize B.val * 128 + i.val = x
  generalize B'.val * 128 + i'.val = y
  constructor
  · rintro ⟨h1, h2, h3⟩
    have e : r' = r := by
      have := (Nat.modEq_iff_dvd' h1).mpr (Nat.dvd_of_mod_eq_zero h2)
      have h4 : (y * D + r'.val) % D = (x * D + r.val) % D := this
      rw [Nat.add_comm, Nat.add_mul_mod_self_right, Nat.add_comm, Nat.add_mul_mod_self_right, Nat.mod_eq_of_lt r'.isLt, Nat.mod_eq_of_lt r.isLt] at h4
      exact Fin.ext h4
    subst e
    refine ⟨rfl, Nat.le_of_mul_le_mul_right (by omega : y * D ≤ x * D) hD, ?_⟩
    refine Nat.le_of_mul_le_mul_right (c := D) ?_ hD
    rw [Nat.add_mul]
    omega
  · rintro ⟨rfl, h1, h2⟩
    have h3 := Nat.mul_le_mul_right D h1
    have h4 := Nat.mul_le_mul_right D h2
    rw [Nat.add_mul] at h4
    refine ⟨by omega, ?_, by omega⟩
    rw [Nat.add_sub_add_right, ← Nat.sub_mul, Nat.mul_mod_left]

/-- The sum over the keys of one query: the block of keys before its own, and its own. -/
theorem sum_keys (f : Fin (nB * 128 * D) → ℝ) (r : Fin D) (B : Fin nB) (i : Fin 128)
    (hf : ∀ j : Fin (nB * 128 * D), ¬(j.val ≤ (tk r B i).val ∧ ((tk r B i).val - j.val) % D = 0 ∧ (tk r B i).val - j.val ≤ 128 * D) → f j = 0)
    (P : Fin nB) (hP : P.val = B.val - 1) :
    ∑ j, f j = (∑ j : Fin 128, if i.val ≤ j.val ∧ 0 < B.val then f (tk r P j) else 0) + ∑ j : Fin 128, if j.val ≤ i.val then f (tk r B j) else 0 := by
  have h0 : ∀ (r' : Fin D) (B' : Fin nB) (i' : Fin 128),
      ¬(r' = r ∧ B'.val * 128 + i'.val ≤ B.val * 128 + i.val ∧ B.val * 128 + i.val ≤ B'.val * 128 + i'.val + 128) → f (tk r' B' i') = 0 :=
    fun r' B' i' h => hf _ fun q => h ((sees_iff r r' B B' i i').mp q)
  rw [sum_tk]
  have h1 : ∀ (B' : Fin nB) (j : Fin 128), ∑ r' : Fin D, f (tk r' B' j) = f (tk r B' j) := fun B' j =>
    Finset.sum_eq_single r (fun r' _ hr => h0 r' B' j fun q => hr q.1) fun h => absurd (Finset.mem_univ _) h
  simp only [h1]
  have own : ∑ j : Fin 128, f (tk r B j) = ∑ j : Fin 128, if j.val ≤ i.val then f (tk r B j) else 0 :=
    Finset.sum_congr rfl fun j _ => by
      split
      · rfl
      · exact h0 r B j fun q => by omega
  by_cases hB : 0 < B.val
  · have hne : P ≠ B := fun h => by rw [h] at hP; omega
    rw [Finset.sum_eq_add P B hne (fun B' _ h => Finset.sum_eq_zero fun j _ => h0 r B' j fun q => by
        have hp : B'.val ≠ P.val := fun e => h.1 (Fin.ext e)
        have hb : B'.val ≠ B.val := fun e => h.2 (Fin.ext e)
        omega) (fun h => absurd (Finset.mem_univ _) h) (fun h => absurd (Finset.mem_univ _) h), own]
    congr 1
    refine Finset.sum_congr rfl fun j _ => ?_
    split
    · rfl
    · exact h0 r P j fun q => by omega
  · rw [Finset.sum_eq_single B (fun B' _ h => Finset.sum_eq_zero fun j _ => h0 r B' j fun q => by
        have hb : B'.val ≠ B.val := fun e => h (Fin.ext e)
        omega) (fun h => absurd (Finset.mem_univ _) h), own]
    simp only [hB, and_false, if_false, Finset.sum_const_zero, zero_add]

/-- The sum over the queries that see one key: its own block of queries, and the block after it. -/
theorem sum_queries (f : Fin (nB * 128 * D) → ℝ) (r : Fin D) (B : Fin nB) (i : Fin 128)
    (hf : ∀ j : Fin (nB * 128 * D), ¬((tk r B i).val ≤ j.val ∧ (j.val - (tk r B i).val) % D = 0 ∧ j.val - (tk r B i).val ≤ 128 * D) → f j = 0)
    (P : Fin nB) (hP : P.val = min (B.val + 1) (nB - 1)) :
    ∑ j, f j = (∑ j : Fin 128, if i.val ≤ j.val then f (tk r B j) else 0)
      + ∑ j : Fin 128, if j.val ≤ i.val ∧ B.val + 1 < nB then f (tk r P j) else 0 := by
  have h0 : ∀ (r' : Fin D) (B' : Fin nB) (i' : Fin 128),
      ¬(r = r' ∧ B.val * 128 + i.val ≤ B'.val * 128 + i'.val ∧ B'.val * 128 + i'.val ≤ B.val * 128 + i.val + 128) → f (tk r' B' i') = 0 :=
    fun r' B' i' h => hf _ fun q => h ((sees_iff r' r B' B i' i).mp q)
  rw [sum_tk]
  have h1 : ∀ (B' : Fin nB) (j : Fin 128), ∑ r' : Fin D, f (tk r' B' j) = f (tk r B' j) := fun B' j =>
    Finset.sum_eq_single r (fun r' _ hr => h0 r' B' j fun q => hr q.1.symm) fun h => absurd (Finset.mem_univ _) h
  simp only [h1]
  have own : ∑ j : Fin 128, f (tk r B j) = ∑ j : Fin 128, if i.val ≤ j.val then f (tk r B j) else 0 :=
    Finset.sum_congr rfl fun j _ => by
      split
      · rfl
      · exact h0 r B j fun q => by omega
  by_cases hB : B.val + 1 < nB
  · have hne : B ≠ P := fun h => by rw [← h] at hP; omega
    rw [Finset.sum_eq_add B P hne (fun B' _ h => Finset.sum_eq_zero fun j _ => h0 r B' j fun q => by
        have hp : B'.val ≠ P.val := fun e => h.2 (Fin.ext e)
        have hb : B'.val ≠ B.val := fun e => h.1 (Fin.ext e)
        omega) (fun h => absurd (Finset.mem_univ _) h) (fun h => absurd (Finset.mem_univ _) h), own]
    congr 1
    refine Finset.sum_congr rfl fun j _ => ?_
    split
    · rfl
    · exact h0 r P j fun q => by omega
  · rw [Finset.sum_eq_single B (fun B' _ h => Finset.sum_eq_zero fun j _ => h0 r B' j fun q => by
        have hb : B'.val ≠ B.val := fun e => h (Fin.ext e)
        have := B'.isLt
        omega) (fun h => absurd (Finset.mem_univ _) h), own]
    simp only [hB, and_false, if_false, Finset.sum_const_zero, add_zero]

end Cert.Sums
end
-- ==== Proof.Keys.lean ====
module

public import proofs.«01_k».proof.Proof.Data
public import proofs.«01_k».proof.Proof.Sums

@[expose] public section
set_option maxRecDepth 16384
noncomputable section
open Idealize.ShloMosaic

/-! The gradient of one query, as what two blocks of keys give: the block before the query's own in its residue class, and its own. -/
namespace Cert.Keys
open Cert.Rows Cert.Band Cert.Data Cert.Sums

section
variable (c : Fin 128) (p : Fin 128 → Prop) [DecidablePred p] (Q O G : Fin 128 → ℝ) (K V : Fin 128 → Fin 128 → ℝ) (L : ℝ)

/-- The real number a block of keys gives. -/
def partR : ℝ := ∑ j, (if p j then Real.exp ((∑ f, Q f * K j f) * scale - L) * ((∑ f, G f * V j f) - ∑ f, G f * O f) * scale * K j c else 0)
end

variable (z : Z) (g : G) {nB D : ℕ} (e : nB * 128 * D = 8192)

/-- The token at place `i` of block `B` of class `r`. -/
abbrev tok (r : Fin D) (B : Fin nB) (i : Fin 128) : Fin 8192 := Fin.cast e (tk r B i)

/-- A key a branch does not see gives nothing. -/
theorem ds_zero {b : Fin 3} {h : Fin 8} {i j : Fin 8192} (n : ¬ Sees b i j) : Ds z g b h i j = 0 := by
  rw [Ds, ds, ee, if_neg n, zero_div, zero_mul]

/-- A key a branch sees gives the weight over all branches times the difference of the two gradients. -/
theorem ds_seen {b : Fin 3} {h : Fin 8} {i j : Fin 8192} (y : Sees b i j) :
    Ds z g b h i j = Real.exp (sc z h i j - Real.log (Ss z h i)) * ((∑ f, gg g h i f * vv z h j f) - ∑ f, gg g h i f * Oo z h i f) := by
  rw [Ds, ds, ee, if_pos y, exp_sub_log (Ss_pos z h i)]
  rfl

theorem dq_blocks (b : Fin 3) (hd : dil b = D) (r : Fin D) (B P : Fin nB) (hP : P.val = B.val - 1) (i : Fin 128) (h : Fin 8) (c : Fin 128) :
    partR c (fun j => i.val ≤ j.val ∧ 0 < B.val) (qq z h (tok e r B i)) (Oo z h (tok e r B i)) (gg g h (tok e r B i))
        (fun j => kk z h (tok e r P j)) (fun j => vv z h (tok e r P j)) (Real.log (Ss z h (tok e r B i)))
      + partR c (fun j => j.val ≤ i.val) (qq z h (tok e r B i)) (Oo z h (tok e r B i)) (gg g h (tok e r B i))
        (fun j => kk z h (tok e r B j)) (fun j => vv z h (tok e r B j)) (Real.log (Ss z h (tok e r B i)))
      = Dq z g b h (tok e r B i) c := by
  rw [Dq, ← (finCongr e).sum_comp]
  rw [sum_keys (fun j => Ds z g b h (tok e r B i) (finCongr e j) * scale * kk z h (finCongr e j) c) r B i
    (fun j n => by
      rw [ds_zero z g (b := b) fun y => n ?_, zero_mul, zero_mul]
      unfold Sees at y
      rw [hd] at y
      exact y) P hP]
  have see : ∀ (B' : Fin nB) (j : Fin 128), (B'.val * 128 + j.val ≤ B.val * 128 + i.val ∧ B.val * 128 + i.val ≤ B'.val * 128 + j.val + 128) →
      Sees b (tok e r B i) (tok e r B' j) := fun B' j q => by
    have w := (sees_iff r r B B' i j).mpr ⟨rfl, q⟩
    unfold Sees
    rw [hd]
    exact w
  unfold partR
  congr 1 <;> refine Finset.sum_congr rfl fun j _ => ?_
  · by_cases w : i.val ≤ j.val ∧ 0 < B.val
    · rw [if_pos w, if_pos w, show (finCongr e) (tk r P j) = tok e r P j from rfl, ds_seen z g (see P j (by omega))]
      rfl
    · rw [if_neg w, if_neg w]
  · by_cases w : j.val ≤ i.val
    · rw [if_pos w, if_pos w, show (finCongr e) (tk r B j) = tok e r B j from rfl, ds_seen z g (see B j (by omega))]
      rfl
    · rw [if_neg w, if_neg w]
end Cert.Keys
end
-- ==== Proof.BlockVal.lean ====
module

public import proofs.«01_k».proof.Proof.Block
public import proofs.«01_k».proof.Proof.Keys

@[expose] public section
set_option maxRecDepth 16384
noncomputable section
open Idealize.ShloMosaic Idealize.ShloMosaic.TcCoe Idealize.SL.Sem

/-! One head of one block of queries over the real numbers. -/
namespace Cert.KernelIdeal.Attn
open Cert.KernelIdeal Cert.KernelIdeal.Gen
open Cert.Rows Cert.Band Cert.Data Cert.Keys

/-- The masked-out score. -/
theorem mask_bot : (Named.named κ "mask" 0xF149F2CA#32 : Ideal .f32) = (⊥ : EReal) :=
  IdealRules.named_const.ideal_named_scalar _ _ _ _ rfl

section
variable (ok : IVec S128x128 1) (q g o k v : FVec Ideal S1x128x128 .bf16) (l : FVec Ideal S1x128x128 .f32) (i j c : Fin 128)

theorem part_at : (part ok q g o k v l (ix2 i c) : EReal)
    = ∑ j, Ideal.exp (Scalar.select (ok (ix2 i j)) ((∑ f, q (ix3 0 i f) * k (ix3 0 j f)) * Ideal.ofBits .f32 0x3DB504F3#32 - l (ix3 0 i j))
        (Named.named κ "mask" 0xF149F2CA#32 : Ideal .f32))
      * ((∑ f, g (ix3 0 i f) * v (ix3 0 j f)) - ∑ f, g (ix3 0 i f) * o (ix3 0 i f)) * Ideal.ofBits .f32 0x3DB504F3#32 * k (ix3 0 j c) := by
  pointwise [part, dScore, wgt, rowsByRows, rowDelta]

theorem at_or_after : k0_pay2 (ix2 i j) = BitVec.ofBool (decide (i.val ≤ j.val)) := by
  pointwise [k0_pay2]
  exact sle_place i j
theorem at_or_before : k0_pay3 (ix2 i j) = BitVec.ofBool (decide (j.val ≤ i.val)) := by
  pointwise [k0_pay3]
  exact sle_place' j i
theorem at_or_after_next (n : grid0.Coords) : k0_pay4 n (ix2 i j) = BitVec.ofBool (decide (i.val ≤ j.val ∧ 0 < (n 1).val)) := by
  pointwise [k0_pay4]
  rw [at_or_after]
  exact and_pos_place (i.val ≤ j.val) (n 1).val (by have := (n 1).isLt; simp at this; omega)

variable (p : Fin 128 → Prop) [DecidablePred p] (Q O G : Fin 128 → ℝ) (K V : Fin 128 → Fin 128 → ℝ) (L : ℝ)

theorem part_val (hok : ∀ j, ok (ix2 i j) = BitVec.ofBool (decide (p j))) (hq : ∀ f, (q (ix3 0 i f) : EReal) = ((Q f : ℝ) : EReal))
    (hg : ∀ f, (g (ix3 0 i f) : EReal) = ((G f : ℝ) : EReal)) (ho : ∀ f, (o (ix3 0 i f) : EReal) = ((O f : ℝ) : EReal))
    (hk : ∀ j f, (k (ix3 0 j f) : EReal) = ((K j f : ℝ) : EReal)) (hv : ∀ j f, (v (ix3 0 j f) : EReal) = ((V j f : ℝ) : EReal))
    (hl : ∀ f, (l (ix3 0 i f) : EReal) = ((L : ℝ) : EReal)) :
    (part ok q g o k v l (ix2 i c) : EReal) = ((partR c p Q O G K V L : ℝ) : EReal) := by
  rw [part_at, partR, coe_sum]
  refine Finset.sum_congr rfl fun j _ => ?_
  simp only [hok, hq, hg, ho, hk, hv, hl, select_ofBool, ofBits_scale, mask_bot, ← EReal.coe_mul, ← coe_sum, ← EReal.coe_sub]
  by_cases h : p j
  · rw [if_pos h, if_pos h, Ideal.exp_coe, ← EReal.coe_mul, ← EReal.coe_mul, ← EReal.coe_mul]
  · rw [if_neg h, if_neg h, Ideal.exp_bot, zero_mul, zero_mul, zero_mul, EReal.coe_zero]

theorem head_at (okp okc : IVec S128x128 1) (kp kc vp vc : FVec Ideal S1x128x128 .bf16) :
    (head okp okc q g o kp kc vp vc l (ix2 i c) : EReal) = part okp q g o kp vp l (ix2 i c) + part okc q g o kc vc l (ix2 i c) := by
  pointwise [head]

theorem head_feat (x : Fin 1024) (k : Fin 8) (h : x.val / 128 = k.val) : headOf x = k := Fin.ext h

theorem beside_at (d : Fin 8 → FVec Ideal S128x128 .f32) (x : Fin 1024) : (beside d (ix3 0 i x) : EReal) = d (headOf x) (ix2 i (featOf x)) := by
  pointwise [beside]
  by_cases e0 : x.val < 128
  · rw [dif_pos e0, head_feat x 0 (by simp; omega)]
    exact congrArg (fun y => (d 0 (ix2 i y) : EReal)) (Fin.ext (by simp [featOf]; omega))
  by_cases e1 : x.val - 128 < 128
  · rw [dif_neg e0, dif_pos e1, head_feat x 1 (by simp; omega)]
    exact congrArg (fun y => (d 1 (ix2 i y) : EReal)) (Fin.ext (by simp [featOf]; omega))
  by_cases e2 : x.val - 128 - 128 < 128
  · rw [dif_neg e0, dif_neg e1, dif_pos e2, head_feat x 2 (by simp; omega)]
    exact congrArg (fun y => (d 2 (ix2 i y) : EReal)) (Fin.ext (by simp [featOf]; omega))
  by_cases e3 : x.val - 128 - 128 - 128 < 128
  · rw [dif_neg e0, dif_neg e1, dif_neg e2, dif_pos e3, head_feat x 3 (by simp; omega)]
    exact congrArg (fun y => (d 3 (ix2 i y) : EReal)) (Fin.ext (by simp [featOf]; omega))
  by_cases e4 : x.val - 128 - 128 - 128 - 128 < 128
  · rw [dif_neg e0, dif_neg e1, dif_neg e2, dif_neg e3, dif_pos e4, head_feat x 4 (by simp; omega)]
    exact congrArg (fun y => (d 4 (ix2 i y) : EReal)) (Fin.ext (by simp [featOf]; omega))
  by_cases e5 : x.val - 128 - 128 - 128 - 128 - 128 < 128
  · rw [dif_neg e0, dif_neg e1, dif_neg e2, dif_neg e3, dif_neg e4, dif_pos e5, head_feat x 5 (by simp; omega)]
    exact congrArg (fun y => (d 5 (ix2 i y) : EReal)) (Fin.ext (by simp [featOf]; omega))
  by_cases e6 : x.val - 128 - 128 - 128 - 128 - 128 - 128 < 128
  · rw [dif_neg e0, dif_neg e1, dif_neg e2, dif_neg e3, dif_neg e4, dif_neg e5, dif_pos e6, head_feat x 6 (by simp; omega)]
    exact congrArg (fun y => (d 6 (ix2 i y) : EReal)) (Fin.ext (by simp [featOf]; omega))
  rw [dif_neg e0, dif_neg e1, dif_neg e2, dif_neg e3, dif_neg e4, dif_neg e5, dif_neg e6, head_feat x 7 (by simp; omega)]
  exact congrArg (fun y => (d 7 (ix2 i y) : EReal)) (Fin.ext (by simp [featOf]; omega))
end
end Cert.KernelIdeal.Attn
end
-- ==== Proof.BlockReads.lean ====
module

public import proofs.«01_k».proof.Proof.BlockVal
public import Idealize.ShloMosaic.Lib.Pipeline.ValueKit

@[expose] public section
set_option maxRecDepth 16384
noncomputable section
open Idealize.ShloMosaic Idealize.ShloMosaic.TcCoe Idealize.SL.Sem

/-! The blocks of the eight windows at one grid point, read from the whole arrays. -/
namespace Cert.KernelIdeal.Attn
open Cert.KernelIdeal Cert.KernelIdeal.Gen

theorem idx : ∀ t : Fin cfg0.N,
    win0_0.index t = ![t.val / 4, t.val % 4, 0] ∧ win0_1.index t = ![t.val / 4, t.val % 4 * 4 - 1, 1] ∧ win0_2.index t = ![t.val / 4, t.val % 4, 1]
    ∧ win0_3.index t = ![t.val / 4, t.val % 4 * 4 - 1, 2] ∧ win0_4.index t = ![t.val / 4, t.val % 4, 2]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] ∧ (grid0.coords t 1).val = t.val % 4 :=
  (by decide +kernel : ∀ t : Fin grid0.N, _)

section
variable {φ : EltTy} (b : Fin 4) (hd : Fin 8) (i f : Fin 128)
/-- The tile of a head in a block of rows. -/
theorem ld_rq (x : Vec Ideal S1x512x1024 φ) : View.ld x (rq b hd) (ix3 0 i f) = x (ix3 0 ⟨b.val * 128 + i.val, by omega⟩ ⟨hd.val * 128 + f.val, by omega⟩) := by
  pointwise
/-- The tile of a head in the block before. -/
theorem ld_rh (x : Vec Ideal S1x128x1024 φ) : View.ld x (rh hd) (ix3 0 i f) = x (ix3 0 i ⟨hd.val * 128 + f.val, by omega⟩) := by
  pointwise
end

variable (m : (ℓ : Loc nD τ sig) → Buf (Elt Ideal) ℓ) (c : Dev nD) (t : Fin cfg0.N) (h : t.val < 16)

section
variable (i : Fin 512) (x : Fin 1024)
theorem blk0 : iblk m c 0 t (ix3 0 i x)
    = V m c main_v92 (ix3 ⟨t.val / 4, by omega⟩ ⟨t.val % 4 * 512 + i.val, by omega⟩ ⟨x.val, by omega⟩) := by
  blk_point [iblk, idx t]
theorem blk2 : iblk m c 2 t (ix3 0 i x)
    = V m c main_v92 (ix3 ⟨t.val / 4, by omega⟩ ⟨t.val % 4 * 512 + i.val, by omega⟩ ⟨1024 + x.val, by omega⟩) := by
  blk_point [iblk, idx t]
theorem blk4 : iblk m c 4 t (ix3 0 i x)
    = V m c main_v92 (ix3 ⟨t.val / 4, by omega⟩ ⟨t.val % 4 * 512 + i.val, by omega⟩ ⟨2048 + x.val, by omega⟩) := by
  blk_point [iblk, idx t]
theorem blk5 : iblk m c 5 t (ix3 0 i x)
    = V m c main_v95 (ix3 ⟨t.val / 4, by omega⟩ ⟨t.val % 4 * 512 + i.val, by omega⟩ x) := by
  blk_point [iblk, idx t]
theorem blk6 : iblk m c 6 t (ix3 0 i x)
    = V m c main_v98 (ix3 ⟨t.val / 4, by omega⟩ ⟨t.val % 4 * 512 + i.val, by omega⟩ x) := by
  blk_point [iblk, idx t]
theorem blk7 : iblk m c 7 t (ix3 0 i x)
    = V m c main_v100 (ix3 ⟨t.val / 4, by omega⟩ ⟨t.val % 4 * 512 + i.val, by omega⟩ x) := by
  simp only [iblk]
  generalize V m c (Pipeline.arrRef spec0 7) = W
  blk_point [idx t]
end
section
variable (i : Fin 128) (x : Fin 1024)
theorem blk1 : iblk m c 1 t (ix3 0 i x)
    = V m c main_v92 (ix3 ⟨t.val / 4, by omega⟩ ⟨(t.val % 4 * 4 - 1) * 128 + i.val, by omega⟩ ⟨1024 + x.val, by omega⟩) := by
  blk_point [iblk, idx t]
theorem blk3 : iblk m c 3 t (ix3 0 i x)
    = V m c main_v92 (ix3 ⟨t.val / 4, by omega⟩ ⟨(t.val % 4 * 4 - 1) * 128 + i.val, by omega⟩ ⟨2048 + x.val, by omega⟩) := by
  blk_point [iblk, idx t]
end

end Cert.KernelIdeal.Attn
end
-- ==== Proof.Host.lean ====
module

public import proofs.«01_k».proof.Proof.Data
public import proofs.«01_k».proof.Proof.Gen.KernelIdeal.Frame

@[expose] public section
set_option maxRecDepth 16384
noncomputable section
open Idealize.ShloMosaic Idealize.ShloMosaic.TcCoe Idealize.SL.Sem

/-! What the kernel's host code computes before the call: each window of its operations, as a function of what the window
reads. -/
namespace Cert.KernelIdeal.Attn
open Cert.KernelIdeal Cert.KernelIdeal.Gen

/-! ### The arrays, named -/

/-- Query position minus key position. -/
def dist : IVec S8192x8192 32 := subi (iotaInDim S8192x8192 32 0) (iotaInDim S8192x8192 32 1)
/-- A divisor, replaced by one where it is zero. -/
def dvs (d : IVec S_ 32) : IVec S_ 32 := select (cmpi .eq d (constantI S_ 32 0#32)) (constantI S_ 32 1#32) d
/-- A scalar at every pair of positions. -/
def pairs {α : Type} (d : S_.Idx → α) : S8192x8192.Idx → α := broadcastInDim S8192x8192 ![] bcast_S_S8192x8192 d
/-- The truncated remainder. -/
def rem (x : IVec S8192x8192 32) (d : IVec S_ 32) : IVec S8192x8192 32 := Host.remsi x (pairs (dvs d))
/-- The remainder with the divisor's sign. -/
def modulo (x : IVec S8192x8192 32) (d : IVec S_ 32) : IVec S8192x8192 32 :=
  select (andi (cmpi .ne (cmpi .slt (rem x d) (pairs (constantI S_ 32 0#32))) (pairs (cmpi .slt (dvs d) (constantI S_ 32 0#32))))
    (cmpi .ne (rem x d) (pairs (constantI S_ 32 0#32)))) (addi (rem x d) (pairs (dvs d))) (rem x d)
/-- Which keys a query sees in one branch. -/
def seen (d : IVec S_ 32) (w : IVec S_ 32) : IVec S8192x8192 1 :=
  andi (andi (cmpi .sge dist (pairs (constantI S_ 32 0#32))) (cmpi .eq (modulo dist d) (pairs (constantI S_ 32 0#32)))) (cmpi .sle dist (pairs w))
/-- The three branches' masks. -/
def masks (m0 m1 m2 : IVec S8192x8192 1) : IVec S3x1x8192x8192 1 :=
  broadcastInDim S3x1x8192x8192 ![0, 2, 3] bcast_S3x8192x8192_S3x1x8192x8192_0_2_3 (concatenate S3x8192x8192 0
    [⟨S1x8192x8192, broadcastInDim S1x8192x8192 ![1, 2] bcast_S8192x8192_S1x8192x8192_1_2 m0⟩,
     ⟨S1x8192x8192, broadcastInDim S1x8192x8192 ![1, 2] bcast_S8192x8192_S1x8192x8192_1_2 m1⟩,
     ⟨S1x8192x8192, broadcastInDim S1x8192x8192 ![1, 2] bcast_S8192x8192_S1x8192x8192_1_2 m2⟩]
    concatenates_S1x8192x8192_S1x8192x8192_S1x8192x8192_S3x8192x8192_d0)

section
abbrev hslice (z : FVec Ideal S8192x5120 .f32) : FVec Ideal S8192x3072 .f32 := extractStridedSlice S8192x3072 ![0, 0] z slices_S8192x5120_S8192x3072_0_0
/-- The heads' queries, keys and values. -/
def hq (z : FVec Ideal S8192x5120 .f32) : FVec Ideal S8192x8x128 .f32 :=
  shapeCast S8192x8x128 (extractStridedSlice S8192x1024 ![0, 0] (hslice z) slices_S8192x3072_S8192x1024_0_0) shapeCasts_S8192x1024_S8192x8x128
def hk (z : FVec Ideal S8192x5120 .f32) : FVec Ideal S8192x8x128 .f32 :=
  shapeCast S8192x8x128 (extractStridedSlice S8192x1024 ![0, 1024] (hslice z) slices_S8192x3072_S8192x1024_0_1024) shapeCasts_S8192x1024_S8192x8x128
def hv (z : FVec Ideal S8192x5120 .f32) : FVec Ideal S8192x8x128 .f32 :=
  shapeCast S8192x8x128 (extractStridedSlice S8192x1024 ![0, 2048] (hslice z) slices_S8192x3072_S8192x1024_0_2048) shapeCasts_S8192x1024_S8192x8x128
/-- The scaled scores. -/
def scores (q k : FVec Ideal S8192x8x128 .f32) : FVec Ideal S1x8x8192x8192 .f32 :=
  broadcastInDim S1x8x8192x8192 ![1, 2, 3] bcast_S8x8192x8192_S1x8x8192x8192_1_2_3
    (mulf (Host.dotGeneral dot_S8192x8x128_S8192x8x128_S8x8192x8192_2_2_0_0_1_1 none q k)
      (broadcastInDim S8x8192x8192 ![] bcast_S_S8x8192x8192 (constant S_ .f32 0x3DB504F3#32)))
/-- The masked scores of the three branches. -/
def masked (m : IVec S3x1x8192x8192 1) (s : FVec Ideal S1x8x8192x8192 .f32) (u : FVec Ideal S_ .f32) : FVec Ideal S3x8x8192x8192 .f32 :=
  select (broadcastInDim S3x8x8192x8192 ![0, 1, 2, 3] bcast_S3x1x8192x8192_S3x8x8192x8192_0_1_2_3 m)
    (broadcastInDim S3x8x8192x8192 ![0, 1, 2, 3] bcast_S1x8x8192x8192_S3x8x8192x8192_0_1_2_3 s)
    (broadcastInDim S3x8x8192x8192 ![] bcast_S_S3x8x8192x8192 u)

variable (s : FVec Ideal S3x8x8192x8192 .f32) (n w : FVec Ideal S3x8x8192 .f32) (v : FVec Ideal S8192x8x128 .f32)
/-- The row maxima. -/
def rowMax : FVec Ideal S3x8x8192 .f32 := Host.reduce FloatOps.maximumf s (constant S_ .f32 0xFF800000#32) reducesTo_S3x8x8192x8192_S3x8x8192_d3 h_S_
abbrev lastAxis (n : FVec Ideal S3x8x8192 .f32) : FVec Ideal S3x8x8192x1 .f32 := broadcastInDim S3x8x8192x1 ![0, 1, 2] bcast_S3x8x8192_S3x8x8192x1_0_1_2 n
abbrev alongKeys (m : FVec Ideal S3x8x8192x1 .f32) : FVec Ideal S3x8x8192x8192 .f32 := broadcastInDim S3x8x8192x8192 ![0, 1, 2, 3] bcast_S3x8x8192x1_S3x8x8192x8192_0_1_2_3 m
/-- The exponentials under the row maxima. -/
def expo : FVec Ideal S3x8x8192x8192 .f32 := Host.exp (subf s (alongKeys (lastAxis (rowMax s))))
/-- Their sums. -/
def den : FVec Ideal S3x8x8192x1 .f32 :=
  lastAxis (Host.reduceAdd (expo s) (constant S_ .f32 0x00000000#32) reducesTo_S3x8x8192x8192_S3x8x8192_d3 h_S_)
/-- The weights of each branch. -/
def prob : FVec Ideal S3x8x8192x8192 .f32 := Host.divf (expo s) (alongKeys (den s))
/-- The log-sums. -/
def lse : FVec Ideal S3x8x8192 .f32 :=
  shapeCast S3x8x8192 (addf (lastAxis (rowMax s)) (Host.log (den s))) shapeCasts_S3x8x8192x1_S3x8x8192
/-- The largest over the branches. -/
def topOf : FVec Ideal S8x8192 .f32 := Host.reduce FloatOps.maximumf n (constant S_ .f32 0xFF800000#32) reducesTo_S3x8x8192_S8x8192_d0 h_S_
abbrev onBranches (t : FVec Ideal S8x8192 .f32) : FVec Ideal S3x8x8192 .f32 :=
  broadcastInDim S3x8x8192 ![0, 1, 2] bcast_S1x8x8192_S3x8x8192_0_1_2 (broadcastInDim S1x8x8192 ![1, 2] bcast_S8x8192_S1x8x8192_1_2 t)
/-- The exponentials of the log-sums under the largest. -/
def expB : FVec Ideal S3x8x8192 .f32 :=
  Host.exp (subf n (onBranches (maximumf (broadcastInDim S8x8192 ![] bcast_S_S8x8192 (constant S_ .f32 0xFF800000#32)) (topOf n))))
abbrev sumB (n : FVec Ideal S3x8x8192 .f32) : FVec Ideal S8x8192 .f32 := Host.reduceAdd n (constant S_ .f32 0x00000000#32) reducesTo_S3x8x8192_S8x8192_d0 h_S_
/-- The weights of the branches. -/
def weight : FVec Ideal S3x8x8192 .f32 := Host.divf (expB n) (onBranches (sumB (expB n)))
/-- The attention's output from the branches' weights, the keys' weights and the values. -/
def outp (p : FVec Ideal S3x8x8192x8192 .f32) : FVec Ideal S8192x1024 .f32 :=
  shapeCast S8192x1024 (transpose S8192x8x128 [2, 0, 1] (Host.dotGeneral dot_S8192x8x128_S8x8192x8192_S8x128x8192_0_2_2_1_1_0 none v
    (Host.reduceAdd (mulf (alongKeys (broadcastInDim S3x8x8192x1 ![0, 1, 2] bcast_S3x8x8192_S3x8x8192x1_0_1_2 w)) p) (constant S_ .f32 0x00000000#32)
      reducesTo_S3x8x8192x8192_S8x8192x8192_d0 h_S_)) transposes_S8x128x8192_S8192x8x128_2_0_1) shapeCasts_S8192x8x128_S8192x1024
/-- The log-sum of all branches, at every feature. -/
def logAll : FVec Ideal S8192x1024 .f32 :=
  shapeCast S8192x1024 (broadcastInDim S8192x8x128 ![0, 1, 2] bcast_S8192x8x1_S8192x8x128_0_1_2 (broadcastInDim S8192x8x1 ![0, 1] bcast_S8192x8_S8192x8x1_0_1
    (transpose S8192x8 [1, 0] (addf (topOf n) (Host.log (sumB (Host.exp (subf n (onBranches (topOf n))))))) transposes_S8x8192_S8192x8_1_0))) shapeCasts_S8192x8x128_S8192x1024
end

/-! ### The windows -/

section
variable (W : Valuation τ sig (Elt Ideal))
set_option maxHeartbeats 2000000 in
theorem w0_v6 : StableHlo.after (hostOps0 : List (HloOp τ sig (Elt Ideal))) W (no_index (Proc.devRef .tc main_v6)) = hv (W (Proc.devRef .tc main_arg0)) := by
  simp only [hostOps0, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w0_v10 : StableHlo.after (hostOps0 : List (HloOp τ sig (Elt Ideal))) W (no_index (Proc.devRef .tc main_v10)) = scores (hq (W (Proc.devRef .tc main_arg0))) (hk (W (Proc.devRef .tc main_arg0))) := by
  simp only [hostOps0, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w0_v13 : StableHlo.after (hostOps0 : List (HloOp τ sig (Elt Ideal))) W (no_index (Proc.devRef .tc main_v13)) = dist := by
  simp only [hostOps0, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w0_v15 : StableHlo.after (hostOps0 : List (HloOp τ sig (Elt Ideal))) W (no_index (Proc.devRef .tc main_v15)) = cmpi .sge dist (pairs (constantI S_ 32 0#32)) := by
  simp only [hostOps0, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w0_c_0 : StableHlo.after (hostOps0 : List (HloOp τ sig (Elt Ideal))) W (no_index (Proc.devRef .tc main_c_0)) = constantI S_ 32 1#32 := by
  simp only [hostOps0, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w1_v16 : StableHlo.after (hostOps0_1 : List (HloOp τ sig (Elt Ideal))) W (no_index (Proc.devRef .tc main_v16)) = modulo (W (Proc.devRef .tc main_v13)) (W (Proc.devRef .tc main_c_0)) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_v22 : StableHlo.after (hostOps0_2 : List (HloOp τ sig (Elt Ideal))) W (no_index (Proc.devRef .tc main_v22)) = andi (andi (W (Proc.devRef .tc main_v15)) (cmpi .eq (W (Proc.devRef .tc main_v16)) (pairs (constantI S_ 32 0#32)))) (cmpi .sle (W (Proc.devRef .tc main_v13)) (pairs (constantI S_ 32 128#32))) := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_v24 : StableHlo.after (hostOps0_2 : List (HloOp τ sig (Elt Ideal))) W (no_index (Proc.devRef .tc main_v24)) = cmpi .sge (W (Proc.devRef .tc main_v13)) (pairs (constantI S_ 32 0#32)) := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_c_4 : StableHlo.after (hostOps0_2 : List (HloOp τ sig (Elt Ideal))) W (no_index (Proc.devRef .tc main_c_4)) = constantI S_ 32 4#32 := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_v25 : StableHlo.after (hostOps0_3 : List (HloOp τ sig (Elt Ideal))) W (no_index (Proc.devRef .tc main_v25)) = modulo (W (Proc.devRef .tc main_v13)) (W (Proc.devRef .tc main_c_4)) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_v31 : StableHlo.after (hostOps0_4 : List (HloOp τ sig (Elt Ideal))) W (no_index (Proc.devRef .tc main_v31)) = andi (andi (W (Proc.devRef .tc main_v24)) (cmpi .eq (W (Proc.devRef .tc main_v25)) (pairs (constantI S_ 32 0#32)))) (cmpi .sle (W (Proc.devRef .tc main_v13)) (pairs (constantI S_ 32 512#32))) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_v33 : StableHlo.after (hostOps0_4 : List (HloOp τ sig (Elt Ideal))) W (no_index (Proc.devRef .tc main_v33)) = cmpi .sge (W (Proc.devRef .tc main_v13)) (pairs (constantI S_ 32 0#32)) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_c_8 : StableHlo.after (hostOps0_4 : List (HloOp τ sig (Elt Ideal))) W (no_index (Proc.devRef .tc main_c_8)) = constantI S_ 32 16#32 := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_v34 : StableHlo.after (hostOps0_5 : List (HloOp τ sig (Elt Ideal))) W (no_index (Proc.devRef .tc main_v34)) = modulo (W (Proc.devRef .tc main_v13)) (W (Proc.devRef .tc main_c_8)) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w6_v45 : StableHlo.after (hostOps0_6 : List (HloOp τ sig (Elt Ideal))) W (no_index (Proc.devRef .tc main_v45)) = masks (W (Proc.devRef .tc main_v22)) (W (Proc.devRef .tc main_v31)) (andi (andi (W (Proc.devRef .tc main_v33)) (cmpi .eq (W (Proc.devRef .tc main_v34)) (pairs (constantI S_ 32 0#32)))) (cmpi .sle (W (Proc.devRef .tc main_v13)) (pairs (constantI S_ 32 2048#32)))) := by
  simp only [hostOps0_6, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w6_cst_11 : StableHlo.after (hostOps0_6 : List (HloOp τ sig (Elt Ideal))) W (no_index (Proc.devRef .tc main_cst_11)) = (constant S_ .f32 0xFF800000#32 : FVec Ideal S_ .f32) := by
  simp only [hostOps0_6, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w7_v46 : StableHlo.after (hostOps0_7 : List (HloOp τ sig (Elt Ideal))) W (no_index (Proc.devRef .tc main_v46)) = masked (W (Proc.devRef .tc main_v45)) (W (Proc.devRef .tc main_v10)) (W (Proc.devRef .tc main_cst_11)) := by
  simp only [hostOps0_7, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w8_v92 : StableHlo.after (hostOps0_8 : List (HloOp τ sig (Elt Ideal))) W (no_index (Proc.devRef .tc main_v92)) = transpose S4x2048x3072 [1, 0, 2] (shapeCast S2048x4x3072 (truncf .bf16 (hslice (W (Proc.devRef .tc main_arg0))) bitsLt_bf16_f32) shapeCasts_S8192x3072_S2048x4x3072) transposes_S2048x4x3072_S4x2048x3072_1_0_2 := by
  simp only [hostOps0_8, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w8_v95 : StableHlo.after (hostOps0_8 : List (HloOp τ sig (Elt Ideal))) W (no_index (Proc.devRef .tc main_v95)) = (transpose S4x2048x1024 [1, 0, 2] (shapeCast S2048x4x1024 (truncf .bf16 (W (Proc.devRef .tc main_arg1) : FVec Ideal S8192x1024 .f32) bitsLt_bf16_f32) shapeCasts_S8192x1024_S2048x4x1024) transposes_S2048x4x1024_S4x2048x1024_1_0_2 : FVec Ideal S4x2048x1024 .bf16) := by
  simp only [hostOps0_8, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w8_v98 : StableHlo.after (hostOps0_8 : List (HloOp τ sig (Elt Ideal))) W (no_index (Proc.devRef .tc main_v98)) = transpose S4x2048x1024 [1, 0, 2] (shapeCast S2048x4x1024 (truncf .bf16 (outp (weight (lse (W (Proc.devRef .tc main_v46)))) (W (Proc.devRef .tc main_v6)) (prob (W (Proc.devRef .tc main_v46)))) bitsLt_bf16_f32) shapeCasts_S8192x1024_S2048x4x1024) transposes_S2048x4x1024_S4x2048x1024_1_0_2 := by
  simp only [hostOps0_8, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w8_v100 : StableHlo.after (hostOps0_8 : List (HloOp τ sig (Elt Ideal))) W (no_index (Proc.devRef .tc main_v100)) = transpose S4x2048x1024 [1, 0, 2] (shapeCast S2048x4x1024 (logAll (lse (W (Proc.devRef .tc main_v46)))) shapeCasts_S8192x1024_S2048x4x1024) transposes_S2048x4x1024_S4x2048x1024_1_0_2 := by
  simp only [hostOps0_8, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w1_v13 : StableHlo.after (hostOps0_1 : List (HloOp τ sig (Elt Ideal))) W (no_index (Proc.devRef .tc main_v13)) = W (Proc.devRef .tc main_v13) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w1_v15 : StableHlo.after (hostOps0_1 : List (HloOp τ sig (Elt Ideal))) W (no_index (Proc.devRef .tc main_v15)) = W (Proc.devRef .tc main_v15) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w1_v6 : StableHlo.after (hostOps0_1 : List (HloOp τ sig (Elt Ideal))) W (no_index (Proc.devRef .tc main_v6)) = W (Proc.devRef .tc main_v6) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w1_v10 : StableHlo.after (hostOps0_1 : List (HloOp τ sig (Elt Ideal))) W (no_index (Proc.devRef .tc main_v10)) = W (Proc.devRef .tc main_v10) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w1_arg0 : StableHlo.after (hostOps0_1 : List (HloOp τ sig (Elt Ideal))) W (no_index (Proc.devRef .tc main_arg0)) = W (Proc.devRef .tc main_arg0) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w1_arg1 : StableHlo.after (hostOps0_1 : List (HloOp τ sig (Elt Ideal))) W (no_index (Proc.devRef .tc main_arg1)) = W (Proc.devRef .tc main_arg1) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_v13 : StableHlo.after (hostOps0_2 : List (HloOp τ sig (Elt Ideal))) W (no_index (Proc.devRef .tc main_v13)) = W (Proc.devRef .tc main_v13) := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_v6 : StableHlo.after (hostOps0_2 : List (HloOp τ sig (Elt Ideal))) W (no_index (Proc.devRef .tc main_v6)) = W (Proc.devRef .tc main_v6) := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_v10 : StableHlo.after (hostOps0_2 : List (HloOp τ sig (Elt Ideal))) W (no_index (Proc.devRef .tc main_v10)) = W (Proc.devRef .tc main_v10) := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_arg0 : StableHlo.after (hostOps0_2 : List (HloOp τ sig (Elt Ideal))) W (no_index (Proc.devRef .tc main_arg0)) = W (Proc.devRef .tc main_arg0) := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w2_arg1 : StableHlo.after (hostOps0_2 : List (HloOp τ sig (Elt Ideal))) W (no_index (Proc.devRef .tc main_arg1)) = W (Proc.devRef .tc main_arg1) := by
  simp only [hostOps0_2, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_v13 : StableHlo.after (hostOps0_3 : List (HloOp τ sig (Elt Ideal))) W (no_index (Proc.devRef .tc main_v13)) = W (Proc.devRef .tc main_v13) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_v22 : StableHlo.after (hostOps0_3 : List (HloOp τ sig (Elt Ideal))) W (no_index (Proc.devRef .tc main_v22)) = W (Proc.devRef .tc main_v22) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_v24 : StableHlo.after (hostOps0_3 : List (HloOp τ sig (Elt Ideal))) W (no_index (Proc.devRef .tc main_v24)) = W (Proc.devRef .tc main_v24) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_v6 : StableHlo.after (hostOps0_3 : List (HloOp τ sig (Elt Ideal))) W (no_index (Proc.devRef .tc main_v6)) = W (Proc.devRef .tc main_v6) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_v10 : StableHlo.after (hostOps0_3 : List (HloOp τ sig (Elt Ideal))) W (no_index (Proc.devRef .tc main_v10)) = W (Proc.devRef .tc main_v10) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_arg0 : StableHlo.after (hostOps0_3 : List (HloOp τ sig (Elt Ideal))) W (no_index (Proc.devRef .tc main_arg0)) = W (Proc.devRef .tc main_arg0) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w3_arg1 : StableHlo.after (hostOps0_3 : List (HloOp τ sig (Elt Ideal))) W (no_index (Proc.devRef .tc main_arg1)) = W (Proc.devRef .tc main_arg1) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_v13 : StableHlo.after (hostOps0_4 : List (HloOp τ sig (Elt Ideal))) W (no_index (Proc.devRef .tc main_v13)) = W (Proc.devRef .tc main_v13) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_v22 : StableHlo.after (hostOps0_4 : List (HloOp τ sig (Elt Ideal))) W (no_index (Proc.devRef .tc main_v22)) = W (Proc.devRef .tc main_v22) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_v6 : StableHlo.after (hostOps0_4 : List (HloOp τ sig (Elt Ideal))) W (no_index (Proc.devRef .tc main_v6)) = W (Proc.devRef .tc main_v6) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_v10 : StableHlo.after (hostOps0_4 : List (HloOp τ sig (Elt Ideal))) W (no_index (Proc.devRef .tc main_v10)) = W (Proc.devRef .tc main_v10) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_arg0 : StableHlo.after (hostOps0_4 : List (HloOp τ sig (Elt Ideal))) W (no_index (Proc.devRef .tc main_arg0)) = W (Proc.devRef .tc main_arg0) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w4_arg1 : StableHlo.after (hostOps0_4 : List (HloOp τ sig (Elt Ideal))) W (no_index (Proc.devRef .tc main_arg1)) = W (Proc.devRef .tc main_arg1) := by
  simp only [hostOps0_4, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_v13 : StableHlo.after (hostOps0_5 : List (HloOp τ sig (Elt Ideal))) W (no_index (Proc.devRef .tc main_v13)) = W (Proc.devRef .tc main_v13) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_v22 : StableHlo.after (hostOps0_5 : List (HloOp τ sig (Elt Ideal))) W (no_index (Proc.devRef .tc main_v22)) = W (Proc.devRef .tc main_v22) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_v31 : StableHlo.after (hostOps0_5 : List (HloOp τ sig (Elt Ideal))) W (no_index (Proc.devRef .tc main_v31)) = W (Proc.devRef .tc main_v31) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_v33 : StableHlo.after (hostOps0_5 : List (HloOp τ sig (Elt Ideal))) W (no_index (Proc.devRef .tc main_v33)) = W (Proc.devRef .tc main_v33) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_v6 : StableHlo.after (hostOps0_5 : List (HloOp τ sig (Elt Ideal))) W (no_index (Proc.devRef .tc main_v6)) = W (Proc.devRef .tc main_v6) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_v10 : StableHlo.after (hostOps0_5 : List (HloOp τ sig (Elt Ideal))) W (no_index (Proc.devRef .tc main_v10)) = W (Proc.devRef .tc main_v10) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_arg0 : StableHlo.after (hostOps0_5 : List (HloOp τ sig (Elt Ideal))) W (no_index (Proc.devRef .tc main_arg0)) = W (Proc.devRef .tc main_arg0) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w5_arg1 : StableHlo.after (hostOps0_5 : List (HloOp τ sig (Elt Ideal))) W (no_index (Proc.devRef .tc main_arg1)) = W (Proc.devRef .tc main_arg1) := by
  simp only [hostOps0_5, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w6_v6 : StableHlo.after (hostOps0_6 : List (HloOp τ sig (Elt Ideal))) W (no_index (Proc.devRef .tc main_v6)) = W (Proc.devRef .tc main_v6) := by
  simp only [hostOps0_6, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w6_v10 : StableHlo.after (hostOps0_6 : List (HloOp τ sig (Elt Ideal))) W (no_index (Proc.devRef .tc main_v10)) = W (Proc.devRef .tc main_v10) := by
  simp only [hostOps0_6, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w6_arg0 : StableHlo.after (hostOps0_6 : List (HloOp τ sig (Elt Ideal))) W (no_index (Proc.devRef .tc main_arg0)) = W (Proc.devRef .tc main_arg0) := by
  simp only [hostOps0_6, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w6_arg1 : StableHlo.after (hostOps0_6 : List (HloOp τ sig (Elt Ideal))) W (no_index (Proc.devRef .tc main_arg1)) = W (Proc.devRef .tc main_arg1) := by
  simp only [hostOps0_6, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w7_v6 : StableHlo.after (hostOps0_7 : List (HloOp τ sig (Elt Ideal))) W (no_index (Proc.devRef .tc main_v6)) = W (Proc.devRef .tc main_v6) := by
  simp only [hostOps0_7, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w7_arg0 : StableHlo.after (hostOps0_7 : List (HloOp τ sig (Elt Ideal))) W (no_index (Proc.devRef .tc main_arg0)) = W (Proc.devRef .tc main_arg0) := by
  simp only [hostOps0_7, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w7_arg1 : StableHlo.after (hostOps0_7 : List (HloOp τ sig (Elt Ideal))) W (no_index (Proc.devRef .tc main_arg1)) = W (Proc.devRef .tc main_arg1) := by
  simp only [hostOps0_7, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w0_arg0 : StableHlo.after (hostOps0 : List (HloOp τ sig (Elt Ideal))) W (no_index (Proc.devRef .tc main_arg0)) = W (Proc.devRef .tc main_arg0) := by
  simp only [hostOps0, StableHlo.TRef.binary, StableHlo.TRef.nullary, StableHlo.TRef.ternary, StableHlo.TRef.unary, StableHlo.TRef.toBuf, StableHlo.TRef.ofBuf, cast_eq]
  after_results_simp
  all_goals rfl
set_option maxHeartbeats 2000000 in
theorem w0_arg1 : StableHlo.after (hostOps0 : List (HloOp τ sig (Elt Ideal))) W (no_index (Proc.devRef .tc main_arg1)) = W (Proc.devRef .tc main_arg1) := by
  simp only [hostOps0, StableHlo.TRef.binary, StableHlo.TRef.nullary, StableHlo.TRef.ternary, StableHlo.TRef.unary, StableHlo.TRef.toBuf, StableHlo.TRef.ofBuf, cast_eq]
  after_results_simp
  all_goals rfl
end
end Cert.KernelIdeal.Attn
end
-- ==== Proof.Reads.lean ====
module

public import proofs.«01_k».proof.Proof.Rows

@[expose] public section
set_option maxRecDepth 16384
noncomputable section
open Idealize.ShloMosaic

/-! Reductions and layouts at an index that more than one program uses. -/
namespace Cert.Reads
open Cert.Rows

/-- An array with a trailing unit axis, read without it. -/
theorem drop_last {α : Type} {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- The host's maximum along the last axis is real where the entries are real or minus infinity and one is real. -/
theorem max_last {A B C N : ℕ} (x : FVec Ideal ⟨4, ![A, B, C, N]⟩ .f32)
    (h0 : 0 < (⟨0, ![]⟩ : Shape).numel) (hr : (⟨4, ![A, B, C, N]⟩ : Shape).ReducesTo [3] ⟨3, ![A, B, C]⟩) (b : Fin A) (h : Fin B) (i : Fin C)
    (ht : ∀ j, x (ix4 b h i j) ≠ (⊤ : EReal)) (j₀ : Fin N) (hb : x (ix4 b h i j₀) ≠ (⊥ : EReal)) :
    ∃ r : ℝ, Host.reduce FloatOps.maximumf x (constant ⟨0, ![]⟩ .f32 0xFF800000#32) hr h0 (ix3 b h i) = (r : EReal)
      ∧ ∃ j, x (ix4 b h i j) = (r : EReal) := by
  pointwise
  rw [ofBits_bot]
  obtain ⟨j, _, r, h1, h2⟩ := fold_max_real Finset.univ (fun j => x (ix4 b h i j)) (fun j _ => ht j) j₀ (Finset.mem_univ _) hb
  exact ⟨r, h1, j, h2⟩

/-- The host's maximum along the first axis of reals is real. -/
theorem max_first {A B C : ℕ} (x : FVec Ideal ⟨3, ![A, B, C]⟩ .f32)
    (h0 : 0 < (⟨0, ![]⟩ : Shape).numel) (hr : (⟨3, ![A, B, C]⟩ : Shape).ReducesTo [0] ⟨2, ![B, C]⟩) (h : Fin B) (i : Fin C) (a₀ : Fin A)
    (ht : ∀ a, ∃ r : ℝ, x (ix3 a h i) = (r : EReal)) :
    ∃ r : ℝ, Host.reduce FloatOps.maximumf x (constant ⟨0, ![]⟩ .f32 0xFF800000#32) hr h0 (ix2 h i) = (r : EReal) := by
  pointwise
  rw [ofBits_bot]
  have hr' : ∀ a, x (ix3 a h i) ≠ ⊤ ∧ x (ix3 a h i) ≠ ⊥ := fun a => by
    obtain ⟨r, e⟩ := ht a; rw [e]; exact ⟨EReal.coe_ne_top _, EReal.coe_ne_bot _⟩
  obtain ⟨j, _, r, h1, h2⟩ := fold_max_real Finset.univ (fun a => x (ix3 a h i)) (fun a _ => (hr' a).1) a₀ (Finset.mem_univ _) (hr' a₀).2
  exact ⟨r, h1⟩

end Cert.Reads
end
-- ==== Proof.HostVal.lean ====
module

public import proofs.«01_k».proof.Proof.Host
public import proofs.«01_k».proof.Proof.Reads

@[expose] public section
set_option maxRecDepth 16384
noncomputable section
open Idealize.ShloMosaic Idealize.ShloMosaic.TcCoe Idealize.SL.Sem

/-! The arrays the kernel's host code hands to the call, at an index, over the real numbers. -/
namespace Cert.KernelIdeal.Attn
open Cert.KernelIdeal Cert.KernelIdeal.Gen
open Cert.Rows Cert.Band Cert.Data Cert.Reads

section
variable (b : Fin 3) (h : Fin 8) (i j : Fin 8192) (c : Fin 128)
variable (s p : FVec Ideal S3x8x8192x8192 .f32) (n w : FVec Ideal S3x8x8192 .f32) (v q k : FVec Ideal S8192x8x128 .f32)

theorem hq_at (z : Z) : (hq z (ix3 i h c) : EReal) = z (ix2 i ⟨h.val * 128 + c.val, by omega⟩) := by pointwise [hq]
theorem hk_at (z : Z) : (hk z (ix3 i h c) : EReal) = z (ix2 i ⟨1024 + (h.val * 128 + c.val), by omega⟩) := by pointwise [hk]
theorem hv_at (z : Z) : (hv z (ix3 i h c) : EReal) = z (ix2 i ⟨2048 + (h.val * 128 + c.val), by omega⟩) := by pointwise [hv]
theorem scores_at : (scores q k (ix4 0 h i j) : EReal) = (∑ c, q (ix3 i h c) * k (ix3 j h c)) * Ideal.ofBits .f32 0x3DB504F3#32 := by
  pointwise [scores]
theorem masked_at (m : IVec S3x1x8192x8192 1) (t : FVec Ideal S1x8x8192x8192 .f32) (u : FVec Ideal S_ .f32) :
    (masked m t u (ix4 b h i j) : EReal) = Scalar.select (m (ix4 b 0 i j)) (t (ix4 0 h i j)) (u ix0) := by
  pointwise [masked]
theorem dist_at : dist (ix2 i j) = IntOp.subi (BitVec.ofNat 32 ↑i) (BitVec.ofNat 32 ↑j) := by pointwise [dist]
theorem rem_at (x : IVec S8192x8192 32) (d : IVec S_ 32) : rem x d (ix2 i j) = IntOp.remsi ArithUnit.host (x (ix2 i j)) (dvs d ix0) := by
  pointwise [rem, pairs]

/-- One branch's mask, as host code writes it. -/
abbrev seenBy (d w : BitVec 32) : IVec S8192x8192 1 :=
  andi (andi (cmpi .sge dist (pairs (constantI S_ 32 0#32))) (cmpi .eq (modulo dist (constantI S_ 32 d)) (pairs (constantI S_ 32 0#32))))
    (cmpi .sle dist (pairs (constantI S_ 32 w)))

theorem seenBy_at (d w : BitVec 32) (D N : ℕ) (hD : (dvs (constantI S_ 32 d) ix0).toInt = D) (hd : 0 < D) (hN : w.toInt = N) :
    seenBy d w (ix2 i j) = BitVec.ofBool (decide (j.val ≤ i.val ∧ (i.val - j.val) % D = 0 ∧ i.val - j.val ≤ N)) := by
  rw [← mask_word i j D N _ w hD hd hN _ _ (dist_at i j) (rem_at i j dist (constantI S_ 32 d))]
  pointwise [seenBy, modulo, pairs]

theorem masks_at (m0 m1 m2 : IVec S8192x8192 1) (h0 : m0 (ix2 i j) = BitVec.ofBool (decide (Sees 0 i j)))
    (h1 : m1 (ix2 i j) = BitVec.ofBool (decide (Sees 1 i j))) (h2 : m2 (ix2 i j) = BitVec.ofBool (decide (Sees 2 i j))) :
    masks m0 m1 m2 (ix4 b 0 i j) = BitVec.ofBool (decide (Sees b i j)) := by
  pointwise [masks]
  by_cases e0 : b.val < 1
  · rw [dif_pos e0, h0, show b = 0 from Fin.ext (by simp; omega)]
  · rw [dif_neg e0]
    by_cases e1 : b.val - 1 < 1
    · rw [dif_pos e1, h1, show b = 1 from Fin.ext (by simp; omega)]
    · rw [dif_neg e1, h2, show b = 2 from Fin.ext (by simp; omega)]

theorem expo_at : (expo s (ix4 b h i j) : EReal) = Ideal.exp (s (ix4 b h i j) - rowMax s (ix3 b h i)) := by pointwise [expo]
theorem den_at : (den s (ix4 b h i 0) : EReal) = ∑ j, expo s (ix4 b h i j) := by pointwise [den]
theorem prob_at : (prob s (ix4 b h i j) : EReal) = Ideal.div (expo s (ix4 b h i j)) (den s (ix4 b h i 0)) := by pointwise [prob]
theorem log_sum_at (m : FVec Ideal S3x8x8192x1 .f32) :
    (shapeCast S3x8x8192 (addf (lastAxis n) (Host.log m)) shapeCasts_S3x8x8192x1_S3x8x8192 (ix3 b h i) : EReal)
      = n (ix3 b h i) + Ideal.log (m (ix4 b h i 0)) := by
  rw [drop_last]
  pointwise
theorem lse_at : (lse s (ix3 b h i) : EReal) = rowMax s (ix3 b h i) + Ideal.log (den s (ix4 b h i 0)) := log_sum_at b h i (rowMax s) (den s)
theorem expB_at : (expB n (ix3 b h i) : EReal) = Ideal.exp (n (ix3 b h i) - max (Ideal.ofBits .f32 0xFF800000#32) (topOf n (ix2 h i))) := by
  pointwise [expB]
theorem weight_at : (weight n (ix3 b h i) : EReal) = Ideal.div (expB n (ix3 b h i)) (∑ a, expB n (ix3 a h i)) := by pointwise [weight]
theorem outp_at : (outp w v p (ix2 i ⟨h.val * 128 + c.val, by omega⟩) : EReal)
    = ∑ j, v (ix3 j h c) * ∑ b, w (ix3 b h i) * p (ix4 b h i j) := by
  pointwise [outp]
  done
theorem logAll_at : (logAll n (ix2 i ⟨h.val * 128 + c.val, by omega⟩) : EReal)
    = topOf n (ix2 h i) + Ideal.log (∑ a, Ideal.exp (n (ix3 a h i) - topOf n (ix2 h i))) := by
  pointwise [logAll]
  done
end

/-! ### The masked scores and what follows from them -/

/-- The masked scores the host code computes. -/
def S0 (z : Z) : FVec Ideal S3x8x8192x8192 .f32 :=
  masked (masks (seenBy 1#32 128#32) (seenBy 4#32 512#32) (seenBy 16#32 2048#32)) (scores (hq z) (hk z)) (constant S_ .f32 0xFF800000#32)

section
variable {z : Z} (hz : Real' z) (b : Fin 3) (h : Fin 8) (i j : Fin 8192) (c : Fin 128)
include hz

theorem S0_at : (S0 z (ix4 b h i j) : EReal) = if Sees b i j then ((sc z h i j : ℝ) : EReal) else ⊥ := by
  refine (masked_at b h i j _ _ _).trans ?_
  rw [masks_at b i j _ _ _ (seenBy_at i j 1#32 128#32 1 128 (by decide) (by decide) (by decide))
    (seenBy_at i j 4#32 512#32 4 512 (by decide) (by decide) (by decide)) (seenBy_at i j 16#32 2048#32 16 2048 (by decide) (by decide) (by decide)),
    select_ofBool, scores_at]
  have e : (constant S_ .f32 0xFF800000#32 : FVec Ideal S_ .f32) ix0 = (⊥ : EReal) := ofBits_bot
  rw [e, ofBits_scale]
  simp only [hq_at, hk_at, qq_coe hz, kk_coe hz]
  simp only [← EReal.coe_mul, ← coe_sum]
  rfl

/-- The row maximum as a real number. -/
def mx (z : Z) (b : Fin 3) (h : Fin 8) (i : Fin 8192) : ℝ := (rowMax (S0 z) (ix3 b h i) : EReal).toReal

theorem rowMax_at : (rowMax (S0 z) (ix3 b h i) : EReal) = ((mx z b h i : ℝ) : EReal) := by
  obtain ⟨r, h1, -⟩ := max_last (S0 z) h_S_ reducesTo_S3x8x8192x8192_S3x8x8192_d3 b h i (fun j => by
    rw [S0_at hz b h i j]
    split
    · exact EReal.coe_ne_top _
    · exact bot_ne_top) i (by rw [S0_at hz b h i i, if_pos (sees_self b i)]; exact EReal.coe_ne_bot _)
  have h2 : (rowMax (S0 z) (ix3 b h i) : EReal) = (r : EReal) := h1
  rw [mx, h2, EReal.toReal_coe]

theorem expo_val : (expo (S0 z) (ix4 b h i j) : EReal) = ((Ee z b h i j * Real.exp (-(mx z b h i)) : ℝ) : EReal) := by
  rw [expo_at, S0_at hz, rowMax_at hz, exp_shift (M := fun b j => Sees b i j)]

theorem den_val : (den (S0 z) (ix4 b h i 0) : EReal) = ((Zz z b h i * Real.exp (-(mx z b h i)) : ℝ) : EReal) := by
  rw [den_at]
  simp only [expo_val hz]
  exact sum_shift (M := fun b j => Sees b i j) _ b

theorem prob_val : (prob (S0 z) (ix4 b h i j) : EReal) = ((Ee z b h i j / Zz z b h i : ℝ) : EReal) := by
  rw [prob_at, expo_val hz, den_val hz, div_shift _ (Zz_pos z b h i).ne']

theorem lse_val : (lse (S0 z) (ix3 b h i) : EReal) = ((Real.log (Zz z b h i) : ℝ) : EReal) := by
  rw [lse_at, rowMax_at hz, den_val hz, log_shift _ (Zz_pos _ b h i)]

/-- The largest log-sum as a real number. -/
def tp (z : Z) (h : Fin 8) (i : Fin 8192) : ℝ := (topOf (lse (S0 z)) (ix2 h i) : EReal).toReal

theorem topOf_at : (topOf (lse (S0 z)) (ix2 h i) : EReal) = ((tp z h i : ℝ) : EReal) := by
  obtain ⟨r, h1⟩ := max_first (lse (S0 z)) h_S_ reducesTo_S3x8x8192_S8x8192_d0 h i 0 fun a => ⟨_, lse_val hz a h i⟩
  have h2 : (topOf (lse (S0 z)) (ix2 h i) : EReal) = (r : EReal) := h1
  rw [tp, h2, EReal.toReal_coe]

theorem expB_val : (expB (lse (S0 z)) (ix3 b h i) : EReal) = ((Zz z b h i * Real.exp (-(tp z h i)) : ℝ) : EReal) := by
  rw [expB_at, lse_val hz, topOf_at hz, ofBits_bot, max_eq_right bot_le, exp_log_shift _ (Zz_pos _ b h i)]

theorem weight_val : (weight (lse (S0 z)) (ix3 b h i) : EReal) = ((Zz z b h i / Ss z h i : ℝ) : EReal) := by
  rw [weight_at]
  simp only [expB_val hz]
  rw [sum_branch_shift (M := fun b j => Sees b i j) _, div_shift _ (Ss_pos _ h i).ne']

/-- The attention's output. -/
theorem outp_val : (outp (weight (lse (S0 z))) (hv z) (prob (S0 z)) (ix2 i ⟨h.val * 128 + c.val, by omega⟩) : EReal) = ((Oo z h i c : ℝ) : EReal) := by
  rw [outp_at]
  simp only [weight_val hz, prob_val hz, hv_at, vv_coe hz, ← EReal.coe_mul, ← coe_sum]
  congr 1
  exact Finset.sum_congr rfl fun j _ => mul_comm _ _

/-- The log-sum over all branches. -/
theorem logAll_val : (logAll (lse (S0 z)) (ix2 i ⟨h.val * 128 + c.val, by omega⟩) : EReal) = ((Real.log (Ss z h i) : ℝ) : EReal) := by
  rw [logAll_at]
  simp only [lse_val hz, topOf_at hz, exp_log_shift _ (Zz_pos _ _ h i)]
  rw [sum_branch_shift (M := fun b j => Sees b i j) _, log_shift _ (Ss_pos _ h i)]
end
end Cert.KernelIdeal.Attn
end
-- ==== Proof.HostRun.lean ====
module

public import proofs.«01_k».proof.Proof.HostVal

@[expose] public section
set_option maxRecDepth 16384
noncomputable section
open Idealize.ShloMosaic Idealize.ShloMosaic.TcCoe Idealize.SL.Sem

/-! The four arrays the call reads, as functions of the arguments. -/
namespace Cert.KernelIdeal.Attn
open Cert.KernelIdeal Cert.KernelIdeal.Gen
open Cert.Rows Cert.Band Cert.Data Cert.Reads

/-- The classes of an array of rows. -/
abbrev byClass3 (x : FVec Ideal S8192x3072 .bf16) : FVec Ideal S4x2048x3072 .bf16 :=
  transpose S4x2048x3072 [1, 0, 2] (shapeCast S2048x4x3072 x shapeCasts_S8192x3072_S2048x4x3072) transposes_S2048x4x3072_S4x2048x3072_1_0_2
abbrev byClass {φ : FTy} (x : FVec Ideal S8192x1024 φ) : FVec Ideal S4x2048x1024 φ :=
  transpose S4x2048x1024 [1, 0, 2] (shapeCast S2048x4x1024 x shapeCasts_S8192x1024_S2048x4x1024) transposes_S2048x4x1024_S4x2048x1024_1_0_2

section
variable (r : Fin 4) (t : Fin 2048)
theorem byClass3_at (z : Z) (c : Fin 3072) :
    (byClass3 (truncf .bf16 (hslice z) bitsLt_bf16_f32) (ix3 r t c) : EReal) = z (ix2 (tok4 r t) ⟨c.val, by omega⟩) := by
  pointwise [byClass3]
  rfl
theorem byClass_at {φ : FTy} (x : FVec Ideal S8192x1024 φ) (c : Fin 1024) :
    (byClass x (ix3 r t c)) = x (ix2 (tok4 r t) c) := by
  pointwise [byClass]
  rfl
theorem byClass_cast_at (x : FVec Ideal S8192x1024 .f32) (c : Fin 1024) :
    (byClass (truncf .bf16 x bitsLt_bf16_f32) (ix3 r t c) : EReal) = x (ix2 (tok4 r t) c) := by
  rw [byClass_at]
  pointwise
end

variable (m : (ℓ : Loc nD τ sig) → Buf (Elt Ideal) ℓ) (c : Dev nD)

/-- The projections the kernel is launched with. -/
abbrev zK : Z := m ((c : Thread nD τ).loc main_arg0)
/-- The gradient of the output it is launched with. -/
abbrev gK : G := m ((c : Thread nD τ).loc main_arg1)

set_option maxHeartbeats 2000000 in
theorem V_v92 : V m c main_v92 = byClass3 (truncf .bf16 (hslice (zK m c)) bitsLt_bf16_f32) := by
  simp only [V, List.flatten_cons, List.flatten_nil, List.append_nil, StableHlo.after_append]
  rw [w8_v92, w7_arg0, w6_arg0, w5_arg0, w4_arg0, w3_arg0, w2_arg0, w1_arg0, w0_arg0]

set_option maxHeartbeats 2000000 in
theorem V_v95 : V m c main_v95 = byClass (truncf .bf16 (gK m c) bitsLt_bf16_f32) := by
  simp only [V, List.flatten_cons, List.flatten_nil, List.append_nil, StableHlo.after_append]
  rw [w8_v95, w7_arg1, w6_arg1, w5_arg1, w4_arg1, w3_arg1, w2_arg1, w1_arg1, w0_arg1]

/-- The host contents before the last window. -/
abbrev V7 : Valuation τ sig (Elt Ideal) :=
  StableHlo.after hostOps0_7 (StableHlo.after hostOps0_6 (StableHlo.after hostOps0_5 (StableHlo.after hostOps0_4 (StableHlo.after hostOps0_3
    (StableHlo.after hostOps0_2 (StableHlo.after hostOps0_1 (StableHlo.after hostOps0 fun b => m (c, b))))))))

set_option maxHeartbeats 2000000 in
theorem V7_v46 : V7 m c (Proc.devRef .tc main_v46) = S0 (zK m c) := by
  unfold V7
  rw [w7_v46, w6_v45, w6_cst_11, w6_v10, w5_v10, w4_v10, w3_v10, w2_v10, w1_v10, w0_v10,
    w5_v22, w4_v22, w3_v22, w2_v22, w5_v31, w4_v31, w5_v33, w4_v33, w5_v34, w3_v24, w3_v25, w2_v24, w4_c_8, w2_c_4,
    w5_v13, w4_v13, w3_v13, w2_v13, w1_v13, w1_v15, w1_v16, w0_v15, w0_c_0, w0_v13]
  rfl

set_option maxHeartbeats 2000000 in
theorem V7_v6 : V7 m c (Proc.devRef .tc main_v6) = hv (zK m c) := by
  unfold V7
  rw [w7_v6, w6_v6, w5_v6, w4_v6, w3_v6, w2_v6, w1_v6, w0_v6]

set_option maxHeartbeats 2000000 in
theorem V_v98 : V m c main_v98
    = byClass (truncf .bf16 (outp (weight (lse (S0 (zK m c)))) (hv (zK m c)) (prob (S0 (zK m c)))) bitsLt_bf16_f32) := by
  have e := w8_v98 (V7 m c)
  rw [V7_v46, V7_v6] at e
  simp only [V, List.flatten_cons, List.flatten_nil, List.append_nil, StableHlo.after_append]
  exact e

set_option maxHeartbeats 2000000 in
theorem V_v100 : V m c main_v100 = byClass (logAll (lse (S0 (zK m c)))) := by
  have e := w8_v100 (V7 m c)
  rw [V7_v46] at e
  simp only [V, List.flatten_cons, List.flatten_nil, List.append_nil, StableHlo.after_append]
  exact e

section
variable (hz : Real' (zK m c)) (hg : Real' (gK m c)) (r : Fin 4) (t : Fin 2048) (h : Fin 8) (f : Fin 128)

include hz in
theorem q_at (p : h.val * 128 + f.val < 3072) : (V m c main_v92 (ix3 r t ⟨h.val * 128 + f.val, p⟩) : EReal) = ((qq (zK m c) h (tok4 r t) f : ℝ) : EReal) := by
  rw [V_v92]
  exact (byClass3_at r t (zK m c) _).trans (qq_coe hz h (tok4 r t) f (by omega))
include hz in
theorem k_at (p : 1024 + (h.val * 128 + f.val) < 3072) : (V m c main_v92 (ix3 r t ⟨1024 + (h.val * 128 + f.val), p⟩) : EReal) = ((kk (zK m c) h (tok4 r t) f : ℝ) : EReal) := by
  rw [V_v92]
  exact (byClass3_at r t (zK m c) _).trans (kk_coe hz h (tok4 r t) f (by omega))
include hz in
theorem v_at (p : 2048 + (h.val * 128 + f.val) < 3072) : (V m c main_v92 (ix3 r t ⟨2048 + (h.val * 128 + f.val), p⟩) : EReal) = ((vv (zK m c) h (tok4 r t) f : ℝ) : EReal) := by
  rw [V_v92]
  exact (byClass3_at r t (zK m c) _).trans (vv_coe hz h (tok4 r t) f (by omega))
include hg in
theorem do_at (p : h.val * 128 + f.val < 1024) : (V m c main_v95 (ix3 r t ⟨h.val * 128 + f.val, p⟩) : EReal) = ((gg (gK m c) h (tok4 r t) f : ℝ) : EReal) := by
  rw [V_v95]
  exact (byClass_cast_at r t (gK m c) _).trans (gg_coe hg h (tok4 r t) f _)
include hz in
theorem o_at (p : h.val * 128 + f.val < 1024) : (V m c main_v98 (ix3 r t ⟨h.val * 128 + f.val, p⟩) : EReal) = ((Oo (zK m c) h (tok4 r t) f : ℝ) : EReal) := by
  rw [V_v98]
  exact (byClass_cast_at r t _ _).trans (outp_val hz h (tok4 r t) f)
include hz in
theorem l_at (p : h.val * 128 + f.val < 1024) : (V m c main_v100 (ix3 r t ⟨h.val * 128 + f.val, p⟩) : EReal) = ((Real.log (Ss (zK m c) h (tok4 r t)) : ℝ) : EReal) := by
  rw [V_v100]
  exact (byClass_at r t _ _).trans (logAll_val hz h (tok4 r t) f)
end
end Cert.KernelIdeal.Attn
end
-- ==== Proof.Value.lean ====
module

public import proofs.«01_k».proof.Proof.BlockReads
public import proofs.«01_k».proof.Proof.HostRun
public import proofs.«01_k».proof.Proof.Gen.KernelIdeal.Value

@[expose] public section
set_option maxRecDepth 16384
noncomputable section
open Idealize.ShloMosaic Idealize.ShloMosaic.TcCoe Idealize.SL.Sem

/-! What the call writes: the gradient of every query in the second branch. -/
namespace Cert.KernelIdeal.Attn
open Cert.KernelIdeal Cert.KernelIdeal.Gen
open Cert.Rows Cert.Band Cert.Data Cert.Keys Cert.Sums

variable (m : (ℓ : Loc nD τ sig) → Buf (Elt Ideal) ℓ) (c : Dev nD)

/-- One head of one block of queries, from tiles that hold the right rows. -/
theorem head_val (z : Z) (g : G) (r : Fin 4) (B P : Fin 16) (hP : P.val = B.val - 1) (h : Fin 8) (i x : Fin 128)
    (okp okc : IVec S128x128 1) (q g' o kp kc vp vc : FVec Ideal S1x128x128 .bf16) (l : FVec Ideal S1x128x128 .f32)
    (hp : ∀ j, okp (ix2 i j) = BitVec.ofBool (decide (i.val ≤ j.val ∧ 0 < B.val))) (hc : ∀ j, okc (ix2 i j) = BitVec.ofBool (decide (j.val ≤ i.val)))
    (hq : ∀ f, (q (ix3 0 i f) : EReal) = ((qq z h (tok rfl r B i) f : ℝ) : EReal)) (hg : ∀ f, (g' (ix3 0 i f) : EReal) = ((gg g h (tok rfl r B i) f : ℝ) : EReal))
    (ho : ∀ f, (o (ix3 0 i f) : EReal) = ((Oo z h (tok rfl r B i) f : ℝ) : EReal))
    (hl : ∀ f, (l (ix3 0 i f) : EReal) = ((Real.log (Ss z h (tok rfl r B i)) : ℝ) : EReal))
    (hkp : ∀ j f, (kp (ix3 0 j f) : EReal) = ((kk z h (tok rfl r P j) f : ℝ) : EReal)) (hkc : ∀ j f, (kc (ix3 0 j f) : EReal) = ((kk z h (tok rfl r B j) f : ℝ) : EReal))
    (hvp : ∀ j f, (vp (ix3 0 j f) : EReal) = ((vv z h (tok rfl r P j) f : ℝ) : EReal)) (hvc : ∀ j f, (vc (ix3 0 j f) : EReal) = ((vv z h (tok rfl r B j) f : ℝ) : EReal)) :
    (head okp okc q g' o kp kc vp vc l (ix2 i x) : EReal) = ((Dq z g 1 h (tok rfl r B i) x : ℝ) : EReal) := by
  rw [head_at, part_val okp q g' o kp vp l i x _ _ _ _ _ _ _ hp hq hg ho hkp hvp hl, part_val okc q g' o kc vc l i x _ _ _ _ _ _ _ hc hq hg ho hkc hvc hl,
    ← EReal.coe_add]
  exact congrArg _ (dq_blocks z g rfl 1 rfl r B P hP i h x)

/-- The array the call writes. -/
def GQ : S4x2048x1024.Idx → EReal := fun j => ((Dq (zK m c) (gK m c) 1 (headOf (j 2)) (tok4 (j 0) (j 1)) (featOf (j 2)) : ℝ) : EReal)

variable {m c}

/-- A row of a block of the class, as a token. -/
theorem tok_row (r : Fin 4) {a b j : ℕ} (e : a = b * 128 + j) (ha : a < 2048) (hb : b < 16) (hj : j < 128) : tok4 r ⟨a, ha⟩ = tok rfl r (⟨b, hb⟩ : Fin 16) ⟨j, hj⟩ :=
  Fin.ext (by subst e; rfl)

section
variable (hz : Real' (zK m c)) (hg : Real' (gK m c)) (t : Fin cfg0.N) (ht : t.val < 16)
/-- The class of a grid point. -/
abbrev rowClass : Fin 4 := ⟨t.val / 4, by omega⟩
/-- One of the four blocks of a grid point. -/
abbrev own (b : Fin 4) : Fin 16 := ⟨t.val % 4 * 4 + b.val, by omega⟩
/-- The block before a grid point's four blocks. -/
abbrev halo : Fin 16 := ⟨t.val % 4 * 4 - 1, by omega⟩

section
variable (b : Fin 4) (h : Fin 8) (j f : Fin 128)
include hz in
theorem tile_q : (View.ld (iblk m c 0 t) (rq b h) (ix3 0 j f) : EReal) = ((qq (zK m c) h (tok rfl (rowClass t ht) (own t b) j) f : ℝ) : EReal) := by
  refine (ld_rq b h j f _).trans ((blk0 m c t ht _ _).trans ((q_at m c hz _ _ h f (by omega)).trans ?_))
  rw [tok_row (rowClass t ht) (b := (own t b).val) (j := j.val) (by simp only [own]; omega)]
include hz in
theorem tile_k : (View.ld (iblk m c 2 t) (rq b h) (ix3 0 j f) : EReal) = ((kk (zK m c) h (tok rfl (rowClass t ht) (own t b) j) f : ℝ) : EReal) := by
  refine (ld_rq b h j f _).trans ((blk2 m c t ht _ _).trans ((k_at m c hz _ _ h f (by omega)).trans ?_))
  rw [tok_row (rowClass t ht) (b := (own t b).val) (j := j.val) (by simp only [own]; omega)]
include hz in
theorem tile_v : (View.ld (iblk m c 4 t) (rq b h) (ix3 0 j f) : EReal) = ((vv (zK m c) h (tok rfl (rowClass t ht) (own t b) j) f : ℝ) : EReal) := by
  refine (ld_rq b h j f _).trans ((blk4 m c t ht _ _).trans ((v_at m c hz _ _ h f (by omega)).trans ?_))
  rw [tok_row (rowClass t ht) (b := (own t b).val) (j := j.val) (by simp only [own]; omega)]
include hg in
theorem tile_g : (View.ld (iblk m c 5 t) (rq b h) (ix3 0 j f) : EReal) = ((gg (gK m c) h (tok rfl (rowClass t ht) (own t b) j) f : ℝ) : EReal) := by
  refine (ld_rq b h j f _).trans ((blk5 m c t ht _ _).trans ((do_at m c hg _ _ h f (by omega)).trans ?_))
  rw [tok_row (rowClass t ht) (b := (own t b).val) (j := j.val) (by simp only [own]; omega)]
include hz in
theorem tile_o : (View.ld (iblk m c 6 t) (rq b h) (ix3 0 j f) : EReal) = ((Oo (zK m c) h (tok rfl (rowClass t ht) (own t b) j) f : ℝ) : EReal) := by
  refine (ld_rq b h j f _).trans ((blk6 m c t ht _ _).trans ((o_at m c hz _ _ h f (by omega)).trans ?_))
  rw [tok_row (rowClass t ht) (b := (own t b).val) (j := j.val) (by simp only [own]; omega)]
include hz in
theorem tile_l : (View.ld (iblk m c 7 t) (rq b h) (ix3 0 j f) : EReal) = ((Real.log (Ss (zK m c) h (tok rfl (rowClass t ht) (own t b) j)) : ℝ) : EReal) := by
  refine (ld_rq b h j f _).trans ((blk7 m c t ht _ _).trans ((l_at m c hz _ _ h f (by omega)).trans ?_))
  rw [tok_row (rowClass t ht) (b := (own t b).val) (j := j.val) (by simp only [own]; omega)]
end
section
variable (h : Fin 8) (j f : Fin 128)
include hz in
theorem halo_k : (View.ld (iblk m c 1 t) (rh h) (ix3 0 j f) : EReal) = ((kk (zK m c) h (tok rfl (rowClass t ht) (halo t) j) f : ℝ) : EReal) := by
  refine (ld_rh h j f _).trans ((blk1 m c t ht _ _).trans ((k_at m c hz _ _ h f (by omega)).trans ?_))
  rw [tok_row (rowClass t ht) (b := (halo t).val) (j := j.val) rfl]
include hz in
theorem halo_v : (View.ld (iblk m c 3 t) (rh h) (ix3 0 j f) : EReal) = ((vv (zK m c) h (tok rfl (rowClass t ht) (halo t) j) f : ℝ) : EReal) := by
  refine (ld_rh h j f _).trans ((blk3 m c t ht _ _).trans ((v_at m c hz _ _ h f (by omega)).trans ?_))
  rw [tok_row (rowClass t ht) (b := (halo t).val) (j := j.val) rfl]
end

theorem ix_eta (x : S1x128x1024.Idx) : x = ix3 0 (x 1) (x 2) := by
  funext a
  fin_cases a
  · exact Subsingleton.elim (α := Fin 1) _ _
  · rfl
  · rfl

/-- The element of the written array an element of a piece is. -/
theorem same (x : S1x128x1024.Idx) (b : Fin 4) (k : S4x2048x1024.Idx) (h0 : (k 0 : ℕ) = t.val / 4) (h1 : (k 1 : ℕ) = t.val % 4 * 512 + (b.val * 128 + (x 1 : ℕ)))
    (h2 : (k 2 : ℕ) = (x 2 : ℕ)) :
    ((Dq (zK m c) (gK m c) 1 (headOf (x 2)) (tok rfl (rowClass t ht) (own t b) (x 1)) (featOf (x 2)) : ℝ) : EReal) = GQ m c k := by
  have e2 : (k 2 : Fin 1024) = x 2 := Fin.ext h2
  have e0 : (k 0 : Fin 4) = rowClass t ht := Fin.ext h0
  have e1 : tok4 (k 0) (k 1) = tok rfl (rowClass t ht) (own t b) (x 1) := by
    rw [e0]
    exact tok_row (rowClass t ht) (a := (k 1 : ℕ)) (b := (own t b).val) (j := (x 1 : ℕ)) (by simp only [own]; omega) (k 1).isLt (own t b).isLt (x 1).isLt
  unfold GQ
  rw [e1, e2]

variable (i : Fin 128) (x : Fin 1024)
include hz hg ht

theorem first_val : (first (F := Ideal) (grid0.coords t) (iblk m c 0 t) (iblk m c 1 t) (iblk m c 2 t) (iblk m c 3 t) (iblk m c 4 t) (iblk m c 5 t) (iblk m c 6 t) (iblk m c 7 t) (ix3 0 i x) : EReal)
    = ((Dq (zK m c) (gK m c) 1 (headOf x) (tok rfl (rowClass t ht) (own t 0) i) (featOf x) : ℝ) : EReal) := by
  rw [first, beside_at]
  exact head_val (zK m c) (gK m c) (rowClass t ht) (own t 0) (halo t) rfl (headOf x) i (featOf x) _ _ _ _ _ _ _ _ _ _
    (fun j => (at_or_after_next i j _).trans (by rw [(idx t).2.2.2.2.2.2.2.2.2]; congr 2; simp only [own]; simp)) (at_or_before i)
    (tile_q hz t ht 0 _ i) (tile_g hg t ht 0 _ i) (tile_o hz t ht 0 _ i) (tile_l hz t ht 0 _ i)
    (halo_k hz t ht _) (tile_k hz t ht 0 _) (halo_v hz t ht _) (tile_v hz t ht 0 _)

theorem later_val (b : Fin 3) : (later (F := Ideal) (iblk m c 0 t) (iblk m c 2 t) (iblk m c 4 t) (iblk m c 5 t) (iblk m c 6 t) (iblk m c 7 t) b (ix3 0 i x) : EReal)
    = ((Dq (zK m c) (gK m c) 1 (headOf x) (tok rfl (rowClass t ht) (own t b.succ) i) (featOf x) : ℝ) : EReal) := by
  rw [later, beside_at]
  exact head_val (zK m c) (gK m c) (rowClass t ht) (own t b.succ) (own t b.castSucc) (by simp) (headOf x) i (featOf x) _ _ _ _ _ _ _ _ _ _
    (fun j => (at_or_after i j).trans (by congr 2; simp)) (at_or_before i)
    (tile_q hz t ht _ _ i) (tile_g hg t ht _ _ i) (tile_o hz t ht _ _ i) (tile_l hz t ht _ _ i)
    (tile_k hz t ht _ _) (tile_k hz t ht _ _) (tile_v hz t ht _ _) (tile_v hz t ht _ _)

/-- What a grid point writes, at an index of its block. -/
theorem point (y : S1x512x1024.Idx) (k : S4x2048x1024.Idx) (h0 : (k 0 : ℕ) = t.val / 4) (h1 : (k 1 : ℕ) = t.val % 4 * 512 + (y 1 : ℕ)) (h2 : (k 2 : ℕ) = (y 2 : ℕ)) :
    out0_8 (grid0.coords t) (iblk m c 0 t) (iblk m c 1 t) (iblk m c 2 t) (iblk m c 3 t) (iblk m c 4 t) (iblk m c 5 t) (iblk m c 6 t) (iblk m c 7 t) y
      = GQ m c k := by
  rw [out_first]
  canon_tiles x h
  · rw [ix_eta x]
    exact (later_val hz hg t ht _ _ 2).trans (same t ht x 3 k ‹_› (by simp; omega) (by omega))
  · rw [ix_eta x]
    exact (later_val hz hg t ht _ _ 1).trans (same t ht x 2 k ‹_› (by simp; omega) (by omega))
  · rw [ix_eta x]
    exact (later_val hz hg t ht _ _ 0).trans (same t ht x 1 k ‹_› (by simp; omega) (by omega))
  · rw [ix_eta x]
    exact (first_val hz hg t ht _ _).trans (same t ht x 0 k ‹_› (by simp; omega) (by omega))
end

theorem final (hz : Real' (zK m c)) (hg : Real' (gK m c)) : (dats m 0 c).arrAt 8 (cfgs 0).N = GQ m c := by
  refine (dats m 0 c).arrAt_eq_of_covers 8 _ (by decide +kernel) fun t hf y => ?_
  have ht : t.val < 16 := lt_of_lt_of_eq t.isLt N_0
  blk_simp
  rw [after0_8]
  refine point hz hg t ht y _ ?_ ?_ ?_
  all_goals (blk_simp [idx t] <;> try omega)
end Cert.KernelIdeal.Attn
end
-- ==== Proof.Ref.lean ====
module

public import proofs.«01_k».proof.Proof.Data
public import proofs.«01_k».proof.Proof.Reads
public import proofs.«01_k».proof.Proof.Gen.ReferenceIdeal.Run

@[expose] public section
set_option maxRecDepth 16384
noncomputable section
open Idealize.ShloMosaic Idealize.ShloMosaic.TcCoe Idealize.SL.Sem

/-! The reference at an index: each named array of its run, over the real numbers. -/
namespace Cert.ReferenceIdeal.Attn
open Cert.ReferenceIdeal Cert.ReferenceIdeal.Gen Cert.ReferenceIdeal.Value
open Cert.Rows Cert.Band Cert.Data Cert.Reads

/-! ### Each operation at an index, its operands any arrays -/

section
variable (x y : FVec Ideal S3x8x8192x8192 .f32) (m m' : FVec Ideal S3x8x8192x1 .f32) (n w : FVec Ideal S3x8x8192 .f32)
  (top : FVec Ideal S8x8192 .f32) (k v : FVec Ideal S3x8192x8x128 .f32) (o g : FVec Ideal S3x8x8192x128 .f32)
  (t : FVec Ideal S1x8x8192 .f32) (z : FVec Ideal S8192x3072 .f32) (msk : IVec S3x8x8192x8192 1)
variable (b : Fin 3) (h : Fin 8) (i j : Fin 8192) (c : Fin 128)

theorem g63 : (broadcastInDim S3x8x8192x1 ![0, 1, 2] bcast_S3x8x8192_S3x8x8192x1_0_1_2 (Host.reduceAdd x (constant S_ .f32 0x00000000#32) reducesTo_S3x8x8192x8192_S3x8x8192_d3 h_S_)) (ix4 b h i 0) = ∑ j, x (ix4 b h i j) := by
  pointwise

theorem g51_0 : (select msk (mulf (Host.dotGeneral dot_S3x8192x8x128_S3x8192x8x128_S3x8x8192x8192_3_3_1_1_02_02 none (broadcastInDim S3x8192x8x128 ![0, 1, 2, 3] bcast_S1x8192x8x128_S3x8192x8x128_0_1_2_3 (broadcastInDim S1x8192x8x128 ![1, 2, 3] bcast_S8192x8x128_S1x8192x8x128_1_2_3 (shapeCast S8192x8x128 (extractStridedSlice S8192x1024 ![0, 0] z slices_S8192x3072_S8192x1024_0_0) shapeCasts_S8192x1024_S8192x8x128))) k) (broadcastInDim S3x8x8192x8192 ![] bcast_S_S3x8x8192x8192 (constant S_ .f32 0x3DB504F3#32))) (broadcastInDim S3x8x8192x8192 ![] bcast_S_S3x8x8192x8192 (id (constant S_ .f32 0xFF800000#32))) : FVec Ideal S3x8x8192x8192 .f32) (ix4 b h i j)
    = Scalar.select (msk (ix4 b h i j)) ((∑ x : Fin 128, z (ix2 i ⟨h.val * 128 + x.val, by omega⟩) * k (ix4 b j h x)) *
        Ideal.ofBits FTy.f32 0x3DB504F3#32) (Ideal.ofBits .f32 0xFF800000#32) := by
  pointwise
  rfl

theorem g71 : (shapeCast S3x8x8192 (addf (broadcastInDim S3x8x8192x1 ![0, 1, 2] bcast_S3x8x8192_S3x8x8192x1_0_1_2 n) (Host.log m)) shapeCasts_S3x8x8192x1_S3x8x8192) (ix3 b h i)
    = n (ix3 b h i) + Ideal.log (m (ix4 b h i 0)) := by
  rw [drop_last]
  pointwise

theorem g72 : (Host.dotGeneral dot_S3x8x8192x8192_S3x8192x8x128_S3x8x8192x128_3_1_2_3_01_02 none (Host.divf x (broadcastInDim S3x8x8192x8192 ![0, 1, 2, 3] bcast_S3x8x8192x1_S3x8x8192x8192_0_1_2_3 m)) v : FVec Ideal S3x8x8192x128 .f32) (ix4 b h i c)
    = ∑ j, Ideal.div (x (ix4 b h i j)) (m (ix4 b h i 0)) * v (ix4 b j h c) := by
  pointwise

theorem g93 : (Host.exp (subf n (broadcastInDim S3x8x8192 ![0, 1, 2] bcast_S1x8x8192_S3x8x8192_0_1_2 (broadcastInDim S1x8x8192 ![1, 2] bcast_S8x8192_S1x8x8192_1_2 (maximumf (broadcastInDim S8x8192 ![] bcast_S_S8x8192 (constant S_ .f32 0xFF800000#32)) top))))) (ix3 b h i)
    = Ideal.exp (n (ix3 b h i) - max (Ideal.ofBits FTy.f32 4286578688#32) (top (ix2 h i))) := by
  pointwise

theorem g95 : (broadcastInDim S1x8x8192 ![1, 2] bcast_S8x8192_S1x8x8192_1_2 (Host.reduceAdd n (constant S_ .f32 0x00000000#32) reducesTo_S3x8x8192_S8x8192_d0 h_S_)) (ix3 0 h i)
    = ∑ b, n (ix3 b h i) := by
  pointwise

theorem g101 : (broadcastInDim S3x8x8192x1 ![0, 1, 2] bcast_S3x8x8192_S3x8x8192x1_0_1_2 (Host.divf n (broadcastInDim S3x8x8192 ![0, 1, 2] bcast_S1x8x8192_S3x8x8192_0_1_2 t))) (ix4 b h i 0)
    = Ideal.div (n (ix3 b h i)) (t (ix3 0 h i)) := by
  pointwise

theorem g115 : (Host.reduceAdd (shapeCast S3x8x8192x1 (Host.reduceAdd (mulf g o) (constant S_ .f32 0x00000000#32) reducesTo_S3x8x8192x128_S3x8x8192_d3 h_S_) shapeCasts_S3x8x8192_S3x8x8192x1) (constant S_ .f32 0x00000000#32) reducesTo_S3x8x8192x1_S3x8x8192_d3 h_S_) (ix3 b h i)
    = ∑ _u : Fin 1, ∑ c, g (ix4 b h i c) * o (ix4 b h i c) := by
  pointwise

theorem g128 : (Host.dotGeneral dot_S3x8x8192x128_S3x8192x8x128_S3x8x8192x8192_3_3_2_1_01_02 none (mulf (broadcastInDim S3x8x8192x128 ![0, 1, 2, 3] bcast_S3x8x8192x1_S3x8x8192x128_0_1_2_3 m) g) v : FVec Ideal S3x8x8192x8192 .f32) (ix4 b h i j)
    = ∑ c, m (ix4 b h i 0) * g (ix4 b h i c) * v (ix4 b j h c) := by
  pointwise

theorem g129 : (broadcastInDim S3x8x8192x1 ![0, 1, 2] bcast_S3x8x8192_S3x8x8192x1_0_1_2 (mulf (addf (Host.divf n (broadcastInDim S3x8x8192 ![0, 1, 2] bcast_S1x8x8192_S3x8x8192_0_1_2 t)) (broadcastInDim S3x8x8192 ![1, 2] bcast_S8x8192_S3x8x8192_1_2 (Host.reduceAdd (Host.negf (shapeCast S1x8x8192 (Host.reduceAdd (mulf (mulf n (broadcastInDim S3x8x8192 ![0, 1, 2] bcast_S1x8x8192_S3x8x8192_0_1_2 (Host.divf (broadcastInDim S1x8x8192 ![] bcast_S_S1x8x8192 (constant S_ .f32 0x3F800000#32)) (mulf t t)))) w) (constant S_ .f32 0x00000000#32) reducesTo_S3x8x8192_S8x8192_d0 h_S_) shapeCasts_S8x8192_S1x8x8192)) (constant S_ .f32 0x00000000#32) reducesTo_S1x8x8192_S8x8192_d0 h_S_))) w)) (ix4 b h i 0)
    = (Ideal.div (n (ix3 b h i)) (t (ix3 0 h i)) +
        ∑ _u : Fin 1, -∑ a, n (ix3 a h i) * Ideal.div 1 (t (ix3 0 h i) * t (ix3 0 h i)) * w (ix3 a h i)) * w (ix3 b h i) := by
  pointwise

theorem g143 : (mulf (addf (Host.divf x (broadcastInDim S3x8x8192x8192 ![0, 1, 2, 3] bcast_S3x8x8192x1_S3x8x8192x8192_0_1_2_3 m)) (broadcastInDim S3x8x8192x8192 ![0, 1, 2] bcast_S3x8x8192_S3x8x8192x8192_0_1_2 (Host.reduceAdd (addf (Host.divf m' m) (Host.negf (shapeCast S3x8x8192x1 (Host.reduceAdd (mulf (mulf x (broadcastInDim S3x8x8192x8192 ![0, 1, 2, 3] bcast_S3x8x8192x1_S3x8x8192x8192_0_1_2_3 (Host.divf (broadcastInDim S3x8x8192x1 ![] bcast_S_S3x8x8192x1 (constant S_ .f32 0x3F800000#32)) (mulf m m)))) y) (constant S_ .f32 0x00000000#32) reducesTo_S3x8x8192x8192_S3x8x8192_d3 h_S_) shapeCasts_S3x8x8192_S3x8x8192x1))) (constant S_ .f32 0x00000000#32) reducesTo_S3x8x8192x1_S3x8x8192_d3 h_S_))) y) (ix4 b h i j)
    = (Ideal.div (x (ix4 b h i j)) (m (ix4 b h i 0)) + ∑ u : Fin 1, (Ideal.div (m' (ix4 b h i u)) (m (ix4 b h i u))
        + -∑ j', x (ix4 b h i j') * Ideal.div 1 (m (ix4 b h i 0) * m (ix4 b h i 0)) * y (ix4 b h i j'))) * y (ix4 b h i j) := by
  pointwise

/-- The gradient of the scores before the scale: what reaches a score the mask lets through. -/
theorem g152 (cnt : FVec Ideal S3x8x8192x8192 .f32) : (mulf (select msk (addf x (mulf (broadcastInDim S3x8x8192x8192 ![0, 1, 2] bcast_S3x8x8192_S3x8x8192x8192_0_1_2 (Host.divf (Host.reduceAdd (addf m (shapeCast S3x8x8192x1 (Host.reduceAdd (Host.negf x) (constant S_ .f32 0x00000000#32) reducesTo_S3x8x8192x8192_S3x8x8192_d3 h_S_) shapeCasts_S3x8x8192_S3x8x8192x1)) (constant S_ .f32 0x00000000#32) reducesTo_S3x8x8192x1_S3x8x8192_d3 h_S_) (Host.reduceAdd cnt (constant S_ .f32 0x00000000#32) reducesTo_S3x8x8192x8192_S3x8x8192_d3 h_S_))) cnt)) (broadcastInDim S3x8x8192x8192 ![] bcast_S_S3x8x8192x8192 (constant S_ .f32 0x00000000#32))) (broadcastInDim S3x8x8192x8192 ![] bcast_S_S3x8x8192x8192 (constant S_ .f32 0x3DB504F3#32))) (ix4 b h i j)
    = Scalar.select (msk (ix4 b h i j)) (x (ix4 b h i j) + Ideal.div (∑ u : Fin 1, (m (ix4 b h i u) + ∑ j', -x (ix4 b h i j')))
        (∑ j', cnt (ix4 b h i j')) * cnt (ix4 b h i j)) 0 * Ideal.ofBits FTy.f32 0x3DB504F3#32 := by
  pointwise

theorem g56 : (uitofp .f32 (cmpf .oeq x (broadcastInDim S3x8x8192x8192 ![0, 1, 2, 3] bcast_S3x8x8192x1_S3x8x8192x8192_0_1_2_3 (shapeCast S3x8x8192x1 n shapeCasts_S3x8x8192_S3x8x8192x1))) : FVec Ideal S3x8x8192x8192 .f32) (ix4 b h i j)
    = (if x (ix4 b h i j) = n (ix3 b h i) then (1 : EReal) else 0) := by
  pointwise
  by_cases e : x (ix4 b h i j) = n (ix3 b h i)
  · rw [decide_eq_true e, if_pos e]; simp [FloatOps.uitofp]
  · rw [decide_eq_false e, if_neg e]; simp [FloatOps.uitofp]
end

/-! ### The named arrays -/

section
variable (V0 : Valuation τ sig (Elt Ideal))
variable (b : Fin 3) (h : Fin 8) (i j : Fin 8192) (c : Fin 128)

/-- The projections the reference is launched with. -/
abbrev zz0 : Z := V0 (Proc.devRef .tc main_arg0)
/-- The gradient of the output it is launched with. -/
abbrev gg0 : G := V0 (Proc.devRef .tc main_arg1)

theorem r10' : (res_main_v10 V0 (ix4 b j h c) : EReal) = zz0 V0 (ix2 j ⟨1024 + (h.val * 128 + c.val), by omega⟩) := by
  pointwise [res_main_v10, res_main_v0]
theorem r12' : (res_main_v12 V0 (ix4 b j h c) : EReal) = zz0 V0 (ix2 j ⟨2048 + (h.val * 128 + c.val), by omega⟩) := by
  pointwise [res_main_v12, res_main_v0]
theorem r109' : (res_main_v109 V0 (ix4 b h i c) : EReal) = gg0 V0 (ix2 i ⟨h.val * 128 + c.val, by omega⟩) := by
  pointwise [res_main_v109]
theorem r0' : (res_main_v0 V0 (ix2 i ⟨h.val * 128 + c.val, by omega⟩) : EReal) = zz0 V0 (ix2 i ⟨h.val * 128 + c.val, by omega⟩) := by
  pointwise [res_main_v0]

theorem r18 : (res_main_v18 V0 (ix2 i j) : BitVec 32) = IntOp.subi (BitVec.ofNat 32 ↑i) (BitVec.ofNat 32 ↑j) := by
  pointwise [res_main_v18]
theorem rc0_2 : (res_main_call0_v2 V0 ix0 : BitVec 32) = 1#32 := rfl
theorem rc1_2 : (res_main_call1_v2 V0 ix0 : BitVec 32) = 4#32 := rfl
theorem rc2_2 : (res_main_call2_v2 V0 ix0 : BitVec 32) = 16#32 := rfl
theorem rc0_4 : (res_main_call0_v4 V0 (ix2 i j) : BitVec 32) = IntOp.remsi ArithUnit.host (res_main_v18 V0 (ix2 i j)) (res_main_call0_v2 V0 ix0) := by
  pointwise [res_main_call0_v4]
theorem rc1_4 : (res_main_call1_v4 V0 (ix2 i j) : BitVec 32) = IntOp.remsi ArithUnit.host (res_main_v18 V0 (ix2 i j)) (res_main_call1_v2 V0 ix0) := by
  pointwise [res_main_call1_v4]
theorem rc2_4 : (res_main_call2_v4 V0 (ix2 i j) : BitVec 32) = IntOp.remsi ArithUnit.host (res_main_v18 V0 (ix2 i j)) (res_main_call2_v2 V0 ix0) := by
  pointwise [res_main_call2_v4]

theorem r51_1 : (res_main_v51_1 V0 (ix4 b h i j) : BitVec 1) = BitVec.ofBool (decide (Sees b i j)) := by
  pointwise [res_main_v51_1]
  by_cases h0 : b.val < 1
  · rw [dif_pos h0, mask_word i j 1 128 _ _ (by rw [rc0_2]; decide) (by decide) (by decide) _ _ (r18 V0 i j) (rc0_4 V0 i j)]
    have : b = 0 := Fin.ext (by omega)
    subst this
    rfl
  · rw [dif_neg h0]
    by_cases h1 : b.val - 1 < 1
    · rw [dif_pos h1, mask_word i j 4 512 _ _ (by rw [rc1_2]; decide) (by decide) (by decide) _ _ (r18 V0 i j) (rc1_4 V0 i j)]
      have : b = 1 := Fin.ext (by simp; omega)
      subst this
      rfl
    · rw [dif_neg h1, mask_word i j 16 2048 _ _ (by rw [rc2_2]; decide) (by decide) (by decide) _ _ (r18 V0 i j) (rc2_4 V0 i j)]
      have : b = 2 := Fin.ext (by simp; omega)
      subst this
      rfl

variable {V0} (hz : Real' (zz0 V0)) (hg : Real' (gg0 V0))
include hz

theorem r10 : (res_main_v10 V0 (ix4 b j h c) : EReal) = ((kk (zz0 V0) h j c : ℝ) : EReal) := (r10' V0 b h j c).trans (kk_coe hz h j c _)
theorem r12 : (res_main_v12 V0 (ix4 b j h c) : EReal) = ((vv (zz0 V0) h j c : ℝ) : EReal) := (r12' V0 b h j c).trans (vv_coe hz h j c _)
theorem r0 : (res_main_v0 V0 (ix2 i ⟨h.val * 128 + c.val, by omega⟩) : EReal) = ((qq (zz0 V0) h i c : ℝ) : EReal) := (r0' V0 h i c).trans (qq_coe hz h i c _)

theorem r51_0 : (res_main_v51_0 V0 (ix4 b h i j) : EReal) = if Sees b i j then ((sc (zz0 V0) h i j : ℝ) : EReal) else ⊥ := by
  refine (g51_0 (res_main_v10 V0) (res_main_v0 V0) (res_main_v51_1 V0) b h i j).trans ?_
  rw [r51_1, select_ofBool, ofBits_bot, ofBits_scale]
  simp only [r0 h i _ hz, r10 b h j _ hz]
  simp only [← EReal.coe_mul, ← coe_sum]
  rfl

/-- The row maximum is a real number that some score attains. -/
theorem r52_real : ∃ r : ℝ, (res_main_v52 V0 (ix3 b h i) : EReal) = (r : EReal) ∧ ∃ j, (res_main_v51_0 V0 (ix4 b h i j) : EReal) = (r : EReal) := by
  refine max_last (res_main_v51_0 V0) h_S_ reducesTo_S3x8x8192x8192_S3x8x8192_d3 b h i (fun j => ?_) i ?_
  · rw [r51_0 b h i j hz]
    split
    · exact EReal.coe_ne_top _
    · exact bot_ne_top
  · rw [r51_0 b h i i hz, if_pos (sees_self b i)]
    exact EReal.coe_ne_bot _

/-- The row maximum as a real number. -/
def mx (V0 : Valuation τ sig (Elt Ideal)) (b : Fin 3) (h : Fin 8) (i : Fin 8192) : ℝ := (res_main_v52 V0 (ix3 b h i) : EReal).toReal

theorem r52 : (res_main_v52 V0 (ix3 b h i) : EReal) = ((mx V0 b h i : ℝ) : EReal) := by
  obtain ⟨r, h1, -⟩ := r52_real b h i hz
  rw [mx, h1, EReal.toReal_coe]

theorem r61 : (res_main_v61 V0 (ix4 b h i j) : EReal) = ((Ee (zz0 V0) b h i j * Real.exp (-(mx V0 b h i)) : ℝ) : EReal) := by
  pointwise [res_main_v61, res_main_v58]
  rw [r51_0 b h i j hz, r52 b h i hz, exp_shift (M := fun b j => Sees b i j)]

theorem r63 : (res_main_v63 V0 (ix4 b h i 0) : EReal) = ((Zz (zz0 V0) b h i * Real.exp (-(mx V0 b h i)) : ℝ) : EReal) := by
  refine (g63 (res_main_v61 V0) b h i).trans ?_
  simp only [r61 b h i _ hz]
  exact sum_shift (M := fun b j => Sees b i j) _ b

theorem r71 : (res_main_v71 V0 (ix3 b h i) : EReal) = ((Real.log (Zz (zz0 V0) b h i) : ℝ) : EReal) := by
  refine (g71 (res_main_v63 V0) (res_main_v52 V0) b h i).trans ?_
  rw [r52 b h i hz, r63 b h i hz, log_shift _ (Zz_pos _ b h i)]

theorem r72 : (res_main_v72 V0 (ix4 b h i c) : EReal)
    = ((ob (fun b j => Sees b i j) (sc (zz0 V0) h i) (vv (zz0 V0) h) b c : ℝ) : EReal) := by
  refine (g72 (res_main_v61 V0) (res_main_v63 V0) (res_main_v12 V0) b h i c).trans ?_
  simp only [r61 b h i _ hz, r63 b h i hz, r12 b h _ c hz, div_shift _ (Zz_pos (zz0 V0) b h i).ne', ← EReal.coe_mul, ← coe_sum]
  rfl

/-- The largest log-sum of the branches as a real number. -/
def tp (V0 : Valuation τ sig (Elt Ideal)) (h : Fin 8) (i : Fin 8192) : ℝ := (res_main_v73 V0 (ix2 h i) : EReal).toReal

theorem r73 : (res_main_v73 V0 (ix2 h i) : EReal) = ((tp V0 h i : ℝ) : EReal) := by
  obtain ⟨r, h1⟩ := max_first (res_main_v71 V0) h_S_ reducesTo_S3x8x8192_S8x8192_d0 h i 0 fun a => ⟨_, r71 a h i hz⟩
  have h2 : (res_main_v73 V0 (ix2 h i) : EReal) = (r : EReal) := h1
  rw [tp, h2, EReal.toReal_coe]

theorem r93 : (res_main_v93 V0 (ix3 b h i) : EReal) = ((Zz (zz0 V0) b h i * Real.exp (-(tp V0 h i)) : ℝ) : EReal) := by
  refine (g93 (res_main_v71 V0) (res_main_v73 V0) b h i).trans ?_
  rw [r71 b h i hz, r73 h i hz, ofBits_bot, max_eq_right bot_le, exp_log_shift _ (Zz_pos _ b h i)]

theorem r95 : (res_main_v95 V0 (ix3 0 h i) : EReal) = ((Ss (zz0 V0) h i * Real.exp (-(tp V0 h i)) : ℝ) : EReal) := by
  refine (g95 (res_main_v93 V0) h i).trans ?_
  simp only [r93 _ h i hz]
  exact sum_branch_shift (M := fun b j => Sees b i j) _

theorem r101 : (res_main_v101 V0 (ix4 b h i 0) : EReal) = ((Zz (zz0 V0) b h i / Ss (zz0 V0) h i : ℝ) : EReal) := by
  refine (g101 (res_main_v93 V0) (res_main_v95 V0) b h i).trans ?_
  rw [r93 b h i hz, r95 h i hz, div_shift _ (Ss_pos _ h i).ne']

/-- The indicator of the row maximum: its sum along the row is a real number that is not zero. -/
theorem r56 : ∃ f : Fin 8192 → ℝ, (∀ j, (res_main_v56 V0 (ix4 b h i j) : EReal) = ((f j : ℝ) : EReal)) ∧ (∑ j, f j) ≠ 0 := by
  obtain ⟨r, h1, j₀, h2⟩ := r52_real b h i hz
  refine ⟨fun j => if (res_main_v51_0 V0 (ix4 b h i j) : EReal) = res_main_v52 V0 (ix3 b h i) then 1 else 0, fun j => ?_, ?_⟩
  · refine (g56 (res_main_v51_0 V0) (res_main_v52 V0) b h i j).trans ?_
    by_cases e : (res_main_v51_0 V0 (ix4 b h i j) : EReal) = res_main_v52 V0 (ix3 b h i)
    · simp only [if_pos e, EReal.coe_one]
    · simp only [if_neg e, EReal.coe_zero]
  · refine (Finset.sum_pos' (fun j _ => ?_) ⟨j₀, Finset.mem_univ _, ?_⟩).ne'
    · split <;> norm_num
    · rw [if_pos (h2.trans h1.symm)]; exact one_pos

include hg

omit hz in
theorem r109 : (res_main_v109 V0 (ix4 b h i c) : EReal) = ((gg (gg0 V0) h i c : ℝ) : EReal) := (r109' V0 b h i c).trans (gg_coe hg h i c _)

theorem r115 : (res_main_v115 V0 (ix3 b h i) : EReal)
    = ((dd (fun b j => Sees b i j) (sc (zz0 V0) h i) (vv (zz0 V0) h) (gg (gg0 V0) h i) b : ℝ) : EReal) := by
  refine (g115 (res_main_v72 V0) (res_main_v109 V0) b h i).trans ?_
  simp only [r72 b h i _ hz, r109 b h i _ hg, ← EReal.coe_mul, ← coe_sum, Finset.univ_unique, Finset.sum_singleton]
  rfl

theorem r128 : (res_main_v128 V0 (ix4 b h i j) : EReal)
    = ((Zz (zz0 V0) b h i / Ss (zz0 V0) h i * Dp (zz0 V0) (gg0 V0) h i j : ℝ) : EReal) := by
  refine (g128 (res_main_v101 V0) (res_main_v12 V0) (res_main_v109 V0) b h i j).trans ?_
  simp only [r101 b h i hz, r109 b h i _ hg, r12 b h j _ hz, ← EReal.coe_mul, ← coe_sum]
  congr 1
  unfold Dp dp
  rw [Finset.mul_sum]
  exact Finset.sum_congr rfl fun c _ => by ring

theorem r129 : (res_main_v129 V0 (ix4 b h i 0) : EReal)
    = ((Zz (zz0 V0) b h i / Ss (zz0 V0) h i * (dd (fun b j => Sees b i j) (sc (zz0 V0) h i) (vv (zz0 V0) h) (gg (gg0 V0) h i) b
        - Delta (zz0 V0) (gg0 V0) h i) : ℝ) : EReal) := by
  refine (g129 (res_main_v115 V0) (res_main_v93 V0) (res_main_v95 V0) b h i).trans ?_
  have hs := shift_ne (Ss_pos (zz0 V0) h i) (tp V0 h i)
  simp only [r115 _ h i hz hg, r93 _ h i hz, r95 h i hz, div_real _ hs, ← EReal.coe_mul, ← EReal.coe_one, div_real _ (mul_ne_zero hs hs),
    ← coe_sum, ← EReal.coe_neg, ← EReal.coe_add, Finset.univ_unique, Finset.sum_singleton]
  congr 1
  exact dlse b (tp V0 h i) (Ss_pos _ h i)

theorem r143 : (res_main_v143 V0 (ix4 b h i j) : EReal) = ((Ds (zz0 V0) (gg0 V0) b h i j : ℝ) : EReal) := by
  refine (g143 (res_main_v128 V0) (res_main_v61 V0) (res_main_v63 V0) (res_main_v129 V0) b h i j).trans ?_
  have hs := shift_ne (Zz_pos (zz0 V0) b h i) (mx V0 b h i)
  simp only [Finset.univ_unique, Finset.sum_singleton]
  have h0 : (default : Fin 1) = 0 := rfl
  simp only [h0, r128 b h i _ hz hg, r129 b h i hz hg, r61 b h i _ hz, r63 b h i hz, div_real _ hs, ← EReal.coe_mul, ← EReal.coe_one,
    div_real _ (mul_ne_zero hs hs), ← coe_sum, ← EReal.coe_neg, ← EReal.coe_add]
  congr 1
  exact dscore b j (mx V0 b h i) (Zz_pos _ b h i)

/-- The gradient of the scores of one branch, scaled: the reference's last array before its products. -/
theorem r152 : ((mulf (select (res_main_v51_1 V0) (addf (res_main_v143 V0) (mulf (broadcastInDim S3x8x8192x8192 ![0, 1, 2] bcast_S3x8x8192_S3x8x8192x8192_0_1_2 (Host.divf (Host.reduceAdd (addf (res_main_v129 V0) (shapeCast S3x8x8192x1 (Host.reduceAdd (Host.negf (res_main_v143 V0)) (constant S_ .f32 0x00000000#32) reducesTo_S3x8x8192x8192_S3x8x8192_d3 h_S_) shapeCasts_S3x8x8192_S3x8x8192x1)) (constant S_ .f32 0x00000000#32) reducesTo_S3x8x8192x1_S3x8x8192_d3 h_S_) (Host.reduceAdd (res_main_v56 V0) (constant S_ .f32 0x00000000#32) reducesTo_S3x8x8192x8192_S3x8x8192_d3 h_S_))) (res_main_v56 V0))) (broadcastInDim S3x8x8192x8192 ![] bcast_S_S3x8x8192x8192 (constant S_ .f32 0x00000000#32))) (broadcastInDim S3x8x8192x8192 ![] bcast_S_S3x8x8192x8192 (constant S_ .f32 0x3DB504F3#32)) : FVec Ideal S3x8x8192x8192 .f32) (ix4 b h i j) : EReal)
    = ((Ds (zz0 V0) (gg0 V0) b h i j * scale : ℝ) : EReal) := by
  refine (g152 (res_main_v143 V0) (res_main_v129 V0) (res_main_v51_1 V0) b h i j (res_main_v56 V0)).trans ?_
  obtain ⟨f, hf, hf0⟩ := r56 b h i hz
  have h0 : (default : Fin 1) = 0 := rfl
  simp only [Finset.univ_unique, Finset.sum_singleton]
  simp only [h0, r143 b h i _ hz hg, r129 b h i hz hg, hf, ← coe_sum, ← EReal.coe_neg, ← EReal.coe_add, dmax b (Zz_pos (zz0 V0) b h i)]
  rw [div_real _ hf0, zero_div, EReal.coe_zero, zero_mul, add_zero, r51_1, select_ofBool, ofBits_scale]
  by_cases hs : Sees b i j
  · rw [if_pos hs, ← EReal.coe_mul]
  · rw [if_neg hs, zero_mul]
    have : Ds (zz0 V0) (gg0 V0) b h i j = 0 := by
      rw [Ds, ds, ee, if_neg hs, _root_.zero_div, zero_mul]
    rw [this, zero_mul, EReal.coe_zero]
end
end Cert.ReferenceIdeal.Attn
end
-- ==== Proof.RefOut.lean ====
module

public import proofs.«01_k».proof.Proof.Ref

@[expose] public section
set_option maxRecDepth 16384
noncomputable section
open Idealize.ShloMosaic Idealize.ShloMosaic.TcCoe Idealize.SL.Sem

/-! The reference's result: the second branch's gradient of the queries, class by class. -/
namespace Cert.ReferenceIdeal.Attn
open Cert.ReferenceIdeal Cert.ReferenceIdeal.Gen Cert.ReferenceIdeal.Value
open Cert.Rows Cert.Band Cert.Data

/-- The product with the keys and the change of layout, at an index. -/
theorem g162 (y : FVec Ideal S3x8x8192x8192 .f32) (k : FVec Ideal S3x8192x8x128 .f32) (r : Fin 4) (m : Fin 2048) (c : Fin 1024) :
    (truncf .bf16 (transpose S4x2048x1024 [1, 0, 2] (shapeCast S2048x4x1024 (shapeCast S8192x8x128 (extractStridedSlice S1x8192x8x128 ![1, 0, 0, 0] (transpose S3x8192x8x128 [0, 2, 1, 3] (Host.dotGeneral dot_S3x8x8192x8192_S3x8192x8x128_S3x8x8192x128_3_1_2_3_01_02 none y k : FVec Ideal S3x8x8192x128 .f32) transposes_S3x8x8192x128_S3x8192x8x128_0_2_1_3) slices_S3x8192x8x128_S1x8192x8x128_1_0_0_0) shapeCasts_S1x8192x8x128_S8192x8x128) shapeCasts_S8192x8x128_S2048x4x1024) transposes_S2048x4x1024_S4x2048x1024_1_0_2) bitsLt_bf16_f32 : FVec Ideal S4x2048x1024 .bf16) (ix3 r m c)
    = ∑ j, y (ix4 1 (headOf c) (tok4 r m) j) * k (ix4 1 j (headOf c) (featOf c)) := by
  pointwise
  rfl

variable {V0 : Valuation τ sig (Elt Ideal)}

theorem r162 (hz : Real' (zz0 V0)) (hg : Real' (gg0 V0)) (r : Fin 4) (m : Fin 2048) (c : Fin 1024) :
    (truncf .bf16 (transpose S4x2048x1024 [1, 0, 2] (shapeCast S2048x4x1024 (shapeCast S8192x8x128 (extractStridedSlice S1x8192x8x128 ![1, 0, 0, 0] (transpose S3x8192x8x128 [0, 2, 1, 3] (Host.dotGeneral dot_S3x8x8192x8192_S3x8192x8x128_S3x8x8192x128_3_1_2_3_01_02 none (φ₂ := .f32) (mulf (select (res_main_v51_1 V0) (addf (res_main_v143 V0) (mulf (broadcastInDim S3x8x8192x8192 ![0, 1, 2] bcast_S3x8x8192_S3x8x8192x8192_0_1_2 (Host.divf (Host.reduceAdd (addf (res_main_v129 V0) (shapeCast S3x8x8192x1 (Host.reduceAdd (Host.negf (res_main_v143 V0)) (constant S_ .f32 0x00000000#32) reducesTo_S3x8x8192x8192_S3x8x8192_d3 h_S_) shapeCasts_S3x8x8192_S3x8x8192x1)) (constant S_ .f32 0x00000000#32) reducesTo_S3x8x8192x1_S3x8x8192_d3 h_S_) (Host.reduceAdd (res_main_v56 V0) (constant S_ .f32 0x00000000#32) reducesTo_S3x8x8192x8192_S3x8x8192_d3 h_S_))) (res_main_v56 V0))) (broadcastInDim S3x8x8192x8192 ![] bcast_S_S3x8x8192x8192 (constant S_ .f32 0x00000000#32))) (broadcastInDim S3x8x8192x8192 ![] bcast_S_S3x8x8192x8192 (constant S_ .f32 0x3DB504F3#32))) (res_main_v10 V0)) transposes_S3x8x8192x128_S3x8192x8x128_0_2_1_3) slices_S3x8192x8x128_S1x8192x8x128_1_0_0_0) shapeCasts_S1x8192x8x128_S8192x8x128) shapeCasts_S8192x8x128_S2048x4x1024) transposes_S2048x4x1024_S4x2048x1024_1_0_2) bitsLt_bf16_f32 : FVec Ideal S4x2048x1024 .bf16) (ix3 r m c)
    = ((Dq (zz0 V0) (gg0 V0) 1 (headOf c) (tok4 r m) (featOf c) : ℝ) : EReal) := by
  refine (g162 _ (res_main_v10 V0) r m c).trans ?_
  rw [Dq, coe_sum]
  refine Finset.sum_congr rfl fun j _ => ?_
  rw [EReal.coe_mul]
  exact congrArg₂ (· * ·) (r152 1 (headOf c) (tok4 r m) j hz hg) (r10 1 (headOf c) j (featOf c) hz)

end Cert.ReferenceIdeal.Attn
end
-- ==== Proof.Finite.lean ====
module

public import proofs.«01_k».proof.Proof.Data
public import proofs.«01_k».proof.Proof.Gen.Pre_finite
public import Idealize.ShloMosaic.Lib.ReduceAll
public import Idealize.ShloMosaic.Lib.Affine
public import Idealize.ShloMosaic.Lib.Pointwise

@[expose] public section
set_option maxRecDepth 16384
noncomputable section
open Idealize.ShloMosaic

/-! The precondition: every element of both arguments is a real number. -/
namespace Cert.Finite
open Cert.Data Cert.Pre_finite

/-- An element whose absolute value is below infinity is a real number. -/
theorem real_of_lt (s : Shape) (w : s.Idx → EReal) (hb : (⟨0, ![]⟩ : Shape).BroadcastsInDim s (![] : Fin 0 → Fin s.rank)) (i : s.Idx)
    (h : cmpf .olt (Host.absf (F := Ideal) (φ := .f32) w) (broadcastInDim s ![] hb (constant ⟨0, ![]⟩ .f32 0x7F800000#32)) i = 1#1) : w i ≠ ⊤ ∧ w i ≠ ⊥ := by
  have e : Ideal.ofBits .f32 0x7F800000#32 = ⊤ := by simp only [Ideal.ofBits, Ideal.ieee]; simp
  have h' : BitVec.ofBool (decide (max (w i) (-(w i)) < Ideal.ofBits .f32 0x7F800000#32)) = 1#1 := h
  rw [e] at h'
  have q : max (w i) (-(w i)) < ⊤ := by
    by_contra n
    rw [decide_eq_false n] at h'
    exact absurd h' (by decide)
  refine ⟨fun k => ?_, fun k => ?_⟩ <;> rw [k] at q <;> simp at q

instance : Subsingleton S_.Idx := ⟨fun a b => funext fun k => k.elim0⟩

theorem all_real (z : Z) (g : G) (h : Cert.Pre_finite.fn (F := Ideal) z g = fun _ => 1#1) : Real' z ∧ Real' g := by
  have h := congrFun h (Shape.Idx.first (by decide))
  dsimp only [fn] at h
  obtain ⟨a, b⟩ := IntOp.andi_eq_one.1 h
  exact ⟨fun i => real_of_lt _ z _ i (Host.reduce_andi_all _ _ _ _ _ a i), fun i => real_of_lt _ g _ i (Host.reduce_andi_all _ _ _ _ _ b i)⟩
end Cert.Finite
end
-- ==== Proof.FfnIn.lean ====
/- The gradient of the feed-forward part in its input: what the call's blocks hold after both products have been summed, and the reference. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Val

open Idealize.ShloMosaic Idealize.ShloMosaic.TcCoe Idealize.SL.Sem
open Cert.Kernel2Ideal.Gen

/-- The accumulator is filled with zeros. -/
theorem hzero (j : S1024x1024.Idx) : k0_pay1 (F := Ideal) j = 0 := by pointwise [k0_pay1]

/-- The product of two blocks, contracted over 1408 columns of the first. -/
def part (a : FVec Ideal S1024x1408 .bf16) (b : FVec Ideal S1408x1024 .bf16) : FVec Ideal S1024x1024 .f32 :=
  fun j => ∑ k : Fin 1408, a (ix2 (j 0) k) * b (ix2 k (j 1))

theorem hpay (acc : FVec Ideal S1024x1024 .f32) (a : FVec Ideal S1024x1408 .bf16) (b : FVec Ideal S1408x1024 .bf16) (j : S1024x1024.Idx) :
    k0_pay2 (F := Ideal) acc a b j = acc j + part a b j := by
  unfold part
  pointwise [k0_pay2]

theorem hpay' (acc : FVec Ideal S1024x1024 .f32) (a : FVec Ideal S1024x1408 .bf16) (b : FVec Ideal S1408x1024 .bf16) (j : S1024x1024.Idx) :
    k0_pay3 (F := Ideal) acc a b j = acc j + part a b j := by
  unfold part
  pointwise [k0_pay3]

/-- The accumulator is written out as it is: over the reals the cast is the identity. -/
theorem hcast (acc : FVec Ideal S1024x1024 .f32) (j : S1024x1024.Idx) : k0_pay4 (F := Ideal) acc j = acc j := by pointwise [k0_pay4]

theorem idx : ∀ t : Fin cfg0.N, win0_0.index t = ![t.val / 8, t.val % 4] ∧ win0_1.index t = ![t.val % 4, t.val / 4 % 2]
    ∧ win0_2.index t = ![t.val / 8, t.val % 4] ∧ win0_3.index t = ![t.val % 4, t.val / 4 % 2] ∧ win0_4.index t = ![t.val / 8, t.val / 4 % 2] :=
  (by decide +kernel : ∀ t : Fin grid0.N, _)

/-- The two blocks' products of one step. -/
def step (a : FVec Ideal S1024x1408 .bf16) (b : FVec Ideal S1408x1024 .bf16) (a' : FVec Ideal S1024x1408 .bf16) (b' : FVec Ideal S1408x1024 .bf16) :
    FVec Ideal S1024x1024 .f32 :=
  fun j => part a b j + part a' b' j

/-- The product of an array with a transposed weight. -/
def NT (a : FVec Ideal S8192x5632 .bf16) (w : FVec Ideal S2048x5632 .f32) : FVec Ideal S8192x2048 .bf16 :=
  fun i => ∑ l : Fin 5632, a (ix2 (i 0) l) * w (ix2 (i 1) l)

/-- The sum of the two products. -/
def NT2 (a : FVec Ideal S8192x5632 .bf16) (w : FVec Ideal S2048x5632 .f32) (a' : FVec Ideal S8192x5632 .bf16) (w' : FVec Ideal S2048x5632 .f32) :
    FVec Ideal S8192x2048 .bf16 :=
  fun i => NT a w i + NT a' w' i

variable (m : (ℓ : Loc nD τ sig) → Buf (Elt Ideal) ℓ) (c : Dev nD)

/-- What the accumulator holds after a point that begins a run of four, or continues one. -/
theorem acc_first (t : Fin cfg0.N) (h : t.val % 4 = 0) (j : S1024x1024.Idx) :
    (outsAt0 m c t.val t.isLt).2 j = 0 + step (iblk m c 0 t) (iblk m c 1 t) (iblk m c 2 t) (iblk m c 3 t) j := by
  rw [outsAt0_A m c t h (by omega)]; frame_out; rw [hpay', hpay, hzero, add_assoc]; rfl

theorem acc_next (t : Fin cfg0.N) (h : ¬ t.val % 4 = 0) (j : S1024x1024.Idx) :
    (outsAt0 m c t.val t.isLt).2 j = (outsAt0 m c (t.val - 1) (Nat.lt_of_le_of_lt (Nat.sub_le _ _) t.isLt)).2 j
      + step (iblk m c 0 t) (iblk m c 1 t) (iblk m c 2 t) (iblk m c 3 t) j := by
  by_cases h3 : t.val % 4 = 3
  · rw [outsAt0_C m c t h h3]; frame_out; rw [hpay', hpay, read_unread_whole, add_assoc]; rfl
  · rw [outsAt0_B m c t h h3]; frame_out; rw [hpay', hpay, read_unread_whole, add_assoc]; rfl

/-- What a run's last point writes out is the accumulator. -/
theorem out_last (t : Fin cfg0.N) (h : t.val % 4 = 3) (j : S1024x1024.Idx) :
    (outsAt0 m c t.val t.isLt).1 j = (outsAt0 m c t.val t.isLt).2 j := by
  rw [outsAt0_C m c t (by omega) h]; frame_out; rw [hcast]

/-- The two weights as the call takes them: transposed. -/
theorem V_v1 (i : S5632x2048.Idx) : (V m c main_v1 i : EReal) = (m ((c.tc : Thread nD τ).loc main_arg1) : FVec Ideal S2048x5632 .f32) (ix2 (i 1) (i 0)) := by
  have h : V m c main_v1 = (truncf .bf16 (transpose S5632x2048 [1, 0] (m ((c.tc : Thread nD τ).loc main_arg1) : FVec Ideal S2048x5632 .f32) transposes_S2048x5632_S5632x2048_1_0) bitsLt_bf16_f32 : FVec Ideal S5632x2048 .bf16) := by
    unfold V; after_results
  rw [h]; pointwise

theorem V_v3 (i : S5632x2048.Idx) : (V m c main_v3 i : EReal) = (m ((c.tc : Thread nD τ).loc main_arg3) : FVec Ideal S2048x5632 .f32) (ix2 (i 1) (i 0)) := by
  have h : V m c main_v3 = (truncf .bf16 (transpose S5632x2048 [1, 0] (m ((c.tc : Thread nD τ).loc main_arg3) : FVec Ideal S2048x5632 .f32) transposes_S2048x5632_S5632x2048_1_0) bitsLt_bf16_f32 : FVec Ideal S5632x2048 .bf16) := by
    unfold V; after_results
  rw [h]; pointwise

/-- After the run the array is the sum of the two products. -/
theorem final : (dats m 0 c).arrAt 4 (cfgs 0).N
    = NT2 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have h3 : t.val % 4 = 4 - 1 := (flush0_4 t).mp hf
  blk_simp
  rw [after0_4, out_last m c t h3, Pipeline.eq_sum_fin_of_reset_step_apply_of_flush (fun n h => (outsAt0 m c n h).2) 4 (fun _ => 0) _
    (fun t h j => acc_first m c t h j) (fun t h j => acc_next m c t h j) t h3 _, zero_add]
  unfold step NT2 NT part
  have ht : t.val < 64 := lt_of_lt_of_eq t.isLt N_0
  refine (Finset.sum_add_distrib (M := EReal)).trans (congrArg₂ (fun a b : EReal => a + b) ?_ ?_)
  · refine Fin.sum_mul_add_congr fun s k hl => ?_
    blk_point [iblk, V_main_arg0, V_v1, idx t, idx ⟨_, Pipeline.run_point_lt_of_flush t h3 s⟩]
  · refine Fin.sum_mul_add_congr fun s k hl => ?_
    blk_point [iblk, V_main_arg2, V_v3, idx t, idx ⟨_, Pipeline.run_point_lt_of_flush t h3 s⟩]

end Cert.Kernel2Ideal.Val

namespace Cert.Reference2Ideal.Val

open Idealize.ShloMosaic Idealize.ShloMosaic.TcCoe Idealize.SL.Sem

/-- The gradient of the two products in their common factor. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = Cert.Kernel2Ideal.Val.NT2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2⟩) (Cert.Reference2Ideal.Value.run m ρ)
  pointwise [Cert.Kernel2Ideal.Val.NT2, Cert.Kernel2Ideal.Val.NT]
  exact add_comm _ _

end Cert.Reference2Ideal.Val

end
-- ==== Proof.GwFf.lean ====
/- The gradient of a weight of the feed-forward part: what the call's blocks hold after the rows have been summed, and the two references. -/
module

public import proofs.«01_k».proof.Proof.Gen.Kernel3Ideal.Value
public import proofs.«01_k».proof.Proof.Gen.Reference3Ideal.Run
public import proofs.«01_k».proof.Proof.Gen.Reference4Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Val

open Idealize.ShloMosaic Idealize.ShloMosaic.TcCoe Idealize.SL.Sem
open Cert.Kernel3Ideal.Gen

/-- The accumulator is filled with zeros. -/
theorem hzero (j : S512x2048.Idx) : k0_pay1 (F := Ideal) j = 0 := by pointwise [k0_pay1]

/-- The product of two blocks, contracted over their 2048 rows. -/
def part (a : FVec Ideal S2048x512 .bf16) (b : FVec Ideal S2048x2048 .bf16) : FVec Ideal S512x2048 .f32 :=
  fun j => ∑ k : Fin 2048, a (ix2 k (j 0)) * b (ix2 k (j 1))

/-- One step adds the product of the two blocks, contracted over their 2048 rows. -/
theorem hpay (acc : FVec Ideal S512x2048 .f32) (a : FVec Ideal S2048x512 .bf16) (b : FVec Ideal S2048x2048 .bf16) (j : S512x2048.Idx) :
    k0_pay2 (F := Ideal) acc a b j = acc j + part a b j := by
  unfold part
  pointwise [k0_pay2]

/-- The accumulator is written out as it is: over the reals the cast is the identity. -/
theorem hcast (acc : FVec Ideal S512x2048 .f32) (j : S512x2048.Idx) : k0_pay3 (F := Ideal) acc j = acc j := by pointwise [k0_pay3]

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The product of the transposed first array with the second. -/
def TN (a : FVec Ideal S8192x5632 .bf16) (b : FVec Ideal S8192x2048 .bf16) : FVec Ideal S5632x2048 .bf16 :=
  fun i => ∑ l : Fin 8192, a (ix2 l (i 0)) * b (ix2 l (i 1))

variable (m : (ℓ : Loc nD τ sig) → Buf (Elt Ideal) ℓ) (c : Dev nD)

/-- What the accumulator holds after a point that begins a run of four, or continues one. -/
theorem acc_first (t : Fin cfg0.N) (h : t.val % 4 = 0) (j : S512x2048.Idx) :
    (outsAt0 m c t.val t.isLt).2 j = 0 + part (iblk m c 0 t) (iblk m c 1 t) j := by
  rw [outsAt0_A m c t h (by omega)]; frame_out; rw [hpay, hzero]

theorem acc_next (t : Fin cfg0.N) (h : ¬ t.val % 4 = 0) (j : S512x2048.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 4 = 3
  · rw [outsAt0_C m c t h h3]; frame_out; rw [hpay, read_unread_whole]
  · rw [outsAt0_B m c t h h3]; frame_out; rw [hpay, read_unread_whole]

/-- What a run's last point writes out is the accumulator. -/
theorem out_last (t : Fin cfg0.N) (h : t.val % 4 = 3) (j : S512x2048.Idx) :
    (outsAt0 m c t.val t.isLt).1 j = (outsAt0 m c t.val t.isLt).2 j := by
  rw [outsAt0_C m c t (by omega) h]; frame_out; rw [hcast]

/-- After the run the array is the whole product. -/
theorem final : (dats m 0 c).arrAt 2 (cfgs 0).N
    = TN (m ((c.tc : Thread nD τ).loc main_arg0)) (m ((c.tc : Thread nD τ).loc main_arg1)) := by
  refine (dats m 0 c).arrAt_eq_of_covers 2 _ (by decide +kernel) fun t hf y => ?_
  have h3 : t.val % 4 = 4 - 1 := (flush0_2 t).mp hf
  blk_simp
  rw [after0_2, out_last m c t h3, Pipeline.eq_sum_fin_of_reset_step_apply_of_flush (fun n h => (outsAt0 m c n h).2) 4 (fun _ => 0) _
    (fun t h j => acc_first m c t h j) (fun t h j => acc_next m c t h j) t h3 _, zero_add]
  unfold TN part
  refine Fin.sum_mul_add_congr fun s k hl => ?_
  have ht : t.val < 44 := lt_of_lt_of_eq t.isLt N_0
  blk_point [iblk, V, idx t, idx ⟨_, Pipeline.run_point_lt_of_flush t h3 s⟩]

end Cert.Kernel3Ideal.Val

namespace Cert.Reference3Ideal.Val

open Idealize.ShloMosaic Idealize.ShloMosaic.TcCoe Idealize.SL.Sem

/-- The transposed gradient of `act @ w_down` in `w_down` is the same product with the factors of each term exchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
        = Cert.Kernel3Ideal.Val.TN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Cert.Reference3Ideal.Value.run m ρ)
  pointwise [Cert.Kernel3Ideal.Val.TN]
  exact Finset.sum_congr rfl fun l _ => mul_comm _ _

end Cert.Reference3Ideal.Val

namespace Cert.Reference4Ideal.Val

open Idealize.ShloMosaic Idealize.ShloMosaic.TcCoe Idealize.SL.Sem

/-- The transposed gradient of `f @ w_gate` in `w_gate` is the product itself. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = Cert.Kernel3Ideal.Val.TN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Cert.Reference4Ideal.Value.run m ρ)
  pointwise [Cert.Kernel3Ideal.Val.TN]

end Cert.Reference4Ideal.Val

end
-- ==== Proof.GwIn.lean ====
/- The gradient of the first weight: what the call's blocks hold after the rows have been summed, and the reference. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel5Ideal.Val

open Idealize.ShloMosaic Idealize.ShloMosaic.TcCoe Idealize.SL.Sem
open Cert.Kernel5Ideal.Gen

/-- The accumulator is filled with zeros. -/
theorem hzero (j : S2048x1024.Idx) : k0_pay1 (F := Ideal) j = 0 := by pointwise [k0_pay1]

/-- The product of two blocks, contracted over their 1024 rows. -/
def part (a : FVec Ideal S1024x2048 .bf16) (b : FVec Ideal S1024x1024 .bf16) : FVec Ideal S2048x1024 .f32 :=
  fun j => ∑ k : Fin 1024, a (ix2 k (j 0)) * b (ix2 k (j 1))

/-- One step adds the product of the two blocks, contracted over their 1024 rows. -/
theorem hpay (acc : FVec Ideal S2048x1024 .f32) (a : FVec Ideal S1024x2048 .bf16) (b : FVec Ideal S1024x1024 .bf16) (j : S2048x1024.Idx) :
    k0_pay2 (F := Ideal) acc a b j = acc j + part a b j := by
  unfold part
  pointwise [k0_pay2]

/-- The accumulator is written out as it is: over the reals the cast is the identity. -/
theorem hcast (acc : FVec Ideal S2048x1024 .f32) (j : S2048x1024.Idx) : k0_pay3 (F := Ideal) acc j = acc j := by pointwise [k0_pay3]

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of the transposed first array with the second. -/
def TN (a : FVec Ideal S8192x2048 .bf16) (b : FVec Ideal S8192x5120 .bf16) : FVec Ideal S2048x5120 .bf16 :=
  fun i => ∑ l : Fin 8192, a (ix2 l (i 0)) * b (ix2 l (i 1))

variable (m : (ℓ : Loc nD τ sig) → Buf (Elt Ideal) ℓ) (c : Dev nD)

/-- What the accumulator holds after a point that begins a run of eight, or continues one. -/
theorem acc_first (t : Fin cfg0.N) (h : t.val % 8 = 0) (j : S2048x1024.Idx) :
    (outsAt0 m c t.val t.isLt).2 j = 0 + part (iblk m c 0 t) (iblk m c 1 t) j := by
  rw [outsAt0_A m c t h (by omega)]; frame_out; rw [hpay, hzero]

theorem acc_next (t : Fin cfg0.N) (h : ¬ t.val % 8 = 0) (j : S2048x1024.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 8 = 7
  · rw [outsAt0_C m c t h h3]; frame_out; rw [hpay, read_unread_whole]
  · rw [outsAt0_B m c t h h3]; frame_out; rw [hpay, read_unread_whole]

/-- What a run's last point writes out is the accumulator. -/
theorem out_last (t : Fin cfg0.N) (h : t.val % 8 = 7) (j : S2048x1024.Idx) :
    (outsAt0 m c t.val t.isLt).1 j = (outsAt0 m c t.val t.isLt).2 j := by
  rw [outsAt0_C m c t (by omega) h]; frame_out; rw [hcast]

/-- After the run the array is the whole product. -/
theorem final : (dats m 0 c).arrAt 2 (cfgs 0).N
    = TN (m ((c.tc : Thread nD τ).loc main_arg0)) (m ((c.tc : Thread nD τ).loc main_arg1)) := by
  refine (dats m 0 c).arrAt_eq_of_covers 2 _ (by decide +kernel) fun t hf y => ?_
  have h3 : t.val % 8 = 8 - 1 := (flush0_2 t).mp hf
  blk_simp
  rw [after0_2, out_last m c t h3, Pipeline.eq_sum_fin_of_reset_step_apply_of_flush (fun n h => (outsAt0 m c n h).2) 8 (fun _ => 0) _
    (fun t h j => acc_first m c t h j) (fun t h j => acc_next m c t h j) t h3 _, zero_add]
  unfold TN part
  refine Fin.sum_mul_add_congr fun s k hl => ?_
  have ht : t.val < 40 := lt_of_lt_of_eq t.isLt N_0
  blk_point [iblk, V, idx t, idx ⟨_, Pipeline.run_point_lt_of_flush t h3 s⟩]

end Cert.Kernel5Ideal.Val

namespace Cert.Reference5Ideal.Val

open Idealize.ShloMosaic Idealize.ShloMosaic.TcCoe Idealize.SL.Sem

/-- The gradient of `a @ w_in` in `w_in` is the same product with the factors of each term exchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
        = Cert.Kernel5Ideal.Val.TN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Cert.Reference5Ideal.Value.run m ρ)
  pointwise [Cert.Kernel5Ideal.Val.TN]
  exact Finset.sum_congr rfl fun l _ => mul_comm _ _

end Cert.Reference5Ideal.Val

end
-- ==== Proof.SwigluScalar.lean ====
/- The derivative of `silu` over the extended reals. -/
module

public import proofs.«01_k».proof.Proof.Rows
public import Idealize.ShloMosaic.Lib.IdealHost

@[expose] public section

noncomputable section

namespace Cert.Swiglu

open Idealize.ShloMosaic

/-- The logistic function. -/
def sg (g : EReal) : EReal := Ideal.div 1 (1 + Ideal.exp (-g))

theorem sg_coe (r : ℝ) : sg (r : EReal) = ((1 / (1 + Real.exp (-r)) : ℝ) : EReal) := by
  unfold sg
  rw [← EReal.coe_neg, Ideal.exp_coe, ← EReal.coe_one, ← EReal.coe_add, Ideal.div_coe (by positivity), ← EReal.coe_mul, one_mul]

theorem sg_top : sg ⊤ = 1 := by
  unfold sg
  rw [EReal.neg_top, Ideal.exp_bot, add_zero, ← EReal.coe_one, Ideal.div_coe one_ne_zero, ← EReal.coe_mul]
  norm_num

theorem sg_bot : sg ⊥ = 0 := by
  unfold sg
  rw [EReal.neg_bot, Ideal.exp_top, EReal.add_top_of_ne_bot (by rw [← EReal.coe_one]; exact EReal.coe_ne_bot 1), Ideal.div, if_neg (by simp), EReal.inv_top, mul_zero]

/-- What the call writes from the two products: the activation, and the factors its gradients are multiplied by. -/
def act (g u : EReal) : EReal := g * sg g * u
def fg (g u : EReal) : EReal := u * (sg g * (1 + g * (1 - sg g)))
def fu (g : EReal) : EReal := g * sg g

/-- The gradient in the gate, as the call computes it and as the derivative of `g * sg g * u` is written out. Where the gate is infinite both are `h * u` or zero. -/
theorem grad (h u : ℝ) (g : EReal) :
    (h : EReal) * fg g u = (h : EReal) * u * sg g + g * ((h : EReal) * u) * (sg g * (1 - sg g)) := by
  unfold fg
  induction g using EReal.rec with
  | bot => rw [sg_bot]; simp
  | coe r =>
    rw [sg_coe]
    generalize 1 / (1 + Real.exp (-r)) = s
    simp only [← EReal.coe_one, ← EReal.coe_sub, ← EReal.coe_mul, ← EReal.coe_add]
    exact congrArg _ (by ring)
  | top =>
    have e : (1 : EReal) - 1 = 0 := by rw [← EReal.coe_one, ← EReal.coe_sub, sub_self, EReal.coe_zero]
    rw [sg_top, e]; simp

end Cert.Swiglu

end
-- ==== Proof.Swiglu.lean ====
/- The feed-forward part's activation and its gradient: what the two calls write. -/
module

public import proofs.«01_k».proof.Proof.SwigluScalar
public import proofs.«01_k».proof.Proof.Gen.Kernel6Ideal.Frame
public import Idealize.ShloMosaic.Lib.Pipeline.ValueKit
public import Idealize.ShloMosaic.Lib.Claim

@[expose] public section

set_option maxRecDepth 16384

noncomputable section

namespace Cert.Kernel6Ideal.Val

open Idealize.ShloMosaic Idealize.ShloMosaic.TcCoe Idealize.SL.Sem
open Cert.Kernel6Ideal.Gen Cert.Swiglu

/-- A block's product, contracted over the 2048 columns of both. -/
theorem g_at (a : FVec Ideal S1024x2048 .bf16) (b : FVec Ideal S512x2048 .bf16) (j : S1024x512.Idx) :
    k0_pay1 (F := Ideal) a b j = ∑ l : Fin 2048, a (ix2 (j 0) l) * b (ix2 (j 1) l) := by pointwise [k0_pay1]
theorem u_at (a : FVec Ideal S1024x2048 .bf16) (b : FVec Ideal S512x2048 .bf16) (j : S1024x512.Idx) :
    k0_pay2 (F := Ideal) a b j = ∑ l : Fin 2048, a (ix2 (j 0) l) * b (ix2 (j 1) l) := by pointwise [k0_pay2]
theorem h_at (a : FVec Ideal S2048x2048 .bf16) (b : FVec Ideal S512x2048 .bf16) (j : S2048x512.Idx) :
    k1_pay1 (F := Ideal) a b j = ∑ l : Fin 2048, a (ix2 (j 0) l) * b (ix2 (j 1) l) := by pointwise [k1_pay1]

/-- What one block of the first call writes. -/
theorem fg_at (a : FVec Ideal S1024x2048 .bf16) (b b' : FVec Ideal S512x2048 .bf16) (j : S1024x512.Idx) :
    k0_pay5 (F := Ideal) a b b' j = fg (k0_pay1 (F := Ideal) a b j) (k0_pay2 (F := Ideal) a b' j) := by
  unfold fg sg
  pointwise [k0_pay5, k0_pay3]
  simp only [zero_sub]
theorem fu_at (a : FVec Ideal S1024x2048 .bf16) (b : FVec Ideal S512x2048 .bf16) (j : S1024x512.Idx) :
    k0_pay6 (F := Ideal) a b j = fu (k0_pay1 (F := Ideal) a b j) := by
  unfold fu sg
  pointwise [k0_pay6, k0_pay4, k0_pay3]
  simp only [zero_sub]
theorem act_at (a : FVec Ideal S1024x2048 .bf16) (b b' : FVec Ideal S512x2048 .bf16) (j : S1024x512.Idx) :
    k0_pay7 (F := Ideal) a b b' j = act (k0_pay1 (F := Ideal) a b j) (k0_pay2 (F := Ideal) a b' j) := by
  unfold act sg
  pointwise [k0_pay7, k0_pay4, k0_pay3]
  simp only [zero_sub]
/-- What one block of the second call writes. -/
theorem dg_at (a : FVec Ideal S2048x2048 .bf16) (b : FVec Ideal S512x2048 .bf16) (e : FVec Ideal S2048x512 .bf16) (j : S2048x512.Idx) :
    k1_pay2 (F := Ideal) a b e j = k1_pay1 (F := Ideal) a b j * e j := by pointwise [k1_pay2]
theorem du_at (a : FVec Ideal S2048x2048 .bf16) (b : FVec Ideal S512x2048 .bf16) (e : FVec Ideal S2048x512 .bf16) (j : S2048x512.Idx) :
    k1_pay3 (F := Ideal) a b e j = k1_pay1 (F := Ideal) a b j * e j := by pointwise [k1_pay3]

theorem idx0 : ∀ t : Fin cfg0.N, win0_0.index t = ![t.val / 11, 0] ∧ win0_1.index t = ![t.val % 11, 0]
    ∧ win0_2.index t = ![t.val % 11, 0] ∧ win0_3.index t = ![t.val / 11, t.val % 11] ∧ win0_4.index t = ![t.val / 11, t.val % 11] ∧ win0_5.index t = ![t.val / 11, t.val % 11] :=
  (by decide +kernel : ∀ t : Fin grid0.N, _)
theorem idx1 : ∀ t : Fin cfg1.N, win1_0.index t = ![t.val / 11, 0] ∧ win1_1.index t = ![t.val % 11, 0]
    ∧ win1_2.index t = ![t.val / 11, t.val % 11] ∧ win1_3.index t = ![t.val / 11, t.val % 11] ∧ win1_4.index t = ![t.val / 11, t.val % 11] ∧ win1_5.index t = ![t.val / 11, t.val % 11] :=
  (by decide +kernel : ∀ t : Fin grid1.N, _)

/-- The product of an array with a weight held by its columns. -/
def NT (a : FVec Ideal S8192x2048 .bf16) (w : FVec Ideal S5632x2048 .bf16) (i : S8192x5632.Idx) : EReal := ∑ l : Fin 2048, a (ix2 (i 0) l) * w (ix2 (i 1) l)

section
variable (V : (c : Dev nD) → (b : Ref sig .tc) → Buf (Elt Ideal) ((c : Thread nD τ).loc b)) (c : Dev nD)

/-- The first call's three arrays, from what its operands hold when it starts. -/
theorem fg_arr : (dat0 V c).arrAt 3 cfg0.N = fun i : S8192x5632.Idx => fg (NT (V c main_arg0) (V c main_v1) i) (NT (V c main_arg0) (V c main_v3) i) := by
  refine (dat0 V c).arrAt_eq_of_covers 3 _ (by decide +kernel) fun t hf y => ?_
  blk_simp
  have ht : t.val < 88 := lt_of_lt_of_eq t.isLt N_0
  rw [after0_3]
  frame_out
  rw [fg_at, g_at, u_at]
  refine congrArg₂ fg ?_ ?_
  · refine Finset.sum_congr rfl fun l _ => ?_
    blk_point [iblk0, idx0 t]
  · refine Finset.sum_congr rfl fun l _ => ?_
    blk_point [iblk0, idx0 t]
theorem fu_arr : (dat0 V c).arrAt 4 cfg0.N = fun i : S8192x5632.Idx => fu (NT (V c main_arg0) (V c main_v1) i) := by
  refine (dat0 V c).arrAt_eq_of_covers 4 _ (by decide +kernel) fun t hf y => ?_
  blk_simp
  have ht : t.val < 88 := lt_of_lt_of_eq t.isLt N_0
  rw [after0_4]
  frame_out
  rw [fu_at, g_at]
  refine congrArg fu ?_
  refine Finset.sum_congr rfl fun l _ => ?_
  blk_point [iblk0, idx0 t]
theorem act_arr : (dat0 V c).arrAt 5 cfg0.N = fun i : S8192x5632.Idx => act (NT (V c main_arg0) (V c main_v1) i) (NT (V c main_arg0) (V c main_v3) i) := by
  refine (dat0 V c).arrAt_eq_of_covers 5 _ (by decide +kernel) fun t hf y => ?_
  blk_simp
  have ht : t.val < 88 := lt_of_lt_of_eq t.isLt N_0
  rw [after0_5]
  frame_out
  rw [act_at, g_at, u_at]
  refine congrArg₂ act ?_ ?_
  · refine Finset.sum_congr rfl fun l _ => ?_
    blk_point [iblk0, idx0 t]
  · refine Finset.sum_congr rfl fun l _ => ?_
    blk_point [iblk0, idx0 t]

/-- The second call's two arrays, from what its operands hold when it starts. -/
theorem dg_arr : (dat1 V c).arrAt 4 cfg1.N = fun i : S8192x5632.Idx => NT (V c main_arg4) (V c main_v5) i * (V c main_v4_0 : FVec Ideal S8192x5632 .bf16) i := by
  refine (dat1 V c).arrAt_eq_of_covers 4 _ (by decide +kernel) fun t hf y => ?_
  blk_simp
  have ht : t.val < 44 := lt_of_lt_of_eq t.isLt N_1
  rw [after1_4]
  frame_out
  rw [dg_at, h_at]
  refine congrArg₂ (fun a b : EReal => a * b) ?_ ?_
  · refine Finset.sum_congr rfl fun l _ => ?_
    blk_point [iblk1, idx1 t]
  · blk_point [iblk1, idx1 t]
theorem du_arr : (dat1 V c).arrAt 5 cfg1.N = fun i : S8192x5632.Idx => NT (V c main_arg4) (V c main_v5) i * (V c main_v4_1 : FVec Ideal S8192x5632 .bf16) i := by
  refine (dat1 V c).arrAt_eq_of_covers 5 _ (by decide +kernel) fun t hf y => ?_
  blk_simp
  have ht : t.val < 44 := lt_of_lt_of_eq t.isLt N_1
  rw [after1_5]
  frame_out
  rw [du_at, h_at]
  refine congrArg₂ (fun a b : EReal => a * b) ?_ ?_
  · refine Finset.sum_congr rfl fun l _ => ?_
    blk_point [iblk1, idx1 t]
  · blk_point [iblk1, idx1 t]
end

section
variable (m : (ℓ : Loc nD τ sig) → Buf (Elt Ideal) ℓ) (ρ : Dev nD → PrngReg) (c : Dev nD)

/-- The two products of the forward pass and the gradient of the activation, from the arguments. -/
def NN (a : FVec Ideal S8192x2048 .bf16) (w : FVec Ideal S2048x5632 .f32) (i : S8192x5632.Idx) : EReal := ∑ l : Fin 2048, a (ix2 (i 0) l) * w (ix2 l (i 1))
def NT' (a : FVec Ideal S8192x2048 .bf16) (w : FVec Ideal S5632x2048 .f32) (i : S8192x5632.Idx) : EReal := ∑ l : Fin 2048, a (ix2 (i 0) l) * w (ix2 (i 1) l)
abbrev gK (i : S8192x5632.Idx) : EReal := NN (m ((c.tc : Thread nD τ).loc main_arg0)) (m ((c.tc : Thread nD τ).loc main_arg1)) i
abbrev uK (i : S8192x5632.Idx) : EReal := NN (m ((c.tc : Thread nD τ).loc main_arg0)) (m ((c.tc : Thread nD τ).loc main_arg2)) i
abbrev hK (i : S8192x5632.Idx) : EReal := NT' (m ((c.tc : Thread nD τ).loc main_arg4)) (m ((c.tc : Thread nD τ).loc main_arg3)) i

/-- The gate's and the other weight as the first call takes them: transposed. -/
theorem V1_v1 (i : S5632x2048.Idx) : (V1 m ρ c main_v1 i : EReal) = (m ((c.tc : Thread nD τ).loc main_arg1) : FVec Ideal S2048x5632 .f32) (ix2 (i 1) (i 0)) := by
  have h : V1 m ρ c main_v1 = (truncf .bf16 (transpose S5632x2048 [1, 0] (m ((c.tc : Thread nD τ).loc main_arg1) : FVec Ideal S2048x5632 .f32) transposes_S2048x5632_S5632x2048_1_0) bitsLt_bf16_f32 : FVec Ideal S5632x2048 .bf16) := by
    show StableHlo.after hostOps0 (W0 m ρ c) _ = _
    after_results
  rw [h]; pointwise
theorem V1_v3 (i : S5632x2048.Idx) : (V1 m ρ c main_v3 i : EReal) = (m ((c.tc : Thread nD τ).loc main_arg2) : FVec Ideal S2048x5632 .f32) (ix2 (i 1) (i 0)) := by
  have h : V1 m ρ c main_v3 = (truncf .bf16 (transpose S5632x2048 [1, 0] (m ((c.tc : Thread nD τ).loc main_arg2) : FVec Ideal S2048x5632 .f32) transposes_S2048x5632_S5632x2048_1_0) bitsLt_bf16_f32 : FVec Ideal S5632x2048 .bf16) := by
    show StableHlo.after hostOps0 (W0 m ρ c) _ = _
    after_results
  rw [h]; pointwise
theorem V1_arg0 : V1 m ρ c main_arg0 = m ((c.tc : Thread nD τ).loc main_arg0) := W1_args m ρ c _ (by decide)
theorem V3_arg4 : V3 m ρ c main_arg4 = m ((c.tc : Thread nD τ).loc main_arg4) := W3_args m ρ c _ (by decide)

/-- The weight of the last product as the second call takes it. -/
theorem V3_v5 (i : S5632x2048.Idx) : (V3 m ρ c main_v5 i : EReal) = (m ((c.tc : Thread nD τ).loc main_arg3) : FVec Ideal S5632x2048 .f32) i := by
  have h : V3 m ρ c main_v5 = (truncf .bf16 (W2 m ρ c (Proc.devRef .tc main_arg3) : FVec Ideal S5632x2048 .f32) bitsLt_bf16_f32 : FVec Ideal S5632x2048 .bf16) := by
    show StableHlo.after hostOps1 (W2 m ρ c) _ = _
    after_results
  rw [h, W2_args m ρ c main_arg3 (by decide)]; pointwise

theorem g_eq (i : S8192x5632.Idx) : NT (V1 m ρ c main_arg0) (V1 m ρ c main_v1) i = gK m c i := by
  rw [V1_arg0]
  exact Finset.sum_congr rfl fun l _ => congrArg _ (V1_v1 m ρ c _)
theorem u_eq (i : S8192x5632.Idx) : NT (V1 m ρ c main_arg0) (V1 m ρ c main_v3) i = uK m c i := by
  rw [V1_arg0]
  exact Finset.sum_congr rfl fun l _ => congrArg _ (V1_v3 m ρ c _)
theorem h_eq (i : S8192x5632.Idx) : NT (V3 m ρ c main_arg4) (V3 m ρ c main_v5) i = hK m c i := by
  rw [V3_arg4]
  exact Finset.sum_congr rfl fun l _ => congrArg _ (V3_v5 m ρ c _)

/-- The three results when the program ends. -/
theorem W4_act : W4 m ρ c (Proc.devRef .tc main_v4_2) = fun i : S8192x5632.Idx => act (gK m c i) (uK m c i) := by
  rw [W4_of_ne m ρ c main_v4_2 (by decide), W3_of m ρ c main_v4_2 (by decide)]
  refine (W2_arr m ρ c 5).trans ((act_arr (V1 m ρ) c).trans ?_)
  funext i
  rw [g_eq, u_eq]
theorem V3_fg : V3 m ρ c main_v4_0 = fun i : S8192x5632.Idx => fg (gK m c i) (uK m c i) := by
  show W3 m ρ c (Proc.devRef .tc main_v4_0) = _
  rw [W3_of m ρ c main_v4_0 (by decide)]
  refine (W2_arr m ρ c 3).trans ((fg_arr (V1 m ρ) c).trans ?_)
  funext i
  rw [g_eq, u_eq]
theorem V3_fu : V3 m ρ c main_v4_1 = fun i : S8192x5632.Idx => fu (gK m c i) := by
  show W3 m ρ c (Proc.devRef .tc main_v4_1) = _
  rw [W3_of m ρ c main_v4_1 (by decide)]
  refine (W2_arr m ρ c 4).trans ((fu_arr (V1 m ρ) c).trans ?_)
  funext i
  rw [g_eq]
theorem W4_dg : W4 m ρ c (Proc.devRef .tc main_v6_0) = fun i : S8192x5632.Idx => hK m c i * fg (gK m c i) (uK m c i) := by
  refine (W4_arr m ρ c 4).trans ((dg_arr (V3 m ρ) c).trans ?_)
  funext i
  rw [h_eq, V3_fg]
theorem W4_du : W4 m ρ c (Proc.devRef .tc main_v6_1) = fun i : S8192x5632.Idx => hK m c i * fu (gK m c i) := by
  refine (W4_arr m ρ c 5).trans ((du_arr (V3 m ρ) c).trans ?_)
  funext i
  rw [h_eq, V3_fu]
end

end Cert.Kernel6Ideal.Val

end
-- ==== Proof.SwigluRun.lean ====
/- The feed-forward part's activation and its gradient: the run of the two calls with what they leave. -/
module

public import proofs.«01_k».proof.Proof.Swiglu

@[expose] public section

set_option maxRecDepth 16384

noncomputable section

namespace Cert.Kernel6Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal.Gen Cert.Swiglu

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer the program does not allocate itself ends at what the last call leaves. -/
theorem run_all : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The three results and the arguments. -/
theorem run : θ_run (defs (F := Ideal)) (onTc (τ := τ) (main (F := Ideal))) ⟨m, fun _ => 0, ρ⟩ (fun r => ∀ c : Dev nD,
      r.2.mem ((c.tc : Thread nD τ).loc main_v4_2) = (fun i : S8192x5632.Idx => act (gK m c i) (uK m c i))
      ∧ r.2.mem ((c.tc : Thread nD τ).loc main_v6_0) = (fun i : S8192x5632.Idx => hK m c i * fg (gK m c i) (uK m c i))
      ∧ r.2.mem ((c.tc : Thread nD τ).loc main_v6_1) = (fun i : S8192x5632.Idx => hK m c i * fu (gK m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c =>
    ⟨(h c _ (mem_uc main_v4_2 (by decide))).trans (W4_act m ρ c),
     (h c _ (mem_uc main_v6_0 (by decide))).trans (W4_dg m ρ c),
     (h c _ (mem_uc main_v6_1 (by decide))).trans (W4_du m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel6Ideal.Val

end
-- ==== Proof.SwigluRef.lean ====
/- The feed-forward part's activation and its gradient: what the reference computes, and where the two agree. -/
module

public import proofs.«01_k».proof.Proof.Swiglu
public import proofs.«01_k».proof.Proof.Finite
public import proofs.«01_k».proof.Proof.Gen.Reference6Ideal.Run
public import proofs.«01_k».proof.Proof.Gen.Pre_finite_swiglu

@[expose] public section

set_option maxRecDepth 16384

noncomputable section

namespace Cert.Reference6Ideal.Val

open Idealize.ShloMosaic Idealize.ShloMosaic.TcCoe Idealize.SL.Sem
open Cert.Swiglu Cert.Data Cert.Rows
open Cert.Kernel6Ideal.Val (NN NT')

variable (m : (ℓ : Loc nD τ sig) → Buf (Elt Ideal) ℓ) (c : Dev nD)

abbrev gR (i : S8192x5632.Idx) : EReal := NN (m ((c.tc : Thread nD τ).loc main_arg0)) (m ((c.tc : Thread nD τ).loc main_arg1)) i
abbrev uR (i : S8192x5632.Idx) : EReal := NN (m ((c.tc : Thread nD τ).loc main_arg0)) (m ((c.tc : Thread nD τ).loc main_arg2)) i
abbrev hR (i : S8192x5632.Idx) : EReal := NT' (m ((c.tc : Thread nD τ).loc main_arg4)) (m ((c.tc : Thread nD τ).loc main_arg3)) i

/-- The activation, and its gradient in the two products: the derivative of `g * sg g * u` written out. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = (fun i : S8192x5632.Idx => act (gR m c i) (uR m c i))
      ∧ r.2.mem ((c.tc : Thread nD τ).loc main_v14) = (fun i : S8192x5632.Idx => hR m c i * uR m c i * sg (gR m c i) + gR m c i * (hR m c i * uR m c i) * (sg (gR m c i) * (1 - sg (gR m c i))))
      ∧ r.2.mem ((c.tc : Thread nD τ).loc main_v15) = (fun i : S8192x5632.Idx => hR m c i * fu (gR m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans (funext fun i => ?_), (h c).2.1.trans (funext fun i => ?_), (h c).2.2.1.trans (funext fun i => ?_), (h c).2.2.2⟩)
    (Cert.Reference6Ideal.Value.run m ρ)
  · pointwise [act, sg, gR, uR, NN]
  · pointwise [sg, gR, uR, hR, NN, NT']
  · pointwise [fu, sg, gR, hR, NN, NT']
    exact mul_comm _ _

end Cert.Reference6Ideal.Val

namespace Cert.Swiglu

open Idealize.ShloMosaic Cert.Data Cert.Rows
open Cert.Kernel6Ideal Cert.Kernel6Ideal.Val

/-- A sum of products of real numbers is a real number. -/
theorem real_sum {n : ℕ} (a b : Fin n → EReal) (ha : ∀ l, a l ≠ ⊤ ∧ a l ≠ ⊥) (hb : ∀ l, b l ≠ ⊤ ∧ b l ≠ ⊥) : ∃ r : ℝ, (r : EReal) = ∑ l, a l * b l := by
  refine ⟨∑ l, (a l).toReal * (b l).toReal, ?_⟩
  rw [coe_sum]
  refine Finset.sum_congr rfl fun l _ => ?_
  rw [EReal.coe_mul, EReal.coe_toReal (ha l).1 (ha l).2, EReal.coe_toReal (hb l).1 (hb l).2]

/-- The precondition: every element but the gate weight's is a real number. -/
theorem all_real (f : FVec Ideal S8192x2048 .bf16) (wg wu : FVec Ideal S2048x5632 .f32) (wd : FVec Ideal S5632x2048 .f32) (dh : FVec Ideal S8192x2048 .bf16)
    (h : Cert.Pre_finite_swiglu.fn (F := Ideal) f wg wu wd dh = fun _ => 1#1) : Real' (s := S8192x2048) f ∧ Real' (s := S2048x5632) wu ∧ Real' (s := S5632x2048) wd ∧ Real' (s := S8192x2048) dh := by
  have h := congrFun h (Shape.Idx.first (by decide))
  dsimp only [Cert.Pre_finite_swiglu.fn, Cert.Pre_finite_swiglu.fn_part1] at h
  obtain ⟨h, d⟩ := IntOp.andi_eq_one.1 h
  obtain ⟨h, e⟩ := IntOp.andi_eq_one.1 h
  obtain ⟨a, b⟩ := IntOp.andi_eq_one.1 h
  exact ⟨fun i => Cert.Finite.real_of_lt _ f _ i (Host.reduce_andi_all _ _ _ _ _ a i), fun i => Cert.Finite.real_of_lt _ wu _ i (Host.reduce_andi_all _ _ _ _ _ b i),
    fun i => Cert.Finite.real_of_lt _ wd _ i (Host.reduce_andi_all _ _ _ _ _ e i), fun i => Cert.Finite.real_of_lt _ dh _ i (Host.reduce_andi_all _ _ _ _ _ d i)⟩

/-- With those real, the two forms of the gradient in the gate agree. -/
theorem grad_eq (f : FVec Ideal S8192x2048 .bf16) (wg wu : FVec Ideal S2048x5632 .f32) (wd : FVec Ideal S5632x2048 .f32) (dh : FVec Ideal S8192x2048 .bf16)
    (hf : Real' (s := S8192x2048) f) (hu : Real' (s := S2048x5632) wu) (hd : Real' (s := S5632x2048) wd) (hh : Real' (s := S8192x2048) dh) (i : S8192x5632.Idx) :
    NT' dh wd i * fg (NN f wg i) (NN f wu i)
      = NT' dh wd i * NN f wu i * sg (NN f wg i) + NN f wg i * (NT' dh wd i * NN f wu i) * (sg (NN f wg i) * (1 - sg (NN f wg i))) := by
  obtain ⟨h, eh⟩ := real_sum (fun l : Fin 2048 => dh (ix2 (i 0) l)) (fun l => wd (ix2 (i 1) l)) (fun l => hh _) (fun l => hd _)
  obtain ⟨u, eu⟩ := real_sum (fun l : Fin 2048 => f (ix2 (i 0) l)) (fun l => wu (ix2 l (i 1))) (fun l => hf _) (fun l => hu _)
  have eh' : NT' dh wd i = (h : EReal) := eh.symm
  have eu' : NN f wu i = (u : EReal) := eu.symm
  rw [eh', eu']
  exact grad h u _

end Cert.Swiglu

end
-- ==== Proof.Rms.lean ====
/- A root mean square norm over rows of 2048, and its gradient in two forms that agree on real numbers. -/
module

public import Idealize.ShloMosaic.PureOps.Ideal
public import Idealize.ShloMosaic.Lib.Claim
public import Idealize.ShloMosaic.Lib.IdealHost
public import proofs.«01_k».proof.Proof.Rows

@[expose] public section

set_option maxRecDepth 16384

noncomputable section

namespace Cert.Rms

open Idealize.ShloMosaic

/-- A row's mean square with 1e-6 added: both constants as the float words that both programs have. -/
def ms (v : Fin 2048 → EReal) : EReal :=
  Ideal.div (∑ k, v k * v k) (Ideal.ofBits .f32 1157627904#32) + Ideal.ofBits .f32 897988541#32

/-- One over the root of it. -/
def rs (v : Fin 2048 → EReal) : EReal :=
  Ideal.rsqrt (Ideal.div (∑ k, v k * v k) (Ideal.ofBits .f32 1157627904#32) + Ideal.ofBits .f32 897988541#32)

/-- The gradient in the row `h` of its norm, for the gradient `dn` of the normed row, added to `d`: the projection's form. -/
def back (d : EReal) (h dn : Fin 2048 → EReal) (j : Fin 2048) : EReal :=
  d + rs h * (dn j - h j * rs h * Ideal.div (∑ k, dn k * (h k * rs h)) (Ideal.ofBits .f32 1157627904#32))

/-- The gradient through the mean square alone: half of it, as the chain rule gives it. -/
def half (h dn : Fin 2048 → EReal) : EReal :=
  Ideal.div ((∑ k, h k * dn k) * (Ideal.ofBits .f32 3204448256#32 * Ideal.div (rs h) (ms h))) (Ideal.ofBits .f32 1157627904#32)

/-- The same gradient as the chain rule gives it. -/
def chain (d : EReal) (h dn : Fin 2048 → EReal) (j : Fin 2048) : EReal :=
  d + dn j * rs h + h j * (∑ _x : Fin 1, half h dn) + (∑ _x : Fin 1, half h dn) * h j

theorem c2048 : Ideal.ofBits .f32 1157627904#32 = ((2048 : ℝ) : EReal) := by
  simp [Ideal.ofBits, Ideal.ieee]
  rw [← EReal.coe_mul]
  norm_num

theorem chalf : Ideal.ofBits .f32 3204448256#32 = ((-1 / 2 : ℝ) : EReal) := by
  simp [Ideal.ofBits, Ideal.ieee]
  rw [← EReal.coe_mul, ← EReal.coe_neg]
  norm_num

theorem ceps : ∃ e : ℝ, 0 < e ∧ Ideal.ofBits .f32 897988541#32 = (e : EReal) := by
  refine ⟨8796093 * (1 / 8796093022208), by norm_num, ?_⟩
  simp [Ideal.ofBits, Ideal.ieee]
  norm_num

/-- Of a row of real numbers, the mean square is a positive real number and the factor its inverse root. -/
theorem rs_real (h : Fin 2048 → ℝ) : ∃ q r : ℝ, 0 < q ∧ r * r * q = 1 ∧ ms (fun k => (h k : EReal)) = q ∧ rs (fun k => (h k : EReal)) = r := by
  obtain ⟨e, he, ee⟩ := ceps
  have hs : (∑ k, (h k : EReal) * (h k : EReal)) = ((∑ k, h k * h k : ℝ) : EReal) := by
    rw [Cert.Rows.coe_sum]; exact Finset.sum_congr rfl fun k _ => (EReal.coe_mul _ _).symm
  have h0 : 0 ≤ ∑ k, h k * h k := Finset.sum_nonneg fun k _ => mul_self_nonneg _
  have hq : ms (fun k => (h k : EReal)) = (((∑ k, h k * h k) * (1 / 2048) + e : ℝ) : EReal) := by
    unfold ms
    rw [hs, c2048, ee, Ideal.div_coe (by norm_num), ← EReal.coe_mul, ← EReal.coe_add]
  have hp : 0 < (∑ k, h k * h k) * (1 / 2048) + e := by positivity
  refine ⟨_, (Real.sqrt ((∑ k, h k * h k) * (1 / 2048) + e))⁻¹, hp, ?_, hq, ?_⟩
  · have := Real.mul_self_sqrt hp.le
    have hn : Real.sqrt ((∑ k, h k * h k) * (1 / 2048) + e) ≠ 0 := (Real.sqrt_pos.mpr hp).ne'
    rw [← mul_inv, this, inv_mul_cancel₀ hp.ne']
  · show Ideal.rsqrt (ms _) = _
    rw [hq, Ideal.rsqrt_coe, if_neg (not_lt.mpr hp.le), if_neg hp.ne']

/-- On real numbers the two forms agree. -/
theorem back_eq (d : EReal) (h dn : Fin 2048 → EReal) (hh : ∀ k, h k ≠ ⊤ ∧ h k ≠ ⊥) (hd : ∀ k, dn k ≠ ⊤ ∧ dn k ≠ ⊥) (j : Fin 2048) :
    back d h dn j = chain d h dn j := by
  obtain ⟨a, rfl⟩ : ∃ a : Fin 2048 → ℝ, h = fun k => (a k : EReal) := ⟨fun k => (h k).toReal, funext fun k => (EReal.coe_toReal (hh k).1 (hh k).2).symm⟩
  obtain ⟨b, rfl⟩ : ∃ b : Fin 2048 → ℝ, dn = fun k => (b k : EReal) := ⟨fun k => (dn k).toReal, funext fun k => (EReal.coe_toReal (hd k).1 (hd k).2).symm⟩
  obtain ⟨q, r, hq, hr, e1, e2⟩ := rs_real a
  have s1 : (∑ k, (a k : EReal) * (b k : EReal)) = ((∑ k, a k * b k : ℝ) : EReal) := by
    rw [Cert.Rows.coe_sum]; exact Finset.sum_congr rfl fun k _ => (EReal.coe_mul _ _).symm
  have s2 : (∑ k, (b k : EReal) * ((a k : EReal) * (r : EReal))) = (((∑ k, a k * b k) * r : ℝ) : EReal) := by
    rw [Finset.sum_mul, Cert.Rows.coe_sum]
    refine Finset.sum_congr rfl fun k _ => ?_
    rw [← EReal.coe_mul, ← EReal.coe_mul]
    exact congrArg _ (by ring)
  have hi : 1 / q = r * r := by rw [div_eq_iff hq.ne']; exact hr.symm
  unfold back chain half
  simp only [e1, e2, s1, s2, c2048, chalf, Fin.sum_univ_one, Ideal.div_coe hq.ne', Ideal.div_coe (by norm_num : (2048 : ℝ) ≠ 0), hi]
  generalize (∑ k, a k * b k) = S
  simp only [← EReal.coe_mul, ← EReal.coe_sub, add_assoc, ← EReal.coe_add]
  refine congrArg (fun x : EReal => d + x) (EReal.coe_eq_coe_iff.mpr ?_)
  ring

/-- A sum of products of real numbers times a real number is one. -/
theorem real_dot_mul {n : ℕ} (a b : Fin n → EReal) (g : EReal) (ha : ∀ l, a l ≠ ⊤ ∧ a l ≠ ⊥) (hb : ∀ l, b l ≠ ⊤ ∧ b l ≠ ⊥) (hg : g ≠ ⊤ ∧ g ≠ ⊥) :
    (∑ l, a l * b l) * g ≠ ⊤ ∧ (∑ l, a l * b l) * g ≠ ⊥ := by
  have h : (∑ l, a l * b l) * g = (((∑ l, (a l).toReal * (b l).toReal) * g.toReal : ℝ) : EReal) := by
    rw [EReal.coe_mul, Cert.Rows.coe_sum, EReal.coe_toReal hg.1 hg.2]
    refine congrArg (fun x : EReal => x * g) (Finset.sum_congr rfl fun l _ => ?_)
    rw [EReal.coe_mul, EReal.coe_toReal (ha l).1 (ha l).2, EReal.coe_toReal (hb l).1 (hb l).2]
  rw [h]
  exact ⟨EReal.coe_ne_top _, EReal.coe_ne_bot _⟩

end Cert.Rms

end
-- ==== Proof.PgateBwd.lean ====
/- The gradient of the gate's projection in its input, through the norm before it: what the call's blocks hold, and the reference. -/
module

public import proofs.«01_k».proof.Proof.Gen.Kernel8Ideal.Value
public import proofs.«01_k».proof.Proof.Gen.Reference8Ideal.Run
public import proofs.«01_k».proof.Proof.Gen.Pre_finite_pgate
public import proofs.«01_k».proof.Proof.Rms
public import proofs.«01_k».proof.Proof.Finite
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel8Ideal.Val

open Idealize.ShloMosaic Idealize.ShloMosaic.TcCoe Idealize.SL.Sem
open Cert.Kernel8Ideal.Gen Cert.Rms

/-- The carried sums are filled with zeros. -/
theorem hzero (j : S8x2048.Idx) : k0_pay1 (F := Ideal) j = 0 := by pointwise [k0_pay1]

/-- The product of two blocks, contracted over the columns of both. -/
def prod (a : FVec Ideal S512x2048 .bf16) (b : FVec Ideal S2048x2048 .bf16) : FVec Ideal S512x2048 .f32 :=
  fun j => ∑ k : Fin 2048, a (ix2 (j 0) k) * b (ix2 (j 1) k)

theorem hprod (a : FVec Ideal S512x2048 .bf16) (b : FVec Ideal S2048x2048 .bf16) : k0_pay4 (F := Ideal) a b = prod a b := by
  funext j
  unfold prod
  pointwise [k0_pay4]

/-- The normed rows, without the gain. -/
def nrm (h : FVec Ideal S512x2048 .f32) : FVec Ideal S512x2048 .f32 :=
  fun j => h j * rs (fun k => h (ix2 (j 0) k))

theorem hnrm (h : FVec Ideal S512x2048 .f32) : k0_pay6 (F := Ideal) h = nrm h := by
  funext j
  unfold nrm rs
  pointwise [k0_pay6, k0_pay5]

/-- One point's part of the gain's gradient: rows eight apart are summed. -/
def part (x : FVec Ideal S512x2048 .f32) : FVec Ideal S8x2048 .f32 :=
  fun j => ∑ q : Fin 64, x (ix2 ⟨q.val * 8 + (j 0).val, by have := q.isLt; have := (j 0).isLt; show _ < 512; change (j 0).val < 8 at this; omega⟩ (j 1))

theorem hpay (x y : FVec Ideal S512x2048 .f32) (acc : FVec Ideal S8x2048 .f32) (j : S8x2048.Idx) :
    k0_pay2 (F := Ideal) x y acc j = acc j + part (fun i => x i * y i) j := by
  unfold part
  pointwise [k0_pay2]

theorem hlast (acc : FVec Ideal S8x2048 .f32) (j : S1x2048.Idx) : k0_pay3 (F := Ideal) acc j = ∑ p : Fin 8, acc (ix2 p (j 1)) := by
  pointwise [k0_pay3]

theorem hback (a : FVec Ideal S512x2048 .bf16) (b : FVec Ideal S2048x2048 .bf16) (h : FVec Ideal S512x2048 .f32) (g : FVec Ideal S1x2048 .f32)
    (d : FVec Ideal S512x2048 .bf16) (j : S512x2048.Idx) :
    k0_pay7 (F := Ideal) a b h g d j
      = back (d j) (fun k => h (ix2 (j 0) k)) (fun k => prod a b (ix2 (j 0) k) * g (ix2 0 k)) (j 1) := by
  unfold back
  pointwise [k0_pay7, k0_pay5, hprod, hnrm, nrm, rs]

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The gradient of the projection's input: both products contracted over the second coordinates. -/
def NT (a : FVec Ideal S8192x2048 .bf16) (w : FVec Ideal S2048x2048 .f32) : FVec Ideal S8192x2048 .f32 :=
  fun i => ∑ l : Fin 2048, a (ix2 (i 0) l) * w (ix2 (i 1) l)

/-- Through the norm, added to the residual's gradient. -/
def dh (a : FVec Ideal S8192x2048 .bf16) (w : FVec Ideal S2048x2048 .f32) (h : FVec Ideal S8192x2048 .f32) (g : FVec Ideal S1x2048 .f32)
    (d : FVec Ideal S8192x2048 .bf16) : FVec Ideal S8192x2048 .bf16 :=
  fun i => back (d i) (fun k => h (ix2 (i 0) k)) (fun k => NT a w (ix2 (i 0) k) * g (ix2 0 k)) (i 1)

/-- The gradient of the norm's gain, summed over the rows. -/
def dg (a : FVec Ideal S8192x2048 .bf16) (w : FVec Ideal S2048x2048 .f32) (h : FVec Ideal S8192x2048 .f32) : FVec Ideal S1x2048 .f32 :=
  fun i => ∑ n : Fin 8192, NT a w (ix2 n (i 1)) * (h (ix2 n (i 1)) * rs (fun k => h (ix2 n k)))

variable (m : (ℓ : Loc nD τ sig) → Buf (Elt Ideal) ℓ) (c : Dev nD)

/-- The blocks as a point reads them. -/
def bA (t : Fin cfg0.N) : FVec Ideal S512x2048 .bf16 := iblk m c 0 t
def bW (t : Fin cfg0.N) : FVec Ideal S2048x2048 .bf16 := iblk m c 1 t
def bH (t : Fin cfg0.N) : FVec Ideal S512x2048 .f32 := iblk m c 2 t
def bG (t : Fin cfg0.N) : FVec Ideal S1x2048 .f32 := iblk m c 3 t
def bD (t : Fin cfg0.N) : FVec Ideal S512x2048 .bf16 := iblk m c 4 t

/-- One point's addition to the carried sums. -/
def step (t : Fin cfg0.N) : FVec Ideal S8x2048 .f32 := part fun i => prod (bA m c t) (bW m c t) i * nrm (bH m c t) i

theorem acc_first (t : Fin cfg0.N) (h : t.val % 16 = 0) (j : S8x2048.Idx) :
    (outsAt0 m c t.val t.isLt).2.2 j = 0 + step m c t j := by
  rw [outsAt0_A m c t h (by omega)]; frame_out; rw [hpay, hzero, hprod, hnrm]; rfl

theorem acc_next (t : Fin cfg0.N) (h : ¬ t.val % 16 = 0) (j : S8x2048.Idx) :
    (outsAt0 m c t.val t.isLt).2.2 j = (outsAt0 m c (t.val - 1) (Nat.lt_of_le_of_lt (Nat.sub_le _ _) t.isLt)).2.2 j
      + step m c t j := by
  by_cases h3 : t.val % 16 = 15
  · rw [outsAt0_C m c t h h3]; frame_out; rw [hpay, hprod, hnrm, read_unread_whole]; rfl
  · rw [outsAt0_B m c t h h3]; frame_out; rw [hpay, hprod, hnrm, read_unread_whole]; rfl

/-- What every point writes of the input's gradient. -/
theorem out_dh (t : Fin cfg0.N) (j : S512x2048.Idx) :
    (outsAt0 m c t.val t.isLt).1 j
      = back (bD m c t j) (fun k => bH m c t (ix2 (j 0) k)) (fun k => prod (bA m c t) (bW m c t) (ix2 (j 0) k) * bG m c t (ix2 0 k)) (j 1) := by
  by_cases h : t.val % 16 = 0
  · rw [outsAt0_A m c t h (by omega)]; frame_out; rw [hback]; rfl
  · by_cases h3 : t.val % 16 = 15
    · rw [outsAt0_C m c t h h3]; frame_out; rw [hback]; rfl
    · rw [outsAt0_B m c t h h3]; frame_out; rw [hback]; rfl

/-- What the last point writes of the gain's. -/
theorem out_dg (t : Fin cfg0.N) (h : t.val % 16 = 15) (j : S1x2048.Idx) :
    (outsAt0 m c t.val t.isLt).2.1 j = ∑ p : Fin 8, (outsAt0 m c t.val t.isLt).2.2 (ix2 p (j 1)) := by
  rw [outsAt0_C m c t (by omega) h]; frame_out; rw [hlast]

/-- The weight as the call takes it: cast. -/
theorem V_v0 (i : S2048x2048.Idx) : (V m c main_v0 i : EReal) = (m ((c.tc : Thread nD τ).loc main_arg1) : FVec Ideal S2048x2048 .f32) i := by
  have h : V m c main_v0 = (truncf .bf16 (m ((c.tc : Thread nD τ).loc main_arg1) : FVec Ideal S2048x2048 .f32) bitsLt_bf16_f32 : FVec Ideal S2048x2048 .bf16) := by
    unfold V; after_results
  rw [h]; pointwise

abbrev A : FVec Ideal S8192x2048 .bf16 := m ((c.tc : Thread nD τ).loc main_arg0)
abbrev W : FVec Ideal S2048x2048 .f32 := m ((c.tc : Thread nD τ).loc main_arg1)
abbrev H : FVec Ideal S8192x2048 .f32 := m ((c.tc : Thread nD τ).loc main_arg2)
abbrev G : FVec Ideal S1x2048 .f32 := m ((c.tc : Thread nD τ).loc main_arg3)
abbrev D : FVec Ideal S8192x2048 .bf16 := m ((c.tc : Thread nD τ).loc main_arg4)

/-- The blocks read the arrays. -/
theorem prod_at (t : Fin cfg0.N) (j : S512x2048.Idx) (i : S8192x2048.Idx) (h0 : (i 0).val = t.val * 512 + (j 0).val) (h1 : (i 1).val = (j 1).val) :
    prod (bA m c t) (bW m c t) j = NT (A m c) (W m c) i := by
  unfold prod NT
  refine Finset.sum_congr rfl fun k _ => ?_
  blk_point [bA, bW, iblk, V_main_arg0, V_v0, idx t]

theorem h_at (t : Fin cfg0.N) (j : S512x2048.Idx) (i : S8192x2048.Idx) (h0 : (i 0).val = t.val * 512 + (j 0).val) (h1 : (i 1).val = (j 1).val) :
    bH m c t j = H m c i := by
  blk_point [bH, iblk, V_main_arg2, idx t]

theorem d_at (t : Fin cfg0.N) (j : S512x2048.Idx) (i : S8192x2048.Idx) (h0 : (i 0).val = t.val * 512 + (j 0).val) (h1 : (i 1).val = (j 1).val) :
    bD m c t j = D m c i := by
  blk_point [bD, iblk, V_main_arg4, idx t]

theorem g_at (t : Fin cfg0.N) (k : Fin 2048) : bG m c t (ix2 0 k) = G m c (ix2 0 k) := by
  blk_point [bG, iblk, V_main_arg3, idx t]

theorem nrm_at (t : Fin cfg0.N) (j : S512x2048.Idx) (i : S8192x2048.Idx) (h0 : (i 0).val = t.val * 512 + (j 0).val) (h1 : (i 1).val = (j 1).val) :
    nrm (bH m c t) j = H m c i * rs (fun k => H m c (ix2 (i 0) k)) := by
  unfold nrm
  exact congrArg₂ (fun a b : EReal => a * b) (h_at m c t j i h0 h1) (congrArg rs (funext fun k => h_at m c t _ _ h0 rfl))

/-- After the run the first array is the input's gradient. -/
theorem final5 : (dats m 0 c).arrAt 5 (cfgs 0).N = dh (A m c) (W m c) (H m c) (G m c) (D m c) := by
  refine (dats m 0 c).arrAt_eq_of_covers 5 _ (by decide +kernel) fun t hf y => ?_
  blk_simp
  rw [after0_5, out_dh m c t]
  unfold dh
  have h0 : (((win0_5.blk t).view.emb y) 0).val = t.val * 512 + (y 0).val := by blk_simp [idx t]
  have h1 : (((win0_5.blk t).view.emb y) 1).val = (y 1).val := by blk_simp [idx t]
  rw [d_at m c t _ _ h0 h1]
  have e : (y 1 : Fin 2048) = ((win0_5.blk t).view.emb y) 1 := Fin.ext h1.symm
  exact congr (congr (congrArg (back _) (funext fun k => h_at m c t _ _ h0 rfl))
    (funext fun k => congrArg₂ (fun a b : EReal => a * b) (prod_at m c t _ _ h0 rfl) (g_at m c t k))) e

/-- The rows, summed eight apart in each block and then over the eight. -/
theorem regroup (f : Fin 8192 → EReal) :
    ∑ p : Fin 8, ∑ s : Fin 16, ∑ q : Fin 64, f ⟨s.val * 512 + (q.val * 8 + p.val), by omega⟩ = ∑ n, f n := by
  rw [Finset.sum_comm]
  refine (Finset.sum_congr rfl fun s _ => ?_).trans (Fin.sum_mul_add_fin (S := 16) (n := 512) (L := 8192) f)
  rw [Finset.sum_comm]
  refine Fin.sum_mul_add_congr (S := 64) (n := 8) (L := 512) fun q p hl => ?_
  exact congrArg f (Fin.ext rfl)

/-- After the run the second array is the gain's gradient. -/
theorem final6 : (dats m 0 c).arrAt 6 (cfgs 0).N = dg (A m c) (W m c) (H m c) := by
  refine (dats m 0 c).arrAt_eq_of_covers 6 _ (by decide +kernel) fun t hf y => ?_
  have h3 : t.val % 16 = 16 - 1 := (flush0_6 t).mp hf
  blk_simp
  rw [after0_6, out_dg m c t h3]
  have h1 : (((win0_6.blk t).view.emb y) 1).val = (y 1).val := by blk_simp [idx t]
  have ht : t.val < 16 := lt_of_lt_of_eq t.isLt N_0
  unfold dg
  refine (Finset.sum_congr (M := EReal) rfl fun p _ => ?_).trans (regroup _)
  refine (Pipeline.eq_sum_fin_of_reset_step_apply_of_flush (fun n h => (outsAt0 m c n h).2.2) 16 (fun _ => 0) _
    (fun t h j => acc_first m c t h j) (fun t h j => acc_next m c t h j) t h3 _).trans ((zero_add _).trans ?_)
  refine Finset.sum_congr (M := EReal) rfl fun s _ => ?_
  unfold step part
  refine Finset.sum_congr (M := EReal) rfl fun q _ => ?_
  have e0 : s.val * 512 + (q.val * 8 + p.val) = (16 * (t.val / 16) + s.val) * 512 + (q.val * 8 + p.val) := by omega
  exact congrArg₂ (fun a b : EReal => a * b) (prod_at m c _ _ _ e0 h1) (nrm_at m c _ _ _ e0 h1)

end Cert.Kernel8Ideal.Val
namespace Cert.Reference8Ideal.Val

open Idealize.ShloMosaic Idealize.ShloMosaic.TcCoe Idealize.SL.Sem
open Cert.Rms
open Cert.Kernel8Ideal.Val (NT dg)

/-- The gradient of the projection's input as the chain rule gives it. -/
def dhR (a : FVec Ideal S8192x2048 .bf16) (w : FVec Ideal S2048x2048 .f32) (h : FVec Ideal S8192x2048 .f32) (g : FVec Ideal S1x2048 .f32)
    (d : FVec Ideal S8192x2048 .bf16) : FVec Ideal S8192x2048 .bf16 :=
  fun i => chain (d i) (fun k => h (ix2 (i 0) k)) (fun k => NT a w (ix2 (i 0) k) * g (ix2 0 k)) (i 1)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
        = dhR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v21)
        = dg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans (funext fun i => ?_), (h c).2.1.trans (funext fun i => ?_), (h c).2.2⟩)
    (Cert.Reference8Ideal.Value.run m ρ)
  · unfold Cert.Reference8Ideal.Value.res_main_v39
    pointwise [dhR, chain, half, NT, rs, ms]
  · pointwise [dg, NT, rs]
    exact Finset.sum_congr rfl fun n _ => mul_comm _ _

/-- The precondition: the elements that the norm's gradient is made of are real numbers. -/
theorem all_real (a : FVec Ideal S8192x2048 .bf16) (w : FVec Ideal S2048x2048 .f32) (h : FVec Ideal S8192x2048 .f32) (g : FVec Ideal S1x2048 .f32)
    (d : FVec Ideal S8192x2048 .bf16) (hp : Cert.Pre_finite_pgate.fn (F := Ideal) a w h g d = fun _ => 1#1) :
    (∀ i, a i ≠ ⊤ ∧ a i ≠ ⊥) ∧ (∀ i, w i ≠ ⊤ ∧ w i ≠ ⊥) ∧ (∀ i, h i ≠ ⊤ ∧ h i ≠ ⊥) ∧ (∀ i, g i ≠ ⊤ ∧ g i ≠ ⊥) := by
  have hp := congrFun hp (Shape.Idx.first (by decide))
  dsimp only [Cert.Pre_finite_pgate.fn, Cert.Pre_finite_pgate.fn_part1] at hp
  obtain ⟨hp, z⟩ := IntOp.andi_eq_one.1 hp
  obtain ⟨hp, y⟩ := IntOp.andi_eq_one.1 hp
  obtain ⟨u, x⟩ := IntOp.andi_eq_one.1 hp
  exact ⟨fun i => Cert.Finite.real_of_lt _ a _ i (Host.reduce_andi_all _ _ _ _ _ u i), fun i => Cert.Finite.real_of_lt _ w _ i (Host.reduce_andi_all _ _ _ _ _ x i),
    fun i => Cert.Finite.real_of_lt _ h _ i (Host.reduce_andi_all _ _ _ _ _ y i), fun i => Cert.Finite.real_of_lt _ g _ i (Host.reduce_andi_all _ _ _ _ _ z i)⟩

/-- With those real, the two forms agree. -/
theorem dh_eq (a : FVec Ideal S8192x2048 .bf16) (w : FVec Ideal S2048x2048 .f32) (h : FVec Ideal S8192x2048 .f32) (g : FVec Ideal S1x2048 .f32)
    (d : FVec Ideal S8192x2048 .bf16) (hp : Cert.Pre_finite_pgate.fn (F := Ideal) a w h g d = fun _ => 1#1) :
    dhR a w h g d = Cert.Kernel8Ideal.Val.dh a w h g d := by
  obtain ⟨ha, hw, hh, hg⟩ := all_real a w h g d hp
  funext i
  refine (back_eq _ _ _ (fun k => hh _) (fun k => ?_) _).symm
  exact real_dot_mul _ _ _ (fun l => ha _) (fun l => hw _) (hg _)

end Cert.Reference8Ideal.Val

end
-- ==== Proof.Down.lean ====
/- The last product of the feed-forward part, added to the residual, and the norm after it: what the call's blocks hold, and the reference. -/
module

public import proofs.«01_k».proof.Proof.Gen.Kernel9Ideal.Value
public import proofs.«01_k».proof.Proof.Gen.Reference9Ideal.Run
public import proofs.«01_k».proof.Proof.Rms
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel9Ideal.Val

open Idealize.ShloMosaic Idealize.ShloMosaic.TcCoe Idealize.SL.Sem
open Cert.Kernel9Ideal.Gen Cert.Rms

/-- The accumulator is filled with zeros. -/
theorem hzero (j : S512x2048.Idx) : k0_pay1 (F := Ideal) j = 0 := by pointwise [k0_pay1]

/-- The product of two blocks, contracted over 1408 columns of the first. -/
def part (a : FVec Ideal S512x1408 .bf16) (b : FVec Ideal S1408x2048 .bf16) : FVec Ideal S512x2048 .f32 :=
  fun j => ∑ k : Fin 1408, a (ix2 (j 0) k) * b (ix2 k (j 1))

theorem hpay (acc : FVec Ideal S512x2048 .f32) (a : FVec Ideal S512x1408 .bf16) (b : FVec Ideal S1408x2048 .bf16) (j : S512x2048.Idx) :
    k0_pay2 (F := Ideal) acc a b j = acc j + part a b j := by
  unfold part
  pointwise [k0_pay2]

/-- The sum with the residual. -/
theorem hsum (acc h : FVec Ideal S512x2048 .f32) (j : S512x2048.Idx) : k0_pay3 (F := Ideal) acc h j = h j + acc j := by pointwise [k0_pay3]

/-- The norm of the sum. -/
theorem hnorm (acc h : FVec Ideal S512x2048 .f32) (g : FVec Ideal S1x2048 .f32) (j : S512x2048.Idx) :
    k0_pay4 (F := Ideal) acc h g j
      = (h j + acc j) * rs (fun k => h (ix2 (j 0) k) + acc (ix2 (j 0) k)) * g (ix2 0 (j 1)) := by
  unfold rs
  pointwise [k0_pay4, k0_pay3]

theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0] ∧ win0_5.index t = ![t.val / 4, 0] :=
  (by decide +kernel : ∀ t : Fin grid0.N, _)

/-- The residual with the product added. -/
def sum (a : FVec Ideal S8192x5632 .bf16) (w : FVec Ideal S5632x2048 .f32) (h : FVec Ideal S8192x2048 .f32) : FVec Ideal S8192x2048 .f32 :=
  fun i => h i + ∑ l : Fin 5632, a (ix2 (i 0) l) * w (ix2 l (i 1))

/-- The norm of a row with the gain. -/
def norm (h : FVec Ideal S8192x2048 .f32) (g : FVec Ideal S1x2048 .f32) : FVec Ideal S8192x2048 .bf16 :=
  fun i => h i * rs (fun k => h (ix2 (i 0) k)) * g (ix2 0 (i 1))

variable (m : (ℓ : Loc nD τ sig) → Buf (Elt Ideal) ℓ) (c : Dev nD)

/-- The residual's block and the gain, as a point reads them. -/
def res (t : Fin cfg0.N) : FVec Ideal S512x2048 .f32 := iblk m c 2 t
def gain (t : Fin cfg0.N) : FVec Ideal S1x2048 .f32 := iblk m c 3 t

/-- What the accumulator holds after a point that begins a run of four, or continues one. -/
theorem acc_first (t : Fin cfg0.N) (h : t.val % 4 = 0) (j : S512x2048.Idx) :
    (outsAt0 m c t.val t.isLt).2.2 j = 0 + part (iblk m c 0 t) (iblk m c 1 t) j := by
  rw [outsAt0_A m c t h (by omega)]; frame_out; rw [hpay, hzero]

theorem acc_next (t : Fin cfg0.N) (h : ¬ t.val % 4 = 0) (j : S512x2048.Idx) :
    (outsAt0 m c t.val t.isLt).2.2 j = (outsAt0 m c (t.val - 1) (Nat.lt_of_le_of_lt (Nat.sub_le _ _) t.isLt)).2.2 j
      + part (iblk m c 0 t) (iblk m c 1 t) j := by
  by_cases h3 : t.val % 4 = 3
  · rw [outsAt0_C m c t h h3]; frame_out; rw [hpay, read_unread_whole]
  · rw [outsAt0_B m c t h h3]; frame_out; rw [hpay, read_unread_whole]

/-- What a run's last point writes out. -/
theorem out_sum (t : Fin cfg0.N) (h : t.val % 4 = 3) (j : S512x2048.Idx) :
    (outsAt0 m c t.val t.isLt).1 j = res m c t j + (outsAt0 m c t.val t.isLt).2.2 j := by
  rw [outsAt0_C m c t (by omega) h]; frame_out; rw [hsum]; rfl

theorem out_norm (t : Fin cfg0.N) (h : t.val % 4 = 3) (j : S512x2048.Idx) :
    (outsAt0 m c t.val t.isLt).2.1 j = (res m c t j + (outsAt0 m c t.val t.isLt).2.2 j)
      * rs (fun k => res m c t (ix2 (j 0) k) + (outsAt0 m c t.val t.isLt).2.2 (ix2 (j 0) k))
      * gain m c t (ix2 0 (j 1)) := by
  rw [outsAt0_C m c t (by omega) h]; frame_out; rw [hnorm]; rfl

/-- The weight as the call takes it: cast. -/
theorem V_v0 (i : S5632x2048.Idx) : (V m c main_v0 i : EReal) = (m ((c.tc : Thread nD τ).loc main_arg1) : FVec Ideal S5632x2048 .f32) i := by
  have h : V m c main_v0 = (truncf .bf16 (m ((c.tc : Thread nD τ).loc main_arg1) : FVec Ideal S5632x2048 .f32) bitsLt_bf16_f32 : FVec Ideal S5632x2048 .bf16) := by
    unfold V; after_results
  rw [h]; pointwise

/-- The residual's block with the run's accumulator is a block of the sum. -/
theorem sum_last (t : Fin cfg0.N) (h3 : t.val % 4 = 3) (j : S512x2048.Idx) (i : S8192x2048.Idx)
    (h0 : (i 0).val = t.val / 4 * 512 + (j 0).val) (h1 : (i 1).val = (j 1).val) :
    res m c t j + (outsAt0 m c t.val t.isLt).2.2 j
      = sum (m ((c.tc : Thread nD τ).loc main_arg0)) (m ((c.tc : Thread nD τ).loc main_arg1)) (m ((c.tc : Thread nD τ).loc main_arg2)) i := by
  rw [Pipeline.eq_sum_fin_of_reset_step_apply_of_flush (fun n h => (outsAt0 m c n h).2.2) 4 (fun _ => 0) _
    (fun t h j => acc_first m c t h j) (fun t h j => acc_next m c t h j) t h3 _, zero_add]
  unfold sum part
  have ht : t.val < 64 := lt_of_lt_of_eq t.isLt N_0
  refine congrArg₂ (fun a b : EReal => a + b) ?_ ?_
  · blk_point [res, iblk, V_main_arg2, idx t]
  · refine Fin.sum_mul_add_congr fun s k hl => ?_
    blk_point [iblk, V_main_arg0, V_v0, idx t, idx ⟨_, Pipeline.run_point_lt_of_flush t h3 s⟩]

/-- After the run the first array is the sum. -/
theorem final4 : (dats m 0 c).arrAt 4 (cfgs 0).N
    = sum (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have h3 : t.val % 4 = 4 - 1 := (flush0_4 t).mp hf
  blk_simp
  rw [after0_4, out_sum m c t h3]
  exact sum_last m c t h3 _ _ (by blk_simp [idx t]) (by blk_simp [idx t])

/-- After the run the second array is the sum's norm. -/
theorem final5 : (dats m 0 c).arrAt 5 (cfgs 0).N
    = norm (sum (m ((c.tc : Thread nD τ).loc main_arg0)) (m ((c.tc : Thread nD τ).loc main_arg1)) (m ((c.tc : Thread nD τ).loc main_arg2)))
      (m ((c.tc : Thread nD τ).loc main_arg3)) := by
  refine (dats m 0 c).arrAt_eq_of_covers 5 _ (by decide +kernel) fun t hf y => ?_
  have h3 : t.val % 4 = 4 - 1 := (flush0_5 t).mp hf
  blk_simp
  rw [after0_5, out_norm m c t h3]
  unfold norm
  refine congrArg₂ (fun a b : EReal => a * b) (congrArg₂ (fun a b : EReal => a * b) ?_ (congrArg rs (funext fun k => ?_))) ?_
  · exact sum_last m c t h3 _ _ (by blk_simp [idx t]) (by blk_simp [idx t])
  · exact sum_last m c t h3 _ _ (by blk_simp [idx t]) (by blk_simp [idx t])
  · have ht : t.val < 64 := lt_of_lt_of_eq t.isLt N_0
    blk_point [gain, iblk, V_main_arg3, idx t]

end Cert.Kernel9Ideal.Val

namespace Cert.Reference9Ideal.Val

open Idealize.ShloMosaic Idealize.ShloMosaic.TcCoe Idealize.SL.Sem

/-- The sum and its norm. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
        = Cert.Kernel9Ideal.Val.sum (m ((c.tc : Thread nD τ).loc main_arg0)) (m ((c.tc : Thread nD τ).loc main_arg1)) (m ((c.tc : Thread nD τ).loc main_arg2))
      ∧ r.2.mem ((c.tc : Thread nD τ).loc main_v15)
        = Cert.Kernel9Ideal.Val.norm (Cert.Kernel9Ideal.Val.sum (m ((c.tc : Thread nD τ).loc main_arg0)) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_), (h c).2.2⟩)
    (Cert.Reference9Ideal.Value.run m ρ)
  · pointwise [Cert.Kernel9Ideal.Val.sum]
  · pointwise [Cert.Kernel9Ideal.Val.norm, Cert.Kernel9Ideal.Val.sum, Cert.Rms.rs]

end Cert.Reference9Ideal.Val

end
-- ==== Proof.Out.lean ====
/- The output projection of the two groups of heads, added to the residual, and the norm after it: what the call's blocks hold, and the reference. -/
module

public import proofs.«01_k».proof.Proof.Gen.Kernel10Ideal.Value
public import proofs.«01_k».proof.Proof.Gen.Reference10Ideal.Run
public import proofs.«01_k».proof.Proof.Rms
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel10Ideal.Val

open Idealize.ShloMosaic Idealize.ShloMosaic.TcCoe Idealize.SL.Sem
open Cert.Kernel10Ideal.Gen Cert.Rms

/-- The product of two blocks. -/
def part (a : FVec Ideal S512x1024 .bf16) (b : FVec Ideal S1024x2048 .bf16) : FVec Ideal S512x2048 .f32 :=
  fun j => ∑ k : Fin 1024, a (ix2 (j 0) k) * b (ix2 k (j 1))

/-- The residual's block with both products. -/
def blockSum (a : FVec Ideal S512x1024 .bf16) (b : FVec Ideal S1024x2048 .bf16) (a' : FVec Ideal S512x1024 .bf16) (b' : FVec Ideal S1024x2048 .bf16)
    (h : FVec Ideal S512x2048 .f32) : FVec Ideal S512x2048 .f32 :=
  fun j => h j + (part a b j + part a' b' j)

theorem hsum (a : FVec Ideal S512x1024 .bf16) (b : FVec Ideal S1024x2048 .bf16) (a' : FVec Ideal S512x1024 .bf16) (b' : FVec Ideal S1024x2048 .bf16)
    (h : FVec Ideal S512x2048 .f32) : k0_pay1 (F := Ideal) a b a' b' h = blockSum a b a' b' h := by
  funext j
  unfold blockSum part
  pointwise [k0_pay1]

theorem hnorm (a : FVec Ideal S512x1024 .bf16) (b : FVec Ideal S1024x2048 .bf16) (a' : FVec Ideal S512x1024 .bf16) (b' : FVec Ideal S1024x2048 .bf16)
    (h : FVec Ideal S512x2048 .f32) (g : FVec Ideal S1x2048 .f32) (j : S512x2048.Idx) :
    k0_pay2 (F := Ideal) a b a' b' h g j
      = blockSum a b a' b' h j * rs (fun k => blockSum a b a' b' h (ix2 (j 0) k)) * g (ix2 0 (j 1)) := by
  unfold rs
  unfold k0_pay2
  rw [hsum]
  generalize blockSum a b a' b' h = s
  pointwise

theorem idx : ∀ t : Fin cfg0.N, win0_0.index t = ![t.val, 0] ∧ win0_1.index t = ![0, 0] ∧ win0_2.index t = ![t.val, 0]
    ∧ win0_3.index t = ![1, 0] ∧ win0_4.index t = ![t.val, 0] ∧ win0_5.index t = ![0, 0] ∧ win0_6.index t = ![t.val, 0] ∧ win0_7.index t = ![t.val, 0] :=
  (by decide +kernel : ∀ t : Fin grid0.N, _)

/-- The residual with the product of the two groups' outputs, side by side, and the weight. -/
def sum (a : FVec Ideal S8192x1024 .bf16) (a' : FVec Ideal S8192x1024 .bf16) (w : FVec Ideal S2048x2048 .f32) (h : FVec Ideal S8192x2048 .f32) :
    FVec Ideal S8192x2048 .f32 :=
  fun i => h i + (∑ l : Fin 1024, a (ix2 (i 0) l) * w (ix2 ⟨l.val, by omega⟩ (i 1))
    + ∑ l : Fin 1024, a' (ix2 (i 0) l) * w (ix2 ⟨1024 + l.val, by omega⟩ (i 1)))

/-- The norm of a row with the gain. -/
def norm (h : FVec Ideal S8192x2048 .f32) (g : FVec Ideal S1x2048 .f32) : FVec Ideal S8192x2048 .bf16 :=
  fun i => h i * rs (fun k => h (ix2 (i 0) k)) * g (ix2 0 (i 1))

variable (m : (ℓ : Loc nD τ sig) → Buf (Elt Ideal) ℓ) (c : Dev nD)

/-- The weight as the call takes it: cast. -/
theorem V_v0 (i : S2048x2048.Idx) : (V m c main_v0 i : EReal) = (m ((c.tc : Thread nD τ).loc main_arg2) : FVec Ideal S2048x2048 .f32) i := by
  have h : V m c main_v0 = (truncf .bf16 (m ((c.tc : Thread nD τ).loc main_arg2) : FVec Ideal S2048x2048 .f32) bitsLt_bf16_f32 : FVec Ideal S2048x2048 .bf16) := by
    unfold V; after_results
  rw [h]; pointwise

/-- A point's residual with both products is a block of the sum. -/
theorem sum_blk (t : Fin cfg0.N) (j : S512x2048.Idx) (i : S8192x2048.Idx)
    (h0 : (i 0).val = t.val * 512 + (j 0).val) (h1 : (i 1).val = (j 1).val) :
    blockSum (iblk m c 0 t) (iblk m c 1 t) (iblk m c 2 t) (iblk m c 3 t) (iblk m c 4 t) j
      = sum (m ((c.tc : Thread nD τ).loc main_arg0)) (m ((c.tc : Thread nD τ).loc main_arg1)) (m ((c.tc : Thread nD τ).loc main_arg2))
          (m ((c.tc : Thread nD τ).loc main_arg3)) i := by
  have ht : t.val < 16 := lt_of_lt_of_eq t.isLt N_0
  unfold blockSum sum part
  refine congrArg₂ (fun a b : EReal => a + b) ?_ (congrArg₂ (fun a b : EReal => a + b)
    (Finset.sum_congr rfl fun k _ => ?_) (Finset.sum_congr rfl fun k _ => ?_))
  · blk_point [iblk, V_main_arg3, idx t]
  · blk_point [iblk, V_main_arg0, V_v0, idx t]
  · blk_point [iblk, V_main_arg1, V_v0, idx t]

/-- After the run the first array is the sum. -/
theorem final6 : (dats m 0 c).arrAt 6 (cfgs 0).N
    = sum (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 6 _ (by decide +kernel) fun t hf y => ?_
  blk_simp
  rw [after0_6]; frame_out; rw [hsum]
  exact sum_blk m c t _ _ (by blk_simp [idx t]) (by blk_simp [idx t])

/-- After the run the second array is the sum's norm. -/
theorem final7 : (dats m 0 c).arrAt 7 (cfgs 0).N
    = norm (sum (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) := by
  refine (dats m 0 c).arrAt_eq_of_covers 7 _ (by decide +kernel) fun t hf y => ?_
  blk_simp
  rw [after0_7]; frame_out; rw [hnorm]
  unfold norm
  refine congrArg₂ (fun a b : EReal => a * b) (congrArg₂ (fun a b : EReal => a * b) ?_ (congrArg rs (funext fun k => ?_))) ?_
  · exact sum_blk m c t _ _ (by blk_simp [idx t]) (by blk_simp [idx t])
  · exact sum_blk m c t _ _ (by blk_simp [idx t]) (by blk_simp [idx t])
  · have ht : t.val < 16 := lt_of_lt_of_eq t.isLt N_0
    blk_point [iblk, V_main_arg4, idx t]

end Cert.Kernel10Ideal.Val

namespace Cert.Reference10Ideal.Val

open Idealize.ShloMosaic Idealize.ShloMosaic.TcCoe Idealize.SL.Sem

/-- The sum and its norm. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = Cert.Kernel10Ideal.Val.sum (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v16)
        = Cert.Kernel10Ideal.Val.norm (Cert.Kernel10Ideal.Val.sum (m ((c.tc : Thread nD τ).loc main_arg0)) (m ((c.tc : Thread nD τ).loc main_arg1)) (m ((c.tc : Thread nD τ).loc main_arg2))
            (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans (funext fun i => ?_), (h c).2.1.trans (funext fun i => ?_), (h c).2.2⟩)
    (Cert.Reference10Ideal.Value.run m ρ)
  · pointwise [Cert.Kernel10Ideal.Val.sum]
  · pointwise [Cert.Kernel10Ideal.Val.norm, Cert.Kernel10Ideal.Val.sum, Cert.Rms.rs]

end Cert.Reference10Ideal.Val

end
-- ==== Proof.GwPgate.lean ====
/- The gradient of the gate's weight in the per-layer embedding: what the call's blocks hold after the rows have been summed, and the reference. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel11Ideal.Val

open Idealize.ShloMosaic Idealize.ShloMosaic.TcCoe Idealize.SL.Sem
open Cert.Kernel11Ideal.Gen

/-- The accumulator is filled with zeros. -/
theorem hzero (j : S1024x2048.Idx) : k0_pay1 (F := Ideal) j = 0 := by pointwise [k0_pay1]

/-- The product of two blocks, contracted over their 1024 rows. -/
def part (a : FVec Ideal S1024x1024 .bf16) (b : FVec Ideal S1024x2048 .bf16) : FVec Ideal S1024x2048 .f32 :=
  fun j => ∑ k : Fin 1024, a (ix2 k (j 0)) * b (ix2 k (j 1))

/-- One step adds the product of the two blocks, contracted over their 1024 rows. -/
theorem hpay (acc : FVec Ideal S1024x2048 .f32) (a : FVec Ideal S1024x1024 .bf16) (b : FVec Ideal S1024x2048 .bf16) (j : S1024x2048.Idx) :
    k0_pay2 (F := Ideal) acc a b j = acc j + part a b j := by
  unfold part
  pointwise [k0_pay2]

/-- The accumulator is written out as it is: over the reals the cast is the identity. -/
theorem hcast (acc : FVec Ideal S1024x2048 .f32) (j : S1024x2048.Idx) : k0_pay3 (F := Ideal) acc j = acc j := by pointwise [k0_pay3]

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of the transposed first array with the second. -/
def TN (a : FVec Ideal S8192x2048 .bf16) (b : FVec Ideal S8192x2048 .bf16) : FVec Ideal S2048x2048 .bf16 :=
  fun i => ∑ l : Fin 8192, a (ix2 l (i 0)) * b (ix2 l (i 1))

variable (m : (ℓ : Loc nD τ sig) → Buf (Elt Ideal) ℓ) (c : Dev nD)

/-- What the accumulator holds after a point that begins a run of eight, or continues one. -/
theorem acc_first (t : Fin cfg0.N) (h : t.val % 8 = 0) (j : S1024x2048.Idx) :
    (outsAt0 m c t.val t.isLt).2 j = 0 + part (iblk m c 0 t) (iblk m c 1 t) j := by
  rw [outsAt0_A m c t h (by omega)]; frame_out; rw [hpay, hzero]

theorem acc_next (t : Fin cfg0.N) (h : ¬ t.val % 8 = 0) (j : S1024x2048.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 8 = 7
  · rw [outsAt0_C m c t h h3]; frame_out; rw [hpay, read_unread_whole]
  · rw [outsAt0_B m c t h h3]; frame_out; rw [hpay, read_unread_whole]

/-- What a run's last point writes out is the accumulator. -/
theorem out_last (t : Fin cfg0.N) (h : t.val % 8 = 7) (j : S1024x2048.Idx) :
    (outsAt0 m c t.val t.isLt).1 j = (outsAt0 m c t.val t.isLt).2 j := by
  rw [outsAt0_C m c t (by omega) h]; frame_out; rw [hcast]

/-- After the run the array is the whole product. -/
theorem final : (dats m 0 c).arrAt 2 (cfgs 0).N
    = TN (m ((c.tc : Thread nD τ).loc main_arg0)) (m ((c.tc : Thread nD τ).loc main_arg1)) := by
  refine (dats m 0 c).arrAt_eq_of_covers 2 _ (by decide +kernel) fun t hf y => ?_
  have h3 : t.val % 8 = 8 - 1 := (flush0_2 t).mp hf
  blk_simp
  rw [after0_2, out_last m c t h3, Pipeline.eq_sum_fin_of_reset_step_apply_of_flush (fun n h => (outsAt0 m c n h).2) 8 (fun _ => 0) _
    (fun t h j => acc_first m c t h j) (fun t h j => acc_next m c t h j) t h3 _, zero_add]
  unfold TN part
  refine Fin.sum_mul_add_congr fun s k hl => ?_
  have ht : t.val < 16 := lt_of_lt_of_eq t.isLt N_0
  blk_point [iblk, V, idx t, idx ⟨_, Pipeline.run_point_lt_of_flush t h3 s⟩]

end Cert.Kernel11Ideal.Val

namespace Cert.Reference11Ideal.Val

open Idealize.ShloMosaic Idealize.ShloMosaic.TcCoe Idealize.SL.Sem

/-- The gradient of `r @ w_pgate` in `w_pgate` is the same product with the factors of each term exchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
        = Cert.Kernel11Ideal.Val.TN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Cert.Reference11Ideal.Value.run m ρ)
  pointwise [Cert.Kernel11Ideal.Val.TN]
  exact Finset.sum_congr rfl fun l _ => mul_comm _ _

end Cert.Reference11Ideal.Val

end
-- ==== Proof.GwOut.lean ====
/- The gradient of one half of the output projection's weight: what the call's block holds after the rows have been summed, and the reference. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel12Ideal.Val

open Idealize.ShloMosaic Idealize.ShloMosaic.TcCoe Idealize.SL.Sem
open Cert.Kernel12Ideal.Gen

/-- The accumulator is filled with zeros. -/
theorem hzero (j : S1024x2048.Idx) : k0_pay1 (F := Ideal) j = 0 := by pointwise [k0_pay1]

/-- The product of two blocks, contracted over their 1024 rows. -/
def part (a : FVec Ideal S1024x1024 .bf16) (b : FVec Ideal S1024x2048 .bf16) : FVec Ideal S1024x2048 .f32 :=
  fun j => ∑ k : Fin 1024, a (ix2 k (j 0)) * b (ix2 k (j 1))

/-- One step adds the product of the two blocks, contracted over their 1024 rows. -/
theorem hpay (acc : FVec Ideal S1024x2048 .f32) (a : FVec Ideal S1024x1024 .bf16) (b : FVec Ideal S1024x2048 .bf16) (j : S1024x2048.Idx) :
    k0_pay2 (F := Ideal) acc a b j = acc j + part a b j := by
  unfold part
  pointwise [k0_pay2]

/-- The accumulator is written out as it is: over the reals the cast is the identity. -/
theorem hcast (acc : FVec Ideal S1024x2048 .f32) (j : S1024x2048.Idx) : k0_pay3 (F := Ideal) acc j = acc j := by pointwise [k0_pay3]

theorem idx : ∀ t : Fin cfg0.N, win0_0.index t = ![t.val % 8, 0] ∧ win0_1.index t = ![t.val % 8, 0] ∧ win0_2.index t = ![0, 0] :=
  (by decide +kernel : ∀ t : Fin grid0.N, _)

/-- The product of the transposed first array with the second. -/
def TN (a : FVec Ideal S8192x1024 .bf16) (b : FVec Ideal S8192x2048 .bf16) : FVec Ideal S1024x2048 .bf16 :=
  fun i => ∑ l : Fin 8192, a (ix2 l (i 0)) * b (ix2 l (i 1))

variable (m : (ℓ : Loc nD τ sig) → Buf (Elt Ideal) ℓ) (c : Dev nD)

/-- What the accumulator holds after a point that begins a run of eight, or continues one. -/
theorem acc_first (t : Fin cfg0.N) (h : t.val % 8 = 0) (j : S1024x2048.Idx) :
    (outsAt0 m c t.val t.isLt).2 j = 0 + part (iblk m c 0 t) (iblk m c 1 t) j := by
  rw [outsAt0_A m c t h (by omega)]; frame_out; rw [hpay, hzero]

theorem acc_next (t : Fin cfg0.N) (h : ¬ t.val % 8 = 0) (j : S1024x2048.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 8 = 7
  · rw [outsAt0_C m c t h h3]; frame_out; rw [hpay, read_unread_whole]
  · rw [outsAt0_B m c t h h3]; frame_out; rw [hpay, read_unread_whole]

/-- What a run's last point writes out is the accumulator. -/
theorem out_last (t : Fin cfg0.N) (h : t.val % 8 = 7) (j : S1024x2048.Idx) :
    (outsAt0 m c t.val t.isLt).1 j = (outsAt0 m c t.val t.isLt).2 j := by
  rw [outsAt0_C m c t (by omega) h]; frame_out; rw [hcast]

/-- After the run the array is the whole product. -/
theorem final : (dats m 0 c).arrAt 2 (cfgs 0).N
    = TN (m ((c.tc : Thread nD τ).loc main_arg0)) (m ((c.tc : Thread nD τ).loc main_arg1)) := by
  refine (dats m 0 c).arrAt_eq_of_covers 2 _ (by decide +kernel) fun t hf y => ?_
  have h3 : t.val % 8 = 8 - 1 := (flush0_2 t).mp hf
  blk_simp
  rw [after0_2, out_last m c t h3, Pipeline.eq_sum_fin_of_reset_step_apply_of_flush (fun n h => (outsAt0 m c n h).2) 8 (fun _ => 0) _
    (fun t h j => acc_first m c t h j) (fun t h j => acc_next m c t h j) t h3 _, zero_add]
  unfold TN part
  refine Fin.sum_mul_add_congr fun s k hl => ?_
  have ht : t.val < 8 := lt_of_lt_of_eq t.isLt N_0
  blk_point [iblk, V, idx t, idx ⟨_, Pipeline.run_point_lt_of_flush t h3 s⟩]

end Cert.Kernel12Ideal.Val

namespace Cert.Reference12Ideal.Val

open Idealize.ShloMosaic Idealize.ShloMosaic.TcCoe Idealize.SL.Sem

/-- The gradient of `o @ w` in `w` is the same product with the factors of each term exchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
        = Cert.Kernel12Ideal.Val.TN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Cert.Reference12Ideal.Value.run m ρ)
  pointwise [Cert.Kernel12Ideal.Val.TN]
  exact Finset.sum_congr rfl fun l _ => mul_comm _ _

end Cert.Reference12Ideal.Val

end
-- ==== Proof.LossRows.lean ====
/- The gated embedding, the last norm, the loss and their gradients, row by row. -/
module

public import proofs.«01_k».proof.Proof.Rms

@[expose] public section

set_option maxRecDepth 16384

noncomputable section

namespace Cert.Loss

open Idealize.ShloMosaic Cert.Rms

/-- The gate of one logit. -/
def gate (x : EReal) : EReal :=
  Ideal.div (Ideal.ofBits .f32 1065353216#32) (Ideal.ofBits .f32 1065353216#32 + Ideal.exp (-x))

/-- The error of a normed row with the gain `g` against the target `t`. -/
def err (v g t : Fin 2048 → EReal) (k : Fin 2048) : EReal := v k * rs v * g k - t k

/-- The gradient of the loss in the normed row: the error over the row's length. -/
def dy (v g t : Fin 2048 → EReal) (k : Fin 2048) : EReal := err v g t k * Ideal.ofBits .f32 973078528#32

/-- The gradient of the loss in the row itself, in the projection's form. -/
def dv (v g t : Fin 2048 → EReal) (j : Fin 2048) : EReal := back 0 v (fun k => dy v g t k * g k) j

/-- The gradient in the gate's logit, from that in the row, the embedding and the gate. -/
def dx (d u s : EReal) : EReal := d * u * s * (Ideal.ofBits .f32 1065353216#32 - s)

/-- The gradient of the loss in the normed row as the chain rule gives it. -/
def dyR (v g t : Fin 2048 → EReal) (k : Fin 2048) : EReal :=
  Ideal.div (Ideal.ofBits .f32 1056964608#32 * Ideal.ofBits .f32 1065353216#32) (Ideal.ofBits .f32 1157627904#32)
    * (Ideal.ofBits .f32 1073741824#32 * err v g t k)

/-- The chain rule's gradient of a norm, with nothing added to it. -/
def chain' (h dn : Fin 2048 → EReal) (j : Fin 2048) : EReal :=
  dn j * rs h + h j * (∑ _x : Fin 1, half h dn) + (∑ _x : Fin 1, half h dn) * h j

theorem chain_zero (h dn : Fin 2048 → EReal) (j : Fin 2048) : chain 0 h dn j = chain' h dn j := by
  unfold chain chain'
  rw [zero_add]

theorem one' : Ideal.ofBits .f32 1065353216#32 = ((1 : ℝ) : EReal) := by
  simp [Ideal.ofBits, Ideal.ieee]
  rw [← EReal.coe_mul]
  norm_num

theorem two' : Ideal.ofBits .f32 1073741824#32 = ((2 : ℝ) : EReal) := by
  simp [Ideal.ofBits, Ideal.ieee]
  rw [← EReal.coe_mul]
  norm_num

theorem half' : Ideal.ofBits .f32 1056964608#32 = ((1 / 2 : ℝ) : EReal) := by
  simp [Ideal.ofBits, Ideal.ieee]
  rw [← EReal.coe_mul]
  norm_num

theorem over2048 : Ideal.ofBits .f32 973078528#32 = ((1 / 2048 : ℝ) : EReal) := by
  simp [Ideal.ofBits, Ideal.ieee]
  rw [← EReal.coe_mul]
  norm_num

theorem over4096 : Ideal.ofBits .f32 964689920#32 = ((1 / 4096 : ℝ) : EReal) := by
  simp [Ideal.ofBits, Ideal.ieee]
  rw [← EReal.coe_mul]
  norm_num

/-- The two forms of the gradient in the normed row agree, whatever the values. -/
theorem dyR_eq (v g t : Fin 2048 → EReal) (k : Fin 2048) : dyR v g t k = dy v g t k := by
  unfold dyR dy
  rw [half', one', two', c2048, over2048, Ideal.div_coe (by norm_num), ← mul_assoc, ← EReal.coe_mul, ← EReal.coe_mul, ← EReal.coe_mul, mul_comm]
  norm_num

/-- A real number among the extended ones. -/
abbrev Fin' (x : EReal) : Prop := x ≠ ⊤ ∧ x ≠ ⊥

theorem fin_coe (x : ℝ) : Fin' (x : EReal) := ⟨EReal.coe_ne_top x, EReal.coe_ne_bot x⟩

theorem fin_add {x y : EReal} (hx : Fin' x) (hy : Fin' y) : Fin' (x + y) := by
  rw [← EReal.coe_toReal hx.1 hx.2, ← EReal.coe_toReal hy.1 hy.2, ← EReal.coe_add]; exact fin_coe _

theorem fin_sub {x y : EReal} (hx : Fin' x) (hy : Fin' y) : Fin' (x - y) := by
  rw [← EReal.coe_toReal hx.1 hx.2, ← EReal.coe_toReal hy.1 hy.2, ← EReal.coe_sub]; exact fin_coe _

theorem fin_mul {x y : EReal} (hx : Fin' x) (hy : Fin' y) : Fin' (x * y) := by
  rw [← EReal.coe_toReal hx.1 hx.2, ← EReal.coe_toReal hy.1 hy.2, ← EReal.coe_mul]; exact fin_coe _

/-- A gate is a real number, whatever its logit. -/
theorem fin_gate (x : EReal) : Fin' (gate x) := by
  unfold gate
  rw [one']
  induction x with
  | bot =>
    rw [EReal.neg_bot, Ideal.exp_top, EReal.coe_add_top, Ideal.div, if_neg (by decide), EReal.inv_top, mul_zero]
    exact fin_coe 0
  | top =>
    rw [EReal.neg_top, Ideal.exp_bot, add_zero, Ideal.div_coe (by norm_num), ← EReal.coe_mul]
    exact fin_coe _
  | coe x =>
    rw [← EReal.coe_neg, Ideal.exp_coe, ← EReal.coe_add, Ideal.div_coe (by positivity), ← EReal.coe_mul]
    exact fin_coe _

/-- The errors of a row of real numbers are real. -/
theorem fin_err (v g t : Fin 2048 → EReal) (hv : ∀ k, Fin' (v k)) (hg : ∀ k, Fin' (g k)) (ht : ∀ k, Fin' (t k)) (k : Fin 2048) : Fin' (err v g t k) := by
  have hr : Fin' (rs v) := by
    obtain ⟨q, r, _, _, _, e⟩ := rs_real fun k => (v k).toReal
    rw [(funext fun k => (EReal.coe_toReal (hv k).1 (hv k).2).symm : v = fun k => ((v k).toReal : EReal)), e]
    exact fin_coe r
  exact fin_sub (fin_mul (fin_mul (hv k) hr) (hg k)) (ht k)

theorem fin_dy (v g t : Fin 2048 → EReal) (hv : ∀ k, Fin' (v k)) (hg : ∀ k, Fin' (g k)) (ht : ∀ k, Fin' (t k)) (k : Fin 2048) : Fin' (dy v g t k) := by
  unfold dy
  rw [over2048]
  exact fin_mul (fin_err v g t hv hg ht k) (fin_coe _)

/-- On real numbers the two forms of the gradient in the row agree. -/
theorem dv_eq (v g t : Fin 2048 → EReal) (hv : ∀ k, Fin' (v k)) (hg : ∀ k, Fin' (g k)) (ht : ∀ k, Fin' (t k)) (j : Fin 2048) :
    chain' v (fun k => dyR v g t k * g k) j = dv v g t j := by
  have e : (fun k => dyR v g t k * g k) = fun k => dy v g t k * g k := funext fun k => by rw [dyR_eq]
  unfold dv
  rw [e, ← chain_zero, back_eq _ _ _ hv fun k => fin_mul (fin_dy v g t hv hg ht k) (hg k)]

/-- Half the sum of the rows' means is the sum of all squares over twice the row's length. -/
theorem loss_eq (e : Fin 8192 → Fin 2048 → EReal) (he : ∀ n k, Fin' (e n k)) :
    Ideal.ofBits .f32 1056964608#32 * ∑ n, Ideal.div (∑ k, e n k * e n k) (Ideal.ofBits .f32 1157627904#32)
      = (∑ k, ∑ n, e n k * e n k) * Ideal.ofBits .f32 964689920#32 := by
  obtain ⟨a, rfl⟩ : ∃ a : Fin 8192 → Fin 2048 → ℝ, e = fun n k => (a n k : EReal) :=
    ⟨fun n k => (e n k).toReal, funext fun n => funext fun k => (EReal.coe_toReal (he n k).1 (he n k).2).symm⟩
  have s1 : ∀ n, (∑ k, (a n k : EReal) * (a n k : EReal)) = ((∑ k, a n k * a n k : ℝ) : EReal) := fun n => by
    rw [Cert.Rows.coe_sum]; exact Finset.sum_congr rfl fun k _ => (EReal.coe_mul _ _).symm
  rw [Finset.sum_comm, half', over4096, c2048]
  simp only [s1, Ideal.div_coe (by norm_num : (2048 : ℝ) ≠ 0)]
  have s2 : (∑ n, ((∑ k, a n k * a n k : ℝ) : EReal) * ((1 / 2048 : ℝ) : EReal)) = (((∑ n, ∑ k, a n k * a n k) * (1 / 2048) : ℝ) : EReal) := by
    rw [Finset.sum_mul, Cert.Rows.coe_sum]; exact Finset.sum_congr rfl fun n _ => (EReal.coe_mul _ _).symm
  rw [s2, ← Cert.Rows.coe_sum]
  generalize (∑ n, ∑ k, a n k * a n k) = S
  rw [← EReal.coe_mul, ← EReal.coe_mul]
  exact EReal.coe_eq_coe_iff.mpr (by ring)

end Cert.Loss

end
-- ==== Proof.Loss.lean ====
/- The loss call: what its blocks hold. -/
module

public import proofs.«01_k».proof.Proof.Gen.Kernel16Ideal.Value
public import proofs.«01_k».proof.Proof.LossRows
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel16Ideal.Val

open Idealize.ShloMosaic Idealize.ShloMosaic.TcCoe Idealize.SL.Sem
open Cert.Kernel16Ideal.Gen Cert.Rms Cert.Loss

/-- The carried sums are filled with zeros. -/
theorem hzeroL (j : S8x2048.Idx) : k0_pay19 (F := Ideal) j = 0 := by pointwise [k0_pay19]
theorem hzeroG (j : S8x2048.Idx) : k0_pay20 (F := Ideal) j = 0 := by pointwise [k0_pay20]
theorem hzeroB (j : S8x2048.Idx) : k0_pay21 (F := Ideal) j = 0 := by pointwise [k0_pay21]

section
variable (r : FVec Ideal S256x2048 .bf16) (w : FVec Ideal S2048x2048 .bf16) (b : FVec Ideal S1x2048 .f32)
  (p : FVec Ideal S256x256 .bf16) (q : FVec Ideal S256x2048 .bf16) (h : FVec Ideal S256x2048 .f32)
  (t : FVec Ideal S256x2048 .f32) (g : FVec Ideal S1x2048 .f32)

/-- A block's gates. -/
def gt : FVec Ideal S256x2048 .f32 := fun j => gate ((∑ l : Fin 2048, r (ix2 (j 0) l) * w (ix2 l (j 1))) + b (ix2 0 (j 1)))
/-- Its embeddings. -/
def pe : FVec Ideal S256x2048 .f32 := fun j => ∑ l : Fin 256, p (ix2 (j 0) l) * q (ix2 l (j 1))
/-- The rows that the last norm takes. -/
def vv : FVec Ideal S256x2048 .f32 := fun j => h j + pe p q j * gt r w b j

theorem h6 : k0_pay6 (F := Ideal) r w b = gt r w b := by
  funext j
  unfold gt gate
  pointwise [k0_pay6]
  rw [zero_sub]

theorem h7 : k0_pay7 (F := Ideal) p q = pe p q := by
  funext j
  unfold pe
  pointwise [k0_pay7]

theorem h8 : k0_pay8 (F := Ideal) r w b p q h = vv r w b p q h := by
  funext j
  unfold vv
  pointwise [k0_pay8, h6, h7]

theorem h9 : k0_pay9 (F := Ideal) r w b p q h = fun j => rs (fun k => vv r w b p q h (ix2 (j 0) k)) := by
  funext j
  unfold rs
  pointwise [k0_pay9, h8]

theorem h10 : k0_pay10 (F := Ideal) r w b p q h = fun j => vv r w b p q h j * rs (fun k => vv r w b p q h (ix2 (j 0) k)) := by
  funext j
  pointwise [k0_pay10, h8, h9]

theorem h11 : k0_pay11 (F := Ideal) r w b p q h g
    = fun j => vv r w b p q h j * rs (fun k => vv r w b p q h (ix2 (j 0) k)) * g (ix2 0 (j 1)) := by
  funext j
  pointwise [k0_pay11, h10]

/-- A block's rows, errors and gradients. -/
abbrev row (x : FVec Ideal S256x2048 .f32) (j : S256x2048.Idx) : Fin 2048 → EReal := fun k => x (ix2 (j 0) k)
abbrev vec (x : FVec Ideal S1x2048 .f32) : Fin 2048 → EReal := fun k => x (ix2 0 k)
def bErr : FVec Ideal S256x2048 .f32 := fun j => err (row (vv r w b p q h) j) (vec g) (row t j) (j 1)
def bDy : FVec Ideal S256x2048 .f32 := fun j => dy (row (vv r w b p q h) j) (vec g) (row t j) (j 1)
def bDv : FVec Ideal S256x2048 .f32 := fun j => dv (row (vv r w b p q h) j) (vec g) (row t j) (j 1)
def bDx : FVec Ideal S256x2048 .f32 := fun j => dx (bDv r w b p q h t g j) (pe p q j) (gt r w b j)

theorem h12 : k0_pay12 (F := Ideal) (k0_pay11 r w b p q h g) t = bErr r w b p q h t g := by
  funext j
  unfold bErr err row vec
  pointwise [k0_pay12, h11]

theorem h13 : k0_pay13 (F := Ideal) (k0_pay11 r w b p q h g) t = bDy r w b p q h t g := by
  funext j
  unfold bDy dy
  pointwise [k0_pay13, h12, bErr]

theorem h14 : k0_pay14 (F := Ideal) (k0_pay9 r w b p q h) (k0_pay10 r w b p q h) g (k0_pay11 r w b p q h g) t = bDv r w b p q h t g := by
  funext j
  unfold bDv dv back
  rw [zero_add]
  pointwise [k0_pay14, h13, h9, h10, bDy, row, vec]
  rfl

theorem h15 (j : S256x2048.Idx) : k0_pay15 (F := Ideal) (k0_pay9 r w b p q h) (k0_pay10 r w b p q h) g (k0_pay11 r w b p q h g) t j
    = bDv r w b p q h t g j := by
  pointwise [k0_pay15, h14]

theorem h16 (j : S256x2048.Idx) : k0_pay16 (F := Ideal) (k0_pay6 r w b) (k0_pay9 r w b p q h) (k0_pay10 r w b p q h) g (k0_pay11 r w b p q h g) t j
    = bDv r w b p q h t g j * gt r w b j := by
  pointwise [k0_pay16, h14, h6]

theorem h17 : k0_pay17 (F := Ideal) (k0_pay6 r w b) (k0_pay7 p q) (k0_pay9 r w b p q h) (k0_pay10 r w b p q h) g (k0_pay11 r w b p q h g) t
    = bDx r w b p q h t g := by
  funext j
  unfold bDx dx
  pointwise [k0_pay17, h14, h6, h7]

theorem h18 (j : S256x2048.Idx) : k0_pay18 (F := Ideal) (k0_pay6 r w b) (k0_pay7 p q) (k0_pay9 r w b p q h) (k0_pay10 r w b p q h) g
    (k0_pay11 r w b p q h g) t j = bDx r w b p q h t g j := by
  pointwise [k0_pay18, h17]

/-- One point's part of a sum over the tokens: rows eight apart are summed. -/
def part (x : FVec Ideal S256x2048 .f32) : FVec Ideal S8x2048 .f32 :=
  fun j => ∑ n : Fin 32, x (ix2 ⟨n.val * 8 + (j 0).val, by have := n.isLt; have := (j 0).isLt; show _ < 256; change (j 0).val < 8 at this; omega⟩ (j 1))

/-- The gain's part of the gradient, before it is summed. -/
def bDg : FVec Ideal S256x2048 .f32 := fun j => bDy r w b p q h t g j * (vv r w b p q h j * rs (row (vv r w b p q h) j))

theorem hL (acc : FVec Ideal S8x2048 .f32) (j : S8x2048.Idx) : k0_pay22 (F := Ideal) (k0_pay11 r w b p q h g) t acc j
    = acc j + part (fun i => bErr r w b p q h t g i * bErr r w b p q h t g i) j := by
  unfold part
  pointwise [k0_pay22, h12]

theorem hG (acc : FVec Ideal S8x2048 .f32) (j : S8x2048.Idx) : k0_pay1 (F := Ideal) (k0_pay10 r w b p q h) (k0_pay13 (k0_pay11 r w b p q h g) t) acc j
    = acc j + part (bDg r w b p q h t g) j := by
  unfold part bDg
  pointwise [k0_pay1, h13, h10]
  rfl

theorem hB (x : FVec Ideal S256x2048 .f32) (acc : FVec Ideal S8x2048 .f32) (j : S8x2048.Idx) : k0_pay2 (F := Ideal) x acc j
    = acc j + part x j := by
  unfold part
  pointwise [k0_pay2]

theorem lastL (acc : FVec Ideal S8x2048 .f32) (j : S1x128.Idx) : k0_pay3 (F := Ideal) acc j
    = (∑ k : Fin 2048, ∑ n : Fin 8, acc (ix2 n k)) * Ideal.ofBits .f32 964689920#32 := by
  pointwise [k0_pay3]

theorem lastG (acc : FVec Ideal S8x2048 .f32) (j : S1x2048.Idx) : k0_pay4 (F := Ideal) acc j = ∑ n : Fin 8, acc (ix2 n (j 1)) := by
  pointwise [k0_pay4]

theorem lastB (acc : FVec Ideal S8x2048 .f32) (j : S1x2048.Idx) : k0_pay5 (F := Ideal) acc j = ∑ n : Fin 8, acc (ix2 n (j 1)) := by
  pointwise [k0_pay5]

end

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0] ∧ win0_7.index t = ![0, 0]
    ∧ win0_8.index t = ![0, 0] ∧ win0_9.index t = ![t.val, 0] ∧ win0_10.index t = ![t.val, 0] ∧ win0_11.index t = ![t.val, 0]
    ∧ win0_12.index t = ![0, 0] ∧ win0_13.index t = ![0, 0] :=
  (by decide +kernel : ∀ t : Fin grid0.N, _)

variable (m : (ℓ : Loc nD τ sig) → Buf (Elt Ideal) ℓ) (c : Dev nD)

/-- The blocks as a point reads them. -/
def bR (t : Fin cfg0.N) : FVec Ideal S256x2048 .bf16 := iblk m c 0 t
def bW (t : Fin cfg0.N) : FVec Ideal S2048x2048 .bf16 := iblk m c 1 t
def bB (t : Fin cfg0.N) : FVec Ideal S1x2048 .f32 := iblk m c 2 t
def bP (t : Fin cfg0.N) : FVec Ideal S256x256 .bf16 := iblk m c 3 t
def bQ (t : Fin cfg0.N) : FVec Ideal S256x2048 .bf16 := iblk m c 4 t
def bH (t : Fin cfg0.N) : FVec Ideal S256x2048 .f32 := iblk m c 5 t
def bT (t : Fin cfg0.N) : FVec Ideal S256x2048 .f32 := iblk m c 6 t
def bG (t : Fin cfg0.N) : FVec Ideal S1x2048 .f32 := iblk m c 7 t

/-- What a point computes. -/
abbrev pErr (t : Fin cfg0.N) := bErr (bR m c t) (bW m c t) (bB m c t) (bP m c t) (bQ m c t) (bH m c t) (bT m c t) (bG m c t)
abbrev pDg (t : Fin cfg0.N) := bDg (bR m c t) (bW m c t) (bB m c t) (bP m c t) (bQ m c t) (bH m c t) (bT m c t) (bG m c t)
abbrev pDx (t : Fin cfg0.N) := bDx (bR m c t) (bW m c t) (bB m c t) (bP m c t) (bQ m c t) (bH m c t) (bT m c t) (bG m c t)
abbrev pDv (t : Fin cfg0.N) := bDv (bR m c t) (bW m c t) (bB m c t) (bP m c t) (bQ m c t) (bH m c t) (bT m c t) (bG m c t)

theorem accL_first (t : Fin cfg0.N) (h : t.val % 32 = 0) (j : S8x2048.Idx) :
    (outsAt0 m c t.val t.isLt).2.2.2.2.2.2.1 j = 0 + part (fun i => pErr m c t i * pErr m c t i) j := by
  rw [outsAt0_A m c t h (by omega)]; frame_out; rw [hL, hzeroL]; rfl

theorem accL_next (t : Fin cfg0.N) (h : ¬ t.val % 32 = 0) (j : S8x2048.Idx) :
    (outsAt0 m c t.val t.isLt).2.2.2.2.2.2.1 j = (outsAt0 m c (t.val - 1) (Nat.lt_of_le_of_lt (Nat.sub_le _ _) t.isLt)).2.2.2.2.2.2.1 j
      + part (fun i => pErr m c t i * pErr m c t i) j := by
  by_cases h3 : t.val % 32 = 31
  · rw [outsAt0_C m c t h h3]; frame_out; rw [hL, read_unread_whole]; rfl
  · rw [outsAt0_B m c t h h3]; frame_out; rw [hL, read_unread_whole]; rfl

theorem accG_first (t : Fin cfg0.N) (h : t.val % 32 = 0) (j : S8x2048.Idx) :
    (outsAt0 m c t.val t.isLt).2.2.2.2.2.2.2.1 j = 0 + part (pDg m c t) j := by
  rw [outsAt0_A m c t h (by omega)]; frame_out; rw [hG, hzeroG]; rfl

theorem accG_next (t : Fin cfg0.N) (h : ¬ t.val % 32 = 0) (j : S8x2048.Idx) :
    (outsAt0 m c t.val t.isLt).2.2.2.2.2.2.2.1 j = (outsAt0 m c (t.val - 1) (Nat.lt_of_le_of_lt (Nat.sub_le _ _) t.isLt)).2.2.2.2.2.2.2.1 j
      + part (pDg m c t) j := by
  by_cases h3 : t.val % 32 = 31
  · rw [outsAt0_C m c t h h3]; frame_out; rw [hG, read_unread_whole]; rfl
  · rw [outsAt0_B m c t h h3]; frame_out; rw [hG, read_unread_whole]; rfl

theorem accB_first (t : Fin cfg0.N) (h : t.val % 32 = 0) (j : S8x2048.Idx) :
    (outsAt0 m c t.val t.isLt).2.2.2.2.2.2.2.2 j = 0 + part (pDx m c t) j := by
  rw [outsAt0_A m c t h (by omega)]; frame_out; rw [hB, h17, hzeroB]; rfl

theorem accB_next (t : Fin cfg0.N) (h : ¬ t.val % 32 = 0) (j : S8x2048.Idx) :
    (outsAt0 m c t.val t.isLt).2.2.2.2.2.2.2.2 j = (outsAt0 m c (t.val - 1) (Nat.lt_of_le_of_lt (Nat.sub_le _ _) t.isLt)).2.2.2.2.2.2.2.2 j
      + part (pDx m c t) j := by
  by_cases h3 : t.val % 32 = 31
  · rw [outsAt0_C m c t h h3]; frame_out; rw [hB, h17, read_unread_whole]; rfl
  · rw [outsAt0_B m c t h h3]; frame_out; rw [hB, h17, read_unread_whole]; rfl

/-- What every point writes of the three gradients that lie over the tokens. -/
theorem out_dv (t : Fin cfg0.N) (j : S256x2048.Idx) : (outsAt0 m c t.val t.isLt).2.1 j = pDv m c t j := by
  by_cases h : t.val % 32 = 0
  · rw [outsAt0_A m c t h (by omega)]; frame_out; rw [h15]; rfl
  · by_cases h3 : t.val % 32 = 31
    · rw [outsAt0_C m c t h h3]; frame_out; rw [h15]; rfl
    · rw [outsAt0_B m c t h h3]; frame_out; rw [h15]; rfl

theorem out_du (t : Fin cfg0.N) (j : S256x2048.Idx) :
    (outsAt0 m c t.val t.isLt).2.2.1 j = pDv m c t j * gt (bR m c t) (bW m c t) (bB m c t) j := by
  by_cases h : t.val % 32 = 0
  · rw [outsAt0_A m c t h (by omega)]; frame_out; rw [h16]; rfl
  · by_cases h3 : t.val % 32 = 31
    · rw [outsAt0_C m c t h h3]; frame_out; rw [h16]; rfl
    · rw [outsAt0_B m c t h h3]; frame_out; rw [h16]; rfl

theorem out_dx (t : Fin cfg0.N) (j : S256x2048.Idx) : (outsAt0 m c t.val t.isLt).2.2.2.1 j = pDx m c t j := by
  by_cases h : t.val % 32 = 0
  · rw [outsAt0_A m c t h (by omega)]; frame_out; rw [h18]; rfl
  · by_cases h3 : t.val % 32 = 31
    · rw [outsAt0_C m c t h h3]; frame_out; rw [h18]; rfl
    · rw [outsAt0_B m c t h h3]; frame_out; rw [h18]; rfl

/-- What the last point writes of the sums. -/
theorem out_loss (t : Fin cfg0.N) (h : t.val % 32 = 31) (j : S1x128.Idx) :
    (outsAt0 m c t.val t.isLt).1 j
      = (∑ k : Fin 2048, ∑ n : Fin 8, (outsAt0 m c t.val t.isLt).2.2.2.2.2.2.1 (ix2 n k)) * Ideal.ofBits .f32 964689920#32 := by
  rw [outsAt0_C m c t (by omega) h]; frame_out; rw [lastL]

theorem out_dg (t : Fin cfg0.N) (h : t.val % 32 = 31) (j : S1x2048.Idx) :
    (outsAt0 m c t.val t.isLt).2.2.2.2.1 j = ∑ n : Fin 8, (outsAt0 m c t.val t.isLt).2.2.2.2.2.2.2.1 (ix2 n (j 1)) := by
  rw [outsAt0_C m c t (by omega) h]; frame_out; rw [lastG]

theorem out_db (t : Fin cfg0.N) (h : t.val % 32 = 31) (j : S1x2048.Idx) :
    (outsAt0 m c t.val t.isLt).2.2.2.2.2.1 j = ∑ n : Fin 8, (outsAt0 m c t.val t.isLt).2.2.2.2.2.2.2.2 (ix2 n (j 1)) := by
  rw [outsAt0_C m c t (by omega) h]; frame_out; rw [lastB]

/-! ### Over the whole arrays -/
section
variable (r : FVec Ideal S8192x2048 .bf16) (w : FVec Ideal S2048x2048 .f32) (b : FVec Ideal S1x2048 .f32)
  (p : FVec Ideal S8192x256 .f32) (q : FVec Ideal S256x2048 .f32) (h : FVec Ideal S8192x2048 .f32)
  (t : FVec Ideal S8192x2048 .f32) (g : FVec Ideal S1x2048 .f32)

/-- The gates, the embeddings, and the rows that the last norm takes. -/
def Gt : FVec Ideal S8192x2048 .f32 := fun i => gate ((∑ l : Fin 2048, r (ix2 (i 0) l) * w (ix2 l (i 1))) + b (ix2 0 (i 1)))
def Pe : FVec Ideal S8192x2048 .f32 := fun i => ∑ l : Fin 256, p (ix2 (i 0) l) * q (ix2 l (i 1))
def Vv : FVec Ideal S8192x2048 .f32 := fun i => h i + Pe p q i * Gt r w b i

abbrev rowA (x : FVec Ideal S8192x2048 .f32) (n : Fin 8192) : Fin 2048 → EReal := fun k => x (ix2 n k)

/-- The gradients in the rows, the embeddings and the gates' logits. -/
def Dv : FVec Ideal S8192x2048 .bf16 := fun i => dv (rowA (Vv r w b p q h) (i 0)) (vec g) (rowA t (i 0)) (i 1)
def Du : FVec Ideal S8192x2048 .bf16 := fun i => Dv r w b p q h t g i * Gt r w b i
def Dx : FVec Ideal S8192x2048 .bf16 := fun i => dx (Dv r w b p q h t g i) (Pe p q i) (Gt r w b i)
/-- The error of a token, its squares' sum scaled, and the two sums over the tokens. -/
def Err : FVec Ideal S8192x2048 .f32 := fun i => err (rowA (Vv r w b p q h) (i 0)) (vec g) (rowA t (i 0)) (i 1)
def Loss : FVec Ideal S1x128 .f32 :=
  fun _ => (∑ k : Fin 2048, ∑ n : Fin 8192, Err r w b p q h t g (ix2 n k) * Err r w b p q h t g (ix2 n k)) * Ideal.ofBits .f32 964689920#32
def Dg : FVec Ideal S1x2048 .f32 := fun i => ∑ n : Fin 8192, dy (rowA (Vv r w b p q h) n) (vec g) (rowA t n) (i 1)
  * (Vv r w b p q h (ix2 n (i 1)) * rs (rowA (Vv r w b p q h) n))
def Db : FVec Ideal S1x2048 .f32 := fun i => ∑ n : Fin 8192, Dx r w b p q h t g (ix2 n (i 1))
end

/-- The weights and the embedding's input as the call takes them: cast. -/
theorem V_v0 (i : S2048x2048.Idx) : (V m c main_v0 i : EReal) = (m ((c.tc : Thread nD τ).loc main_arg1) : FVec Ideal S2048x2048 .f32) i := by
  have h : V m c main_v0 = (truncf .bf16 (m ((c.tc : Thread nD τ).loc main_arg1) : FVec Ideal S2048x2048 .f32) bitsLt_bf16_f32 : FVec Ideal S2048x2048 .bf16) := by
    unfold V; after_results
  rw [h]; pointwise
theorem V_v1 (i : S8192x256.Idx) : (V m c main_v1 i : EReal) = (m ((c.tc : Thread nD τ).loc main_arg3) : FVec Ideal S8192x256 .f32) i := by
  have h : V m c main_v1 = (truncf .bf16 (m ((c.tc : Thread nD τ).loc main_arg3) : FVec Ideal S8192x256 .f32) bitsLt_bf16_f32 : FVec Ideal S8192x256 .bf16) := by
    unfold V; after_results
  rw [h]; pointwise
theorem V_v2 (i : S256x2048.Idx) : (V m c main_v2 i : EReal) = (m ((c.tc : Thread nD τ).loc main_arg4) : FVec Ideal S256x2048 .f32) i := by
  have h : V m c main_v2 = (truncf .bf16 (m ((c.tc : Thread nD τ).loc main_arg4) : FVec Ideal S256x2048 .f32) bitsLt_bf16_f32 : FVec Ideal S256x2048 .bf16) := by
    unfold V; after_results
  rw [h]; pointwise

abbrev R : FVec Ideal S8192x2048 .bf16 := m ((c.tc : Thread nD τ).loc main_arg0)
abbrev W : FVec Ideal S2048x2048 .f32 := m ((c.tc : Thread nD τ).loc main_arg1)
abbrev B : FVec Ideal S1x2048 .f32 := m ((c.tc : Thread nD τ).loc main_arg2)
abbrev P : FVec Ideal S8192x256 .f32 := m ((c.tc : Thread nD τ).loc main_arg3)
abbrev Q : FVec Ideal S256x2048 .f32 := m ((c.tc : Thread nD τ).loc main_arg4)
abbrev H : FVec Ideal S8192x2048 .f32 := m ((c.tc : Thread nD τ).loc main_arg5)
abbrev T : FVec Ideal S8192x2048 .f32 := m ((c.tc : Thread nD τ).loc main_arg6)
abbrev G : FVec Ideal S1x2048 .f32 := m ((c.tc : Thread nD τ).loc main_arg7)

/-! ### The blocks read the arrays -/
section
variable (t : Fin cfg0.N) (j : S256x2048.Idx) (i : S8192x2048.Idx) (h0 : (i 0).val = t.val * 256 + (j 0).val) (h1 : (i 1).val = (j 1).val)
include h0 h1

theorem gt_at : gt (bR m c t) (bW m c t) (bB m c t) j = Gt (R m c) (W m c) (B m c) i := by
  unfold gt Gt
  refine congrArg gate (congrArg₂ (fun a b : EReal => a + b) (Finset.sum_congr rfl fun k _ => congrArg₂ (fun a b : EReal => a * b) ?_ ?_) ?_)
  · blk_point [bR, iblk, V_main_arg0, idx t]
  · blk_point [bW, iblk, V_v0, idx t]
  · blk_point [bB, iblk, V_main_arg2, idx t]

theorem pe_at : pe (bP m c t) (bQ m c t) j = Pe (P m c) (Q m c) i := by
  unfold pe Pe
  refine Finset.sum_congr rfl fun k _ => congrArg₂ (fun a b : EReal => a * b) ?_ ?_
  · blk_point [bP, iblk, V_v1, idx t]
  · blk_point [bQ, iblk, V_v2, idx t]

theorem h_at : bH m c t j = H m c i := by
  blk_point [bH, iblk, V_main_arg5, idx t]

theorem t_at : bT m c t j = T m c i := by
  blk_point [bT, iblk, V_main_arg6, idx t]

theorem v_at : vv (bR m c t) (bW m c t) (bB m c t) (bP m c t) (bQ m c t) (bH m c t) j = Vv (R m c) (W m c) (B m c) (P m c) (Q m c) (H m c) i := by
  unfold vv Vv
  rw [h_at m c t j i h0 h1, pe_at m c t j i h0 h1, gt_at m c t j i h0 h1]
end

theorem g_at (t : Fin cfg0.N) : vec (bG m c t) = vec (G m c) := by
  funext k
  unfold vec
  blk_point [bG, iblk, V_main_arg7, idx t]

section
variable (t : Fin cfg0.N) (j : S256x2048.Idx) (i : S8192x2048.Idx) (h0 : (i 0).val = t.val * 256 + (j 0).val) (h1 : (i 1).val = (j 1).val)
include h0 h1

theorem vrow_at : row (vv (bR m c t) (bW m c t) (bB m c t) (bP m c t) (bQ m c t) (bH m c t)) j
    = rowA (Vv (R m c) (W m c) (B m c) (P m c) (Q m c) (H m c)) (i 0) :=
  funext fun k => v_at m c t _ _ h0 rfl

theorem trow_at : row (bT m c t) j = rowA (T m c) (i 0) :=
  funext fun k => t_at m c t _ _ h0 rfl

theorem err_at : pErr m c t j = Err (R m c) (W m c) (B m c) (P m c) (Q m c) (H m c) (T m c) (G m c) i := by
  unfold pErr bErr Err
  rw [vrow_at m c t j i h0 h1, trow_at m c t j i h0 h1, g_at m c t, (Fin.ext h1.symm : (j 1 : Fin 2048) = i 1)]

theorem dv_at : pDv m c t j = Dv (R m c) (W m c) (B m c) (P m c) (Q m c) (H m c) (T m c) (G m c) i := by
  unfold pDv bDv Dv
  rw [vrow_at m c t j i h0 h1, trow_at m c t j i h0 h1, g_at m c t, (Fin.ext h1.symm : (j 1 : Fin 2048) = i 1)]

theorem dx_at : pDx m c t j = Dx (R m c) (W m c) (B m c) (P m c) (Q m c) (H m c) (T m c) (G m c) i := by
  unfold pDx bDx Dx
  rw [← dv_at m c t j i h0 h1, ← pe_at m c t j i h0 h1, ← gt_at m c t j i h0 h1]

theorem dg_at : pDg m c t j = dy (rowA (Vv (R m c) (W m c) (B m c) (P m c) (Q m c) (H m c)) (i 0)) (vec (G m c)) (rowA (T m c) (i 0)) (i 1)
    * (Vv (R m c) (W m c) (B m c) (P m c) (Q m c) (H m c) i * rs (rowA (Vv (R m c) (W m c) (B m c) (P m c) (Q m c) (H m c)) (i 0))) := by
  unfold pDg bDg bDy
  rw [vrow_at m c t j i h0 h1, trow_at m c t j i h0 h1, g_at m c t, v_at m c t j i h0 h1, (Fin.ext h1.symm : (j 1 : Fin 2048) = i 1)]
end

/-! ### After the run -/

theorem final9 : (dats m 0 c).arrAt 9 (cfgs 0).N = Dv (R m c) (W m c) (B m c) (P m c) (Q m c) (H m c) (T m c) (G m c) := by
  refine (dats m 0 c).arrAt_eq_of_covers 9 _ (by decide +kernel) fun t hf y => ?_
  blk_simp
  rw [after0_9, out_dv m c t]
  exact dv_at m c t _ _ (by blk_simp [idx t]) (by blk_simp [idx t])

theorem final10 : (dats m 0 c).arrAt 10 (cfgs 0).N = Du (R m c) (W m c) (B m c) (P m c) (Q m c) (H m c) (T m c) (G m c) := by
  refine (dats m 0 c).arrAt_eq_of_covers 10 _ (by decide +kernel) fun t hf y => ?_
  blk_simp
  rw [after0_10, out_du m c t]
  exact congrArg₂ (fun a b : EReal => a * b) (dv_at m c t _ _ (by blk_simp [idx t]) (by blk_simp [idx t]))
    (gt_at m c t _ _ (by blk_simp [idx t]) (by blk_simp [idx t]))

theorem final11 : (dats m 0 c).arrAt 11 (cfgs 0).N = Dx (R m c) (W m c) (B m c) (P m c) (Q m c) (H m c) (T m c) (G m c) := by
  refine (dats m 0 c).arrAt_eq_of_covers 11 _ (by decide +kernel) fun t hf y => ?_
  blk_simp
  rw [after0_11, out_dx m c t]
  exact dx_at m c t _ _ (by blk_simp [idx t]) (by blk_simp [idx t])

/-- The rows, summed eight apart in each block and then over the eight. -/
theorem regroup (f : Fin 8192 → EReal) :
    ∑ n : Fin 8, ∑ s : Fin 32, ∑ x : Fin 32, f ⟨s.val * 256 + (x.val * 8 + n.val), by omega⟩ = ∑ n, f n := by
  rw [Finset.sum_comm]
  refine (Finset.sum_congr rfl fun s _ => ?_).trans (Fin.sum_mul_add_fin (S := 32) (n := 256) (L := 8192) f)
  rw [Finset.sum_comm]
  refine Fin.sum_mul_add_congr (S := 32) (n := 8) (L := 256) fun x n hl => ?_
  exact congrArg f (Fin.ext rfl)

/-- A carried sum, added up after the last point, is the sum over all rows. -/
theorem total (a : (n : ℕ) → n < cfg0.N → FVec Ideal S8x2048 .f32) (x : Fin cfg0.N → FVec Ideal S256x2048 .f32)
    (hf : ∀ (t : Fin cfg0.N) (_ : t.val % 32 = 0) (j : S8x2048.Idx), a t.val t.isLt j = 0 + part (x t) j)
    (hn : ∀ (t : Fin cfg0.N) (_ : ¬ t.val % 32 = 0) (j : S8x2048.Idx),
      a t.val t.isLt j = a (t.val - 1) (Nat.lt_of_le_of_lt (Nat.sub_le _ _) t.isLt) j + part (x t) j)
    (f : FVec Ideal S8192x2048 .f32)
    (hx : ∀ (t : Fin cfg0.N) (j : S256x2048.Idx) (i : S8192x2048.Idx), (i 0).val = t.val * 256 + (j 0).val → (i 1).val = (j 1).val → x t j = f i)
    (t : Fin cfg0.N) (h3 : t.val % 32 = 32 - 1) (k : Fin 2048) : ∑ n : Fin 8, a t.val t.isLt (ix2 n k) = ∑ n : Fin 8192, f (ix2 n k) := by
  have ht : t.val < 32 := lt_of_lt_of_eq t.isLt N_0
  refine (Finset.sum_congr (M := EReal) rfl fun n _ => ?_).trans (regroup fun n => f (ix2 n k))
  refine (Pipeline.eq_sum_fin_of_reset_step_apply_of_flush a 32 (fun _ => 0) _
    (fun t h j => hf t h j) (fun t h j => hn t h j) t h3 _).trans ((zero_add _).trans ?_)
  refine Finset.sum_congr (M := EReal) rfl fun s _ => ?_
  unfold part
  refine Finset.sum_congr (M := EReal) rfl fun y _ => ?_
  have e0 : s.val * 256 + (y.val * 8 + n.val) = (32 * (t.val / 32) + s.val) * 256 + (y.val * 8 + n.val) := by omega
  exact hx _ _ _ e0 rfl

theorem final8 : (dats m 0 c).arrAt 8 (cfgs 0).N = Loss (R m c) (W m c) (B m c) (P m c) (Q m c) (H m c) (T m c) (G m c) := by
  refine (dats m 0 c).arrAt_eq_of_covers 8 _ (by decide +kernel) fun t hf y => ?_
  have h3 : t.val % 32 = 32 - 1 := (flush0_8 t).mp hf
  blk_simp
  rw [after0_8, out_loss m c t h3]
  unfold Loss
  refine congrArg (fun a : EReal => a * _) (Finset.sum_congr (M := EReal) rfl fun k _ => ?_)
  exact total (fun n h => (outsAt0 m c n h).2.2.2.2.2.2.1) (fun t i => pErr m c t i * pErr m c t i) (accL_first m c) (accL_next m c)
    (fun i => Err (R m c) (W m c) (B m c) (P m c) (Q m c) (H m c) (T m c) (G m c) i * Err (R m c) (W m c) (B m c) (P m c) (Q m c) (H m c) (T m c) (G m c) i)
    (fun t j i h0 h1 => congrArg₂ (fun a b : EReal => a * b) (err_at m c t j i h0 h1) (err_at m c t j i h0 h1)) t h3 k

theorem final12 : (dats m 0 c).arrAt 12 (cfgs 0).N = Dg (R m c) (W m c) (B m c) (P m c) (Q m c) (H m c) (T m c) (G m c) := by
  refine (dats m 0 c).arrAt_eq_of_covers 12 _ (by decide +kernel) fun t hf y => ?_
  have h3 : t.val % 32 = 32 - 1 := (flush0_12 t).mp hf
  blk_simp
  rw [after0_12, out_dg m c t h3]
  have e : (y 1 : Fin 2048) = ((win0_12.blk t).view.emb y) 1 := Fin.ext (by blk_simp [idx t])
  refine (total (fun n h => (outsAt0 m c n h).2.2.2.2.2.2.2.1) (fun t => pDg m c t) (accG_first m c) (accG_next m c)
    _ (fun t j i h0 h1 => dg_at m c t j i h0 h1) t h3 _).trans ?_
  unfold Dg
  exact Finset.sum_congr (M := EReal) rfl fun n _ => by rw [← e]; rfl

theorem final13 : (dats m 0 c).arrAt 13 (cfgs 0).N = Db (R m c) (W m c) (B m c) (P m c) (Q m c) (H m c) (T m c) (G m c) := by
  refine (dats m 0 c).arrAt_eq_of_covers 13 _ (by decide +kernel) fun t hf y => ?_
  have h3 : t.val % 32 = 32 - 1 := (flush0_13 t).mp hf
  blk_simp
  rw [after0_13, out_db m c t h3]
  have e : (y 1 : Fin 2048) = ((win0_13.blk t).view.emb y) 1 := Fin.ext (by blk_simp [idx t])
  refine (total (fun n h => (outsAt0 m c n h).2.2.2.2.2.2.2.2) (fun t => pDx m c t) (accB_first m c) (accB_next m c)
    _ (fun t j i h0 h1 => dx_at m c t j i h0 h1) t h3 _).trans ?_
  unfold Db
  exact Finset.sum_congr (M := EReal) rfl fun n _ => by rw [← e]

end Cert.Kernel16Ideal.Val

end
-- ==== Proof.LossRef.lean ====
/- The loss and its gradients: the reference. -/
module

public import proofs.«01_k».proof.Proof.Gen.Reference16Ideal.Run
public import proofs.«01_k».proof.Proof.Gen.Pre_finite_loss
public import proofs.«01_k».proof.Proof.Loss
public import proofs.«01_k».proof.Proof.Finite

@[expose] public section

set_option maxRecDepth 16384

noncomputable section

namespace Cert.Reference16Ideal.Val

open Idealize.ShloMosaic Idealize.ShloMosaic.TcCoe Idealize.SL.Sem
open Cert.Rms Cert.Loss
open Cert.Kernel16Ideal.Val (Gt Pe Vv Err rowA vec Dg)

section
variable (r : FVec Ideal S8192x2048 .bf16) (w : FVec Ideal S2048x2048 .f32) (b : FVec Ideal S1x2048 .f32)
  (p : FVec Ideal S8192x256 .f32) (q : FVec Ideal S256x2048 .f32) (h : FVec Ideal S8192x2048 .f32)
  (t : FVec Ideal S8192x2048 .f32) (g : FVec Ideal S1x2048 .f32)

/-- The loss as the reference adds it up: a mean over each token's row, half the sum of them. -/
def LossR : FVec Ideal S1x128 .f32 := fun _ => Ideal.ofBits .f32 1056964608#32
  * ∑ n : Fin 8192, Ideal.div (∑ k : Fin 2048, Err r w b p q h t g (ix2 n k) * Err r w b p q h t g (ix2 n k)) (Ideal.ofBits .f32 1157627904#32)

/-- The gradients as the chain rule gives them. -/
def DvR : FVec Ideal S8192x2048 .bf16 := fun i =>
  chain' (rowA (Vv r w b p q h) (i 0)) (fun k => dyR (rowA (Vv r w b p q h) (i 0)) (vec g) (rowA t (i 0)) k * vec g k) (i 1)
def DuR : FVec Ideal S8192x2048 .bf16 := fun i => DvR r w b p q h t g i * Gt r w b i
def DxR : FVec Ideal S8192x2048 .bf16 := fun i =>
  Pe p q i * DvR r w b p q h t g i * (Gt r w b i * (Ideal.ofBits .f32 1065353216#32 - Gt r w b i))
def DgR : FVec Ideal S1x2048 .f32 := fun i => ∑ n : Fin 8192,
  Vv r w b p q h (ix2 n (i 1)) * rs (rowA (Vv r w b p q h) n) * dyR (rowA (Vv r w b p q h) n) (vec g) (rowA t n) (i 1)
def DbR : FVec Ideal S1x2048 .f32 := fun i => ∑ n : Fin 8192, DxR r w b p q h t g (ix2 n (i 1))
end

section
variable (m : (ℓ : Loc nD τ sig) → Buf (Elt Ideal) ℓ) (c : Dev nD)
abbrev R : FVec Ideal S8192x2048 .bf16 := m ((c.tc : Thread nD τ).loc main_arg0)
abbrev W : FVec Ideal S2048x2048 .f32 := m ((c.tc : Thread nD τ).loc main_arg1)
abbrev B : FVec Ideal S1x2048 .f32 := m ((c.tc : Thread nD τ).loc main_arg2)
abbrev P : FVec Ideal S8192x256 .f32 := m ((c.tc : Thread nD τ).loc main_arg3)
abbrev Q : FVec Ideal S256x2048 .f32 := m ((c.tc : Thread nD τ).loc main_arg4)
abbrev H : FVec Ideal S8192x2048 .f32 := m ((c.tc : Thread nD τ).loc main_arg5)
abbrev T : FVec Ideal S8192x2048 .f32 := m ((c.tc : Thread nD τ).loc main_arg6)
abbrev G : FVec Ideal S1x2048 .f32 := m ((c.tc : Thread nD τ).loc main_arg7)

theorem loss_val : Cert.Reference16Ideal.Value.res_main_v70 m c = LossR (R m c) (W m c) (B m c) (P m c) (Q m c) (H m c) (T m c) (G m c) := by
  funext i
  unfold Cert.Reference16Ideal.Value.res_main_v70
  pointwise [LossR, Err, err, Vv, Gt, Pe, gate, rs, rowA, vec]

theorem dv_val : Cert.Reference16Ideal.Value.res_main_v71 m c = DvR (R m c) (W m c) (B m c) (P m c) (Q m c) (H m c) (T m c) (G m c) := by
  funext i
  unfold Cert.Reference16Ideal.Value.res_main_v71
  pointwise [DvR, chain', dyR, half, ms, err, Vv, Gt, Pe, gate, rs, rowA, vec]

theorem dg_val : Cert.Reference16Ideal.Value.res_main_v48 m c = DgR (R m c) (W m c) (B m c) (P m c) (Q m c) (H m c) (T m c) (G m c) := by
  funext i
  unfold Cert.Reference16Ideal.Value.res_main_v48
  pointwise [DgR, dyR, half, ms, err, Vv, Gt, Pe, gate, rs, rowA, vec]

theorem du_val : Cert.Reference16Ideal.Value.res_main_v72 m c = DuR (R m c) (W m c) (B m c) (P m c) (Q m c) (H m c) (T m c) (G m c) := by
  funext i
  unfold Cert.Reference16Ideal.Value.res_main_v72
  pointwise [DuR, DvR, chain', dyR, half, ms, err, Vv, Gt, Pe, gate, rs, rowA, vec]

theorem dx_val : Cert.Reference16Ideal.Value.res_main_v73 m c = DxR (R m c) (W m c) (B m c) (P m c) (Q m c) (H m c) (T m c) (G m c) := by
  funext i
  unfold Cert.Reference16Ideal.Value.res_main_v73
  pointwise [DxR, DvR, chain', dyR, half, ms, err, Vv, Gt, Pe, gate, rs, rowA, vec]

theorem db_val : Cert.Reference16Ideal.Value.res_main_v69 m c = DbR (R m c) (W m c) (B m c) (P m c) (Q m c) (H m c) (T m c) (G m c) := by
  funext i
  unfold Cert.Reference16Ideal.Value.res_main_v69
  pointwise [DbR, DxR, DvR, chain', dyR, half, ms, err, Vv, Gt, Pe, gate, rs, rowA, vec]
end

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70) = LossR (R m c) (W m c) (B m c) (P m c) (Q m c) (H m c) (T m c) (G m c)
      ∧ r.2.mem ((c.tc : Thread nD τ).loc main_v71) = DvR (R m c) (W m c) (B m c) (P m c) (Q m c) (H m c) (T m c) (G m c)
      ∧ r.2.mem ((c.tc : Thread nD τ).loc main_v72) = DuR (R m c) (W m c) (B m c) (P m c) (Q m c) (H m c) (T m c) (G m c)
      ∧ r.2.mem ((c.tc : Thread nD τ).loc main_v73) = DxR (R m c) (W m c) (B m c) (P m c) (Q m c) (H m c) (T m c) (G m c)
      ∧ r.2.mem ((c.tc : Thread nD τ).loc main_v48) = DgR (R m c) (W m c) (B m c) (P m c) (Q m c) (H m c) (T m c) (G m c)
      ∧ r.2.mem ((c.tc : Thread nD τ).loc main_v69) = DbR (R m c) (W m c) (B m c) (P m c) (Q m c) (H m c) (T m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h c).1.trans (loss_val m c), (h c).2.1.trans (dv_val m c), (h c).2.2.1.trans (du_val m c),
    (h c).2.2.2.1.trans (dx_val m c), (h c).2.2.2.2.1.trans (dg_val m c), (h c).2.2.2.2.2.1.trans (db_val m c), (h c).2.2.2.2.2.2⟩)
    (Cert.Reference16Ideal.Value.run m ρ)

section
variable (r : FVec Ideal S8192x2048 .bf16) (w : FVec Ideal S2048x2048 .f32) (b : FVec Ideal S1x2048 .f32)
  (p : FVec Ideal S8192x256 .f32) (q : FVec Ideal S256x2048 .f32) (h : FVec Ideal S8192x2048 .f32)
  (t : FVec Ideal S8192x2048 .f32) (g : FVec Ideal S1x2048 .f32)

/-- The precondition: the embedding, its weights, the rows, the targets and the gain are real numbers. -/
theorem all_real (hp : Cert.Pre_finite_loss.fn (F := Ideal) r w b p q h t g = fun _ => 1#1) :
    (∀ i, Fin' (p i)) ∧ (∀ i, Fin' (q i)) ∧ (∀ i, Fin' (h i)) ∧ (∀ i, Fin' (t i)) ∧ (∀ i, Fin' (g i)) := by
  have hp := congrFun hp (Shape.Idx.first (by decide))
  dsimp only [Cert.Pre_finite_loss.fn, Cert.Pre_finite_loss.fn_part1] at hp
  obtain ⟨hp, z⟩ := IntOp.andi_eq_one.1 hp
  obtain ⟨hp, y⟩ := IntOp.andi_eq_one.1 hp
  obtain ⟨hp, x⟩ := IntOp.andi_eq_one.1 hp
  obtain ⟨u, v⟩ := IntOp.andi_eq_one.1 hp
  exact ⟨fun i => Cert.Finite.real_of_lt _ p _ i (Host.reduce_andi_all _ _ _ _ _ u i), fun i => Cert.Finite.real_of_lt _ q _ i (Host.reduce_andi_all _ _ _ _ _ v i),
    fun i => Cert.Finite.real_of_lt _ h _ i (Host.reduce_andi_all _ _ _ _ _ x i), fun i => Cert.Finite.real_of_lt _ t _ i (Host.reduce_andi_all _ _ _ _ _ y i),
    fun i => Cert.Finite.real_of_lt _ g _ i (Host.reduce_andi_all _ _ _ _ _ z i)⟩

theorem dgR_eq : DgR r w b p q h t g = Cert.Kernel16Ideal.Val.Dg r w b p q h t g := by
  funext i
  unfold DgR Cert.Kernel16Ideal.Val.Dg
  refine Finset.sum_congr (M := EReal) rfl fun n _ => ?_
  exact (mul_comm (G := EReal) _ _).trans (congrArg (fun a : EReal => a * _) (dyR_eq _ _ _ _))

variable (hp : Cert.Pre_finite_loss.fn (F := Ideal) r w b p q h t g = fun _ => 1#1)
include hp

theorem vv_real (i : S8192x2048.Idx) : Fin' (Vv r w b p q h i) := by
  obtain ⟨h1, h2, h3, _, _⟩ := all_real r w b p q h t g hp
  exact fin_add (h3 i) (real_dot_mul _ _ _ (fun l => h1 _) (fun l => h2 _) (fin_gate _))

theorem lossR_eq : LossR r w b p q h t g = Cert.Kernel16Ideal.Val.Loss r w b p q h t g := by
  obtain ⟨_, _, _, h4, h5⟩ := all_real r w b p q h t g hp
  funext i
  exact loss_eq (fun n k => Err r w b p q h t g (ix2 n k)) fun n k =>
    fin_err _ _ _ (fun k => vv_real r w b p q h t g hp _) (fun k => h5 _) (fun k => h4 _) k

theorem dvR_eq : DvR r w b p q h t g = Cert.Kernel16Ideal.Val.Dv r w b p q h t g := by
  obtain ⟨_, _, _, h4, h5⟩ := all_real r w b p q h t g hp
  funext i
  exact dv_eq _ _ _ (fun k => vv_real r w b p q h t g hp _) (fun k => h5 _) (fun k => h4 _) _

theorem duR_eq : DuR r w b p q h t g = Cert.Kernel16Ideal.Val.Du r w b p q h t g := by
  unfold DuR Cert.Kernel16Ideal.Val.Du
  rw [dvR_eq r w b p q h t g hp]

theorem dxR_eq : DxR r w b p q h t g = Cert.Kernel16Ideal.Val.Dx r w b p q h t g := by
  unfold DxR Cert.Kernel16Ideal.Val.Dx dx
  rw [dvR_eq r w b p q h t g hp]
  funext i
  rw [mul_comm (Pe p q i), ← mul_assoc]

theorem dbR_eq : DbR r w b p q h t g = Cert.Kernel16Ideal.Val.Db r w b p q h t g := by
  unfold DbR Cert.Kernel16Ideal.Val.Db
  rw [dxR_eq r w b p q h t g hp]

end

end Cert.Reference16Ideal.Val

end
-- ==== Proof.InBwd.lean ====
/- The gradient of the first product's input, through the norm before it: the run. -/
module

public import proofs.«01_k».proof.Proof.Gen.Kernel13Ideal.Skeleton
public import proofs.«01_k».proof.Proof.Gen.Kernel13Ideal.Frame
public import proofs.«01_k».proof.Proof.Gen.Kernel13
public import Idealize.ShloMosaic.Lib.Pipeline.FrameBody
public import Idealize.ShloMosaic.Lib.Pipeline.Value
public import Idealize.ShloMosaic.Lib.Pipeline.ValueKit
public import Idealize.ShloMosaic.Lib.Exec
public import Idealize.ShloMosaic.Lib.VecWindow
public import Idealize.ShloMosaic.Lib.Tactic

@[expose] public section

set_option maxRecDepth 16384

noncomputable section

namespace Cert.Kernel13Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

abbrev 𝕄 (F : FTy → Type) [FloatOps F] := MT nD τ sig Unit (Elt F) ℕ (UR sig nD τ) ℕ

/-- The first of the four parts of a row block's product. -/
abbrev first (i : grid0.Coords) : Prop := (Scalar.cmpi .ne (Scalar.extui (Scalar.cmpi .eq (BitVec.ofNat 32 (i 2).val) 0#32)) 0#32) = 1#1
/-- The last. -/
abbrev last (i : grid0.Coords) : Prop := k0_cond2 i = 1#1
/-- The first block of rows. -/
abbrev top (i : grid0.Coords) : Prop := (Scalar.cmpi .ne (Scalar.extui (Scalar.cmpi .eq (BitVec.ofNat 32 (i 0).val) 0#32)) 0#32) = 1#1
/-- The last. -/
abbrev bottom (i : grid0.Coords) : Prop := k0_cond4 i = 1#1

section
variable (c : Dev nD) (i : grid0.Coords) (arg3 : Memref sig .tc .vmem S512x1280 .bf16) (h3 : arg3.IsWhole) (arg4 : Memref sig .tc .vmem S2048x1280 .bf16) (h4 : arg4.IsWhole)
  (arg5 : Memref sig .tc .vmem S512x2048 .f32) (h5 : arg5.IsWhole) (arg6 : Memref sig .tc .vmem S1x2048 .f32) (h6 : arg6.IsWhole)
  (arg7 : Memref sig .tc .vmem S512x2048 .bf16) (h7 : arg7.IsWhole) (arg8 : Memref sig .tc .vmem S512x2048 .f32) (h8 : arg8.IsWhole)
  (arg9 : Memref sig .tc .vmem S1x2048 .f32) (h9 : arg9.IsWhole) (arg10 : Memref sig .tc .vmem S8x2048 .f32) (h10 : arg10.IsWhole)
  (arg11 : Memref sig .tc .vmem S512x2048 .f32) (h11 : arg11.IsWhole)
  (x0 : Vec F S512x1280 .bf16) (x1 : Vec F S2048x1280 .bf16) (x2 : Vec F S512x2048 .f32) (x3 : Vec F S1x2048 .f32) (x4 : Vec F S512x2048 .bf16)
  (a : Vec F S512x2048 .f32) (d : Vec F S8x2048 .f32)

/-- The first part of a product fills the sum. -/
theorem run_first (hf : first i) (hl : ¬last i) (E : Set ℕ) (K : PUnit → sProp (𝕄 F)) :
    iprop(owns (c : Thread nD τ) arg3 fullShare x0 ∗ owns (c : Thread nD τ) arg4 fullShare x1 ∗ (∃ y, owns (c : Thread nD τ) arg11 fullShare y)
        ∗ (iprop(owns (c : Thread nD τ) arg3 fullShare x0 ∗ owns (c : Thread nD τ) arg4 fullShare x1 ∗ owns (c : Thread nD τ) arg11 fullShare (k0_pay2 k0_pay1 x0 x1)) -∗ K ⟨⟩))
      ⊢ wp frame (wpE (defs₀ (F := F)) Variants.none c none) E (cc0_mm_in_bwd i arg3 h3 arg4 h4 arg5 h5 arg6 h6 arg7 h7 arg8 h8 arg9 h9 arg10 h10 arg11 h11) K := by
  simp only [cc0_mm_in_bwd_eq_skeleton]; unfold cc0_mm_in_bwd_skel
  unfold owns
  iintro ⟨⟨%f3, %e3, H3⟩, ⟨%f4, %e4, H4⟩, ⟨%y11, %f11, -, H11⟩, Hk⟩
  obtain rfl := h3.eq_unread e3
  obtain rfl := h4.eq_unread e4
  sl_exec (disch := first | sl_exact hf | sl_exact hl)
  sl_step
  iapply Hk
  isplitl [H3]
  · iexists _; isplitr; swap; · iexact H3
    ipureintro; exact h3.read_unread _
  isplitl [H4]
  · iexists _; isplitr; swap; · iexact H4
    ipureintro; exact h4.read_unread _
  iexists _; isplitr; swap; · iexact H11
  ipureintro; frame_out; exact View.read_writes_full _ _ _ _ _

/-- A part that is neither the first nor the last is added to it. -/
theorem run_next (hf : ¬first i) (hl : ¬last i) (E : Set ℕ) (K : PUnit → sProp (𝕄 F)) :
    iprop(owns (c : Thread nD τ) arg3 fullShare x0 ∗ owns (c : Thread nD τ) arg4 fullShare x1 ∗ owns (c : Thread nD τ) arg11 fullShare a
        ∗ (iprop(owns (c : Thread nD τ) arg3 fullShare x0 ∗ owns (c : Thread nD τ) arg4 fullShare x1 ∗ owns (c : Thread nD τ) arg11 fullShare (k0_pay2 a x0 x1)) -∗ K ⟨⟩))
      ⊢ wp frame (wpE (defs₀ (F := F)) Variants.none c none) E (cc0_mm_in_bwd i arg3 h3 arg4 h4 arg5 h5 arg6 h6 arg7 h7 arg8 h8 arg9 h9 arg10 h10 arg11 h11) K := by
  simp only [cc0_mm_in_bwd_eq_skeleton]; unfold cc0_mm_in_bwd_skel
  unfold owns
  iintro ⟨⟨%f3, %e3, H3⟩, ⟨%f4, %e4, H4⟩, ⟨%f11, %e11, H11⟩, Hk⟩
  obtain rfl := h3.eq_unread e3
  obtain rfl := h4.eq_unread e4
  obtain rfl := h11.eq_unread e11
  sl_exec (disch := first | sl_exact hf | sl_exact hl)
  sl_step
  iapply Hk
  isplitl [H3]
  · iexists _; isplitr; swap; · iexact H3
    ipureintro; exact h3.read_unread _
  isplitl [H4]
  · iexists _; isplitr; swap; · iexact H4
    ipureintro; exact h4.read_unread _
  iexists _; isplitr; swap; · iexact H11
  ipureintro; frame_out; exact View.read_writes_full _ _ _ _ _

/-- The last part, in the first block of rows: the carried sums begin. -/
theorem run_top (hf : ¬first i) (hl : last i) (ht : top i) (hb : ¬bottom i) (E : Set ℕ) (K : PUnit → sProp (𝕄 F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ y, owns (c : Thread nD τ) arg8 fullShare y) ∗ (∃ y, owns (c : Thread nD τ) arg10 fullShare y) ∗ owns (c : Thread nD τ) arg11 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay7 (k0_pay2 a x0 x1) x2 x3 x4) ∗ owns (c : Thread nD τ) arg10 fullShare (k0_pay3 (k0_pay9 (k0_pay2 a x0 x1) x2 k0_pay8)) ∗ owns (c : Thread nD τ) arg11 fullShare (k0_pay2 a x0 x1)) -∗ K ⟨⟩))
      ⊢ wp frame (wpE (defs₀ (F := F)) Variants.none c none) E (cc0_mm_in_bwd i arg3 h3 arg4 h4 arg5 h5 arg6 h6 arg7 h7 arg8 h8 arg9 h9 arg10 h10 arg11 h11) K := by
  simp only [cc0_mm_in_bwd_eq_skeleton]; unfold cc0_mm_in_bwd_skel
  simp only [k0_part1_eq_skeleton]
  unfold owns
  iintro ⟨⟨%f3, %e3, H3⟩, ⟨%f4, %e4, H4⟩, ⟨%f5, %e5, H5⟩, ⟨%f6, %e6, H6⟩, ⟨%f7, %e7, H7⟩, ⟨%y8, %f8, -, H8⟩, ⟨%y10, %f10, -, H10⟩, ⟨%f11, %e11, H11⟩, Hk⟩
  obtain rfl := h3.eq_unread e3
  obtain rfl := h4.eq_unread e4
  obtain rfl := h5.eq_unread e5
  obtain rfl := h6.eq_unread e6
  obtain rfl := h7.eq_unread e7
  obtain rfl := h11.eq_unread e11
  sl_exec (disch := first | sl_exact hf | sl_exact hl | sl_exact ht | sl_exact hb)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; frame_out; exact View.read_writes_full _ _ _ _ _
  isplitl [H10]
  · iexists _; isplitr; swap; · iexact H10
    ipureintro; frame_out; exact View.read_writes_full _ _ _ _ _
  iexists _; isplitr; swap; · iexact H11
  ipureintro; frame_out; exact View.read_writes_full _ _ _ _ _

/-- In a block between. -/
theorem run_mid (hf : ¬first i) (hl : last i) (ht : ¬top i) (hb : ¬bottom i) (E : Set ℕ) (K : PUnit → sProp (𝕄 F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ y, owns (c : Thread nD τ) arg8 fullShare y) ∗ owns (c : Thread nD τ) arg10 fullShare d ∗ owns (c : Thread nD τ) arg11 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay7 (k0_pay2 a x0 x1) x2 x3 x4) ∗ owns (c : Thread nD τ) arg10 fullShare (k0_pay3 (k0_pay9 (k0_pay2 a x0 x1) x2 d)) ∗ owns (c : Thread nD τ) arg11 fullShare (k0_pay2 a x0 x1)) -∗ K ⟨⟩))
      ⊢ wp frame (wpE (defs₀ (F := F)) Variants.none c none) E (cc0_mm_in_bwd i arg3 h3 arg4 h4 arg5 h5 arg6 h6 arg7 h7 arg8 h8 arg9 h9 arg10 h10 arg11 h11) K := by
  simp only [cc0_mm_in_bwd_eq_skeleton]; unfold cc0_mm_in_bwd_skel
  simp only [k0_part1_eq_skeleton]
  unfold owns
  iintro ⟨⟨%f3, %e3, H3⟩, ⟨%f4, %e4, H4⟩, ⟨%f5, %e5, H5⟩, ⟨%f6, %e6, H6⟩, ⟨%f7, %e7, H7⟩, ⟨%y8, %f8, -, H8⟩, ⟨%f10, %e10, H10⟩, ⟨%f11, %e11, H11⟩, Hk⟩
  obtain rfl := h3.eq_unread e3
  obtain rfl := h4.eq_unread e4
  obtain rfl := h5.eq_unread e5
  obtain rfl := h6.eq_unread e6
  obtain rfl := h7.eq_unread e7
  obtain rfl := h10.eq_unread e10
  obtain rfl := h11.eq_unread e11
  sl_exec (disch := first | sl_exact hf | sl_exact hl | sl_exact ht | sl_exact hb)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; frame_out; exact View.read_writes_full _ _ _ _ _
  isplitl [H10]
  · iexists _; isplitr; swap; · iexact H10
    ipureintro; frame_out; exact View.read_writes_full _ _ _ _ _
  iexists _; isplitr; swap; · iexact H11
  ipureintro; frame_out; exact View.read_writes_full _ _ _ _ _

/-- In the last block: they are summed. -/
theorem run_bottom (hf : ¬first i) (hl : last i) (ht : ¬top i) (hb : bottom i) (E : Set ℕ) (K : PUnit → sProp (𝕄 F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ y, owns (c : Thread nD τ) arg8 fullShare y) ∗ (∃ y, owns (c : Thread nD τ) arg9 fullShare y) ∗ owns (c : Thread nD τ) arg10 fullShare d ∗ owns (c : Thread nD τ) arg11 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay7 (k0_pay2 a x0 x1) x2 x3 x4) ∗ owns (c : Thread nD τ) arg9 fullShare (k0_pay4 (k0_pay3 (k0_pay9 (k0_pay2 a x0 x1) x2 d))) ∗ owns (c : Thread nD τ) arg10 fullShare (k0_pay3 (k0_pay9 (k0_pay2 a x0 x1) x2 d)) ∗ owns (c : Thread nD τ) arg11 fullShare (k0_pay2 a x0 x1)) -∗ K ⟨⟩))
      ⊢ wp frame (wpE (defs₀ (F := F)) Variants.none c none) E (cc0_mm_in_bwd i arg3 h3 arg4 h4 arg5 h5 arg6 h6 arg7 h7 arg8 h8 arg9 h9 arg10 h10 arg11 h11) K := by
  simp only [cc0_mm_in_bwd_eq_skeleton]; unfold cc0_mm_in_bwd_skel
  simp only [k0_part1_eq_skeleton]
  unfold owns
  iintro ⟨⟨%f3, %e3, H3⟩, ⟨%f4, %e4, H4⟩, ⟨%f5, %e5, H5⟩, ⟨%f6, %e6, H6⟩, ⟨%f7, %e7, H7⟩, ⟨%y8, %f8, -, H8⟩, ⟨%y9, %f9, -, H9⟩, ⟨%f10, %e10, H10⟩, ⟨%f11, %e11, H11⟩, Hk⟩
  obtain rfl := h3.eq_unread e3
  obtain rfl := h4.eq_unread e4
  obtain rfl := h5.eq_unread e5
  obtain rfl := h6.eq_unread e6
  obtain rfl := h7.eq_unread e7
  obtain rfl := h10.eq_unread e10
  obtain rfl := h11.eq_unread e11
  sl_exec (disch := first | sl_exact hf | sl_exact hl | sl_exact ht | sl_exact hb)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  iexists _; isplitr; swap; · iexact H11
  ipureintro; frame_out; exact View.read_writes_full _ _ _ _ _

end

variable (m : (ℓ : Loc nD τ sig) → Buf (Elt F) ℓ) (ρ : Dev nD → PrngReg)

theorem first_iff : ∀ t : Fin cfg0.N, first (grid0.coords t) ↔ t.val % 4 = 0 := (by decide +kernel : ∀ t : Fin grid0.N, _)
theorem last_iff : ∀ t : Fin cfg0.N, last (grid0.coords t) ↔ t.val % 4 = 3 := (by decide +kernel : ∀ t : Fin grid0.N, _)
theorem top_iff : ∀ t : Fin cfg0.N, top (grid0.coords t) ↔ t.val < 4 := (by decide +kernel : ∀ t : Fin grid0.N, _)
theorem bottom_iff : ∀ t : Fin cfg0.N, bottom (grid0.coords t) ↔ 60 ≤ t.val := (by decide +kernel : ∀ t : Fin grid0.N, _)
theorem idle5 : ∀ t : Fin cfg0.N, ¬t.val % 4 = 3 → cfg0.idle 5 (grid0.coords t) = true := (by decide +kernel : ∀ t : Fin grid0.N, _)
theorem live5 : ∀ t : Fin cfg0.N, t.val % 4 = 3 → cfg0.idle 5 (grid0.coords t) = false := (by decide +kernel : ∀ t : Fin grid0.N, _)
theorem idle6 : ∀ t : Fin cfg0.N, ¬t.val = 63 → cfg0.idle 6 (grid0.coords t) = true := (by decide +kernel : ∀ t : Fin grid0.N, _)
theorem live6 : ∀ t : Fin cfg0.N, t.val = 63 → cfg0.idle 6 (grid0.coords t) = false := (by decide +kernel : ∀ t : Fin grid0.N, _)
theorem keep5 (t : Fin cfg0.N) (h : ¬t.val % 4 = 3) : (cfg0.win 5).flush t = false :=
  Bool.eq_false_iff.mpr fun e => h ((flush0_5 t).mp e)
theorem keep6 (t : Fin cfg0.N) (h : ¬t.val = 63) : (cfg0.win 6).flush t = false :=
  Bool.eq_false_iff.mpr fun e => by
    have ht : t.val < 64 := lt_of_lt_of_eq t.isLt N_0
    have := (flush0_6 t).mp e
    omega

/-- The point of a number. -/
def pt (n : ℕ) : Fin cfg0.N := ⟨n % 64, lt_of_lt_of_eq (Nat.mod_lt _ (by decide)) N_0.symm⟩
theorem pt_val (t : Fin cfg0.N) : pt t.val = t := Fin.ext (Nat.mod_eq_of_lt (lt_of_lt_of_eq t.isLt N_0))

/-- The sum of a row block's product as each point leaves it. -/
def acc (c : Dev nD) : ℕ → Vec F S512x2048 .f32
  | 0 => k0_pay2 k0_pay1 (iblk m c 0 (pt 0)) (iblk m c 1 (pt 0))
  | n + 1 => k0_pay2 (if (n + 1) % 4 = 0 then k0_pay1 else acc c n) (iblk m c 0 (pt (n + 1))) (iblk m c 1 (pt (n + 1)))

/-- The carried sums as each point leaves them: they begin at zero. -/
def car (c : Dev nD) : ℕ → Vec F S8x2048 .f32
  | 0 => k0_pay8
  | n + 1 => if (n + 1) % 4 = 3 then k0_pay3 (k0_pay9 (acc m c (n + 1)) (iblk m c 2 (pt (n + 1))) (car c n)) else car c n

theorem acc_first (c : Dev nD) (t : Fin cfg0.N) (h : t.val % 4 = 0) :
    acc m c t.val = k0_pay2 k0_pay1 (iblk m c 0 t) (iblk m c 1 t) := by
  have e := pt_val t
  revert h e
  generalize t.val = n
  intro h e
  cases n with
  | zero => rw [acc, e]
  | succ n => rw [acc, e, if_pos h]

theorem acc_next (c : Dev nD) (t : Fin cfg0.N) (h : ¬t.val % 4 = 0) :
    acc m c t.val = k0_pay2 (acc m c (t.val - 1)) (iblk m c 0 t) (iblk m c 1 t) := by
  have e := pt_val t
  revert h e
  generalize t.val = n
  intro h e
  cases n with
  | zero => omega
  | succ n => rw [acc, e, if_neg h]; rfl

theorem car_keep (c : Dev nD) (n : ℕ) (h : ¬n % 4 = 3) (h0 : n ≠ 0) : car m c n = car m c (n - 1) := by
  cases n with
  | zero => omega
  | succ n => rw [car, if_neg h]; rfl

theorem car_last (c : Dev nD) (t : Fin cfg0.N) (h : t.val % 4 = 3) :
    car m c t.val = k0_pay3 (k0_pay9 (acc m c t.val) (iblk m c 2 t) (car m c (t.val - 1))) := by
  have e := pt_val t
  revert h e
  generalize t.val = n
  intro h e
  cases n with
  | zero => omega
  | succ n => rw [car, e, if_pos h]; rfl

theorem car_start (c : Dev nD) (n : ℕ) (h : n < 3) : car m c n = k0_pay8 := by
  obtain rfl | rfl | rfl : n = 0 ∨ n = 1 ∨ n = 2 := by omega
  all_goals rfl

/-- The kernel's own buffers. -/
abbrev bufC : Memref sig .tc .vmem S8x2048 .f32 := Memref.whole cc0_scratch0
abbrev bufA : Memref sig .tc .vmem S512x2048 .f32 := Memref.whole cc0_scratch1

/-- Between points: the sum is known inside a row block, the carried sums after the first one. -/
def inv (c : Dev nD) (n : ℕ) : sProp (𝕄 F) :=
  iprop(∃ a d, ⌜(n % 4 ≠ 0 → a = acc m c (n - 1)) ∧ (4 ≤ n → d = car m c (n - 1))⌝
    ∗ owns (c : Thread nD τ) bufC fullShare d ∗ owns (c : Thread nD τ) bufA fullShare a ∗ (∃ r, prngReg c r))

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay7 (acc m c t.val) (iblk m c 2 t) (iblk m c 3 t) (iblk m c 4 t)
    | ⟨6, _⟩ => k0_pay4 (car m c t.val)
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = k0_pay7 (acc m c t.val) (iblk m c 2 t) (iblk m c 3 t) (iblk m c 4 t) := by dsimp only [dats]
theorem after6 (c : Dev nD) (t : Fin cfg0.N) : (dats m 0 c).after 6 t = k0_pay4 (car m c t.val) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- A window the body stores into, or reads, is left at its contents. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- One point, from what it is called with to what it leaves. -/
def Pre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def Post (c : Dev nD) (t : Fin cfg0.N) : sProp (𝕄 F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1600000 in
theorem point (c : Dev nD) (t : Fin cfg0.N) :
    Pre m c t ⊢ wp frame (wpE (defs₀ (F := F)) Variants.none c none) Set.univ (bodyAt0 t) (fun _ => Post m c t) := by
  unfold Pre Post bodyAt0
  simp only [before0, before1, before2, before3, before4]
  rw [show (dats m 0 c).owesAt () t.succ = (dats m 0 c).owesAt () t.castSucc from rfl,
    show (dats m 0 c).Φ t.succ = inv m c (t.val + 1) from rfl, show (dats m 0 c).Φ t.castSucc = inv m c t.val from rfl,
    leaves m c t 0 rfl, leaves m c t 1 rfl, leaves m c t 2 rfl, leaves m c t 3 rfl, leaves m c t 4 rfl, after0, after1, after2, after3, after4]
  have hN : t.val < 64 := lt_of_lt_of_eq t.isLt N_0
  unfold inv
  by_cases hl : t.val % 4 = 3
  · have hf : ¬t.val % 4 = 0 := by omega
    rw [leaves m c t 5 (live5 t hl), after5, acc_next m c t hf]
    by_cases hb : t.val = 63
    · rw [leaves m c t 6 (live6 t hb), after6, car_last m c t hl, acc_next m c t hf]
      iintro ⟨⟨%a, %d, %hi, Hd, Ha, Hg⟩, Ho, ⟨%d0, H0⟩, ⟨%d1, H1⟩, ⟨%d2, H2⟩, ⟨%d3, H3⟩, ⟨%d4, H4⟩, ⟨%d5, H5⟩, H6⟩
      obtain rfl := hi.1 (by omega)
      obtain rfl := hi.2 (by omega)
      iapply (run_bottom c (grid0.coords t) _ _ _ _ _ _ _ _ _ _ _ _ _ _ _ _ _ _ (iblk m c 0 t) (iblk m c 1 t) (iblk m c 2 t) (iblk m c 3 t) (iblk m c 4 t) _ _ (fun h => hf ((first_iff t).mp h)) ((last_iff t).mpr hl) (fun h => absurd ((top_iff t).mp h) (by omega)) ((bottom_iff t).mpr (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · icases H6 with ⟨%d6, H6⟩; iexists _; iexact H6
      isplitl [Hd]; · iexact Hd
      isplitl [Ha]; · iexact Ha
      iintro ⟨H0, H1, H2, H3, H4, H5, H6, Hd, Ha⟩
      isplitl [Ha Hd Hg]
      · iexists _; iexists _
        isplitr; swap
        · isplitl [Hd]; · iexact Hd
          isplitl [Ha]; · iexact Ha
          iexact Hg
        ipureintro
        exact ⟨fun h => absurd h (by omega), fun _ => ((car_last m c t hl).trans (by rw [acc_next m c t hf]) : car m c t.val = _).symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle6 t hb) (keep6 t hb)]
      by_cases ht : t.val < 4
      · iintro ⟨⟨%a, %d, %hi, Hd, Ha, Hg⟩, Ho, ⟨%d0, H0⟩, ⟨%d1, H1⟩, ⟨%d2, H2⟩, ⟨%d3, H3⟩, ⟨%d4, H4⟩, ⟨%d5, H5⟩, H6⟩
        obtain rfl := hi.1 (by omega)
        iapply (run_top c (grid0.coords t) _ _ _ _ _ _ _ _ _ _ _ _ _ _ _ _ _ _ (iblk m c 0 t) (iblk m c 1 t) (iblk m c 2 t) (iblk m c 3 t) (iblk m c 4 t) _ (fun h => hf ((first_iff t).mp h)) ((last_iff t).mpr hl) ((top_iff t).mpr ht) (fun h => absurd ((bottom_iff t).mp h) (by omega)) Set.univ _)
        isplitl [H0]; · iexact H0
        isplitl [H1]; · iexact H1
        isplitl [H2]; · iexact H2
        isplitl [H3]; · iexact H3
        isplitl [H4]; · iexact H4
        isplitl [H5]; · iexists _; iexact H5
        isplitl [Hd]; · iexists _; iexact Hd
        isplitl [Ha]; · iexact Ha
        iintro ⟨H0, H1, H2, H3, H4, H5, Hd, Ha⟩
        isplitl [Ha Hd Hg]
        · iexists _; iexists _
          isplitr; swap
          · isplitl [Hd]; · iexact Hd
            isplitl [Ha]; · iexact Ha
            iexact Hg
          ipureintro
          exact ⟨fun h => absurd h (by omega), fun _ => ((car_last m c t hl).trans (by rw [acc_next m c t hf, car_start m c (t.val - 1) (by omega)]) : car m c t.val = _).symm⟩
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · iintro ⟨⟨%a, %d, %hi, Hd, Ha, Hg⟩, Ho, ⟨%d0, H0⟩, ⟨%d1, H1⟩, ⟨%d2, H2⟩, ⟨%d3, H3⟩, ⟨%d4, H4⟩, ⟨%d5, H5⟩, H6⟩
        obtain rfl := hi.1 (by omega)
        obtain rfl := hi.2 (by omega)
        iapply (run_mid c (grid0.coords t) _ _ _ _ _ _ _ _ _ _ _ _ _ _ _ _ _ _ (iblk m c 0 t) (iblk m c 1 t) (iblk m c 2 t) (iblk m c 3 t) (iblk m c 4 t) _ _ (fun h => hf ((first_iff t).mp h)) ((last_iff t).mpr hl) (fun h => ht ((top_iff t).mp h)) (fun h => absurd ((bottom_iff t).mp h) (by omega)) Set.univ _)
        isplitl [H0]; · iexact H0
        isplitl [H1]; · iexact H1
        isplitl [H2]; · iexact H2
        isplitl [H3]; · iexact H3
        isplitl [H4]; · iexact H4
        isplitl [H5]; · iexists _; iexact H5
        isplitl [Hd]; · iexact Hd
        isplitl [Ha]; · iexact Ha
        iintro ⟨H0, H1, H2, H3, H4, H5, Hd, Ha⟩
        isplitl [Ha Hd Hg]
        · iexists _; iexists _
          isplitr; swap
          · isplitl [Hd]; · iexact Hd
            isplitl [Ha]; · iexact Ha
            iexact Hg
          ipureintro
          exact ⟨fun h => absurd h (by omega), fun _ => ((car_last m c t hl).trans (by rw [acc_next m c t hf]) : car m c t.val = _).symm⟩
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · rw [Dat.leavesExact_idle (dats m 0 c) 5 t (idle5 t hl) (keep5 t hl),
      Dat.leavesExact_idle (dats m 0 c) 6 t (idle6 t (by omega)) (keep6 t (by omega))]
    by_cases hf : t.val % 4 = 0
    · iintro ⟨⟨%a, %d, %hi, Hd, Ha, Hg⟩, Ho, ⟨%d0, H0⟩, ⟨%d1, H1⟩, H2, H3, H4, H5, H6⟩
      iapply (run_first c (grid0.coords t) _ _ _ _ _ _ _ _ _ _ _ _ _ _ _ _ _ _ (iblk m c 0 t) (iblk m c 1 t) ((first_iff t).mpr hf) (fun h => hl ((last_iff t).mp h)) Set.univ _)
      isplitl [H0]; · iexact H0
      isplitl [H1]; · iexact H1
      isplitl [Ha]; · iexists _; iexact Ha
      iintro ⟨H0, H1, Ha⟩
      isplitl [Ha Hd Hg]
      · iexists _; iexists d
        isplitr
        · ipureintro
          exact ⟨fun _ => (acc_first m c t hf).symm, fun h => (hi.2 (by omega)).trans (car_keep m c _ hl (by omega)).symm⟩
        isplitl [Hd]; · iexact Hd
        isplitl [Ha]; · iexact Ha
        iexact Hg
      isplitl [Ho]; · iexact Ho
      isplitl [H0]; · iexact H0
      isplitl [H1]; · iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · iexact H5
      iexact H6
    · iintro ⟨⟨%a, %d, %hi, Hd, Ha, Hg⟩, Ho, ⟨%d0, H0⟩, ⟨%d1, H1⟩, H2, H3, H4, H5, H6⟩
      obtain rfl := hi.1 hf
      iapply (run_next c (grid0.coords t) _ _ _ _ _ _ _ _ _ _ _ _ _ _ _ _ _ _ (iblk m c 0 t) (iblk m c 1 t) _ (fun h => hf ((first_iff t).mp h)) (fun h => hl ((last_iff t).mp h)) Set.univ _)
      isplitl [H0]; · iexact H0
      isplitl [H1]; · iexact H1
      isplitl [Ha]; · iexact Ha
      iintro ⟨H0, H1, Ha⟩
      isplitl [Ha Hd Hg]
      · iexists _; iexists d
        isplitr
        · ipureintro
          exact ⟨fun _ => (acc_next m c t hf).symm, fun h => (hi.2 (by omega)).trans (car_keep m c _ hl (by omega)).symm⟩
        isplitl [Hd]; · iexact Hd
        isplitl [Ha]; · iexact Ha
        iexact Hg
      isplitl [Ho]; · iexact Ho
      isplitl [H0]; · iexact H0
      isplitl [H1]; · iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · iexact H5
      iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem scopedA (c : Dev nD) :
    (Pipeline.ΦA spec0 c : sProp (𝕄 F))
      = iprop(iprop((∃ d, owns (c : Thread nD τ) bufC fullShare d) ∗ (∃ a, owns (c : Thread nD τ) bufA fullShare a)) ∗ (∃ r, prngReg c r)) := by
  unfold Pipeline.ΦA; rw [scopedRest0_eq]; simp only [bufC, bufA, owns_whole]; rfl

theorem enter (c : Dev nD) : Pipeline.ΦA spec0 c ⊢ (dats (F := F) m 0 c).Φ 0 := by
  rw [show (dats m 0 c).Φ 0 = inv m c 0 from rfl, scopedA]
  unfold inv
  iintro ⟨⟨⟨%d, Hd⟩, ⟨%a, Ha⟩⟩, Hg⟩
  iexists a; iexists d
  isplitr
  · ipureintro; exact ⟨fun h => absurd rfl h, fun h => absurd h (by decide)⟩
  isplitl [Hd]; · iexact Hd
  isplitl [Ha]; · iexact Ha
  iexact Hg

theorem leave (c : Dev nD) : (dats (F := F) m 0 c).Φ (Fin.last cfg0.N) ⊢ Pipeline.ΦA spec0 c := by
  rw [show (dats m 0 c).Φ (Fin.last cfg0.N) = inv m c cfg0.N from rfl, scopedA]
  unfold inv
  iintro ⟨%a, %d, %hi, Hd, Ha, Hg⟩
  isplitr [Hg]
  · isplitl [Hd]; · iexists _; iexact Hd
    iexists _; iexact Ha
  iexact Hg

set_option backward.isDefEq.respectTransparency.types false in
/-- The run: every array at what the pipeline makes of the windows' contents, and the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run : θ_run defs (onTc (τ := τ) (main (F := F))) ⟨m, fun _ => 0, ρ⟩ (fun r => (∀ c : Dev nD,
      r.2.mem ((c.tc : Thread nD τ).loc main_v1_0) = (dats m 0 c).arrAt 5 (cfgs 0).N
      ∧ r.2.mem ((c.tc : Thread nD τ).loc main_v1_1) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.1 c).1 5, (h.1.1 c).1 6, h.2 c⟩, h.1.2⟩)
    (θ_run_and (run_main m ρ) (frame_of m ρ (dats m) (A_eq m) ((θ_run defs _ _).mono (fun _ h => h.1) (run_main m ρ))))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run m ρ)

/-- The other program has the same bodies. -/
theorem same_bodies : Cert.Kernel13.defs₀ (F := F) = defs₀ (F := F) := by
  refine congrArg Defs.onTc (funext fun l => funext fun a => ?_)
  match l, a with
  | 0, (t, s) => rfl

theorem same : Cert.Kernel13.defs (F := F) = defs (F := F) := congrArg (Pipeline.defs _) same_bodies

end Cert.Kernel13Ideal.Run

end
-- ==== Proof.InBwdVal.lean ====
/- The gradient of the first projection in its input, through the norm before it: what the arrays hold after the call, and the reference. -/
module

public import proofs.«01_k».proof.Proof.InBwd
public import proofs.«01_k».proof.Proof.Gen.Reference13Ideal.Run
public import proofs.«01_k».proof.Proof.Gen.Pre_finite_in
public import proofs.«01_k».proof.Proof.Rms
public import proofs.«01_k».proof.Proof.Finite
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel13Ideal.Val

open Idealize.ShloMosaic Idealize.ShloMosaic.TcCoe Idealize.SL.Sem
open Cert.Kernel13Ideal.Gen Cert.Kernel13Ideal.Run Cert.Rms

/-- Both accumulators begin at zero. -/
theorem sum_zero (j : S512x2048.Idx) : k0_pay1 (F := Ideal) j = 0 := by pointwise [k0_pay1]

theorem car_zero (j : S8x2048.Idx) : k0_pay8 (F := Ideal) j = 0 := by pointwise [k0_pay8]

/-- One column block's part of a row block's product. -/
def term (z : FVec Ideal S512x1280 .bf16) (w : FVec Ideal S2048x1280 .bf16) : FVec Ideal S512x2048 .f32 :=
  fun j => ∑ l : Fin 1280, z (ix2 (j 0) l) * w (ix2 (j 1) l)

theorem sum_step (a : FVec Ideal S512x2048 .f32) (z : FVec Ideal S512x1280 .bf16) (w : FVec Ideal S2048x1280 .bf16) (j : S512x2048.Idx) :
    k0_pay2 (F := Ideal) a z w j = a j + term z w j := by
  unfold term
  pointwise [k0_pay2]

/-- A block of rows with each row's factor. -/
def unit (x : FVec Ideal S512x2048 .f32) : FVec Ideal S512x2048 .f32 := fun j => x j * rs (fun k => x (ix2 (j 0) k))

theorem unit_pay (x : FVec Ideal S512x2048 .f32) : k0_pay6 (F := Ideal) x = unit x := by
  funext j
  unfold unit rs
  pointwise [k0_pay6, k0_pay5]

/-- A row block folded onto eight rows. -/
def fold (v : FVec Ideal S512x2048 .f32) : FVec Ideal S8x2048 .f32 :=
  fun j => ∑ q : Fin 64, v (ix2 ⟨q.val * 8 + (j 0).val, by have := q.isLt; have := (j 0).isLt; show _ < 512; change (j 0).val < 8 at this; omega⟩ (j 1))

theorem car_step (a x : FVec Ideal S512x2048 .f32) (d : FVec Ideal S8x2048 .f32) (j : S8x2048.Idx) :
    k0_pay3 (F := Ideal) (k0_pay9 a x d) j = d j + fold (fun i => a i * unit x i) j := by
  unfold fold
  pointwise [k0_pay3, k0_pay9, unit_pay]

theorem gain_out (d : FVec Ideal S8x2048 .f32) (j : S1x2048.Idx) : k0_pay4 (F := Ideal) d j = ∑ p : Fin 8, d (ix2 p (j 1)) := by
  pointwise [k0_pay4]

theorem row_out (a x : FVec Ideal S512x2048 .f32) (g : FVec Ideal S1x2048 .f32) (d : FVec Ideal S512x2048 .bf16) (j : S512x2048.Idx) :
    k0_pay7 (F := Ideal) a x g d j = back (d j) (fun k => x (ix2 (j 0) k)) (fun k => a (ix2 (j 0) k) * g (ix2 0 k)) (j 1) := by
  unfold back
  pointwise [k0_pay7, k0_pay5, unit_pay, unit, rs]

theorem idx : ∀ t : Fin cfg0.N, win0_0.index t = ![t.val / 4, t.val % 4] ∧ win0_1.index t = ![0, t.val % 4]
    ∧ win0_2.index t = ![t.val / 4, 0] ∧ win0_3.index t = ![0, 0] ∧ win0_4.index t = ![t.val / 4, 0] ∧ win0_5.index t = ![t.val / 4, 0] ∧ win0_6.index t = ![0, 0] :=
  (by decide +kernel : ∀ t : Fin grid0.N, _)

/-- The gradient of the normed rows: the product with the weight's transpose. -/
def dn (z : FVec Ideal S8192x5120 .bf16) (w : FVec Ideal S2048x5120 .f32) : FVec Ideal S8192x2048 .f32 :=
  fun i => ∑ l : Fin 5120, z (ix2 (i 0) l) * w (ix2 (i 1) l)

/-- The gradient of the rows, with the residual's. -/
def dx (z : FVec Ideal S8192x5120 .bf16) (w : FVec Ideal S2048x5120 .f32) (x : FVec Ideal S8192x2048 .f32) (g : FVec Ideal S1x2048 .f32)
    (d : FVec Ideal S8192x2048 .bf16) : FVec Ideal S8192x2048 .f32 :=
  fun i => back (d i) (fun k => x (ix2 (i 0) k)) (fun k => dn z w (ix2 (i 0) k) * g (ix2 0 k)) (i 1)

/-- The gradient of the gain. -/
def dg (z : FVec Ideal S8192x5120 .bf16) (w : FVec Ideal S2048x5120 .f32) (x : FVec Ideal S8192x2048 .f32) : FVec Ideal S1x2048 .f32 :=
  fun i => ∑ n : Fin 8192, dn z w (ix2 n (i 1)) * (x (ix2 n (i 1)) * rs (fun k => x (ix2 n k)))

variable (m : (ℓ : Loc nD τ sig) → Buf (Elt Ideal) ℓ) (c : Dev nD)

abbrev Z : FVec Ideal S8192x5120 .bf16 := m ((c.tc : Thread nD τ).loc main_arg0)
abbrev W : FVec Ideal S2048x5120 .f32 := m ((c.tc : Thread nD τ).loc main_arg1)
abbrev X : FVec Ideal S8192x2048 .f32 := m ((c.tc : Thread nD τ).loc main_arg2)
abbrev G : FVec Ideal S1x2048 .f32 := m ((c.tc : Thread nD τ).loc main_arg3)
abbrev R : FVec Ideal S8192x2048 .bf16 := m ((c.tc : Thread nD τ).loc main_arg4)

/-- The weight as the call takes it: cast. -/
theorem V_v0 (i : S2048x5120.Idx) : (V m c main_v0 i : EReal) = W m c i := by
  have h : V m c main_v0 = (truncf .bf16 (m ((c.tc : Thread nD τ).loc main_arg1) : FVec Ideal S2048x5120 .f32) bitsLt_bf16_f32 : FVec Ideal S2048x5120 .bf16) := by
    unfold V; after_results
  rw [h]; pointwise

/-- The rows', the gain's and the residual's blocks. -/
def bX (t : Fin cfg0.N) : FVec Ideal S512x2048 .f32 := iblk m c 2 t
def bG (t : Fin cfg0.N) : FVec Ideal S1x2048 .f32 := iblk m c 3 t
def bR (t : Fin cfg0.N) : FVec Ideal S512x2048 .bf16 := iblk m c 4 t

theorem x_at (t : Fin cfg0.N) (j : S512x2048.Idx) (i : S8192x2048.Idx) (h0 : (i 0).val = t.val / 4 * 512 + (j 0).val) (h1 : (i 1).val = (j 1).val) :
    bX m c t j = X m c i := by
  blk_point [bX, iblk, V_main_arg2, idx t]

theorem r_at (t : Fin cfg0.N) (j : S512x2048.Idx) (i : S8192x2048.Idx) (h0 : (i 0).val = t.val / 4 * 512 + (j 0).val) (h1 : (i 1).val = (j 1).val) :
    bR m c t j = R m c i := by
  blk_point [bR, iblk, V_main_arg4, idx t]

theorem g_at (t : Fin cfg0.N) (k : Fin 2048) : bG m c t (ix2 0 k) = G m c (ix2 0 k) := by
  blk_point [bG, iblk, V_main_arg3, idx t]

theorem unit_at (t : Fin cfg0.N) (j : S512x2048.Idx) (i : S8192x2048.Idx) (h0 : (i 0).val = t.val / 4 * 512 + (j 0).val) (h1 : (i 1).val = (j 1).val) :
    unit (bX m c t) j = X m c i * rs (fun k => X m c (ix2 (i 0) k)) := by
  unfold unit
  exact congrArg₂ (fun a b : EReal => a * b) (x_at m c t j i h0 h1) (congrArg rs (funext fun k => x_at m c t _ _ h0 rfl))

/-- At a row block's last point the accumulator holds the whole product. -/
theorem acc_at (t : Fin cfg0.N) (h3 : t.val % 4 = 3) (j : S512x2048.Idx) (i : S8192x2048.Idx)
    (h0 : (i 0).val = t.val / 4 * 512 + (j 0).val) (h1 : (i 1).val = (j 1).val) :
    acc m c t.val j = dn (Z m c) (W m c) i := by
  have e := Pipeline.eq_sum_fin_of_reset_step_apply_of_flush (N := cfg0.N) (fun n _ => (acc m c n : FVec Ideal S512x2048 .f32)) 4 (fun _ => (0 : EReal))
    (fun t j => term (iblk m c 0 t) (iblk m c 1 t) j)
    (fun t h j => (congrFun (acc_first m c t h) j).trans ((sum_step _ _ _ j).trans (by rw [sum_zero])))
    (fun t h j => (congrFun (acc_next m c t h) j).trans (sum_step _ _ _ j)) t h3 j
  refine e.trans ((zero_add _).trans ?_)
  unfold dn term
  have ht : t.val < 64 := lt_of_lt_of_eq t.isLt N_0
  refine Fin.sum_mul_add_congr fun s k hl => ?_
  blk_point [iblk, V_main_arg0, V_v0, idx t, idx ⟨_, Pipeline.run_point_lt_of_flush t h3 s⟩]

/-- After the run the first array is the gradient of the rows. -/
theorem final5 : (dats m 0 c).arrAt 5 (cfgs 0).N = dx (Z m c) (W m c) (X m c) (G m c) (R m c) := by
  refine (dats m 0 c).arrAt_eq_of_covers 5 _ (by decide +kernel) fun t hf y => ?_
  have h3 : t.val % 4 = 3 := (flush0_5 t).mp hf
  blk_simp
  rw [after5, row_out]
  unfold dx
  have h0 : (((win0_5.blk t).view.emb y) 0).val = t.val / 4 * 512 + (y 0).val := by blk_simp [idx t]
  have h1 : (((win0_5.blk t).view.emb y) 1).val = (y 1).val := by blk_simp [idx t]
  have e : (y 1 : Fin 2048) = ((win0_5.blk t).view.emb y) 1 := Fin.ext h1.symm
  exact congr (congr (congr (congrArg back (r_at m c t _ _ h0 h1)) (funext fun k => x_at m c t _ _ h0 rfl))
    (funext fun k => congrArg₂ (fun a b : EReal => a * b) (acc_at m c t h3 _ _ h0 rfl) (g_at m c t k))) e

/-- The last point of a row block. -/
abbrev close (s : ℕ) : Fin cfg0.N := pt (4 * s + 3)

theorem close_val (s : ℕ) (h : s < 16) : (close s).val = 4 * s + 3 := by
  show (4 * s + 3) % 64 = _
  omega

/-- The carried sums after each row block. -/
theorem car_at (n : ℕ) (h : n < 16) (j : S8x2048.Idx) :
    (car m c (4 * n + 3) j : EReal) = ∑ s : Fin (n + 1), fold (fun i => acc m c (close s).val i * unit (bX m c (close s)) i) j := by
  induction n with
  | zero =>
    have e := car_last m c (close 0) (by rw [close_val 0 h])
    rw [show (close 0).val = 3 from close_val 0 h, car_start m c (3 - 1) (by omega)] at e
    refine (congrFun e j).trans ((car_step _ _ _ j).trans ?_)
    rw [car_zero, zero_add, Fin.sum_univ_one]
    rfl
  | succ n ih =>
    have hv := close_val (n + 1) h
    have e := car_last m c (close (n + 1)) (by rw [hv]; omega)
    rw [Fin.sum_univ_castSucc]
    rw [show car m c ((close (n + 1)).val - 1) = car m c (4 * n + 3) by
      rw [hv, car_keep m c (4 * (n + 1) + 3 - 1) (by omega) (by omega), car_keep m c (4 * (n + 1) + 3 - 1 - 1) (by omega) (by omega),
        car_keep m c (4 * (n + 1) + 3 - 1 - 1 - 1) (by omega) (by omega)]; rfl] at e
    refine (congrFun ((congrArg (car m c) hv.symm).trans e) j).trans ((car_step _ _ _ j).trans ?_)
    exact congrArg₂ (fun a b : EReal => a + b) (ih (by omega)) rfl

/-- Rows of a block folded eight apart, blocks added, then the eight rows: every row once. -/
theorem rows_once (f : Fin 8192 → EReal) :
    ∑ p : Fin 8, ∑ s : Fin 16, ∑ q : Fin 64, f ⟨s.val * 512 + (q.val * 8 + p.val), by omega⟩ = ∑ n, f n := by
  rw [Finset.sum_comm]
  refine (Finset.sum_congr rfl fun s _ => ?_).trans (Fin.sum_mul_add_fin (S := 16) (n := 512) (L := 8192) f)
  rw [Finset.sum_comm]
  exact Fin.sum_mul_add_congr (S := 64) (n := 8) (L := 512) fun q p hl => congrArg f (Fin.ext rfl)

/-- After the run the second array is the gradient of the gain. -/
theorem final6 : (dats m 0 c).arrAt 6 (cfgs 0).N = dg (Z m c) (W m c) (X m c) := by
  refine (dats m 0 c).arrAt_eq_of_covers 6 _ (by decide +kernel) fun t hf y => ?_
  have ht : t.val < 64 := lt_of_lt_of_eq t.isLt N_0
  have h63 : t.val = 4 * 15 + 3 := by have := (flush0_6 t).mp hf; omega
  blk_simp
  rw [after6, gain_out, h63]
  have h1 : (((win0_6.blk t).view.emb y) 1).val = (y 1).val := by blk_simp [idx t]
  unfold dg
  refine (Finset.sum_congr (M := EReal) rfl fun p _ => car_at m c 15 (by decide) _).trans ?_
  refine (Finset.sum_congr (M := EReal) rfl fun p _ => Finset.sum_congr (M := EReal) rfl fun s _ => ?_).trans (rows_once _)
  unfold fold
  refine Finset.sum_congr (M := EReal) rfl fun q _ => ?_
  have hs : s.val < 16 := s.isLt
  have hv := close_val s.val hs
  have e0 : s.val * 512 + (q.val * 8 + p.val) = (close s.val).val / 4 * 512 + (q.val * 8 + p.val) := by rw [hv]; omega
  exact congrArg₂ (fun a b : EReal => a * b) (acc_at m c _ (by rw [hv]; omega) _ _ e0 h1) (unit_at m c _ _ _ e0 h1)

end Cert.Kernel13Ideal.Val

namespace Cert.Reference13Ideal.Val

open Idealize.ShloMosaic Idealize.ShloMosaic.TcCoe Idealize.SL.Sem
open Cert.Rms
open Cert.Kernel13Ideal.Val (dn dg)

/-- The gradient of the rows by the chain rule. -/
def dxR (z : FVec Ideal S8192x5120 .bf16) (w : FVec Ideal S2048x5120 .f32) (x : FVec Ideal S8192x2048 .f32) (g : FVec Ideal S1x2048 .f32)
    (d : FVec Ideal S8192x2048 .bf16) : FVec Ideal S8192x2048 .f32 :=
  fun i => chain (d i) (fun k => x (ix2 (i 0) k)) (fun k => dn z w (ix2 (i 0) k) * g (ix2 0 k)) (i 1)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
        = dxR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v21)
        = dg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans (funext fun i => ?_), (h c).2.1.trans (funext fun i => ?_), (h c).2.2⟩)
    (Cert.Reference13Ideal.Value.run m ρ)
  · unfold Cert.Reference13Ideal.Value.res_main_v38
    pointwise [dxR, chain, half, dn, rs, ms]
  · pointwise [dg, dn, rs]
    exact Finset.sum_congr rfl fun n _ => mul_comm _ _

/-- The precondition at one element of each argument it speaks of. -/
theorem all_real (z : FVec Ideal S8192x5120 .bf16) (w : FVec Ideal S2048x5120 .f32) (x : FVec Ideal S8192x2048 .f32) (g : FVec Ideal S1x2048 .f32)
    (d : FVec Ideal S8192x2048 .bf16) (hp : Cert.Pre_finite_in.fn (F := Ideal) z w x g d = fun _ => 1#1) :
    (∀ i, z i ≠ ⊤ ∧ z i ≠ ⊥) ∧ (∀ i, w i ≠ ⊤ ∧ w i ≠ ⊥) ∧ (∀ i, x i ≠ ⊤ ∧ x i ≠ ⊥) ∧ (∀ i, g i ≠ ⊤ ∧ g i ≠ ⊥) := by
  have hp := congrFun hp (Shape.Idx.first (by decide))
  dsimp only [Cert.Pre_finite_in.fn, Cert.Pre_finite_in.fn_part1] at hp
  obtain ⟨hp, pg⟩ := IntOp.andi_eq_one.1 hp
  obtain ⟨hp, px⟩ := IntOp.andi_eq_one.1 hp
  obtain ⟨pz, pw⟩ := IntOp.andi_eq_one.1 hp
  exact ⟨fun i => Cert.Finite.real_of_lt _ z _ i (Host.reduce_andi_all _ _ _ _ _ pz i), fun i => Cert.Finite.real_of_lt _ w _ i (Host.reduce_andi_all _ _ _ _ _ pw i),
    fun i => Cert.Finite.real_of_lt _ x _ i (Host.reduce_andi_all _ _ _ _ _ px i), fun i => Cert.Finite.real_of_lt _ g _ i (Host.reduce_andi_all _ _ _ _ _ pg i)⟩

/-- On real numbers the call's form is the chain rule's. -/
theorem dx_eq (z : FVec Ideal S8192x5120 .bf16) (w : FVec Ideal S2048x5120 .f32) (x : FVec Ideal S8192x2048 .f32) (g : FVec Ideal S1x2048 .f32)
    (d : FVec Ideal S8192x2048 .bf16) (hp : Cert.Pre_finite_in.fn (F := Ideal) z w x g d = fun _ => 1#1) :
    dxR z w x g d = Cert.Kernel13Ideal.Val.dx z w x g d := by
  obtain ⟨hz, hw, hx, hg⟩ := all_real z w x g d hp
  exact funext fun i => (back_eq _ _ _ (fun k => hx _) (fun k => real_dot_mul _ _ _ (fun l => hz _) (fun l => hw _) (hg _)) _).symm

end Cert.Reference13Ideal.Val

end
-- ==== Proof.GwPle.lean ====
/- The gradient of the per-layer embedding's weight: what the call's block holds after the rows have been summed, and the reference. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel17Ideal.Val

open Idealize.ShloMosaic Idealize.ShloMosaic.TcCoe Idealize.SL.Sem
open Cert.Kernel17Ideal.Gen

theorem hzero (j : S256x2048.Idx) : k0_pay1 (F := Ideal) j = 0 := by pointwise [k0_pay1]

/-- The product of two blocks, contracted over their 1024 rows. -/
def part (a : FVec Ideal S1024x256 .bf16) (b : FVec Ideal S1024x2048 .bf16) : FVec Ideal S256x2048 .f32 :=
  fun j => ∑ k : Fin 1024, a (ix2 k (j 0)) * b (ix2 k (j 1))

theorem hpay (acc : FVec Ideal S256x2048 .f32) (a : FVec Ideal S1024x256 .bf16) (b : FVec Ideal S1024x2048 .bf16) (j : S256x2048.Idx) :
    k0_pay2 (F := Ideal) acc a b j = acc j + part a b j := by
  unfold part
  pointwise [k0_pay2]

theorem hcast (acc : FVec Ideal S256x2048 .f32) (j : S256x2048.Idx) : k0_pay3 (F := Ideal) acc j = acc j := by pointwise [k0_pay3]

theorem idx : ∀ t : Fin cfg0.N, win0_0.index t = ![t.val, 0] ∧ win0_1.index t = ![t.val, 0] ∧ win0_2.index t = ![0, 0] :=
  (by decide +kernel : ∀ t : Fin grid0.N, _)

/-- The product of the transposed embedding with the gradient. -/
def TN (a : FVec Ideal S8192x256 .f32) (b : FVec Ideal S8192x2048 .bf16) : FVec Ideal S256x2048 .bf16 :=
  fun i => ∑ l : Fin 8192, a (ix2 l (i 0)) * b (ix2 l (i 1))

variable (m : (ℓ : Loc nD τ sig) → Buf (Elt Ideal) ℓ) (c : Dev nD)

/-- The embedding as the call takes it: cast. -/
theorem V_v0 (i : S8192x256.Idx) : (V m c main_v0 i : EReal) = (m ((c.tc : Thread nD τ).loc main_arg0) : FVec Ideal S8192x256 .f32) i := by
  have h : V m c main_v0 = (truncf .bf16 (m ((c.tc : Thread nD τ).loc main_arg0) : FVec Ideal S8192x256 .f32) bitsLt_bf16_f32 : FVec Ideal S8192x256 .bf16) := by
    unfold V; after_results
  rw [h]; pointwise

theorem acc_first (t : Fin cfg0.N) (h : t.val % 8 = 0) (j : S256x2048.Idx) :
    (outsAt0 m c t.val t.isLt).2 j = 0 + part (iblk m c 0 t) (iblk m c 1 t) j := by
  rw [outsAt0_A m c t h (by omega)]; frame_out; rw [hpay, hzero]

theorem acc_next (t : Fin cfg0.N) (h : ¬ t.val % 8 = 0) (j : S256x2048.Idx) :
    (outsAt0 m c t.val t.isLt).2 j = (outsAt0 m c (t.val - 1) (Nat.lt_of_le_of_lt (Nat.sub_le _ _) t.isLt)).2 j
      + part (iblk m c 0 t) (iblk m c 1 t) j := by
  by_cases h3 : t.val % 8 = 7
  · rw [outsAt0_C m c t h h3]; frame_out; rw [hpay, read_unread_whole]
  · rw [outsAt0_B m c t h h3]; frame_out; rw [hpay, read_unread_whole]

theorem out_last (t : Fin cfg0.N) (h : t.val % 8 = 7) (j : S256x2048.Idx) :
    (outsAt0 m c t.val t.isLt).1 j = (outsAt0 m c t.val t.isLt).2 j := by
  rw [outsAt0_C m c t (by omega) h]; frame_out; rw [hcast]

/-- After the run the array is the whole product. -/
theorem final : (dats m 0 c).arrAt 2 (cfgs 0).N
    = TN (m ((c.tc : Thread nD τ).loc main_arg0)) (m ((c.tc : Thread nD τ).loc main_arg1)) := by
  refine (dats m 0 c).arrAt_eq_of_covers 2 _ (by decide +kernel) fun t hf y => ?_
  have h3 : t.val % 8 = 8 - 1 := (flush0_2 t).mp hf
  blk_simp
  rw [after0_2, out_last m c t h3, Pipeline.eq_sum_fin_of_reset_step_apply_of_flush (fun n h => (outsAt0 m c n h).2) 8 (fun _ => 0) _
    (fun t h j => acc_first m c t h j) (fun t h j => acc_next m c t h j) t h3 _, zero_add]
  unfold TN part
  refine Fin.sum_mul_add_congr fun s k hl => ?_
  have ht : t.val < 8 := lt_of_lt_of_eq t.isLt N_0
  blk_point [iblk, V_v0, V_main_arg1, idx t, idx ⟨_, Pipeline.run_point_lt_of_flush t h3 s⟩]

end Cert.Kernel17Ideal.Val

namespace Cert.Reference17Ideal.Val

open Idealize.ShloMosaic Idealize.ShloMosaic.TcCoe Idealize.SL.Sem

/-- The gradient of `p @ w_ple` in `w_ple` is the same product with the factors of each term exchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
        = Cert.Kernel17Ideal.Val.TN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Cert.Reference17Ideal.Value.run m ρ)
  pointwise [Cert.Kernel17Ideal.Val.TN]
  exact Finset.sum_congr rfl fun l _ => mul_comm _ _

end Cert.Reference17Ideal.Val

end
-- ==== Proof.NormBwd.lean ====
/- The gradient of a norm alone, beside the residual: what the call's blocks hold, and the reference. -/
module

public import proofs.«01_k».proof.Proof.Gen.Kernel18Ideal.Value
public import proofs.«01_k».proof.Proof.Gen.Reference18Ideal.Run
public import proofs.«01_k».proof.Proof.Gen.Pre_finite_norm
public import proofs.«01_k».proof.Proof.Rms
public import proofs.«01_k».proof.Proof.Finite
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel18Ideal.Val

open Idealize.ShloMosaic Idealize.ShloMosaic.TcCoe Idealize.SL.Sem
open Cert.Kernel18Ideal.Gen Cert.Rms

theorem hzero (j : S8x2048.Idx) : k0_pay7 (F := Ideal) j = 0 := by pointwise [k0_pay7]

/-- One block's part of the gain's gradient: rows eight apart are summed. -/
def part (y : FVec Ideal S256x2048 .bf16) (h : FVec Ideal S256x2048 .f32) : FVec Ideal S8x2048 .f32 :=
  fun j => ∑ q : Fin 32, (fun r : Fin 256 => y (ix2 r (j 1)) * (h (ix2 r (j 1)) * rs (fun k => h (ix2 r k))))
    ⟨q.val * 8 + (j 0).val, by have := q.isLt; have := (j 0).isLt; change (j 0).val < 8 at this; omega⟩

theorem hpay (y : FVec Ideal S256x2048 .bf16) (h : FVec Ideal S256x2048 .f32) (acc : FVec Ideal S8x2048 .f32) (j : S8x2048.Idx) :
    k0_pay1 (F := Ideal) acc (k0_pay8 h y) j = acc j + part y h j := by
  unfold part rs
  pointwise [k0_pay1, k0_pay8, k0_pay5, k0_pay4, k0_pay3]

theorem hlast (acc : FVec Ideal S8x2048 .f32) (j : S1x2048.Idx) : k0_pay2 (F := Ideal) acc j = ∑ p : Fin 8, acc (ix2 p (j 1)) := by
  pointwise [k0_pay2]

theorem hback (y : FVec Ideal S256x2048 .bf16) (h : FVec Ideal S256x2048 .f32) (g : FVec Ideal S1x2048 .f32) (d : FVec Ideal S256x2048 .bf16)
    (j : S256x2048.Idx) :
    k0_pay6 (F := Ideal) h y g d j = back (d j) (fun k => h (ix2 (j 0) k)) (fun k => y (ix2 (j 0) k) * g (ix2 0 k)) (j 1) := by
  unfold back
  pointwise [k0_pay6, k0_pay5, k0_pay4, k0_pay3, rs]

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The gradient of the normed rows, through the norm, added to the residual's. -/
def dh (y : FVec Ideal S8192x2048 .bf16) (h : FVec Ideal S8192x2048 .f32) (g : FVec Ideal S1x2048 .f32) (d : FVec Ideal S8192x2048 .bf16) :
    FVec Ideal S8192x2048 .bf16 :=
  fun i => back (d i) (fun k => h (ix2 (i 0) k)) (fun k => y (ix2 (i 0) k) * g (ix2 0 k)) (i 1)

/-- The gradient of the gain, summed over the rows. -/
def dg (y : FVec Ideal S8192x2048 .bf16) (h : FVec Ideal S8192x2048 .f32) : FVec Ideal S1x2048 .f32 :=
  fun i => ∑ n : Fin 8192, y (ix2 n (i 1)) * (h (ix2 n (i 1)) * rs (fun k => h (ix2 n k)))

variable (m : (ℓ : Loc nD τ sig) → Buf (Elt Ideal) ℓ) (c : Dev nD)

/-- The blocks as a point reads them. -/
def bY (t : Fin cfg0.N) : FVec Ideal S256x2048 .bf16 := iblk m c 0 t
def bH (t : Fin cfg0.N) : FVec Ideal S256x2048 .f32 := iblk m c 1 t
def bG (t : Fin cfg0.N) : FVec Ideal S1x2048 .f32 := iblk m c 2 t
def bD (t : Fin cfg0.N) : FVec Ideal S256x2048 .bf16 := iblk m c 3 t

theorem acc_first (t : Fin cfg0.N) (h : t.val % 32 = 0) (j : S8x2048.Idx) :
    (outsAt0 m c t.val t.isLt).2.2 j = 0 + part (bY m c t) (bH m c t) j := by
  rw [outsAt0_A m c t h (by omega)]; frame_out; rw [hpay, hzero]; rfl

theorem acc_next (t : Fin cfg0.N) (h : ¬ t.val % 32 = 0) (j : S8x2048.Idx) :
    (outsAt0 m c t.val t.isLt).2.2 j = (outsAt0 m c (t.val - 1) (Nat.lt_of_le_of_lt (Nat.sub_le _ _) t.isLt)).2.2 j
      + part (bY m c t) (bH m c t) j := by
  by_cases h3 : t.val % 32 = 31
  · rw [outsAt0_C m c t h h3]; frame_out; rw [hpay, read_unread_whole]; rfl
  · rw [outsAt0_B m c t h h3]; frame_out; rw [hpay, read_unread_whole]; rfl

theorem out_dh (t : Fin cfg0.N) (j : S256x2048.Idx) :
    (outsAt0 m c t.val t.isLt).1 j
      = back (bD m c t j) (fun k => bH m c t (ix2 (j 0) k)) (fun k => bY m c t (ix2 (j 0) k) * bG m c t (ix2 0 k)) (j 1) := by
  by_cases h : t.val % 32 = 0
  · rw [outsAt0_A m c t h (by omega)]; frame_out; rw [hback]; rfl
  · by_cases h3 : t.val % 32 = 31
    · rw [outsAt0_C m c t h h3]; frame_out; rw [hback]; rfl
    · rw [outsAt0_B m c t h h3]; frame_out; rw [hback]; rfl

theorem out_dg (t : Fin cfg0.N) (h : t.val % 32 = 31) (j : S1x2048.Idx) :
    (outsAt0 m c t.val t.isLt).2.1 j = ∑ p : Fin 8, (outsAt0 m c t.val t.isLt).2.2 (ix2 p (j 1)) := by
  rw [outsAt0_C m c t (by omega) h]; frame_out; rw [hlast]

abbrev Y : FVec Ideal S8192x2048 .bf16 := m ((c.tc : Thread nD τ).loc main_arg0)
abbrev H : FVec Ideal S8192x2048 .f32 := m ((c.tc : Thread nD τ).loc main_arg1)
abbrev G : FVec Ideal S1x2048 .f32 := m ((c.tc : Thread nD τ).loc main_arg2)
abbrev D : FVec Ideal S8192x2048 .bf16 := m ((c.tc : Thread nD τ).loc main_arg3)

theorem y_at (t : Fin cfg0.N) (j : S256x2048.Idx) (i : S8192x2048.Idx) (h0 : (i 0).val = t.val * 256 + (j 0).val) (h1 : (i 1).val = (j 1).val) :
    bY m c t j = Y m c i := by
  blk_point [bY, iblk, V, idx t]

theorem h_at (t : Fin cfg0.N) (j : S256x2048.Idx) (i : S8192x2048.Idx) (h0 : (i 0).val = t.val * 256 + (j 0).val) (h1 : (i 1).val = (j 1).val) :
    bH m c t j = H m c i := by
  blk_point [bH, iblk, V, idx t]

theorem d_at (t : Fin cfg0.N) (j : S256x2048.Idx) (i : S8192x2048.Idx) (h0 : (i 0).val = t.val * 256 + (j 0).val) (h1 : (i 1).val = (j 1).val) :
    bD m c t j = D m c i := by
  blk_point [bD, iblk, V, idx t]

theorem g_at (t : Fin cfg0.N) (k : Fin 2048) : bG m c t (ix2 0 k) = G m c (ix2 0 k) := by
  blk_point [bG, iblk, V, idx t]

/-- After the run the first array is the rows' gradient. -/
theorem final4 : (dats m 0 c).arrAt 4 (cfgs 0).N = dh (Y m c) (H m c) (G m c) (D m c) := by
  refine (dats m 0 c).arrAt_eq_of_covers 4 _ (by decide +kernel) fun t hf y => ?_
  blk_simp
  rw [after0_4, out_dh m c t]
  unfold dh
  have h0 : (((win0_4.blk t).view.emb y) 0).val = t.val * 256 + (y 0).val := by blk_simp [idx t]
  have h1 : (((win0_4.blk t).view.emb y) 1).val = (y 1).val := by blk_simp [idx t]
  have e : (y 1 : Fin 2048) = ((win0_4.blk t).view.emb y) 1 := Fin.ext h1.symm
  exact congr (congr (congr (congrArg back (d_at m c t _ _ h0 h1)) (funext fun k => h_at m c t _ _ h0 rfl))
    (funext fun k => congrArg₂ (fun a b : EReal => a * b) (y_at m c t _ _ h0 rfl) (g_at m c t k))) e

/-- Rows of a block eight apart, the blocks, then the eight: every row once. -/
theorem rows_once (f : Fin 8192 → EReal) :
    ∑ p : Fin 8, ∑ s : Fin 32, ∑ q : Fin 32, f ⟨s.val * 256 + (q.val * 8 + p.val), by omega⟩ = ∑ n, f n := by
  rw [Finset.sum_comm]
  refine (Finset.sum_congr rfl fun s _ => ?_).trans (Fin.sum_mul_add_fin (S := 32) (n := 256) (L := 8192) f)
  rw [Finset.sum_comm]
  exact Fin.sum_mul_add_congr (S := 32) (n := 8) (L := 256) fun q p hl => congrArg f (Fin.ext rfl)

/-- After the run the second array is the gain's gradient. -/
theorem final5 : (dats m 0 c).arrAt 5 (cfgs 0).N = dg (Y m c) (H m c) := by
  refine (dats m 0 c).arrAt_eq_of_covers 5 _ (by decide +kernel) fun t hf y => ?_
  have h3 : t.val % 32 = 32 - 1 := (flush0_5 t).mp hf
  blk_simp
  rw [after0_5, out_dg m c t h3]
  have h1 : (((win0_5.blk t).view.emb y) 1).val = (y 1).val := by blk_simp [idx t]
  have ht : t.val < 32 := lt_of_lt_of_eq t.isLt N_0
  unfold dg
  refine (Finset.sum_congr (M := EReal) rfl fun p _ => ?_).trans (rows_once _)
  refine (Pipeline.eq_sum_fin_of_reset_step_apply_of_flush (fun n h => (outsAt0 m c n h).2.2) 32 (fun _ => 0) _
    (fun t h j => acc_first m c t h j) (fun t h j => acc_next m c t h j) t h3 _).trans ((zero_add _).trans ?_)
  refine Finset.sum_congr (M := EReal) rfl fun s _ => ?_
  unfold part
  refine Finset.sum_congr (M := EReal) rfl fun q _ => ?_
  have e0 : s.val * 256 + (q.val * 8 + p.val) = (32 * (t.val / 32) + s.val) * 256 + (q.val * 8 + p.val) := by omega
  exact congrArg₂ (fun a b : EReal => a * b) (y_at m c _ _ _ e0 h1)
    (congrArg₂ (fun a b : EReal => a * b) (h_at m c _ _ _ e0 h1) (congrArg rs (funext fun k => h_at m c _ _ _ e0 rfl)))

end Cert.Kernel18Ideal.Val

namespace Cert.Reference18Ideal.Val

open Idealize.ShloMosaic Idealize.ShloMosaic.TcCoe Idealize.SL.Sem
open Cert.Rms
open Cert.Kernel18Ideal.Val (dg)

/-- The rows' gradient by the chain rule. -/
def dhR (y : FVec Ideal S8192x2048 .bf16) (h : FVec Ideal S8192x2048 .f32) (g : FVec Ideal S1x2048 .f32) (d : FVec Ideal S8192x2048 .bf16) :
    FVec Ideal S8192x2048 .bf16 :=
  fun i => chain (d i) (fun k => h (ix2 (i 0) k)) (fun k => y (ix2 (i 0) k) * g (ix2 0 k)) (i 1)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
        = dhR (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v19) = dg (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_), (h c).2.2⟩)
    (Cert.Reference18Ideal.Value.run m ρ)
  · pointwise [dhR, chain, half, rs, ms]
  · pointwise [dg, rs]
    exact Finset.sum_congr rfl fun n _ => mul_comm _ _

theorem all_real (y : FVec Ideal S8192x2048 .bf16) (h : FVec Ideal S8192x2048 .f32) (g : FVec Ideal S1x2048 .f32) (d : FVec Ideal S8192x2048 .bf16)
    (hp : Cert.Pre_finite_norm.fn (F := Ideal) y h g d = fun _ => 1#1) :
    (∀ i, y i ≠ ⊤ ∧ y i ≠ ⊥) ∧ (∀ i, h i ≠ ⊤ ∧ h i ≠ ⊥) ∧ (∀ i, g i ≠ ⊤ ∧ g i ≠ ⊥) := by
  have hp := congrFun hp (Shape.Idx.first (by decide))
  dsimp only [Cert.Pre_finite_norm.fn] at hp
  obtain ⟨hp, pg⟩ := IntOp.andi_eq_one.1 hp
  obtain ⟨py, ph⟩ := IntOp.andi_eq_one.1 hp
  exact ⟨fun i => Cert.Finite.real_of_lt _ y _ i (Host.reduce_andi_all _ _ _ _ _ py i), fun i => Cert.Finite.real_of_lt _ h _ i (Host.reduce_andi_all _ _ _ _ _ ph i),
    fun i => Cert.Finite.real_of_lt _ g _ i (Host.reduce_andi_all _ _ _ _ _ pg i)⟩

theorem mul_real (a b : EReal) (ha : a ≠ ⊤ ∧ a ≠ ⊥) (hb : b ≠ ⊤ ∧ b ≠ ⊥) : a * b ≠ ⊤ ∧ a * b ≠ ⊥ := by
  rw [← EReal.coe_toReal ha.1 ha.2, ← EReal.coe_toReal hb.1 hb.2, ← EReal.coe_mul]
  exact ⟨EReal.coe_ne_top _, EReal.coe_ne_bot _⟩

theorem dh_eq (y : FVec Ideal S8192x2048 .bf16) (h : FVec Ideal S8192x2048 .f32) (g : FVec Ideal S1x2048 .f32) (d : FVec Ideal S8192x2048 .bf16)
    (hp : Cert.Pre_finite_norm.fn (F := Ideal) y h g d = fun _ => 1#1) : dhR y h g d = Cert.Kernel18Ideal.Val.dh y h g d := by
  obtain ⟨hy, hh, hg⟩ := all_real y h g d hp
  exact funext fun i => (back_eq _ _ _ (fun k => hh _) (fun k => mul_real _ _ (hy _) (hg _)) _).symm

end Cert.Reference18Ideal.Val

end
-- ==== Proof.Adam.lean ====
/- One step of AdamW, element by element, with the constants that the program rounds them to. -/
module

public import Idealize.ShloMosaic.Lib.Pipeline.ValueKit
public import Idealize.ShloMosaic.Lib.Claim

@[expose] public section

noncomputable section

namespace Cert.Adam

open Idealize.ShloMosaic

/-- The first moment after the step: 0.9 of it and 0.1 of the gradient. -/
def first (g m : EReal) : EReal := Ideal.ofBits .f32 0x3F666666#32 * m + Ideal.ofBits .f32 0x3DCCCCCD#32 * g

/-- The second moment after the step: 0.999 of it and 0.001 of the gradient's square. -/
def second (g v : EReal) : EReal := Ideal.ofBits .f32 0x3F7FBE77#32 * v + Ideal.ofBits .f32 0x3A83126F#32 * (g * g)

/-- What the step adds to the weight: the moments, freed of their bias, and the decay, times the negated rate. -/
def delta (g w m v : EReal) : EReal :=
  Ideal.ofBits .f32 0xBA83126F#32
    * (Ideal.div (Ideal.div (first g m) (Ideal.ofBits .f32 0x3F26BD02#32))
          (Ideal.sqrt (Ideal.div (second g v) (Ideal.ofBits .f32 0x3C231ACC#32)) + Ideal.ofBits .f32 0x322BCC77#32)
        + Ideal.ofBits .f32 0x3C23D70A#32 * w)

end Cert.Adam

end
-- ==== Proof.AdamDown.lean ====
/- The step of AdamW on the feed-forward part's last weight: what the call's blocks hold, and the reference. -/
module

public import proofs.«01_k».proof.Proof.Gen.Kernel19Ideal.Value
public import proofs.«01_k».proof.Proof.Gen.Reference19Ideal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel19Ideal.Val

open Idealize.ShloMosaic Idealize.ShloMosaic.TcCoe Idealize.SL.Sem
open Cert.Kernel19Ideal.Gen Cert.Adam

/-- The devices' gradients, summed. -/
def grad (s : FVec Ideal S8x704x2048 .bf16) : FVec Ideal S704x2048 .f32 := fun i => ∑ k : Fin 8, s (ix3 k (i 0) (i 1))

/-- The moments and the weight's change, element by element. -/
def newP (s : FVec Ideal S8x704x2048 .bf16) (p : FVec Ideal S704x2048 .f32) : FVec Ideal S704x2048 .f32 := fun i => first (grad s i) (p i)
def newQ (s : FVec Ideal S8x704x2048 .bf16) (q : FVec Ideal S704x2048 .f32) : FVec Ideal S704x2048 .f32 := fun i => second (grad s i) (q i)
def change (s : FVec Ideal S8x704x2048 .bf16) (w p q : FVec Ideal S704x2048 .f32) : FVec Ideal S704x2048 .f32 :=
  fun i => delta (grad s i) (w i) (p i) (q i)

/-- The sum over the devices in a block. -/
def part (s : FVec Ideal S8x176x2048 .bf16) (j : S176x2048.Idx) : EReal := ∑ k : Fin 8, s (ix3 k (j 0) (j 1))

section block
variable (s : FVec Ideal S8x176x2048 .bf16) (w p q : FVec Ideal S176x2048 .f32) (j : S176x2048.Idx)

theorem out_g : out0_4 (F := Ideal) s w p q j = part s j := by
  unfold part
  unfold_out out0_4
  frame_out
  pointwise [k0_pay4, Fin.sum_univ_eight]

theorem out_d : out0_5 (F := Ideal) s w p q j = delta (part s j) (w j) (p j) (q j) := by
  unfold part delta first second
  unfold_out out0_5
  frame_out
  pointwise [k0_pay3, k0_pay1, k0_pay2, k0_pay4, Fin.sum_univ_eight]

theorem out_p : out0_6 (F := Ideal) s w p q j = first (part s j) (p j) := by
  unfold part first
  unfold_out out0_6
  frame_out
  pointwise [k0_pay1, k0_pay4, Fin.sum_univ_eight]

theorem out_q : out0_7 (F := Ideal) s w p q j = second (part s j) (q j) := by
  unfold part second
  unfold_out out0_7
  frame_out
  pointwise [k0_pay2, k0_pay4, Fin.sum_univ_eight]

end block

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The blocks as a point reads them, and the arrays that they are blocks of. -/
def bS (t : Fin cfg0.N) : FVec Ideal S8x176x2048 .bf16 := iblk m c 0 t
def bW (t : Fin cfg0.N) : FVec Ideal S176x2048 .f32 := iblk m c 1 t
def bP (t : Fin cfg0.N) : FVec Ideal S176x2048 .f32 := iblk m c 2 t
def bQ (t : Fin cfg0.N) : FVec Ideal S176x2048 .f32 := iblk m c 3 t
abbrev S : FVec Ideal S8x704x2048 .bf16 := m ((c.tc : Thread nD τ).loc main_arg0)
abbrev W : FVec Ideal S704x2048 .f32 := m ((c.tc : Thread nD τ).loc main_arg1)
abbrev P : FVec Ideal S704x2048 .f32 := m ((c.tc : Thread nD τ).loc main_arg2)
abbrev Q : FVec Ideal S704x2048 .f32 := m ((c.tc : Thread nD τ).loc main_arg3)

theorem s_at (t : Fin cfg0.N) (j : S176x2048.Idx) (i : S704x2048.Idx) (h0 : (i 0).val = t.val * 176 + (j 0).val) (h1 : (i 1).val = (j 1).val) :
    part (bS m c t) j = grad (S m c) i := by
  unfold part grad
  refine Finset.sum_congr rfl fun k _ => ?_
  blk_point [bS, iblk, V, idx t]

theorem w_at (t : Fin cfg0.N) (j : S176x2048.Idx) (i : S704x2048.Idx) (h0 : (i 0).val = t.val * 176 + (j 0).val) (h1 : (i 1).val = (j 1).val) :
    bW m c t j = W m c i := by
  blk_point [bW, iblk, V, idx t]

theorem p_at (t : Fin cfg0.N) (j : S176x2048.Idx) (i : S704x2048.Idx) (h0 : (i 0).val = t.val * 176 + (j 0).val) (h1 : (i 1).val = (j 1).val) :
    bP m c t j = P m c i := by
  blk_point [bP, iblk, V, idx t]

theorem q_at (t : Fin cfg0.N) (j : S176x2048.Idx) (i : S704x2048.Idx) (h0 : (i 0).val = t.val * 176 + (j 0).val) (h1 : (i 1).val = (j 1).val) :
    bQ m c t j = Q m c i := by
  blk_point [bQ, iblk, V, idx t]

theorem final_g : (dats m 0 c).arrAt 4 (cfgs 0).N = grad (S m c) := by
  refine (dats m 0 c).arrAt_eq_of_covers 4 _ (by decide +kernel) fun t hf y => ?_
  blk_simp
  have h0 : (((win0_4.blk t).view.emb y) 0).val = t.val * 176 + (y 0).val := by blk_simp [idx t]
  have h1 : (((win0_4.blk t).view.emb y) 1).val = (y 1).val := by blk_simp [idx t]
  rw [after0_4]
  exact (out_g _ _ _ _ y).trans (s_at m c t y _ h0 h1)

theorem final_d : (dats m 0 c).arrAt 5 (cfgs 0).N = change (S m c) (W m c) (P m c) (Q m c) := by
  refine (dats m 0 c).arrAt_eq_of_covers 5 _ (by decide +kernel) fun t hf y => ?_
  blk_simp
  have h0 : (((win0_5.blk t).view.emb y) 0).val = t.val * 176 + (y 0).val := by blk_simp [idx t]
  have h1 : (((win0_5.blk t).view.emb y) 1).val = (y 1).val := by blk_simp [idx t]
  rw [after0_5]
  exact (out_d _ _ _ _ y).trans (congr (congr (congr (congrArg delta (s_at m c t y _ h0 h1)) (w_at m c t y _ h0 h1)) (p_at m c t y _ h0 h1)) (q_at m c t y _ h0 h1))

theorem final_p : (dats m 0 c).arrAt 6 (cfgs 0).N = newP (S m c) (P m c) := by
  refine (dats m 0 c).arrAt_eq_of_covers 6 _ (by decide +kernel) fun t hf y => ?_
  blk_simp
  have h0 : (((win0_6.blk t).view.emb y) 0).val = t.val * 176 + (y 0).val := by blk_simp [idx t]
  have h1 : (((win0_6.blk t).view.emb y) 1).val = (y 1).val := by blk_simp [idx t]
  rw [after0_6]
  exact (out_p _ _ _ _ y).trans (congrArg₂ first (s_at m c t y _ h0 h1) (p_at m c t y _ h0 h1))

theorem final_q : (dats m 0 c).arrAt 7 (cfgs 0).N = newQ (S m c) (Q m c) := by
  refine (dats m 0 c).arrAt_eq_of_covers 7 _ (by decide +kernel) fun t hf y => ?_
  blk_simp
  have h0 : (((win0_7.blk t).view.emb y) 0).val = t.val * 176 + (y 0).val := by blk_simp [idx t]
  have h1 : (((win0_7.blk t).view.emb y) 1).val = (y 1).val := by blk_simp [idx t]
  rw [after0_7]
  exact (out_q _ _ _ _ y).trans (congrArg₂ second (s_at m c t y _ h0 h1) (q_at m c t y _ h0 h1))

end Cert.Kernel19Ideal.Val

namespace Cert.Reference19Ideal.Val

open Idealize.ShloMosaic Idealize.ShloMosaic.TcCoe Idealize.SL.Sem
open Cert.Kernel19Ideal.Val (grad change newP newQ)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = grad (m ((c.tc : Thread nD τ).loc main_arg0))
      ∧ r.2.mem ((c.tc : Thread nD τ).loc main_v25) = change (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = newP (m ((c.tc : Thread nD τ).loc main_arg0)) (m ((c.tc : Thread nD τ).loc main_arg2))
      ∧ r.2.mem ((c.tc : Thread nD τ).loc main_v12) = newQ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_),
    (h c).2.2.1.trans (funext fun i => ?_), (h c).2.2.2.1.trans (funext fun i => ?_), (h c).2.2.2.2⟩) (Cert.Reference19Ideal.Value.run m ρ)
  · pointwise [grad]
  · pointwise [change, grad, Cert.Adam.delta, Cert.Adam.first, Cert.Adam.second]
  · pointwise [newP, grad, Cert.Adam.first]
  · pointwise [newQ, grad, Cert.Adam.second]

end Cert.Reference19Ideal.Val

end
-- ==== Proof.AdamGate.lean ====
/- The step of AdamW on the feed-forward part's first weights, kept transposed: what the call's blocks hold, and the reference. -/
module

public import proofs.«01_k».proof.Proof.Gen.Kernel20Ideal.Value
public import proofs.«01_k».proof.Proof.Gen.Reference20Ideal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel20Ideal.Val

open Idealize.ShloMosaic Idealize.ShloMosaic.TcCoe Idealize.SL.Sem
open Cert.Kernel20Ideal.Gen Cert.Adam

/-- The devices' gradients, summed. -/
def grad (s : FVec Ideal S8x704x2048 .bf16) : FVec Ideal S704x2048 .f32 := fun i => ∑ k : Fin 8, s (ix3 k (i 0) (i 1))

/-- The moments and the weight's change, element by element. -/
def newP (s : FVec Ideal S8x704x2048 .bf16) (p : FVec Ideal S2048x704 .f32) : FVec Ideal S704x2048 .f32 := fun i => first (grad s i) (p (ix2 (i 1) (i 0)))
def newQ (s : FVec Ideal S8x704x2048 .bf16) (q : FVec Ideal S2048x704 .f32) : FVec Ideal S704x2048 .f32 := fun i => second (grad s i) (q (ix2 (i 1) (i 0)))
def change (s : FVec Ideal S8x704x2048 .bf16) (w p q : FVec Ideal S2048x704 .f32) : FVec Ideal S704x2048 .f32 :=
  fun i => delta (grad s i) (w (ix2 (i 1) (i 0))) (p (ix2 (i 1) (i 0))) (q (ix2 (i 1) (i 0)))

/-- The sum over the devices in a block. -/
def part (s : FVec Ideal S8x176x2048 .bf16) (j : S176x2048.Idx) : EReal := ∑ k : Fin 8, s (ix3 k (j 0) (j 1))

section block
variable (s : FVec Ideal S8x176x2048 .bf16) (w p q : FVec Ideal S176x2048 .f32) (j : S176x2048.Idx)

theorem out_g : out0_4 (F := Ideal) s w p q j = part s j := by
  unfold part
  unfold_out out0_4
  frame_out
  pointwise [k0_pay4, Fin.sum_univ_eight]

theorem out_d : out0_5 (F := Ideal) s w p q j = delta (part s j) (w j) (p j) (q j) := by
  unfold part delta first second
  unfold_out out0_5
  frame_out
  pointwise [k0_pay3, k0_pay1, k0_pay2, k0_pay5, k0_pay4, Fin.sum_univ_eight]

theorem out_p : out0_6 (F := Ideal) s w p q j = first (part s j) (p j) := by
  unfold part first
  unfold_out out0_6
  frame_out
  pointwise [k0_pay1, k0_pay4, Fin.sum_univ_eight]

theorem out_q : out0_7 (F := Ideal) s w p q j = second (part s j) (q j) := by
  unfold part second
  unfold_out out0_7
  frame_out
  pointwise [k0_pay2, k0_pay4, Fin.sum_univ_eight]

end block

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The blocks as a point reads them, and the arrays that they are blocks of. -/
def bS (t : Fin cfg0.N) : FVec Ideal S8x176x2048 .bf16 := iblk m c 0 t
def bW (t : Fin cfg0.N) : FVec Ideal S176x2048 .f32 := iblk m c 1 t
def bP (t : Fin cfg0.N) : FVec Ideal S176x2048 .f32 := iblk m c 2 t
def bQ (t : Fin cfg0.N) : FVec Ideal S176x2048 .f32 := iblk m c 3 t
abbrev S : FVec Ideal S8x704x2048 .bf16 := m ((c.tc : Thread nD τ).loc main_arg0)
abbrev W : FVec Ideal S2048x704 .f32 := m ((c.tc : Thread nD τ).loc main_arg1)
abbrev P : FVec Ideal S2048x704 .f32 := m ((c.tc : Thread nD τ).loc main_arg2)
abbrev Q : FVec Ideal S2048x704 .f32 := m ((c.tc : Thread nD τ).loc main_arg3)

theorem V_v0 (i : S704x2048.Idx) : (V m c main_v0 i : EReal) = (m ((c.tc : Thread nD τ).loc main_arg1) : FVec Ideal S2048x704 .f32) (ix2 (i 1) (i 0)) := by
  have h : V m c main_v0 = (transpose S704x2048 [1, 0] (m ((c.tc : Thread nD τ).loc main_arg1) : FVec Ideal S2048x704 .f32) transposes_S2048x704_S704x2048_1_0 : FVec Ideal S704x2048 .f32) := by
    unfold V; after_results
  rw [h]; pointwise

theorem V_v1 (i : S704x2048.Idx) : (V m c main_v1 i : EReal) = (m ((c.tc : Thread nD τ).loc main_arg2) : FVec Ideal S2048x704 .f32) (ix2 (i 1) (i 0)) := by
  have h : V m c main_v1 = (transpose S704x2048 [1, 0] (m ((c.tc : Thread nD τ).loc main_arg2) : FVec Ideal S2048x704 .f32) transposes_S2048x704_S704x2048_1_0 : FVec Ideal S704x2048 .f32) := by
    unfold V; after_results
  rw [h]; pointwise

theorem V_v2 (i : S704x2048.Idx) : (V m c main_v2 i : EReal) = (m ((c.tc : Thread nD τ).loc main_arg3) : FVec Ideal S2048x704 .f32) (ix2 (i 1) (i 0)) := by
  have h : V m c main_v2 = (transpose S704x2048 [1, 0] (m ((c.tc : Thread nD τ).loc main_arg3) : FVec Ideal S2048x704 .f32) transposes_S2048x704_S704x2048_1_0 : FVec Ideal S704x2048 .f32) := by
    unfold V; after_results
  rw [h]; pointwise

theorem s_at (t : Fin cfg0.N) (j : S176x2048.Idx) (i : S704x2048.Idx) (h0 : (i 0).val = t.val * 176 + (j 0).val) (h1 : (i 1).val = (j 1).val) :
    part (bS m c t) j = grad (S m c) i := by
  unfold part grad
  refine Finset.sum_congr rfl fun k _ => ?_
  blk_point [bS, iblk, V_main_arg0, idx t]

theorem w_at (t : Fin cfg0.N) (j : S176x2048.Idx) (i : S704x2048.Idx) (h0 : (i 0).val = t.val * 176 + (j 0).val) (h1 : (i 1).val = (j 1).val) :
    bW m c t j = W m c (ix2 (i 1) (i 0)) := by
  blk_point [bW, iblk, V_v0, idx t]

theorem p_at (t : Fin cfg0.N) (j : S176x2048.Idx) (i : S704x2048.Idx) (h0 : (i 0).val = t.val * 176 + (j 0).val) (h1 : (i 1).val = (j 1).val) :
    bP m c t j = P m c (ix2 (i 1) (i 0)) := by
  blk_point [bP, iblk, V_v1, idx t]

theorem q_at (t : Fin cfg0.N) (j : S176x2048.Idx) (i : S704x2048.Idx) (h0 : (i 0).val = t.val * 176 + (j 0).val) (h1 : (i 1).val = (j 1).val) :
    bQ m c t j = Q m c (ix2 (i 1) (i 0)) := by
  blk_point [bQ, iblk, V_v2, idx t]

theorem final_g : (dats m 0 c).arrAt 4 (cfgs 0).N = grad (S m c) := by
  refine (dats m 0 c).arrAt_eq_of_covers 4 _ (by decide +kernel) fun t hf y => ?_
  blk_simp
  have h0 : (((win0_4.blk t).view.emb y) 0).val = t.val * 176 + (y 0).val := by blk_simp [idx t]
  have h1 : (((win0_4.blk t).view.emb y) 1).val = (y 1).val := by blk_simp [idx t]
  rw [after0_4]
  exact (out_g _ _ _ _ y).trans (s_at m c t y _ h0 h1)

theorem final_d : (dats m 0 c).arrAt 5 (cfgs 0).N = change (S m c) (W m c) (P m c) (Q m c) := by
  refine (dats m 0 c).arrAt_eq_of_covers 5 _ (by decide +kernel) fun t hf y => ?_
  blk_simp
  have h0 : (((win0_5.blk t).view.emb y) 0).val = t.val * 176 + (y 0).val := by blk_simp [idx t]
  have h1 : (((win0_5.blk t).view.emb y) 1).val = (y 1).val := by blk_simp [idx t]
  rw [after0_5]
  exact (out_d _ _ _ _ y).trans (congr (congr (congr (congrArg delta (s_at m c t y _ h0 h1)) (w_at m c t y _ h0 h1)) (p_at m c t y _ h0 h1)) (q_at m c t y _ h0 h1))

theorem final_p : (dats m 0 c).arrAt 6 (cfgs 0).N = newP (S m c) (P m c) := by
  refine (dats m 0 c).arrAt_eq_of_covers 6 _ (by decide +kernel) fun t hf y => ?_
  blk_simp
  have h0 : (((win0_6.blk t).view.emb y) 0).val = t.val * 176 + (y 0).val := by blk_simp [idx t]
  have h1 : (((win0_6.blk t).view.emb y) 1).val = (y 1).val := by blk_simp [idx t]
  rw [after0_6]
  exact (out_p _ _ _ _ y).trans (congrArg₂ first (s_at m c t y _ h0 h1) (p_at m c t y _ h0 h1))

theorem final_q : (dats m 0 c).arrAt 7 (cfgs 0).N = newQ (S m c) (Q m c) := by
  refine (dats m 0 c).arrAt_eq_of_covers 7 _ (by decide +kernel) fun t hf y => ?_
  blk_simp
  have h0 : (((win0_7.blk t).view.emb y) 0).val = t.val * 176 + (y 0).val := by blk_simp [idx t]
  have h1 : (((win0_7.blk t).view.emb y) 1).val = (y 1).val := by blk_simp [idx t]
  rw [after0_7]
  exact (out_q _ _ _ _ y).trans (congrArg₂ second (s_at m c t y _ h0 h1) (q_at m c t y _ h0 h1))

end Cert.Kernel20Ideal.Val

namespace Cert.Reference20Ideal.Val

open Idealize.ShloMosaic Idealize.ShloMosaic.TcCoe Idealize.SL.Sem
open Cert.Kernel20Ideal.Val (grad change newP newQ)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = grad (m ((c.tc : Thread nD τ).loc main_arg0))
      ∧ r.2.mem ((c.tc : Thread nD τ).loc main_v28) = change (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = newP (m ((c.tc : Thread nD τ).loc main_arg0)) (m ((c.tc : Thread nD τ).loc main_arg2))
      ∧ r.2.mem ((c.tc : Thread nD τ).loc main_v30) = newQ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_),
    (h c).2.2.1.trans (funext fun i => ?_), (h c).2.2.2.1.trans (funext fun i => ?_), (h c).2.2.2.2⟩) (Cert.Reference20Ideal.Value.run m ρ)
  · pointwise [grad]
  · pointwise [change, grad, Cert.Adam.delta, Cert.Adam.first, Cert.Adam.second]
  · pointwise [newP, grad, Cert.Adam.first]
  · pointwise [newQ, grad, Cert.Adam.second]

end Cert.Reference20Ideal.Val

end
-- ==== Proof.AdamOut.lean ====
/- The step of AdamW on the output and the gate's projection: what the call's blocks hold, and the reference. -/
module

public import proofs.«01_k».proof.Proof.Gen.Kernel21Ideal.Value
public import proofs.«01_k».proof.Proof.Gen.Reference21Ideal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel21Ideal.Val

open Idealize.ShloMosaic Idealize.ShloMosaic.TcCoe Idealize.SL.Sem
open Cert.Kernel21Ideal.Gen Cert.Adam

/-- The devices' gradients, summed. -/
def grad (s : FVec Ideal S8x256x2048 .bf16) : FVec Ideal S256x2048 .f32 := fun i => ∑ k : Fin 8, s (ix3 k (i 0) (i 1))

/-- The moments and the weight's change, element by element. -/
def newP (s : FVec Ideal S8x256x2048 .bf16) (p : FVec Ideal S256x2048 .f32) : FVec Ideal S256x2048 .f32 := fun i => first (grad s i) (p i)
def newQ (s : FVec Ideal S8x256x2048 .bf16) (q : FVec Ideal S256x2048 .f32) : FVec Ideal S256x2048 .f32 := fun i => second (grad s i) (q i)
def change (s : FVec Ideal S8x256x2048 .bf16) (w p q : FVec Ideal S256x2048 .f32) : FVec Ideal S256x2048 .f32 :=
  fun i => delta (grad s i) (w i) (p i) (q i)

/-- The sum over the devices in a block. -/
def part (s : FVec Ideal S8x256x2048 .bf16) (j : S256x2048.Idx) : EReal := ∑ k : Fin 8, s (ix3 k (j 0) (j 1))

section block
variable (s : FVec Ideal S8x256x2048 .bf16) (w p q : FVec Ideal S256x2048 .f32) (j : S256x2048.Idx)

theorem out_g : out0_4 (F := Ideal) s w p q j = part s j := by
  unfold part
  unfold_out out0_4
  frame_out
  pointwise [k0_pay4, Fin.sum_univ_eight]

theorem out_d : out0_5 (F := Ideal) s w p q j = delta (part s j) (w j) (p j) (q j) := by
  unfold part delta first second
  unfold_out out0_5
  frame_out
  pointwise [k0_pay3, k0_pay1, k0_pay2, k0_pay4, Fin.sum_univ_eight]

theorem out_p : out0_6 (F := Ideal) s w p q j = first (part s j) (p j) := by
  unfold part first
  unfold_out out0_6
  frame_out
  pointwise [k0_pay1, k0_pay4, Fin.sum_univ_eight]

theorem out_q : out0_7 (F := Ideal) s w p q j = second (part s j) (q j) := by
  unfold part second
  unfold_out out0_7
  frame_out
  pointwise [k0_pay2, k0_pay4, Fin.sum_univ_eight]

end block

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The blocks as a point reads them, and the arrays that they are blocks of. -/
def bS (t : Fin cfg0.N) : FVec Ideal S8x256x2048 .bf16 := iblk m c 0 t
def bW (t : Fin cfg0.N) : FVec Ideal S256x2048 .f32 := iblk m c 1 t
def bP (t : Fin cfg0.N) : FVec Ideal S256x2048 .f32 := iblk m c 2 t
def bQ (t : Fin cfg0.N) : FVec Ideal S256x2048 .f32 := iblk m c 3 t
abbrev S : FVec Ideal S8x256x2048 .bf16 := m ((c.tc : Thread nD τ).loc main_arg0)
abbrev W : FVec Ideal S256x2048 .f32 := m ((c.tc : Thread nD τ).loc main_arg1)
abbrev P : FVec Ideal S256x2048 .f32 := m ((c.tc : Thread nD τ).loc main_arg2)
abbrev Q : FVec Ideal S256x2048 .f32 := m ((c.tc : Thread nD τ).loc main_arg3)

theorem s_at (t : Fin cfg0.N) (j : S256x2048.Idx) (i : S256x2048.Idx) (h0 : (i 0).val = t.val * 256 + (j 0).val) (h1 : (i 1).val = (j 1).val) :
    part (bS m c t) j = grad (S m c) i := by
  unfold part grad
  refine Finset.sum_congr rfl fun k _ => ?_
  blk_point [bS, iblk, V, idx t]

theorem w_at (t : Fin cfg0.N) (j : S256x2048.Idx) (i : S256x2048.Idx) (h0 : (i 0).val = t.val * 256 + (j 0).val) (h1 : (i 1).val = (j 1).val) :
    bW m c t j = W m c i := by
  blk_point [bW, iblk, V, idx t]

theorem p_at (t : Fin cfg0.N) (j : S256x2048.Idx) (i : S256x2048.Idx) (h0 : (i 0).val = t.val * 256 + (j 0).val) (h1 : (i 1).val = (j 1).val) :
    bP m c t j = P m c i := by
  blk_point [bP, iblk, V, idx t]

theorem q_at (t : Fin cfg0.N) (j : S256x2048.Idx) (i : S256x2048.Idx) (h0 : (i 0).val = t.val * 256 + (j 0).val) (h1 : (i 1).val = (j 1).val) :
    bQ m c t j = Q m c i := by
  blk_point [bQ, iblk, V, idx t]

theorem final_g : (dats m 0 c).arrAt 4 (cfgs 0).N = grad (S m c) := by
  refine (dats m 0 c).arrAt_eq_of_covers 4 _ (by decide +kernel) fun t hf y => ?_
  blk_simp
  have h0 : (((win0_4.blk t).view.emb y) 0).val = t.val * 256 + (y 0).val := by blk_simp [idx t]
  have h1 : (((win0_4.blk t).view.emb y) 1).val = (y 1).val := by blk_simp [idx t]
  rw [after0_4]
  exact (out_g _ _ _ _ y).trans (s_at m c t y _ h0 h1)

theorem final_d : (dats m 0 c).arrAt 5 (cfgs 0).N = change (S m c) (W m c) (P m c) (Q m c) := by
  refine (dats m 0 c).arrAt_eq_of_covers 5 _ (by decide +kernel) fun t hf y => ?_
  blk_simp
  have h0 : (((win0_5.blk t).view.emb y) 0).val = t.val * 256 + (y 0).val := by blk_simp [idx t]
  have h1 : (((win0_5.blk t).view.emb y) 1).val = (y 1).val := by blk_simp [idx t]
  rw [after0_5]
  exact (out_d _ _ _ _ y).trans (congr (congr (congr (congrArg delta (s_at m c t y _ h0 h1)) (w_at m c t y _ h0 h1)) (p_at m c t y _ h0 h1)) (q_at m c t y _ h0 h1))

theorem final_p : (dats m 0 c).arrAt 6 (cfgs 0).N = newP (S m c) (P m c) := by
  refine (dats m 0 c).arrAt_eq_of_covers 6 _ (by decide +kernel) fun t hf y => ?_
  blk_simp
  have h0 : (((win0_6.blk t).view.emb y) 0).val = t.val * 256 + (y 0).val := by blk_simp [idx t]
  have h1 : (((win0_6.blk t).view.emb y) 1).val = (y 1).val := by blk_simp [idx t]
  rw [after0_6]
  exact (out_p _ _ _ _ y).trans (congrArg₂ first (s_at m c t y _ h0 h1) (p_at m c t y _ h0 h1))

theorem final_q : (dats m 0 c).arrAt 7 (cfgs 0).N = newQ (S m c) (Q m c) := by
  refine (dats m 0 c).arrAt_eq_of_covers 7 _ (by decide +kernel) fun t hf y => ?_
  blk_simp
  have h0 : (((win0_7.blk t).view.emb y) 0).val = t.val * 256 + (y 0).val := by blk_simp [idx t]
  have h1 : (((win0_7.blk t).view.emb y) 1).val = (y 1).val := by blk_simp [idx t]
  rw [after0_7]
  exact (out_q _ _ _ _ y).trans (congrArg₂ second (s_at m c t y _ h0 h1) (q_at m c t y _ h0 h1))

end Cert.Kernel21Ideal.Val

namespace Cert.Reference21Ideal.Val

open Idealize.ShloMosaic Idealize.ShloMosaic.TcCoe Idealize.SL.Sem
open Cert.Kernel21Ideal.Val (grad change newP newQ)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = grad (m ((c.tc : Thread nD τ).loc main_arg0))
      ∧ r.2.mem ((c.tc : Thread nD τ).loc main_v25) = change (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = newP (m ((c.tc : Thread nD τ).loc main_arg0)) (m ((c.tc : Thread nD τ).loc main_arg2))
      ∧ r.2.mem ((c.tc : Thread nD τ).loc main_v12) = newQ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_),
    (h c).2.2.1.trans (funext fun i => ?_), (h c).2.2.2.1.trans (funext fun i => ?_), (h c).2.2.2.2⟩) (Cert.Reference21Ideal.Value.run m ρ)
  · pointwise [grad]
  · pointwise [change, grad, Cert.Adam.delta, Cert.Adam.first, Cert.Adam.second]
  · pointwise [newP, grad, Cert.Adam.first]
  · pointwise [newQ, grad, Cert.Adam.second]

end Cert.Reference21Ideal.Val

end
-- ==== Proof.AdamIn.lean ====
/- The step of AdamW on the input projection: what the call's blocks hold, and the reference. -/
module

public import proofs.«01_k».proof.Proof.Gen.Kernel22Ideal.Value
public import proofs.«01_k».proof.Proof.Gen.Reference22Ideal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel22Ideal.Val

open Idealize.ShloMosaic Idealize.ShloMosaic.TcCoe Idealize.SL.Sem
open Cert.Kernel22Ideal.Gen Cert.Adam

/-- The devices' gradients, summed. -/
def grad (s : FVec Ideal S8x2048x640 .bf16) : FVec Ideal S2048x640 .f32 := fun i => ∑ k : Fin 8, s (ix3 k (i 0) (i 1))

/-- The moments and the weight's change, element by element. -/
def newP (s : FVec Ideal S8x2048x640 .bf16) (p : FVec Ideal S2048x640 .f32) : FVec Ideal S2048x640 .f32 := fun i => first (grad s i) (p i)
def newQ (s : FVec Ideal S8x2048x640 .bf16) (q : FVec Ideal S2048x640 .f32) : FVec Ideal S2048x640 .f32 := fun i => second (grad s i) (q i)
def change (s : FVec Ideal S8x2048x640 .bf16) (w p q : FVec Ideal S2048x640 .f32) : FVec Ideal S2048x640 .f32 :=
  fun i => delta (grad s i) (w i) (p i) (q i)

/-- The sum over the devices in a block. -/
def part (s : FVec Ideal S8x256x640 .bf16) (j : S256x640.Idx) : EReal := ∑ k : Fin 8, s (ix3 k (j 0) (j 1))

section block
variable (s : FVec Ideal S8x256x640 .bf16) (w p q : FVec Ideal S256x640 .f32) (j : S256x640.Idx)

theorem out_g : out0_4 (F := Ideal) s w p q j = part s j := by
  unfold part
  unfold_out out0_4
  frame_out
  pointwise [k0_pay4, Fin.sum_univ_eight]

theorem out_d : out0_5 (F := Ideal) s w p q j = delta (part s j) (w j) (p j) (q j) := by
  unfold part delta first second
  unfold_out out0_5
  frame_out
  pointwise [k0_pay3, k0_pay1, k0_pay2, k0_pay4, Fin.sum_univ_eight]

theorem out_p : out0_6 (F := Ideal) s w p q j = first (part s j) (p j) := by
  unfold part first
  unfold_out out0_6
  frame_out
  pointwise [k0_pay1, k0_pay4, Fin.sum_univ_eight]

theorem out_q : out0_7 (F := Ideal) s w p q j = second (part s j) (q j) := by
  unfold part second
  unfold_out out0_7
  frame_out
  pointwise [k0_pay2, k0_pay4, Fin.sum_univ_eight]

end block

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The blocks as a point reads them, and the arrays that they are blocks of. -/
def bS (t : Fin cfg0.N) : FVec Ideal S8x256x640 .bf16 := iblk m c 0 t
def bW (t : Fin cfg0.N) : FVec Ideal S256x640 .f32 := iblk m c 1 t
def bP (t : Fin cfg0.N) : FVec Ideal S256x640 .f32 := iblk m c 2 t
def bQ (t : Fin cfg0.N) : FVec Ideal S256x640 .f32 := iblk m c 3 t
abbrev S : FVec Ideal S8x2048x640 .bf16 := m ((c.tc : Thread nD τ).loc main_arg0)
abbrev W : FVec Ideal S2048x640 .f32 := m ((c.tc : Thread nD τ).loc main_arg1)
abbrev P : FVec Ideal S2048x640 .f32 := m ((c.tc : Thread nD τ).loc main_arg2)
abbrev Q : FVec Ideal S2048x640 .f32 := m ((c.tc : Thread nD τ).loc main_arg3)

theorem s_at (t : Fin cfg0.N) (j : S256x640.Idx) (i : S2048x640.Idx) (h0 : (i 0).val = t.val * 256 + (j 0).val) (h1 : (i 1).val = (j 1).val) :
    part (bS m c t) j = grad (S m c) i := by
  unfold part grad
  refine Finset.sum_congr rfl fun k _ => ?_
  blk_point [bS, iblk, V, idx t]

theorem w_at (t : Fin cfg0.N) (j : S256x640.Idx) (i : S2048x640.Idx) (h0 : (i 0).val = t.val * 256 + (j 0).val) (h1 : (i 1).val = (j 1).val) :
    bW m c t j = W m c i := by
  blk_point [bW, iblk, V, idx t]

theorem p_at (t : Fin cfg0.N) (j : S256x640.Idx) (i : S2048x640.Idx) (h0 : (i 0).val = t.val * 256 + (j 0).val) (h1 : (i 1).val = (j 1).val) :
    bP m c t j = P m c i := by
  blk_point [bP, iblk, V, idx t]

theorem q_at (t : Fin cfg0.N) (j : S256x640.Idx) (i : S2048x640.Idx) (h0 : (i 0).val = t.val * 256 + (j 0).val) (h1 : (i 1).val = (j 1).val) :
    bQ m c t j = Q m c i := by
  blk_point [bQ, iblk, V, idx t]

theorem final_g : (dats m 0 c).arrAt 4 (cfgs 0).N = grad (S m c) := by
  refine (dats m 0 c).arrAt_eq_of_covers 4 _ (by decide +kernel) fun t hf y => ?_
  blk_simp
  have h0 : (((win0_4.blk t).view.emb y) 0).val = t.val * 256 + (y 0).val := by blk_simp [idx t]
  have h1 : (((win0_4.blk t).view.emb y) 1).val = (y 1).val := by blk_simp [idx t]
  rw [after0_4]
  exact (out_g _ _ _ _ y).trans (s_at m c t y _ h0 h1)

theorem final_d : (dats m 0 c).arrAt 5 (cfgs 0).N = change (S m c) (W m c) (P m c) (Q m c) := by
  refine (dats m 0 c).arrAt_eq_of_covers 5 _ (by decide +kernel) fun t hf y => ?_
  blk_simp
  have h0 : (((win0_5.blk t).view.emb y) 0).val = t.val * 256 + (y 0).val := by blk_simp [idx t]
  have h1 : (((win0_5.blk t).view.emb y) 1).val = (y 1).val := by blk_simp [idx t]
  rw [after0_5]
  exact (out_d _ _ _ _ y).trans (congr (congr (congr (congrArg delta (s_at m c t y _ h0 h1)) (w_at m c t y _ h0 h1)) (p_at m c t y _ h0 h1)) (q_at m c t y _ h0 h1))

theorem final_p : (dats m 0 c).arrAt 6 (cfgs 0).N = newP (S m c) (P m c) := by
  refine (dats m 0 c).arrAt_eq_of_covers 6 _ (by decide +kernel) fun t hf y => ?_
  blk_simp
  have h0 : (((win0_6.blk t).view.emb y) 0).val = t.val * 256 + (y 0).val := by blk_simp [idx t]
  have h1 : (((win0_6.blk t).view.emb y) 1).val = (y 1).val := by blk_simp [idx t]
  rw [after0_6]
  exact (out_p _ _ _ _ y).trans (congrArg₂ first (s_at m c t y _ h0 h1) (p_at m c t y _ h0 h1))

theorem final_q : (dats m 0 c).arrAt 7 (cfgs 0).N = newQ (S m c) (Q m c) := by
  refine (dats m 0 c).arrAt_eq_of_covers 7 _ (by decide +kernel) fun t hf y => ?_
  blk_simp
  have h0 : (((win0_7.blk t).view.emb y) 0).val = t.val * 256 + (y 0).val := by blk_simp [idx t]
  have h1 : (((win0_7.blk t).view.emb y) 1).val = (y 1).val := by blk_simp [idx t]
  rw [after0_7]
  exact (out_q _ _ _ _ y).trans (congrArg₂ second (s_at m c t y _ h0 h1) (q_at m c t y _ h0 h1))

end Cert.Kernel22Ideal.Val

namespace Cert.Reference22Ideal.Val

open Idealize.ShloMosaic Idealize.ShloMosaic.TcCoe Idealize.SL.Sem
open Cert.Kernel22Ideal.Val (grad change newP newQ)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = grad (m ((c.tc : Thread nD τ).loc main_arg0))
      ∧ r.2.mem ((c.tc : Thread nD τ).loc main_v25) = change (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = newP (m ((c.tc : Thread nD τ).loc main_arg0)) (m ((c.tc : Thread nD τ).loc main_arg2))
      ∧ r.2.mem ((c.tc : Thread nD τ).loc main_v12) = newQ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_),
    (h c).2.2.1.trans (funext fun i => ?_), (h c).2.2.2.1.trans (funext fun i => ?_), (h c).2.2.2.2⟩) (Cert.Reference22Ideal.Value.run m ρ)
  · pointwise [grad]
  · pointwise [change, grad, Cert.Adam.delta, Cert.Adam.first, Cert.Adam.second]
  · pointwise [newP, grad, Cert.Adam.first]
  · pointwise [newQ, grad, Cert.Adam.second]

end Cert.Reference22Ideal.Val

end
-- ==== Proof.AdamPle.lean ====
/- The step of AdamW on the per-layer embedding's weight: what the call's blocks hold, and the reference. -/
module

public import proofs.«01_k».proof.Proof.Gen.Kernel23Ideal.Value
public import proofs.«01_k».proof.Proof.Gen.Reference23Ideal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel23Ideal.Val

open Idealize.ShloMosaic Idealize.ShloMosaic.TcCoe Idealize.SL.Sem
open Cert.Kernel23Ideal.Gen Cert.Adam

/-- The devices' gradients, summed. -/
def grad (s : FVec Ideal S8x256x256 .bf16) : FVec Ideal S256x256 .f32 := fun i => ∑ k : Fin 8, s (ix3 k (i 0) (i 1))

/-- The moments and the weight's change, element by element. -/
def newP (s : FVec Ideal S8x256x256 .bf16) (p : FVec Ideal S256x256 .f32) : FVec Ideal S256x256 .f32 := fun i => first (grad s i) (p i)
def newQ (s : FVec Ideal S8x256x256 .bf16) (q : FVec Ideal S256x256 .f32) : FVec Ideal S256x256 .f32 := fun i => second (grad s i) (q i)
def change (s : FVec Ideal S8x256x256 .bf16) (w p q : FVec Ideal S256x256 .f32) : FVec Ideal S256x256 .f32 :=
  fun i => delta (grad s i) (w i) (p i) (q i)

/-- The sum over the devices in a block. -/
def part (s : FVec Ideal S8x256x256 .bf16) (j : S256x256.Idx) : EReal := ∑ k : Fin 8, s (ix3 k (j 0) (j 1))

section block
variable (s : FVec Ideal S8x256x256 .bf16) (w p q : FVec Ideal S256x256 .f32) (j : S256x256.Idx)

theorem out_g : out0_4 (F := Ideal) s w p q j = part s j := by
  unfold part
  unfold_out out0_4
  frame_out
  pointwise [k0_pay4, Fin.sum_univ_eight]

theorem out_d : out0_5 (F := Ideal) s w p q j = delta (part s j) (w j) (p j) (q j) := by
  unfold part delta first second
  unfold_out out0_5
  frame_out
  pointwise [k0_pay3, k0_pay1, k0_pay2, k0_pay4, Fin.sum_univ_eight]

theorem out_p : out0_6 (F := Ideal) s w p q j = first (part s j) (p j) := by
  unfold part first
  unfold_out out0_6
  frame_out
  pointwise [k0_pay1, k0_pay4, Fin.sum_univ_eight]

theorem out_q : out0_7 (F := Ideal) s w p q j = second (part s j) (q j) := by
  unfold part second
  unfold_out out0_7
  frame_out
  pointwise [k0_pay2, k0_pay4, Fin.sum_univ_eight]

end block

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The blocks as a point reads them, and the arrays that they are blocks of. -/
def bS (t : Fin cfg0.N) : FVec Ideal S8x256x256 .bf16 := iblk m c 0 t
def bW (t : Fin cfg0.N) : FVec Ideal S256x256 .f32 := iblk m c 1 t
def bP (t : Fin cfg0.N) : FVec Ideal S256x256 .f32 := iblk m c 2 t
def bQ (t : Fin cfg0.N) : FVec Ideal S256x256 .f32 := iblk m c 3 t
abbrev S : FVec Ideal S8x256x256 .bf16 := m ((c.tc : Thread nD τ).loc main_arg0)
abbrev W : FVec Ideal S256x256 .f32 := m ((c.tc : Thread nD τ).loc main_arg1)
abbrev P : FVec Ideal S256x256 .f32 := m ((c.tc : Thread nD τ).loc main_arg2)
abbrev Q : FVec Ideal S256x256 .f32 := m ((c.tc : Thread nD τ).loc main_arg3)

theorem s_at (t : Fin cfg0.N) (j : S256x256.Idx) (i : S256x256.Idx) (h0 : (i 0).val = t.val * 256 + (j 0).val) (h1 : (i 1).val = (j 1).val) :
    part (bS m c t) j = grad (S m c) i := by
  unfold part grad
  refine Finset.sum_congr rfl fun k _ => ?_
  blk_point [bS, iblk, V, idx t]

theorem w_at (t : Fin cfg0.N) (j : S256x256.Idx) (i : S256x256.Idx) (h0 : (i 0).val = t.val * 256 + (j 0).val) (h1 : (i 1).val = (j 1).val) :
    bW m c t j = W m c i := by
  blk_point [bW, iblk, V, idx t]

theorem p_at (t : Fin cfg0.N) (j : S256x256.Idx) (i : S256x256.Idx) (h0 : (i 0).val = t.val * 256 + (j 0).val) (h1 : (i 1).val = (j 1).val) :
    bP m c t j = P m c i := by
  blk_point [bP, iblk, V, idx t]

theorem q_at (t : Fin cfg0.N) (j : S256x256.Idx) (i : S256x256.Idx) (h0 : (i 0).val = t.val * 256 + (j 0).val) (h1 : (i 1).val = (j 1).val) :
    bQ m c t j = Q m c i := by
  blk_point [bQ, iblk, V, idx t]

theorem final_g : (dats m 0 c).arrAt 4 (cfgs 0).N = grad (S m c) := by
  refine (dats m 0 c).arrAt_eq_of_covers 4 _ (by decide +kernel) fun t hf y => ?_
  blk_simp
  have h0 : (((win0_4.blk t).view.emb y) 0).val = t.val * 256 + (y 0).val := by blk_simp [idx t]
  have h1 : (((win0_4.blk t).view.emb y) 1).val = (y 1).val := by blk_simp [idx t]
  rw [after0_4]
  exact (out_g _ _ _ _ y).trans (s_at m c t y _ h0 h1)

theorem final_d : (dats m 0 c).arrAt 5 (cfgs 0).N = change (S m c) (W m c) (P m c) (Q m c) := by
  refine (dats m 0 c).arrAt_eq_of_covers 5 _ (by decide +kernel) fun t hf y => ?_
  blk_simp
  have h0 : (((win0_5.blk t).view.emb y) 0).val = t.val * 256 + (y 0).val := by blk_simp [idx t]
  have h1 : (((win0_5.blk t).view.emb y) 1).val = (y 1).val := by blk_simp [idx t]
  rw [after0_5]
  exact (out_d _ _ _ _ y).trans (congr (congr (congr (congrArg delta (s_at m c t y _ h0 h1)) (w_at m c t y _ h0 h1)) (p_at m c t y _ h0 h1)) (q_at m c t y _ h0 h1))

theorem final_p : (dats m 0 c).arrAt 6 (cfgs 0).N = newP (S m c) (P m c) := by
  refine (dats m 0 c).arrAt_eq_of_covers 6 _ (by decide +kernel) fun t hf y => ?_
  blk_simp
  have h0 : (((win0_6.blk t).view.emb y) 0).val = t.val * 256 + (y 0).val := by blk_simp [idx t]
  have h1 : (((win0_6.blk t).view.emb y) 1).val = (y 1).val := by blk_simp [idx t]
  rw [after0_6]
  exact (out_p _ _ _ _ y).trans (congrArg₂ first (s_at m c t y _ h0 h1) (p_at m c t y _ h0 h1))

theorem final_q : (dats m 0 c).arrAt 7 (cfgs 0).N = newQ (S m c) (Q m c) := by
  refine (dats m 0 c).arrAt_eq_of_covers 7 _ (by decide +kernel) fun t hf y => ?_
  blk_simp
  have h0 : (((win0_7.blk t).view.emb y) 0).val = t.val * 256 + (y 0).val := by blk_simp [idx t]
  have h1 : (((win0_7.blk t).view.emb y) 1).val = (y 1).val := by blk_simp [idx t]
  rw [after0_7]
  exact (out_q _ _ _ _ y).trans (congrArg₂ second (s_at m c t y _ h0 h1) (q_at m c t y _ h0 h1))

end Cert.Kernel23Ideal.Val

namespace Cert.Reference23Ideal.Val

open Idealize.ShloMosaic Idealize.ShloMosaic.TcCoe Idealize.SL.Sem
open Cert.Kernel23Ideal.Val (grad change newP newQ)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = grad (m ((c.tc : Thread nD τ).loc main_arg0))
      ∧ r.2.mem ((c.tc : Thread nD τ).loc main_v25) = change (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = newP (m ((c.tc : Thread nD τ).loc main_arg0)) (m ((c.tc : Thread nD τ).loc main_arg2))
      ∧ r.2.mem ((c.tc : Thread nD τ).loc main_v12) = newQ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_),
    (h c).2.2.1.trans (funext fun i => ?_), (h c).2.2.2.1.trans (funext fun i => ?_), (h c).2.2.2.2⟩) (Cert.Reference23Ideal.Value.run m ρ)
  · pointwise [grad]
  · pointwise [change, grad, Cert.Adam.delta, Cert.Adam.first, Cert.Adam.second]
  · pointwise [newP, grad, Cert.Adam.first]
  · pointwise [newQ, grad, Cert.Adam.second]

end Cert.Reference23Ideal.Val

end
-- ==== Proof.AdamSmall.lean ====
/- The step of AdamW on the small weights, packed in one array: what the call's blocks hold, and the reference. -/
module

public import proofs.«01_k».proof.Proof.Gen.Kernel24Ideal.Value
public import proofs.«01_k».proof.Proof.Gen.Reference24Ideal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel24Ideal.Val

open Idealize.ShloMosaic Idealize.ShloMosaic.TcCoe Idealize.SL.Sem
open Cert.Kernel24Ideal.Gen Cert.Adam

/-- The devices' gradients, summed. -/
def grad (s : FVec Ideal S8x40x2048 .f32) : FVec Ideal S40x2048 .f32 := fun i => ∑ k : Fin 8, s (ix3 k (i 0) (i 1))

/-- The moments and the weight's change, element by element. -/
def newP (s : FVec Ideal S8x40x2048 .f32) (p : FVec Ideal S40x2048 .f32) : FVec Ideal S40x2048 .f32 := fun i => first (grad s i) (p i)
def newQ (s : FVec Ideal S8x40x2048 .f32) (q : FVec Ideal S40x2048 .f32) : FVec Ideal S40x2048 .f32 := fun i => second (grad s i) (q i)
def change (s : FVec Ideal S8x40x2048 .f32) (w p q : FVec Ideal S40x2048 .f32) : FVec Ideal S40x2048 .f32 :=
  fun i => delta (grad s i) (w i) (p i) (q i)

/-- The sum over the devices in a block. -/
def part (s : FVec Ideal S8x8x2048 .f32) (j : S8x2048.Idx) : EReal := ∑ k : Fin 8, s (ix3 k (j 0) (j 1))

section block
variable (s : FVec Ideal S8x8x2048 .f32) (w p q : FVec Ideal S8x2048 .f32) (j : S8x2048.Idx)

theorem out_g : out0_4 (F := Ideal) s w p q j = part s j := by
  unfold part
  unfold_out out0_4
  frame_out
  pointwise [k0_pay4, Fin.sum_univ_eight]

theorem out_d : out0_5 (F := Ideal) s w p q j = delta (part s j) (w j) (p j) (q j) := by
  unfold part delta first second
  unfold_out out0_5
  frame_out
  pointwise [k0_pay3, k0_pay1, k0_pay2, k0_pay5, k0_pay4, Fin.sum_univ_eight]

theorem out_p : out0_6 (F := Ideal) s w p q j = first (part s j) (p j) := by
  unfold part first
  unfold_out out0_6
  frame_out
  pointwise [k0_pay1, k0_pay5, k0_pay4, Fin.sum_univ_eight]

theorem out_q : out0_7 (F := Ideal) s w p q j = second (part s j) (q j) := by
  unfold part second
  unfold_out out0_7
  frame_out
  pointwise [k0_pay2, k0_pay4, Fin.sum_univ_eight]

end block

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- The blocks as a point reads them, and the arrays that they are blocks of. -/
def bS (t : Fin cfg0.N) : FVec Ideal S8x8x2048 .f32 := iblk m c 0 t
def bW (t : Fin cfg0.N) : FVec Ideal S8x2048 .f32 := iblk m c 1 t
def bP (t : Fin cfg0.N) : FVec Ideal S8x2048 .f32 := iblk m c 2 t
def bQ (t : Fin cfg0.N) : FVec Ideal S8x2048 .f32 := iblk m c 3 t
abbrev S : FVec Ideal S8x40x2048 .f32 := m ((c.tc : Thread nD τ).loc main_arg0)
abbrev W : FVec Ideal S40x2048 .f32 := m ((c.tc : Thread nD τ).loc main_arg1)
abbrev P : FVec Ideal S40x2048 .f32 := m ((c.tc : Thread nD τ).loc main_arg2)
abbrev Q : FVec Ideal S40x2048 .f32 := m ((c.tc : Thread nD τ).loc main_arg3)

theorem s_at (t : Fin cfg0.N) (j : S8x2048.Idx) (i : S40x2048.Idx) (h0 : (i 0).val = t.val * 8 + (j 0).val) (h1 : (i 1).val = (j 1).val) :
    part (bS m c t) j = grad (S m c) i := by
  unfold part grad
  refine Finset.sum_congr rfl fun k _ => ?_
  blk_point [bS, iblk, V, idx t]

theorem w_at (t : Fin cfg0.N) (j : S8x2048.Idx) (i : S40x2048.Idx) (h0 : (i 0).val = t.val * 8 + (j 0).val) (h1 : (i 1).val = (j 1).val) :
    bW m c t j = W m c i := by
  blk_point [bW, iblk, V, idx t]

theorem p_at (t : Fin cfg0.N) (j : S8x2048.Idx) (i : S40x2048.Idx) (h0 : (i 0).val = t.val * 8 + (j 0).val) (h1 : (i 1).val = (j 1).val) :
    bP m c t j = P m c i := by
  blk_point [bP, iblk, V, idx t]

theorem q_at (t : Fin cfg0.N) (j : S8x2048.Idx) (i : S40x2048.Idx) (h0 : (i 0).val = t.val * 8 + (j 0).val) (h1 : (i 1).val = (j 1).val) :
    bQ m c t j = Q m c i := by
  blk_point [bQ, iblk, V, idx t]

theorem final_g : (dats m 0 c).arrAt 4 (cfgs 0).N = grad (S m c) := by
  refine (dats m 0 c).arrAt_eq_of_covers 4 _ (by decide +kernel) fun t hf y => ?_
  blk_simp
  have h0 : (((win0_4.blk t).view.emb y) 0).val = t.val * 8 + (y 0).val := by blk_simp [idx t]
  have h1 : (((win0_4.blk t).view.emb y) 1).val = (y 1).val := by blk_simp [idx t]
  rw [after0_4]
  exact (out_g _ _ _ _ y).trans (s_at m c t y _ h0 h1)

theorem final_d : (dats m 0 c).arrAt 5 (cfgs 0).N = change (S m c) (W m c) (P m c) (Q m c) := by
  refine (dats m 0 c).arrAt_eq_of_covers 5 _ (by decide +kernel) fun t hf y => ?_
  blk_simp
  have h0 : (((win0_5.blk t).view.emb y) 0).val = t.val * 8 + (y 0).val := by blk_simp [idx t]
  have h1 : (((win0_5.blk t).view.emb y) 1).val = (y 1).val := by blk_simp [idx t]
  rw [after0_5]
  exact (out_d _ _ _ _ y).trans (congr (congr (congr (congrArg delta (s_at m c t y _ h0 h1)) (w_at m c t y _ h0 h1)) (p_at m c t y _ h0 h1)) (q_at m c t y _ h0 h1))

theorem final_p : (dats m 0 c).arrAt 6 (cfgs 0).N = newP (S m c) (P m c) := by
  refine (dats m 0 c).arrAt_eq_of_covers 6 _ (by decide +kernel) fun t hf y => ?_
  blk_simp
  have h0 : (((win0_6.blk t).view.emb y) 0).val = t.val * 8 + (y 0).val := by blk_simp [idx t]
  have h1 : (((win0_6.blk t).view.emb y) 1).val = (y 1).val := by blk_simp [idx t]
  rw [after0_6]
  exact (out_p _ _ _ _ y).trans (congrArg₂ first (s_at m c t y _ h0 h1) (p_at m c t y _ h0 h1))

theorem final_q : (dats m 0 c).arrAt 7 (cfgs 0).N = newQ (S m c) (Q m c) := by
  refine (dats m 0 c).arrAt_eq_of_covers 7 _ (by decide +kernel) fun t hf y => ?_
  blk_simp
  have h0 : (((win0_7.blk t).view.emb y) 0).val = t.val * 8 + (y 0).val := by blk_simp [idx t]
  have h1 : (((win0_7.blk t).view.emb y) 1).val = (y 1).val := by blk_simp [idx t]
  rw [after0_7]
  exact (out_q _ _ _ _ y).trans (congrArg₂ second (s_at m c t y _ h0 h1) (q_at m c t y _ h0 h1))

end Cert.Kernel24Ideal.Val

namespace Cert.Reference24Ideal.Val

open Idealize.ShloMosaic Idealize.ShloMosaic.TcCoe Idealize.SL.Sem
open Cert.Kernel24Ideal.Val (grad change newP newQ)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (m ((c.tc : Thread nD τ).loc main_arg0))
      ∧ r.2.mem ((c.tc : Thread nD τ).loc main_v24) = change (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v5) = newP (m ((c.tc : Thread nD τ).loc main_arg0)) (m ((c.tc : Thread nD τ).loc main_arg2))
      ∧ r.2.mem ((c.tc : Thread nD τ).loc main_v11) = newQ (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2.1.trans (funext fun i => ?_),
    (h c).2.2.1.trans (funext fun i => ?_), (h c).2.2.2.1.trans (funext fun i => ?_), (h c).2.2.2.2⟩) (Cert.Reference24Ideal.Value.run m ρ)
  · pointwise [grad]
  · pointwise [change, grad, Cert.Adam.delta, Cert.Adam.first, Cert.Adam.second]
  · pointwise [newP, grad, Cert.Adam.first]
  · pointwise [newQ, grad, Cert.Adam.second]

end Cert.Reference24Ideal.Val

end
-- ==== Proof.Natural.lean ====
/- The input projection's weight from the devices' shards to whole rows, and its gradient back to shards. -/
module

public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel25Ideal.Val

open Idealize.ShloMosaic Idealize.ShloMosaic.TcCoe Idealize.SL.Sem
open Cert.Kernel25Ideal.Gen

/-- Column `l` of the whole rows is column `l % 640` of the shard `l / 640`. -/
def rows (w : FVec Ideal S8x2048x640 .bf16) : FVec Ideal S2048x5120 .bf16 := fun i =>
  w (ix3 ⟨(i 1).val / 640, by have := (i 1).isLt; change (i 1).val < 5120 at this; omega⟩ (i 0) ⟨(i 1).val % 640, Nat.mod_lt _ (by decide)⟩)

theorem out_eq (s : FVec Ideal S1x2048x640 .bf16) (j : S2048x640.Idx) : out0_1 (F := Ideal) s j = s (ix3 0 (j 0) (j 1)) := by
  unfold out0_1
  frame_out
  pointwise [k0_pay1]

theorem idx : ∀ t : Fin cfg0.N, win0_0.index t = ![t.val, 0, 0] ∧ win0_1.index t = ![0, t.val] :=
  (by decide +kernel : ∀ t : Fin grid0.N, _)

variable (m : (ℓ : Loc nD τ sig) → Buf (Elt Ideal) ℓ) (c : Dev nD)

def bS (t : Fin cfg0.N) : FVec Ideal S1x2048x640 .bf16 := iblk m c 0 t
abbrev S : FVec Ideal S8x2048x640 .bf16 := m ((c.tc : Thread nD τ).loc main_arg0)

theorem s_at (t : Fin cfg0.N) (j : S1x2048x640.Idx) (k : S8x2048x640.Idx) (h0 : (k 0).val = t.val + (j 0).val) (h1 : (k 1).val = (j 1).val)
    (h2 : (k 2).val = (j 2).val) : bS m c t j = S m c k := by
  blk_point [bS, iblk, V, idx t]

theorem final : (dats m 0 c).arrAt 1 (cfgs 0).N = rows (S m c) := by
  refine (dats m 0 c).arrAt_eq_of_covers 1 _ (by decide +kernel) fun t hf y => ?_
  blk_simp
  have h0 : (((win0_1.blk t).view.emb y) 0).val = (y 0).val := by blk_simp [idx t]
  have h1 : (((win0_1.blk t).view.emb y) 1).val = t.val * 640 + (y 1).val := by blk_simp [idx t]
  have hy : (y 1).val < 640 := (y 1).isLt
  rw [after0_1]
  refine (out_eq _ y).trans (s_at m c t _ _ ?_ ?_ ?_)
  · show (((win0_1.blk t).view.emb y) 1).val / 640 = t.val + 0
    omega
  · exact h0
  · show (((win0_1.blk t).view.emb y) 1).val % 640 = (y 1).val
    omega

end Cert.Kernel25Ideal.Val

namespace Cert.Reference25Ideal.Val

open Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = Cert.Kernel25Ideal.Val.rows (m ((c.tc : Thread nD τ).loc main_arg0))
      ∧ r.2.mem ((c.tc : Thread nD τ).loc main_arg0) = m ((c.tc : Thread nD τ).loc main_arg0) := by
  refine (θ_run _ _ _).mono (fun r h c => ⟨(h c).1.trans (funext fun i => ?_), (h c).2⟩) (Cert.Reference25Ideal.Value.run m ρ)
  have hi : (i 1).val < 5120 := (i 1).isLt
  refine (shapeCast_apply _ _ i (ix3 (i 0) ⟨(i 1).val / 640, by omega⟩ ⟨(i 1).val % 640, by omega⟩ : S2048x8x640.Idx) ?_).trans ?_
  · rw [Shape.rowMajor_val_three, Shape.rowMajor_val_two]
    show ((i 0).val * 8 + (i 1).val / 640) * 640 + (i 1).val % 640 = (i 0).val * 5120 + (i 1).val
    omega
  · pointwise [Cert.Kernel25Ideal.Val.rows]

end Cert.Reference25Ideal.Val

namespace Cert.Kernel26Ideal.Val

open Idealize.ShloMosaic Idealize.ShloMosaic.TcCoe Idealize.SL.Sem
open Cert.Kernel26Ideal.Gen

/-- Column `l` of the shard `s` is column `s * 640 + l` of the whole rows. -/
def shards (g : FVec Ideal S2048x5120 .bf16) : FVec Ideal S8x2048x640 .bf16 := fun i =>
  g (ix2 (i 1) ⟨(i 0).val * 640 + (i 2).val, by
    have h0 := (i 0).isLt; have h2 := (i 2).isLt; change (i 0).val < 8 at h0; change (i 2).val < 640 at h2; omega⟩)

theorem out_eq (s : FVec Ideal S2048x640 .bf16) (j : S1x2048x640.Idx) : out0_1 (F := Ideal) s j = s (ix2 (j 1) (j 2)) := by
  unfold out0_1
  frame_out
  pointwise [k0_pay1]

theorem idx : ∀ t : Fin cfg0.N, win0_0.index t = ![0, t.val] ∧ win0_1.index t = ![t.val, 0, 0] :=
  (by decide +kernel : ∀ t : Fin grid0.N, _)

variable (m : (ℓ : Loc nD τ sig) → Buf (Elt Ideal) ℓ) (c : Dev nD)

def bS (t : Fin cfg0.N) : FVec Ideal S2048x640 .bf16 := iblk m c 0 t
abbrev S : FVec Ideal S2048x5120 .bf16 := m ((c.tc : Thread nD τ).loc main_arg0)

theorem s_at (t : Fin cfg0.N) (j : S2048x640.Idx) (k : S2048x5120.Idx) (h0 : (k 0).val = (j 0).val) (h1 : (k 1).val = t.val * 640 + (j 1).val) :
    bS m c t j = S m c k := by
  blk_point [bS, iblk, V, idx t]

theorem final : (dats m 0 c).arrAt 1 (cfgs 0).N = shards (S m c) := by
  refine (dats m 0 c).arrAt_eq_of_covers 1 _ (by decide +kernel) fun t hf y => ?_
  blk_simp
  have hy : (y 0).val < 1 := (y 0).isLt
  have h0 : (((win0_1.blk t).view.emb y) 0).val = t.val + (y 0).val := by blk_simp [idx t]
  have h1 : (((win0_1.blk t).view.emb y) 1).val = (y 1).val := by blk_simp [idx t]
  have h2 : (((win0_1.blk t).view.emb y) 2).val = (y 2).val := by blk_simp [idx t]
  rw [after0_1]
  refine (out_eq _ y).trans (s_at m c t _ _ h1 ?_)
  show (((win0_1.blk t).view.emb y) 0).val * 640 + (((win0_1.blk t).view.emb y) 2).val = t.val * 640 + (y 2).val
  omega

end Cert.Kernel26Ideal.Val

namespace Cert.Reference26Ideal.Val

open Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = Cert.Kernel26Ideal.Val.shards (m ((c.tc : Thread nD τ).loc main_arg0))
      ∧ r.2.mem ((c.tc : Thread nD τ).loc main_arg0) = m ((c.tc : Thread nD τ).loc main_arg0) := by
  refine (θ_run _ _ _).mono (fun r h c => ⟨(h c).1.trans (funext fun i => ?_), (h c).2⟩) (Cert.Reference26Ideal.Value.run m ρ)
  pointwise [Cert.Kernel26Ideal.Val.shards]

end Cert.Reference26Ideal.Val

end
-- ==== Proof.lean ====
/- The proof of every claim of the certificate, from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Pre_finite_swiglu
public import proofs.«01_k».proof.Proof.Value
public import proofs.«01_k».proof.Proof.RefOut
public import proofs.«01_k».proof.Proof.Finite
public import proofs.«01_k».proof.Proof.FfnIn
public import proofs.«01_k».proof.Proof.GwFf
public import proofs.«01_k».proof.Proof.GwIn
public import proofs.«01_k».proof.Proof.SwigluRun
public import proofs.«01_k».proof.Proof.SwigluRef
public import proofs.«01_k».proof.Proof.Gen.Pre_finite_pgate
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Kernel11Ideal.Value
public import proofs.«01_k».proof.Proof.Gen.Kernel11.Frame
public import proofs.«01_k».proof.Proof.Gen.Reference11Ideal.Run
public import proofs.«01_k».proof.Proof.Gen.Kernel12Ideal.Value
public import proofs.«01_k».proof.Proof.Gen.Kernel12.Frame
public import proofs.«01_k».proof.Proof.Gen.Reference12Ideal.Run
public import proofs.«01_k».proof.Proof.PgateBwd
public import proofs.«01_k».proof.Proof.Down
public import proofs.«01_k».proof.Proof.Out
public import proofs.«01_k».proof.Proof.GwPgate
public import proofs.«01_k».proof.Proof.GwOut
public import proofs.«01_k».proof.Proof.Gen.Kernel16Ideal.Value
public import proofs.«01_k».proof.Proof.Gen.Kernel16.Frame
public import proofs.«01_k».proof.Proof.Gen.Reference16Ideal.Run
public import proofs.«01_k».proof.Proof.Gen.Pre_finite_loss
public import proofs.«01_k».proof.Proof.LossRef
public import proofs.«01_k».proof.Proof.Gen.Kernel13
public import proofs.«01_k».proof.Proof.Gen.Kernel13Ideal
public import proofs.«01_k».proof.Proof.Gen.Reference13Ideal.Run
public import proofs.«01_k».proof.Proof.Gen.Pre_finite_in
public import proofs.«01_k».proof.Proof.InBwdVal
public import proofs.«01_k».proof.Proof.Gen.Kernel17Ideal.Value
public import proofs.«01_k».proof.Proof.Gen.Kernel17.Frame
public import proofs.«01_k».proof.Proof.Gen.Reference17Ideal.Run
public import proofs.«01_k».proof.Proof.Gen.Kernel18Ideal.Value
public import proofs.«01_k».proof.Proof.Gen.Kernel18.Frame
public import proofs.«01_k».proof.Proof.Gen.Reference18Ideal.Run
public import proofs.«01_k».proof.Proof.Gen.Pre_finite_norm
public import proofs.«01_k».proof.Proof.GwPle
public import proofs.«01_k».proof.Proof.Gen.Kernel19Ideal.Value
public import proofs.«01_k».proof.Proof.Gen.Kernel19.Frame
public import proofs.«01_k».proof.Proof.Gen.Reference19Ideal.Run
public import proofs.«01_k».proof.Proof.Gen.Kernel20Ideal.Value
public import proofs.«01_k».proof.Proof.Gen.Kernel20.Frame
public import proofs.«01_k».proof.Proof.Gen.Reference20Ideal.Run
public import proofs.«01_k».proof.Proof.Gen.Kernel21Ideal.Value
public import proofs.«01_k».proof.Proof.Gen.Kernel21.Frame
public import proofs.«01_k».proof.Proof.Gen.Reference21Ideal.Run
public import proofs.«01_k».proof.Proof.Gen.Kernel22Ideal.Value
public import proofs.«01_k».proof.Proof.Gen.Kernel22.Frame
public import proofs.«01_k».proof.Proof.Gen.Reference22Ideal.Run
public import proofs.«01_k».proof.Proof.Gen.Kernel23Ideal.Value
public import proofs.«01_k».proof.Proof.Gen.Kernel23.Frame
public import proofs.«01_k».proof.Proof.Gen.Reference23Ideal.Run
public import proofs.«01_k».proof.Proof.Gen.Kernel24Ideal.Value
public import proofs.«01_k».proof.Proof.Gen.Kernel24.Frame
public import proofs.«01_k».proof.Proof.Gen.Reference24Ideal.Run
public import proofs.«01_k».proof.Proof.NormBwd
public import proofs.«01_k».proof.Proof.Gen.Kernel25Ideal.Value
public import proofs.«01_k».proof.Proof.Gen.Kernel25.Frame
public import proofs.«01_k».proof.Proof.Gen.Reference25Ideal.Run
public import proofs.«01_k».proof.Proof.Gen.Kernel26Ideal.Value
public import proofs.«01_k».proof.Proof.Gen.Kernel26.Frame
public import proofs.«01_k».proof.Proof.Gen.Reference26Ideal.Run
public import proofs.«01_k».proof.Proof.AdamDown
public import proofs.«01_k».proof.Proof.AdamGate
public import proofs.«01_k».proof.Proof.AdamOut
public import proofs.«01_k».proof.Proof.AdamIn
public import proofs.«01_k».proof.Proof.AdamPle
public import proofs.«01_k».proof.Proof.AdamSmall
public import proofs.«01_k».proof.Proof.Natural
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Data

/-- An index of a result is its three coordinates. -/
theorem idx_eta (j : (⟨3, ![4, 2048, 1024]⟩ : Shape).Idx) : j = ix3 (j 0) (j 1) (j 2) := by
  funext a
  fin_cases a <;> rfl

/-- The call and the reference compute the same gradient of the queries of the second branch. -/
theorem algebraic : Cert.algebraic_KernelIdeal_ReferenceIdeal_pre_finite := by
  intro m g m' g' hpre heq
  refine ⟨fun c => Cert.KernelIdeal.Attn.GQ m c, ?_, ?_⟩
  · refine (θ_run _ _ _).mono (fun r h c => ?_) (Cert.KernelIdeal.Value.run_blocks m g)
    have hf := Cert.Finite.all_real _ _ (hpre c)
    exact ⟨((h c).1).trans (Cert.KernelIdeal.Attn.final hf.1 hf.2), (h c).2⟩
  · refine (θ_run _ _ _).mono (fun r h c => ?_) (Cert.ReferenceIdeal.Value.run m' g')
    have hf := Cert.Finite.all_real _ _ (hpre c)
    have hq := heq c
    refine ⟨((h c).1).trans ?_, (h c).2⟩
    funext j
    rw [idx_eta j]
    have e0 : Cert.ReferenceIdeal.Attn.zz0 (StableHlo.launchContents m' c) = Cert.KernelIdeal.Attn.zK m c := hq.1
    have e1 : Cert.ReferenceIdeal.Attn.gg0 (StableHlo.launchContents m' c) = Cert.KernelIdeal.Attn.gK m c := hq.2
    refine (Cert.ReferenceIdeal.Attn.r162 (V0 := StableHlo.launchContents m' c) (e0 ▸ hf.1) (e1 ▸ hf.2) (j 0) (j 1) (j 2)).trans ?_
    rw [e0, e1]
    rfl

/-- The reference terminates and leaves its arguments and the counters as they were: it declares no semaphore. -/
theorem frame_ref : Cert.quiescent_ReferenceIdeal := by
  intro m ρ _
  exact (θ_run _ _ _).mono (fun r h => ⟨fun c => (h c).2, sem_eq_zero_of_no_sems (by decide) r.2⟩) (Cert.ReferenceIdeal.Value.run (F := Ideal) m ρ)

/-- The references of the products, in the same way. -/
theorem frame_ref2 : Cert.quiescent_Reference2Ideal := by
  intro m ρ _
  exact (θ_run _ _ _).mono (fun r h => ⟨fun c => (h c).2, sem_eq_zero_of_no_sems (by decide) r.2⟩) (Cert.Reference2Ideal.Value.run (F := Ideal) m ρ)
theorem frame_ref3 : Cert.quiescent_Reference3Ideal := by
  intro m ρ _
  exact (θ_run _ _ _).mono (fun r h => ⟨fun c => (h c).2, sem_eq_zero_of_no_sems (by decide) r.2⟩) (Cert.Reference3Ideal.Value.run (F := Ideal) m ρ)
theorem frame_ref4 : Cert.quiescent_Reference4Ideal := by
  intro m ρ _
  exact (θ_run _ _ _).mono (fun r h => ⟨fun c => (h c).2, sem_eq_zero_of_no_sems (by decide) r.2⟩) (Cert.Reference4Ideal.Value.run (F := Ideal) m ρ)
theorem frame_ref5 : Cert.quiescent_Reference5Ideal := by
  intro m ρ _
  exact (θ_run _ _ _).mono (fun r h => ⟨fun c => (h c).2, sem_eq_zero_of_no_sems (by decide) r.2⟩) (Cert.Reference5Ideal.Value.run (F := Ideal) m ρ)
theorem frame_ref6 : Cert.quiescent_Reference6Ideal := by
  intro m ρ _
  exact (θ_run _ _ _).mono (fun r h => ⟨fun c => (h c).2.2.2, sem_eq_zero_of_no_sems (by decide) r.2⟩) (Cert.Reference6Ideal.Value.run (F := Ideal) m ρ)

/-- The references with a norm, and of the other two products. -/
theorem frame_ref8 : Cert.quiescent_Reference8Ideal := by
  intro m ρ _
  exact (θ_run _ _ _).mono (fun r h => ⟨fun c => (h c).2.2, sem_eq_zero_of_no_sems (by decide) r.2⟩) (Cert.Reference8Ideal.Value.run (F := Ideal) m ρ)
theorem frame_ref9 : Cert.quiescent_Reference9Ideal := by
  intro m ρ _
  exact (θ_run _ _ _).mono (fun r h => ⟨fun c => (h c).2.2, sem_eq_zero_of_no_sems (by decide) r.2⟩) (Cert.Reference9Ideal.Value.run (F := Ideal) m ρ)
theorem frame_ref10 : Cert.quiescent_Reference10Ideal := by
  intro m ρ _
  exact (θ_run _ _ _).mono (fun r h => ⟨fun c => (h c).2.2, sem_eq_zero_of_no_sems (by decide) r.2⟩) (Cert.Reference10Ideal.Value.run (F := Ideal) m ρ)
theorem frame_ref11 : Cert.quiescent_Reference11Ideal := by
  intro m ρ _
  exact (θ_run _ _ _).mono (fun r h => ⟨fun c => (h c).2, sem_eq_zero_of_no_sems (by decide) r.2⟩) (Cert.Reference11Ideal.Value.run (F := Ideal) m ρ)
theorem frame_ref12 : Cert.quiescent_Reference12Ideal := by
  intro m ρ _
  exact (θ_run _ _ _).mono (fun r h => ⟨fun c => (h c).2, sem_eq_zero_of_no_sems (by decide) r.2⟩) (Cert.Reference12Ideal.Value.run (F := Ideal) m ρ)

theorem frame_ref13 : Cert.quiescent_Reference13Ideal := by
  intro m ρ _
  exact (θ_run _ _ _).mono (fun r h => ⟨fun c => (h c).2.2, sem_eq_zero_of_no_sems (by decide) r.2⟩) (Cert.Reference13Ideal.Value.run (F := Ideal) m ρ)
/-- The two programs of the projection's gradient have one text: the kernel's run is the other's over the machine's numbers. -/
theorem frame_in_bwd : Cert.quiescent_Kernel13 := fun m ρ _ => by
  rw [Cert.Kernel13Ideal.Run.same]
  exact Cert.Kernel13Ideal.Run.frame (F := Bits) m ρ
theorem frame_in_bwd_ideal : Cert.quiescent_Kernel13Ideal := fun m ρ _ => Cert.Kernel13Ideal.Run.frame m ρ
theorem frame_ref16 : Cert.quiescent_Reference16Ideal := by
  intro m ρ _
  exact (θ_run _ _ _).mono (fun r h => ⟨fun c => (h c).2.2.2.2.2.2, sem_eq_zero_of_no_sems (by decide) r.2⟩) (Cert.Reference16Ideal.Value.run (F := Ideal) m ρ)

theorem frame_ref17 : Cert.quiescent_Reference17Ideal := by
  intro m ρ _
  exact (θ_run _ _ _).mono (fun r h => ⟨fun c => (h c).2, sem_eq_zero_of_no_sems (by decide) r.2⟩) (Cert.Reference17Ideal.Value.run (F := Ideal) m ρ)

theorem frame_ref18 : Cert.quiescent_Reference18Ideal := by
  intro m ρ _
  exact (θ_run _ _ _).mono (fun r h => ⟨fun c => (h c).2.2, sem_eq_zero_of_no_sems (by decide) r.2⟩) (Cert.Reference18Ideal.Value.run (F := Ideal) m ρ)

theorem frame_ref19 : Cert.quiescent_Reference19Ideal := by
  intro m ρ _
  exact (θ_run _ _ _).mono (fun r h => ⟨fun c => (h c).2.2.2.2, sem_eq_zero_of_no_sems (by decide) r.2⟩) (Cert.Reference19Ideal.Value.run (F := Ideal) m ρ)

theorem frame_ref20 : Cert.quiescent_Reference20Ideal := by
  intro m ρ _
  exact (θ_run _ _ _).mono (fun r h => ⟨fun c => (h c).2.2.2.2, sem_eq_zero_of_no_sems (by decide) r.2⟩) (Cert.Reference20Ideal.Value.run (F := Ideal) m ρ)

theorem frame_ref21 : Cert.quiescent_Reference21Ideal := by
  intro m ρ _
  exact (θ_run _ _ _).mono (fun r h => ⟨fun c => (h c).2.2.2.2, sem_eq_zero_of_no_sems (by decide) r.2⟩) (Cert.Reference21Ideal.Value.run (F := Ideal) m ρ)

theorem frame_ref22 : Cert.quiescent_Reference22Ideal := by
  intro m ρ _
  exact (θ_run _ _ _).mono (fun r h => ⟨fun c => (h c).2.2.2.2, sem_eq_zero_of_no_sems (by decide) r.2⟩) (Cert.Reference22Ideal.Value.run (F := Ideal) m ρ)

theorem frame_ref23 : Cert.quiescent_Reference23Ideal := by
  intro m ρ _
  exact (θ_run _ _ _).mono (fun r h => ⟨fun c => (h c).2.2.2.2, sem_eq_zero_of_no_sems (by decide) r.2⟩) (Cert.Reference23Ideal.Value.run (F := Ideal) m ρ)

theorem frame_ref24 : Cert.quiescent_Reference24Ideal := by
  intro m ρ _
  exact (θ_run _ _ _).mono (fun r h => ⟨fun c => (h c).2.2.2.2, sem_eq_zero_of_no_sems (by decide) r.2⟩) (Cert.Reference24Ideal.Value.run (F := Ideal) m ρ)

theorem frame_ref25 : Cert.quiescent_Reference25Ideal := by
  intro m ρ _
  exact (θ_run _ _ _).mono (fun r h => ⟨fun c => (h c).2, sem_eq_zero_of_no_sems (by decide) r.2⟩) (Cert.Reference25Ideal.Value.run (F := Ideal) m ρ)

theorem frame_ref26 : Cert.quiescent_Reference26Ideal := by
  intro m ρ _
  exact (θ_run _ _ _).mono (fun r h => ⟨fun c => (h c).2, sem_eq_zero_of_no_sems (by decide) r.2⟩) (Cert.Reference26Ideal.Value.run (F := Ideal) m ρ)

/-- The gradient of the feed-forward part in its input. -/
theorem algebraic_ffn_in : Cert.algebraic_Kernel2Ideal_Reference2Ideal := by
  intro m g m' g' _ heq
  refine ⟨fun c => Cert.Kernel2Ideal.Val.NT2 (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · exact (θ_run _ _ _).mono (fun r h c => ⟨((h c).1).trans (Cert.Kernel2Ideal.Val.final m c), (h c).2⟩) (Cert.Kernel2Ideal.Value.run_blocks m g)
  · refine (θ_run _ _ _).mono (fun r h c => ⟨((h c).1).trans ?_, (h c).2⟩) (Cert.Reference2Ideal.Val.run m' g')
    rw [(heq c).1, (heq c).2.1, (heq c).2.2.1, (heq c).2.2.2]

/-- The gradients of the weights of the feed-forward part: of the last product's, and of the two others'. -/
theorem algebraic_gw_down : Cert.algebraic_Kernel3Ideal_Reference3Ideal := by
  intro m g m' g' _ heq
  refine ⟨fun c => Cert.Kernel3Ideal.Val.TN (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run _ _ _).mono (fun r h c => ⟨((h c).1).trans (Cert.Kernel3Ideal.Val.final m c), (h c).2⟩) (Cert.Kernel3Ideal.Value.run_blocks m g)
  · refine (θ_run _ _ _).mono (fun r h c => ⟨((h c).1).trans ?_, (h c).2⟩) (Cert.Reference3Ideal.Val.run m' g')
    rw [(heq c).1, (heq c).2]

theorem algebraic_gw_gate : Cert.algebraic_Kernel3Ideal_Reference4Ideal := by
  intro m g m' g' _ heq
  refine ⟨fun c => Cert.Kernel3Ideal.Val.TN (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run _ _ _).mono (fun r h c => ⟨((h c).1).trans (Cert.Kernel3Ideal.Val.final m c), (h c).2⟩) (Cert.Kernel3Ideal.Value.run_blocks m g)
  · refine (θ_run _ _ _).mono (fun r h c => ⟨((h c).1).trans ?_, (h c).2⟩) (Cert.Reference4Ideal.Val.run m' g')
    rw [(heq c).1, (heq c).2]

/-- The gradient of the first weight. -/
theorem algebraic_gw_in : Cert.algebraic_Kernel5Ideal_Reference5Ideal := by
  intro m g m' g' _ heq
  refine ⟨fun c => Cert.Kernel5Ideal.Val.TN (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run _ _ _).mono (fun r h c => ⟨((h c).1).trans (Cert.Kernel5Ideal.Val.final m c), (h c).2⟩) (Cert.Kernel5Ideal.Value.run_blocks m g)
  · refine (θ_run _ _ _).mono (fun r h c => ⟨((h c).1).trans ?_, (h c).2⟩) (Cert.Reference5Ideal.Val.run m' g')
    rw [(heq c).1, (heq c).2]

/-- The activation of the feed-forward part and its gradient. -/
theorem algebraic_swiglu : Cert.algebraic_Kernel6Ideal_Reference6Ideal_pre_finite_swiglu := by
  intro m g m' g' hpre heq
  refine ⟨fun c => fun i => Cert.Swiglu.act (Cert.Kernel6Ideal.Val.gK m c i) (Cert.Kernel6Ideal.Val.uK m c i),
    fun c => fun i => Cert.Kernel6Ideal.Val.hK m c i * Cert.Swiglu.fg (Cert.Kernel6Ideal.Val.gK m c i) (Cert.Kernel6Ideal.Val.uK m c i),
    fun c => fun i => Cert.Kernel6Ideal.Val.hK m c i * Cert.Swiglu.fu (Cert.Kernel6Ideal.Val.gK m c i), Cert.Kernel6Ideal.Val.run m g, ?_⟩
  refine (θ_run _ _ _).mono (fun r h c => ?_) (Cert.Reference6Ideal.Val.run m' g')
  obtain ⟨h0, h1, h2, hrest⟩ := h c
  obtain ⟨e0, e1, e2, e3, e4⟩ := heq c
  obtain ⟨hf, hu, hd, hh⟩ := Cert.Swiglu.all_real _ _ _ _ _ (hpre c)
  refine ⟨h0.trans ?_, h1.trans ?_, h2.trans ?_, hrest⟩
  · funext i
    rw [Cert.Reference6Ideal.Val.gR, Cert.Reference6Ideal.Val.uR, e0, e1, e2]
  · funext i
    rw [Cert.Reference6Ideal.Val.gR, Cert.Reference6Ideal.Val.uR, Cert.Reference6Ideal.Val.hR, e0, e1, e2, e3, e4]
    exact (Cert.Swiglu.grad_eq _ _ _ _ _ hf hu hd hh i).symm
  · funext i
    rw [Cert.Reference6Ideal.Val.gR, Cert.Reference6Ideal.Val.hR, e0, e1, e3, e4]

/-- The gradient of the gate's projection in its input, through the norm. -/
theorem algebraic_pgate_bwd : Cert.algebraic_Kernel8Ideal_Reference8Ideal_pre_finite_pgate := by
  intro m g m' g' hpre heq
  refine ⟨fun c => Cert.Kernel8Ideal.Val.dh (Cert.Kernel8Ideal.Val.A m c) (Cert.Kernel8Ideal.Val.W m c) (Cert.Kernel8Ideal.Val.H m c) (Cert.Kernel8Ideal.Val.G m c) (Cert.Kernel8Ideal.Val.D m c),
    fun c => Cert.Kernel8Ideal.Val.dg (Cert.Kernel8Ideal.Val.A m c) (Cert.Kernel8Ideal.Val.W m c) (Cert.Kernel8Ideal.Val.H m c), ?_, ?_⟩
  · exact (θ_run _ _ _).mono (fun r h c => ⟨((h c).1).trans (Cert.Kernel8Ideal.Val.final5 m c), ((h c).2.1).trans (Cert.Kernel8Ideal.Val.final6 m c), (h c).2.2⟩)
      (Cert.Kernel8Ideal.Value.run_blocks m g)
  · refine (θ_run _ _ _).mono (fun r h c => ⟨((h c).1).trans ?_, ((h c).2.1).trans ?_, (h c).2.2⟩) (Cert.Reference8Ideal.Val.run m' g')
    · rw [(heq c).1, (heq c).2.1, (heq c).2.2.1, (heq c).2.2.2.1, (heq c).2.2.2.2]
      exact Cert.Reference8Ideal.Val.dh_eq _ _ _ _ _ (hpre c)
    · rw [(heq c).1, (heq c).2.1, (heq c).2.2.1]

/-- The last product of the feed-forward part, added to the residual, and the norm after it. -/
theorem algebraic_down : Cert.algebraic_Kernel9Ideal_Reference9Ideal := by
  intro m g m' g' _ heq
  refine ⟨fun c => Cert.Kernel9Ideal.Val.sum (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2)),
    fun c => Cert.Kernel9Ideal.Val.norm (Cert.Kernel9Ideal.Val.sum (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2)))
    (m ((c.tc : Thread Cert.Kernel9Ideal.nD Cert.Kernel9Ideal.τ).loc Cert.Kernel9Ideal.main_arg3)), ?_, ?_⟩
  · exact (θ_run _ _ _).mono (fun r h c => ⟨((h c).1).trans (Cert.Kernel9Ideal.Val.final4 m c), ((h c).2.1).trans (Cert.Kernel9Ideal.Val.final5 m c), (h c).2.2⟩)
      (Cert.Kernel9Ideal.Value.run_blocks m g)
  · refine (θ_run _ _ _).mono (fun r h c => ⟨((h c).1).trans ?_, ((h c).2.1).trans ?_, (h c).2.2⟩) (Cert.Reference9Ideal.Val.run m' g')
    · rw [(heq c).1, (heq c).2.1, (heq c).2.2.1]
    · rw [(heq c).1, (heq c).2.1, (heq c).2.2.1, (heq c).2.2.2]

/-- The product after the attention and the convolution, likewise. -/
theorem algebraic_out : Cert.algebraic_Kernel10Ideal_Reference10Ideal := by
  intro m g m' g' _ heq
  refine ⟨fun c => Cert.Kernel10Ideal.Val.sum (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2))
    (m ((c.tc : Thread Cert.Kernel10Ideal.nD Cert.Kernel10Ideal.τ).loc Cert.Kernel10Ideal.main_arg3)),
    fun c => Cert.Kernel10Ideal.Val.norm (Cert.Kernel10Ideal.Val.sum (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2))
    (m ((c.tc : Thread Cert.Kernel10Ideal.nD Cert.Kernel10Ideal.τ).loc Cert.Kernel10Ideal.main_arg3)))
    (m ((c.tc : Thread Cert.Kernel10Ideal.nD Cert.Kernel10Ideal.τ).loc Cert.Kernel10Ideal.main_arg4)), ?_, ?_⟩
  · exact (θ_run _ _ _).mono (fun r h c => ⟨((h c).1).trans (Cert.Kernel10Ideal.Val.final6 m c), ((h c).2.1).trans (Cert.Kernel10Ideal.Val.final7 m c), (h c).2.2⟩)
      (Cert.Kernel10Ideal.Value.run_blocks m g)
  · refine (θ_run _ _ _).mono (fun r h c => ⟨((h c).1).trans ?_, ((h c).2.1).trans ?_, (h c).2.2⟩) (Cert.Reference10Ideal.Val.run m' g')
    · rw [(heq c).1, (heq c).2.1, (heq c).2.2.1, (heq c).2.2.2.1]
    · rw [(heq c).1, (heq c).2.1, (heq c).2.2.1, (heq c).2.2.2.1, (heq c).2.2.2.2]

/-- The gradients of the gate's weight, and of the attention's half of the output weight. -/
theorem algebraic_gw_pgate : Cert.algebraic_Kernel11Ideal_Reference11Ideal := by
  intro m g m' g' _ heq
  refine ⟨fun c => Cert.Kernel11Ideal.Val.TN (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1)), ?_, ?_⟩
  · exact (θ_run _ _ _).mono (fun r h c => ⟨((h c).1).trans (Cert.Kernel11Ideal.Val.final m c), (h c).2⟩) (Cert.Kernel11Ideal.Value.run_blocks m g)
  · refine (θ_run _ _ _).mono (fun r h c => ⟨((h c).1).trans ?_, (h c).2⟩) (Cert.Reference11Ideal.Val.run m' g')
    rw [(heq c).1, (heq c).2]

theorem algebraic_gw_out : Cert.algebraic_Kernel12Ideal_Reference12Ideal := by
  intro m g m' g' _ heq
  refine ⟨fun c => Cert.Kernel12Ideal.Val.TN (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1)), ?_, ?_⟩
  · exact (θ_run _ _ _).mono (fun r h c => ⟨((h c).1).trans (Cert.Kernel12Ideal.Val.final m c), (h c).2⟩) (Cert.Kernel12Ideal.Value.run_blocks m g)
  · refine (θ_run _ _ _).mono (fun r h c => ⟨((h c).1).trans ?_, (h c).2⟩) (Cert.Reference12Ideal.Val.run m' g')
    rw [(heq c).1, (heq c).2]

/-- The gradient of the input projection in its input, through the norm. -/
theorem algebraic_in_bwd : Cert.algebraic_Kernel13Ideal_Reference13Ideal_pre_finite_in := by
  intro m g m' g' hpre heq
  refine ⟨fun c => Cert.Kernel13Ideal.Val.dx (Cert.Kernel13Ideal.Val.Z m c) (Cert.Kernel13Ideal.Val.W m c) (Cert.Kernel13Ideal.Val.X m c) (Cert.Kernel13Ideal.Val.G m c) (Cert.Kernel13Ideal.Val.R m c),
    fun c => Cert.Kernel13Ideal.Val.dg (Cert.Kernel13Ideal.Val.Z m c) (Cert.Kernel13Ideal.Val.W m c) (Cert.Kernel13Ideal.Val.X m c), ?_, ?_⟩
  · exact (θ_run _ _ _).mono (fun r h c => ⟨((h.1 c).1).trans (Cert.Kernel13Ideal.Val.final5 m c), ((h.1 c).2.1).trans (Cert.Kernel13Ideal.Val.final6 m c), (h.1 c).2.2⟩)
      (Cert.Kernel13Ideal.Run.run m g)
  · refine (θ_run _ _ _).mono (fun r h c => ⟨((h c).1).trans ?_, ((h c).2.1).trans ?_, (h c).2.2⟩) (Cert.Reference13Ideal.Val.run m' g')
    · rw [(heq c).1, (heq c).2.1, (heq c).2.2.1, (heq c).2.2.2.1, (heq c).2.2.2.2]
      exact Cert.Reference13Ideal.Val.dx_eq _ _ _ _ _ (hpre c)
    · rw [(heq c).1, (heq c).2.1, (heq c).2.2.1]

/-- The loss, the last norm and the per-layer embedding: the loss and its five gradients. -/
theorem algebraic_loss : Cert.algebraic_Kernel16Ideal_Reference16Ideal_pre_finite_loss := by
  intro m g m' g' hpre heq
  refine ⟨fun c => Cert.Kernel16Ideal.Val.Loss (Cert.Kernel16Ideal.Val.R m c) (Cert.Kernel16Ideal.Val.W m c) (Cert.Kernel16Ideal.Val.B m c) (Cert.Kernel16Ideal.Val.P m c) (Cert.Kernel16Ideal.Val.Q m c) (Cert.Kernel16Ideal.Val.H m c) (Cert.Kernel16Ideal.Val.T m c) (Cert.Kernel16Ideal.Val.G m c),
    fun c => Cert.Kernel16Ideal.Val.Dv (Cert.Kernel16Ideal.Val.R m c) (Cert.Kernel16Ideal.Val.W m c) (Cert.Kernel16Ideal.Val.B m c) (Cert.Kernel16Ideal.Val.P m c) (Cert.Kernel16Ideal.Val.Q m c) (Cert.Kernel16Ideal.Val.H m c) (Cert.Kernel16Ideal.Val.T m c) (Cert.Kernel16Ideal.Val.G m c),
    fun c => Cert.Kernel16Ideal.Val.Du (Cert.Kernel16Ideal.Val.R m c) (Cert.Kernel16Ideal.Val.W m c) (Cert.Kernel16Ideal.Val.B m c) (Cert.Kernel16Ideal.Val.P m c) (Cert.Kernel16Ideal.Val.Q m c) (Cert.Kernel16Ideal.Val.H m c) (Cert.Kernel16Ideal.Val.T m c) (Cert.Kernel16Ideal.Val.G m c),
    fun c => Cert.Kernel16Ideal.Val.Dx (Cert.Kernel16Ideal.Val.R m c) (Cert.Kernel16Ideal.Val.W m c) (Cert.Kernel16Ideal.Val.B m c) (Cert.Kernel16Ideal.Val.P m c) (Cert.Kernel16Ideal.Val.Q m c) (Cert.Kernel16Ideal.Val.H m c) (Cert.Kernel16Ideal.Val.T m c) (Cert.Kernel16Ideal.Val.G m c),
    fun c => Cert.Kernel16Ideal.Val.Dg (Cert.Kernel16Ideal.Val.R m c) (Cert.Kernel16Ideal.Val.W m c) (Cert.Kernel16Ideal.Val.B m c) (Cert.Kernel16Ideal.Val.P m c) (Cert.Kernel16Ideal.Val.Q m c) (Cert.Kernel16Ideal.Val.H m c) (Cert.Kernel16Ideal.Val.T m c) (Cert.Kernel16Ideal.Val.G m c),
    fun c => Cert.Kernel16Ideal.Val.Db (Cert.Kernel16Ideal.Val.R m c) (Cert.Kernel16Ideal.Val.W m c) (Cert.Kernel16Ideal.Val.B m c) (Cert.Kernel16Ideal.Val.P m c) (Cert.Kernel16Ideal.Val.Q m c) (Cert.Kernel16Ideal.Val.H m c) (Cert.Kernel16Ideal.Val.T m c) (Cert.Kernel16Ideal.Val.G m c), ?_, ?_⟩
  · exact (θ_run _ _ _).mono (fun r h c => ⟨((h c).1).trans (Cert.Kernel16Ideal.Val.final8 m c), ((h c).2.1).trans (Cert.Kernel16Ideal.Val.final9 m c), ((h c).2.2.1).trans (Cert.Kernel16Ideal.Val.final10 m c),
      ((h c).2.2.2.1).trans (Cert.Kernel16Ideal.Val.final11 m c), ((h c).2.2.2.2.1).trans (Cert.Kernel16Ideal.Val.final12 m c), ((h c).2.2.2.2.2.1).trans (Cert.Kernel16Ideal.Val.final13 m c), (h c).2.2.2.2.2.2⟩)
      (Cert.Kernel16Ideal.Value.run_blocks m g)
  · refine (θ_run _ _ _).mono (fun r h c => ?_) (Cert.Reference16Ideal.Val.run m' g')
    obtain ⟨h0, h1, h2, h3, h4, h5, hrest⟩ := h c
    obtain ⟨e0, e1, e2, e3, e4, e5, e6, e7⟩ := heq c
    have hp := hpre c
    simp only [Cert.Reference16Ideal.Val.R, Cert.Reference16Ideal.Val.W, Cert.Reference16Ideal.Val.B, Cert.Reference16Ideal.Val.P,
      Cert.Reference16Ideal.Val.Q, Cert.Reference16Ideal.Val.H, Cert.Reference16Ideal.Val.T, Cert.Reference16Ideal.Val.G, e0, e1, e2, e3, e4, e5, e6, e7] at h0 h1 h2 h3 h4 h5
    exact ⟨h0.trans (Cert.Reference16Ideal.Val.lossR_eq _ _ _ _ _ _ _ _ hp), h1.trans (Cert.Reference16Ideal.Val.dvR_eq _ _ _ _ _ _ _ _ hp),
      h2.trans (Cert.Reference16Ideal.Val.duR_eq _ _ _ _ _ _ _ _ hp), h3.trans (Cert.Reference16Ideal.Val.dxR_eq _ _ _ _ _ _ _ _ hp),
      h4.trans (Cert.Reference16Ideal.Val.dgR_eq _ _ _ _ _ _ _ _), h5.trans (Cert.Reference16Ideal.Val.dbR_eq _ _ _ _ _ _ _ _ hp), hrest⟩

/-- The gradient of the per-layer embedding's weight. -/
theorem algebraic_gw_ple : Cert.algebraic_Kernel17Ideal_Reference17Ideal := by
  intro m g m' g' _ heq
  refine ⟨fun c => Cert.Kernel17Ideal.Val.TN (m ((c.tc : Thread Cert.Kernel17Ideal.nD Cert.Kernel17Ideal.τ).loc Cert.Kernel17Ideal.main_arg0))
    (m ((c.tc : Thread Cert.Kernel17Ideal.nD Cert.Kernel17Ideal.τ).loc Cert.Kernel17Ideal.main_arg1)), ?_, ?_⟩
  · exact (θ_run _ _ _).mono (fun r h c => ⟨((h c).1).trans (Cert.Kernel17Ideal.Val.final m c), (h c).2⟩) (Cert.Kernel17Ideal.Value.run_blocks m g)
  · refine (θ_run _ _ _).mono (fun r h c => ⟨((h c).1).trans ?_, (h c).2⟩) (Cert.Reference17Ideal.Val.run m' g')
    rw [(heq c).1, (heq c).2]

/-- The gradient of the feed-forward part's norm in its input and its gain. -/
theorem algebraic_norm_bwd : Cert.algebraic_Kernel18Ideal_Reference18Ideal_pre_finite_norm := by
  intro m g m' g' hpre heq
  refine ⟨fun c => Cert.Kernel18Ideal.Val.dh (Cert.Kernel18Ideal.Val.Y m c) (Cert.Kernel18Ideal.Val.H m c) (Cert.Kernel18Ideal.Val.G m c) (Cert.Kernel18Ideal.Val.D m c),
    fun c => Cert.Kernel18Ideal.Val.dg (Cert.Kernel18Ideal.Val.Y m c) (Cert.Kernel18Ideal.Val.H m c), ?_, ?_⟩
  · exact (θ_run _ _ _).mono (fun r h c => ⟨((h c).1).trans (Cert.Kernel18Ideal.Val.final4 m c), ((h c).2.1).trans (Cert.Kernel18Ideal.Val.final5 m c), (h c).2.2⟩)
      (Cert.Kernel18Ideal.Value.run_blocks m g)
  · refine (θ_run _ _ _).mono (fun r h c => ⟨((h c).1).trans ?_, ((h c).2.1).trans ?_, (h c).2.2⟩) (Cert.Reference18Ideal.Val.run m' g')
    · rw [(heq c).1, (heq c).2.1, (heq c).2.2.1, (heq c).2.2.2]
      exact Cert.Reference18Ideal.Val.dh_eq _ _ _ _ (hpre c)
    · rw [(heq c).1, (heq c).2.1]

/-- The step of AdamW on the feed-forward part's last weight. -/
theorem algebraic_adam_down : Cert.algebraic_Kernel19Ideal_Reference19Ideal := by
  intro m g m' g' _ heq
  refine ⟨fun c => Cert.Kernel19Ideal.Val.grad (Cert.Kernel19Ideal.Val.S m c), fun c => Cert.Kernel19Ideal.Val.change (Cert.Kernel19Ideal.Val.S m c) (Cert.Kernel19Ideal.Val.W m c) (Cert.Kernel19Ideal.Val.P m c) (Cert.Kernel19Ideal.Val.Q m c),
    fun c => Cert.Kernel19Ideal.Val.newP (Cert.Kernel19Ideal.Val.S m c) (Cert.Kernel19Ideal.Val.P m c), fun c => Cert.Kernel19Ideal.Val.newQ (Cert.Kernel19Ideal.Val.S m c) (Cert.Kernel19Ideal.Val.Q m c), ?_, ?_⟩
  · exact (θ_run _ _ _).mono (fun r h c => ⟨(h c).1.trans (Cert.Kernel19Ideal.Val.final_g m c), (h c).2.1.trans (Cert.Kernel19Ideal.Val.final_d m c),
      (h c).2.2.1.trans (Cert.Kernel19Ideal.Val.final_p m c), (h c).2.2.2.1.trans (Cert.Kernel19Ideal.Val.final_q m c), (h c).2.2.2.2⟩) (Cert.Kernel19Ideal.Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference19Ideal.Val.run m' g')
    · rw [(heq c).1]
    · rw [(heq c).1, (heq c).2.1, (heq c).2.2.1, (heq c).2.2.2]
    · rw [(heq c).1, (heq c).2.2.1]
    · rw [(heq c).1, (heq c).2.2.2]

/-- The step of AdamW on its first weights. -/
theorem algebraic_adam_gate : Cert.algebraic_Kernel20Ideal_Reference20Ideal := by
  intro m g m' g' _ heq
  refine ⟨fun c => Cert.Kernel20Ideal.Val.grad (Cert.Kernel20Ideal.Val.S m c), fun c => Cert.Kernel20Ideal.Val.change (Cert.Kernel20Ideal.Val.S m c) (Cert.Kernel20Ideal.Val.W m c) (Cert.Kernel20Ideal.Val.P m c) (Cert.Kernel20Ideal.Val.Q m c),
    fun c => Cert.Kernel20Ideal.Val.newP (Cert.Kernel20Ideal.Val.S m c) (Cert.Kernel20Ideal.Val.P m c), fun c => Cert.Kernel20Ideal.Val.newQ (Cert.Kernel20Ideal.Val.S m c) (Cert.Kernel20Ideal.Val.Q m c), ?_, ?_⟩
  · exact (θ_run _ _ _).mono (fun r h c => ⟨(h c).1.trans (Cert.Kernel20Ideal.Val.final_g m c), (h c).2.1.trans (Cert.Kernel20Ideal.Val.final_d m c),
      (h c).2.2.1.trans (Cert.Kernel20Ideal.Val.final_p m c), (h c).2.2.2.1.trans (Cert.Kernel20Ideal.Val.final_q m c), (h c).2.2.2.2⟩) (Cert.Kernel20Ideal.Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference20Ideal.Val.run m' g')
    · rw [(heq c).1]
    · rw [(heq c).1, (heq c).2.1, (heq c).2.2.1, (heq c).2.2.2]
    · rw [(heq c).1, (heq c).2.2.1]
    · rw [(heq c).1, (heq c).2.2.2]

/-- The step of AdamW on the output projection and the gate's. -/
theorem algebraic_adam_out : Cert.algebraic_Kernel21Ideal_Reference21Ideal := by
  intro m g m' g' _ heq
  refine ⟨fun c => Cert.Kernel21Ideal.Val.grad (Cert.Kernel21Ideal.Val.S m c), fun c => Cert.Kernel21Ideal.Val.change (Cert.Kernel21Ideal.Val.S m c) (Cert.Kernel21Ideal.Val.W m c) (Cert.Kernel21Ideal.Val.P m c) (Cert.Kernel21Ideal.Val.Q m c),
    fun c => Cert.Kernel21Ideal.Val.newP (Cert.Kernel21Ideal.Val.S m c) (Cert.Kernel21Ideal.Val.P m c), fun c => Cert.Kernel21Ideal.Val.newQ (Cert.Kernel21Ideal.Val.S m c) (Cert.Kernel21Ideal.Val.Q m c), ?_, ?_⟩
  · exact (θ_run _ _ _).mono (fun r h c => ⟨(h c).1.trans (Cert.Kernel21Ideal.Val.final_g m c), (h c).2.1.trans (Cert.Kernel21Ideal.Val.final_d m c),
      (h c).2.2.1.trans (Cert.Kernel21Ideal.Val.final_p m c), (h c).2.2.2.1.trans (Cert.Kernel21Ideal.Val.final_q m c), (h c).2.2.2.2⟩) (Cert.Kernel21Ideal.Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference21Ideal.Val.run m' g')
    · rw [(heq c).1]
    · rw [(heq c).1, (heq c).2.1, (heq c).2.2.1, (heq c).2.2.2]
    · rw [(heq c).1, (heq c).2.2.1]
    · rw [(heq c).1, (heq c).2.2.2]

/-- The step of AdamW on the input projection. -/
theorem algebraic_adam_in : Cert.algebraic_Kernel22Ideal_Reference22Ideal := by
  intro m g m' g' _ heq
  refine ⟨fun c => Cert.Kernel22Ideal.Val.grad (Cert.Kernel22Ideal.Val.S m c), fun c => Cert.Kernel22Ideal.Val.change (Cert.Kernel22Ideal.Val.S m c) (Cert.Kernel22Ideal.Val.W m c) (Cert.Kernel22Ideal.Val.P m c) (Cert.Kernel22Ideal.Val.Q m c),
    fun c => Cert.Kernel22Ideal.Val.newP (Cert.Kernel22Ideal.Val.S m c) (Cert.Kernel22Ideal.Val.P m c), fun c => Cert.Kernel22Ideal.Val.newQ (Cert.Kernel22Ideal.Val.S m c) (Cert.Kernel22Ideal.Val.Q m c), ?_, ?_⟩
  · exact (θ_run _ _ _).mono (fun r h c => ⟨(h c).1.trans (Cert.Kernel22Ideal.Val.final_g m c), (h c).2.1.trans (Cert.Kernel22Ideal.Val.final_d m c),
      (h c).2.2.1.trans (Cert.Kernel22Ideal.Val.final_p m c), (h c).2.2.2.1.trans (Cert.Kernel22Ideal.Val.final_q m c), (h c).2.2.2.2⟩) (Cert.Kernel22Ideal.Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference22Ideal.Val.run m' g')
    · rw [(heq c).1]
    · rw [(heq c).1, (heq c).2.1, (heq c).2.2.1, (heq c).2.2.2]
    · rw [(heq c).1, (heq c).2.2.1]
    · rw [(heq c).1, (heq c).2.2.2]

/-- The step of AdamW on the embedding's weight. -/
theorem algebraic_adam_ple : Cert.algebraic_Kernel23Ideal_Reference23Ideal := by
  intro m g m' g' _ heq
  refine ⟨fun c => Cert.Kernel23Ideal.Val.grad (Cert.Kernel23Ideal.Val.S m c), fun c => Cert.Kernel23Ideal.Val.change (Cert.Kernel23Ideal.Val.S m c) (Cert.Kernel23Ideal.Val.W m c) (Cert.Kernel23Ideal.Val.P m c) (Cert.Kernel23Ideal.Val.Q m c),
    fun c => Cert.Kernel23Ideal.Val.newP (Cert.Kernel23Ideal.Val.S m c) (Cert.Kernel23Ideal.Val.P m c), fun c => Cert.Kernel23Ideal.Val.newQ (Cert.Kernel23Ideal.Val.S m c) (Cert.Kernel23Ideal.Val.Q m c), ?_, ?_⟩
  · exact (θ_run _ _ _).mono (fun r h c => ⟨(h c).1.trans (Cert.Kernel23Ideal.Val.final_g m c), (h c).2.1.trans (Cert.Kernel23Ideal.Val.final_d m c),
      (h c).2.2.1.trans (Cert.Kernel23Ideal.Val.final_p m c), (h c).2.2.2.1.trans (Cert.Kernel23Ideal.Val.final_q m c), (h c).2.2.2.2⟩) (Cert.Kernel23Ideal.Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference23Ideal.Val.run m' g')
    · rw [(heq c).1]
    · rw [(heq c).1, (heq c).2.1, (heq c).2.2.1, (heq c).2.2.2]
    · rw [(heq c).1, (heq c).2.2.1]
    · rw [(heq c).1, (heq c).2.2.2]

/-- The step of AdamW on the small weights. -/
theorem algebraic_adam_small : Cert.algebraic_Kernel24Ideal_Reference24Ideal := by
  intro m g m' g' _ heq
  refine ⟨fun c => Cert.Kernel24Ideal.Val.grad (Cert.Kernel24Ideal.Val.S m c), fun c => Cert.Kernel24Ideal.Val.change (Cert.Kernel24Ideal.Val.S m c) (Cert.Kernel24Ideal.Val.W m c) (Cert.Kernel24Ideal.Val.P m c) (Cert.Kernel24Ideal.Val.Q m c),
    fun c => Cert.Kernel24Ideal.Val.newP (Cert.Kernel24Ideal.Val.S m c) (Cert.Kernel24Ideal.Val.P m c), fun c => Cert.Kernel24Ideal.Val.newQ (Cert.Kernel24Ideal.Val.S m c) (Cert.Kernel24Ideal.Val.Q m c), ?_, ?_⟩
  · exact (θ_run _ _ _).mono (fun r h c => ⟨(h c).1.trans (Cert.Kernel24Ideal.Val.final_g m c), (h c).2.1.trans (Cert.Kernel24Ideal.Val.final_d m c),
      (h c).2.2.1.trans (Cert.Kernel24Ideal.Val.final_p m c), (h c).2.2.2.1.trans (Cert.Kernel24Ideal.Val.final_q m c), (h c).2.2.2.2⟩) (Cert.Kernel24Ideal.Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference24Ideal.Val.run m' g')
    · rw [(heq c).1]
    · rw [(heq c).1, (heq c).2.1, (heq c).2.2.1, (heq c).2.2.2]
    · rw [(heq c).1, (heq c).2.2.1]
    · rw [(heq c).1, (heq c).2.2.2]

/-- The shards of the input projection's weight side by side. -/
theorem algebraic_natural : Cert.algebraic_Kernel25Ideal_Reference25Ideal := by
  intro m g m' g' _ heq
  refine ⟨fun c => Cert.Kernel25Ideal.Val.rows (Cert.Kernel25Ideal.Val.S m c), ?_, ?_⟩
  · exact (θ_run _ _ _).mono (fun r h c => ⟨(h c).1.trans (Cert.Kernel25Ideal.Val.final m c), (h c).2⟩) (Cert.Kernel25Ideal.Value.run_blocks m g)
  · refine (θ_run _ _ _).mono (fun r h c => ⟨(h c).1.trans ?_, (h c).2⟩) (Cert.Reference25Ideal.Val.run m' g')
    rw [heq c]

/-- The gradient of the input projection's weight, cut into shards. -/
theorem algebraic_shards : Cert.algebraic_Kernel26Ideal_Reference26Ideal := by
  intro m g m' g' _ heq
  refine ⟨fun c => Cert.Kernel26Ideal.Val.shards (Cert.Kernel26Ideal.Val.S m c), ?_, ?_⟩
  · exact (θ_run _ _ _).mono (fun r h c => ⟨(h c).1.trans (Cert.Kernel26Ideal.Val.final m c), (h c).2⟩) (Cert.Kernel26Ideal.Value.run_blocks m g)
  · refine (θ_run _ _ _).mono (fun r h c => ⟨(h c).1.trans ?_, (h c).2⟩) (Cert.Reference26Ideal.Val.run m' g')
    rw [heq c]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_finite.Gen.facts, Cert.Pre_finite_swiglu.Gen.facts, Cert.Pre_finite_pgate.Gen.facts, Cert.Pre_finite_in.Gen.facts, Cert.Pre_finite_loss.Gen.facts, Cert.Pre_finite_norm.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  frame_ref3,
  frame_ref4,
  fun m ρ _ => Cert.Kernel5.Gen.frame m ρ,
  fun m ρ _ => Cert.Kernel5Ideal.Gen.frame m ρ,
  frame_ref5,
  fun m ρ _ => Cert.Kernel6.Gen.frame m ρ,
  fun m ρ _ => Cert.Kernel6Ideal.Gen.frame m ρ,
  fun m ρ _ => Cert.Kernel6Ideal.Gen.frame m ρ,
  frame_ref6,
  fun m ρ _ => frame_ref6 m ρ trivial,
  fun m ρ _ => Cert.Kernel8.Gen.frame m ρ,
  fun m ρ _ => Cert.Kernel8Ideal.Gen.frame m ρ,
  fun m ρ _ => Cert.Kernel8Ideal.Gen.frame m ρ,
  frame_ref8,
  fun m ρ _ => frame_ref8 m ρ trivial,
  fun m ρ _ => Cert.Kernel9.Gen.frame m ρ,
  fun m ρ _ => Cert.Kernel9Ideal.Gen.frame m ρ,
  frame_ref9,
  fun m ρ _ => Cert.Kernel10.Gen.frame m ρ,
  fun m ρ _ => Cert.Kernel10Ideal.Gen.frame m ρ,
  frame_ref10,
  fun m ρ _ => Cert.Kernel11.Gen.frame m ρ,
  fun m ρ _ => Cert.Kernel11Ideal.Gen.frame m ρ,
  frame_ref11,
  fun m ρ _ => Cert.Kernel12.Gen.frame m ρ,
  fun m ρ _ => Cert.Kernel12Ideal.Gen.frame m ρ,
  frame_ref12,
  frame_in_bwd,
  frame_in_bwd_ideal,
  fun m ρ _ => frame_in_bwd_ideal m ρ trivial,
  frame_ref13,
  fun m ρ _ => frame_ref13 m ρ trivial,
  fun m ρ _ => Cert.Kernel16.Gen.frame m ρ,
  fun m ρ _ => Cert.Kernel16Ideal.Gen.frame m ρ,
  fun m ρ _ => Cert.Kernel16Ideal.Gen.frame m ρ,
  frame_ref16,
  fun m ρ _ => frame_ref16 m ρ trivial,
  fun m ρ _ => Cert.Kernel17.Gen.frame m ρ,
  fun m ρ _ => Cert.Kernel17Ideal.Gen.frame m ρ,
  frame_ref17,
  fun m ρ _ => Cert.Kernel18.Gen.frame m ρ,
  fun m ρ _ => Cert.Kernel18Ideal.Gen.frame m ρ,
  fun m ρ _ => Cert.Kernel18Ideal.Gen.frame m ρ,
  frame_ref18,
  fun m ρ _ => frame_ref18 m ρ trivial,
  fun m ρ _ => Cert.Kernel19.Gen.frame m ρ,
  fun m ρ _ => Cert.Kernel19Ideal.Gen.frame m ρ,
  frame_ref19,
  fun m ρ _ => Cert.Kernel20.Gen.frame m ρ,
  fun m ρ _ => Cert.Kernel20Ideal.Gen.frame m ρ,
  frame_ref20,
  fun m ρ _ => Cert.Kernel21.Gen.frame m ρ,
  fun m ρ _ => Cert.Kernel21Ideal.Gen.frame m ρ,
  frame_ref21,
  fun m ρ _ => Cert.Kernel22.Gen.frame m ρ,
  fun m ρ _ => Cert.Kernel22Ideal.Gen.frame m ρ,
  frame_ref22,
  fun m ρ _ => Cert.Kernel23.Gen.frame m ρ,
  fun m ρ _ => Cert.Kernel23Ideal.Gen.frame m ρ,
  frame_ref23,
  fun m ρ _ => Cert.Kernel24.Gen.frame m ρ,
  fun m ρ _ => Cert.Kernel24Ideal.Gen.frame m ρ,
  frame_ref24,
  fun m ρ _ => Cert.Kernel25.Gen.frame m ρ,
  fun m ρ _ => Cert.Kernel25Ideal.Gen.frame m ρ,
  frame_ref25,
  fun m ρ _ => Cert.Kernel26.Gen.frame m ρ,
  fun m ρ _ => Cert.Kernel26Ideal.Gen.frame m ρ,
  frame_ref26,
  IdealRules.named_const.statement Cert.KernelIdeal.κ "mask" .f32 0xF149F2CA#32 ⊥ rfl,
  algebraic,
  trivial, algebraic_ffn_in,
  trivial, algebraic_gw_down, algebraic_gw_gate,
  trivial, algebraic_gw_in,
  trivial, algebraic_swiglu,
  trivial, algebraic_pgate_bwd,
  trivial, algebraic_down,
  trivial, algebraic_out,
  trivial, algebraic_gw_pgate,
  trivial, algebraic_gw_out,
  trivial, algebraic_in_bwd,
  trivial, algebraic_loss,
  trivial, algebraic_gw_ple,
  trivial, algebraic_norm_bwd,
  trivial, algebraic_adam_down,
  trivial, algebraic_adam_gate,
  trivial, algebraic_adam_out,
  trivial, algebraic_adam_in,
  trivial, algebraic_adam_ple,
  trivial, algebraic_adam_small,
  trivial, algebraic_natural,
  trivial, algebraic_shards⟩

end Cert.Proof

end
